-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_gate [hPre_finite_gate : Cert.Pre_finite_gate.Facts] (m : (ℓ : Loc Cert.MixerIdeal.nD Cert.MixerIdeal.τ Cert.MixerIdeal.sig) → Buf (Elt Ideal) ℓ) : Prop :=
  ∀ c : Dev Cert.MixerIdeal.nD,
    (Cert.Pre_finite_gate.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_gate [hPre_finite_gate : Cert.Pre_finite_gate.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_gate.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Ffn1Sample (m : (ℓ : Loc Cert.Ffn1Sample.nD Cert.Ffn1Sample.τ Cert.Ffn1Sample.sig) → Buf (Elt Bits) ℓ) : Prop :=
  True

def Pre_Ffn1SampleIdeal (m : (ℓ : Loc Cert.Ffn1SampleIdeal.nD Cert.Ffn1SampleIdeal.τ Cert.Ffn1SampleIdeal.sig) → Buf (Elt Ideal) ℓ) : Prop :=
  True

def Pre_Ffn1SampleRefIdeal (m : (ℓ : Loc Cert.Ffn1SampleRefIdeal.nD Cert.Ffn1SampleRefIdeal.τ Cert.Ffn1SampleRefIdeal.sig) → Buf (Elt Ideal) ℓ) : Prop :=
  True

def Pre_Ffn2Sample (m : (ℓ : Loc Cert.Ffn2Sample.nD Cert.Ffn2Sample.τ Cert.Ffn2Sample.sig) → Buf (Elt Bits) ℓ) : Prop :=
  True

def Pre_Ffn2SampleIdeal (m : (ℓ : Loc Cert.Ffn2SampleIdeal.nD Cert.Ffn2SampleIdeal.τ Cert.Ffn2SampleIdeal.sig) → Buf (Elt Ideal) ℓ) : Prop :=
  True

def Pre_Ffn2SampleRefIdeal (m : (ℓ : Loc Cert.Ffn2SampleRefIdeal.nD Cert.Ffn2SampleRefIdeal.τ Cert.Ffn2SampleRefIdeal.sig) → Buf (Elt Ideal) ℓ) : Prop :=
  True

def Pre_MixerSample (m : (ℓ : Loc Cert.MixerSample.nD Cert.MixerSample.τ Cert.MixerSample.sig) → Buf (Elt Bits) ℓ) : Prop :=
  True

def Pre_MixerSampleIdeal (m : (ℓ : Loc Cert.MixerSampleIdeal.nD Cert.MixerSampleIdeal.τ Cert.MixerSampleIdeal.sig) → Buf (Elt Ideal) ℓ) : Prop :=
  True

def Pre_MixerSampleIdeal_finite_gate_sample [hPre_finite_gate_sample : Cert.Pre_finite_gate_sample.Facts] (m : (ℓ : Loc Cert.MixerSampleIdeal.nD Cert.MixerSampleIdeal.τ Cert.MixerSampleIdeal.sig) → Buf (Elt Ideal) ℓ) : Prop :=
  ∀ c : Dev Cert.MixerSampleIdeal.nD,
    (Cert.Pre_finite_gate_sample.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9))) = (fun _ => 1#1)

def Pre_MixerSampleRefIdeal (m : (ℓ : Loc Cert.MixerSampleRefIdeal.nD Cert.MixerSampleRefIdeal.τ Cert.MixerSampleRefIdeal.sig) → Buf (Elt Ideal) ℓ) : Prop :=
  True

def Pre_MixerSampleRefIdeal_finite_gate_sample [hPre_finite_gate_sample : Cert.Pre_finite_gate_sample.Facts] (m : (ℓ : Loc Cert.MixerSampleRefIdeal.nD Cert.MixerSampleRefIdeal.τ Cert.MixerSampleRefIdeal.sig) → Buf (Elt Ideal) ℓ) : Prop :=
  ∀ c : Dev Cert.MixerSampleRefIdeal.nD,
    (Cert.Pre_finite_gate_sample.fn (F := Ideal) (m ((c.tc : Thread Cert.MixerSampleRefIdeal.nD Cert.MixerSampleRefIdeal.τ).loc Cert.MixerSampleRefIdeal.main_arg0)) (m ((c.tc : Thread Cert.MixerSampleRefIdeal.nD Cert.MixerSampleRefIdeal.τ).loc Cert.MixerSampleRefIdeal.main_arg1)) (m ((c.tc : Thread Cert.MixerSampleRefIdeal.nD Cert.MixerSampleRefIdeal.τ).loc Cert.MixerSampleRefIdeal.main_arg2)) (m ((c.tc : Thread Cert.MixerSampleRefIdeal.nD Cert.MixerSampleRefIdeal.τ).loc Cert.MixerSampleRefIdeal.main_arg3)) (m ((c.tc : Thread Cert.MixerSampleRefIdeal.nD Cert.MixerSampleRefIdeal.τ).loc Cert.MixerSampleRefIdeal.main_arg4)) (m ((c.tc : Thread Cert.MixerSampleRefIdeal.nD Cert.MixerSampleRefIdeal.τ).loc Cert.MixerSampleRefIdeal.main_arg5)) (m ((c.tc : Thread Cert.MixerSampleRefIdeal.nD Cert.MixerSampleRefIdeal.τ).loc Cert.MixerSampleRefIdeal.main_arg6)) (m ((c.tc : Thread Cert.MixerSampleRefIdeal.nD Cert.MixerSampleRefIdeal.τ).loc Cert.MixerSampleRefIdeal.main_arg7)) (m ((c.tc : Thread Cert.MixerSampleRefIdeal.nD Cert.MixerSampleRefIdeal.τ).loc Cert.MixerSampleRefIdeal.main_arg8)) (m ((c.tc : Thread Cert.MixerSampleRefIdeal.nD Cert.MixerSampleRefIdeal.τ).loc Cert.MixerSampleRefIdeal.main_arg9))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerIdeal_pre_finite_gate [hMixerIdeal : Cert.MixerIdeal.Facts] [hPre_finite_gate : Cert.Pre_finite_gate.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_gate m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_MixerRefIdeal_pre_finite_gate [hMixerRefIdeal : Cert.MixerRefIdeal.Facts] [hPre_finite_gate : Cert.Pre_finite_gate.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_gate m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6)
      ∧ r.2.mem ((c.tc : Thread Cert.Ffn2.nD Cert.Ffn2.τ).loc Cert.Ffn2.main_arg7) = m ((c.tc : Thread Cert.Ffn2.nD Cert.Ffn2.τ).loc Cert.Ffn2.main_arg7))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
      ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6)
      ∧ r.2.mem ((c.tc : Thread Cert.Ffn2RefIdeal.nD Cert.Ffn2RefIdeal.τ).loc Cert.Ffn2RefIdeal.main_arg7) = m ((c.tc : Thread Cert.Ffn2RefIdeal.nD Cert.Ffn2RefIdeal.τ).loc Cert.Ffn2RefIdeal.main_arg7))
      ∧ r.2.sem = fun _ => 0)

def quiescent_Ffn1Sample [hFfn1Sample : Cert.Ffn1Sample.Facts] : Prop :=
  ∀ (m : (ℓ : Loc Cert.Ffn1Sample.nD Cert.Ffn1Sample.τ Cert.Ffn1Sample.sig) → Buf (Elt Bits) ℓ) (g : Dev Cert.Ffn1Sample.nD → PrngReg), Pre_Ffn1Sample m →
    θ_run (Cert.Ffn1Sample.defs (F := Bits)) (onTc (τ := Cert.Ffn1Sample.τ) (Cert.Ffn1Sample.main (F := Bits))) ⟨m, fun _ => 0, g⟩ (fun r => (∀ c : Dev Cert.Ffn1Sample.nD,
      r.2.mem ((c.tc : Thread Cert.Ffn1Sample.nD Cert.Ffn1Sample.τ).loc Cert.Ffn1Sample.main_arg0) = m ((c.tc : Thread Cert.Ffn1Sample.nD Cert.Ffn1Sample.τ).loc Cert.Ffn1Sample.main_arg0)
      ∧ r.2.mem ((c.tc : Thread Cert.Ffn1Sample.nD Cert.Ffn1Sample.τ).loc Cert.Ffn1Sample.main_arg1) = m ((c.tc : Thread Cert.Ffn1Sample.nD Cert.Ffn1Sample.τ).loc Cert.Ffn1Sample.main_arg1)
      ∧ r.2.mem ((c.tc : Thread Cert.Ffn1Sample.nD Cert.Ffn1Sample.τ).loc Cert.Ffn1Sample.main_arg2) = m ((c.tc : Thread Cert.Ffn1Sample.nD Cert.Ffn1Sample.τ).loc Cert.Ffn1Sample.main_arg2)
      ∧ r.2.mem ((c.tc : Thread Cert.Ffn1Sample.nD Cert.Ffn1Sample.τ).loc Cert.Ffn1Sample.main_arg3) = m ((c.tc : Thread Cert.Ffn1Sample.nD Cert.Ffn1Sample.τ).loc Cert.Ffn1Sample.main_arg3)
      ∧ r.2.mem ((c.tc : Thread Cert.Ffn1Sample.nD Cert.Ffn1Sample.τ).loc Cert.Ffn1Sample.main_arg4) = m ((c.tc : Thread Cert.Ffn1Sample.nD Cert.Ffn1Sample.τ).loc Cert.Ffn1Sample.main_arg4))
      ∧ r.2.sem = fun _ => 0)

def quiescent_Ffn1SampleIdeal [hFfn1SampleIdeal : Cert.Ffn1SampleIdeal.Facts] : Prop :=
  ∀ (m : (ℓ : Loc Cert.Ffn1SampleIdeal.nD Cert.Ffn1SampleIdeal.τ Cert.Ffn1SampleIdeal.sig) → Buf (Elt Ideal) ℓ) (g : Dev Cert.Ffn1SampleIdeal.nD → PrngReg), Pre_Ffn1SampleIdeal m →
    θ_run (Cert.Ffn1SampleIdeal.defs (F := Ideal)) (onTc (τ := Cert.Ffn1SampleIdeal.τ) (Cert.Ffn1SampleIdeal.main (F := Ideal))) ⟨m, fun _ => 0, g⟩ (fun r => (∀ c : Dev Cert.Ffn1SampleIdeal.nD,
      r.2.mem ((c.tc : Thread Cert.Ffn1SampleIdeal.nD Cert.Ffn1SampleIdeal.τ).loc Cert.Ffn1SampleIdeal.main_arg0) = m ((c.tc : Thread Cert.Ffn1SampleIdeal.nD Cert.Ffn1SampleIdeal.τ).loc Cert.Ffn1SampleIdeal.main_arg0)
      ∧ r.2.mem ((c.tc : Thread Cert.Ffn1SampleIdeal.nD Cert.Ffn1SampleIdeal.τ).loc Cert.Ffn1SampleIdeal.main_arg1) = m ((c.tc : Thread Cert.Ffn1SampleIdeal.nD Cert.Ffn1SampleIdeal.τ).loc Cert.Ffn1SampleIdeal.main_arg1)
      ∧ r.2.mem ((c.tc : Thread Cert.Ffn1SampleIdeal.nD Cert.Ffn1SampleIdeal.τ).loc Cert.Ffn1SampleIdeal.main_arg2) = m ((c.tc : Thread Cert.Ffn1SampleIdeal.nD Cert.Ffn1SampleIdeal.τ).loc Cert.Ffn1SampleIdeal.main_arg2)
      ∧ r.2.mem ((c.tc : Thread Cert.Ffn1SampleIdeal.nD Cert.Ffn1SampleIdeal.τ).loc Cert.Ffn1SampleIdeal.main_arg3) = m ((c.tc : Thread Cert.Ffn1SampleIdeal.nD Cert.Ffn1SampleIdeal.τ).loc Cert.Ffn1SampleIdeal.main_arg3)
      ∧ r.2.mem ((c.tc : Thread Cert.Ffn1SampleIdeal.nD Cert.Ffn1SampleIdeal.τ).loc Cert.Ffn1SampleIdeal.main_arg4) = m ((c.tc : Thread Cert.Ffn1SampleIdeal.nD Cert.Ffn1SampleIdeal.τ).loc Cert.Ffn1SampleIdeal.main_arg4))
      ∧ r.2.sem = fun _ => 0)

def quiescent_Ffn1SampleRefIdeal [hFfn1SampleRefIdeal : Cert.Ffn1SampleRefIdeal.Facts] : Prop :=
  ∀ (m : (ℓ : Loc Cert.Ffn1SampleRefIdeal.nD Cert.Ffn1SampleRefIdeal.τ Cert.Ffn1SampleRefIdeal.sig) → Buf (Elt Ideal) ℓ) (g : Dev Cert.Ffn1SampleRefIdeal.nD → PrngReg), Pre_Ffn1SampleRefIdeal m →
    θ_run (Cert.Ffn1SampleRefIdeal.defs (F := Ideal)) (onTc (τ := Cert.Ffn1SampleRefIdeal.τ) (Cert.Ffn1SampleRefIdeal.main (F := Ideal))) ⟨m, fun _ => 0, g⟩ (fun r => (∀ c : Dev Cert.Ffn1SampleRefIdeal.nD,
      r.2.mem ((c.tc : Thread Cert.Ffn1SampleRefIdeal.nD Cert.Ffn1SampleRefIdeal.τ).loc Cert.Ffn1SampleRefIdeal.main_arg0) = m ((c.tc : Thread Cert.Ffn1SampleRefIdeal.nD Cert.Ffn1SampleRefIdeal.τ).loc Cert.Ffn1SampleRefIdeal.main_arg0)
      ∧ r.2.mem ((c.tc : Thread Cert.Ffn1SampleRefIdeal.nD Cert.Ffn1SampleRefIdeal.τ).loc Cert.Ffn1SampleRefIdeal.main_arg1) = m ((c.tc : Thread Cert.Ffn1SampleRefIdeal.nD Cert.Ffn1SampleRefIdeal.τ).loc Cert.Ffn1SampleRefIdeal.main_arg1)
      ∧ r.2.mem ((c.tc : Thread Cert.Ffn1SampleRefIdeal.nD Cert.Ffn1SampleRefIdeal.τ).loc Cert.Ffn1SampleRefIdeal.main_arg2) = m ((c.tc : Thread Cert.Ffn1SampleRefIdeal.nD Cert.Ffn1SampleRefIdeal.τ).loc Cert.Ffn1SampleRefIdeal.main_arg2)
      ∧ r.2.mem ((c.tc : Thread Cert.Ffn1SampleRefIdeal.nD Cert.Ffn1SampleRefIdeal.τ).loc Cert.Ffn1SampleRefIdeal.main_arg3) = m ((c.tc : Thread Cert.Ffn1SampleRefIdeal.nD Cert.Ffn1SampleRefIdeal.τ).loc Cert.Ffn1SampleRefIdeal.main_arg3)
      ∧ r.2.mem ((c.tc : Thread Cert.Ffn1SampleRefIdeal.nD Cert.Ffn1SampleRefIdeal.τ).loc Cert.Ffn1SampleRefIdeal.main_arg4) = m ((c.tc : Thread Cert.Ffn1SampleRefIdeal.nD Cert.Ffn1SampleRefIdeal.τ).loc Cert.Ffn1SampleRefIdeal.main_arg4))
      ∧ r.2.sem = fun _ => 0)

def quiescent_Ffn2Sample [hFfn2Sample : Cert.Ffn2Sample.Facts] : Prop :=
  ∀ (m : (ℓ : Loc Cert.Ffn2Sample.nD Cert.Ffn2Sample.τ Cert.Ffn2Sample.sig) → Buf (Elt Bits) ℓ) (g : Dev Cert.Ffn2Sample.nD → PrngReg), Pre_Ffn2Sample m →
    θ_run (Cert.Ffn2Sample.defs (F := Bits)) (onTc (τ := Cert.Ffn2Sample.τ) (Cert.Ffn2Sample.main (F := Bits))) ⟨m, fun _ => 0, g⟩ (fun r => (∀ c : Dev Cert.Ffn2Sample.nD,
      r.2.mem ((c.tc : Thread Cert.Ffn2Sample.nD Cert.Ffn2Sample.τ).loc Cert.Ffn2Sample.main_arg0) = m ((c.tc : Thread Cert.Ffn2Sample.nD Cert.Ffn2Sample.τ).loc Cert.Ffn2Sample.main_arg0)
      ∧ r.2.mem ((c.tc : Thread Cert.Ffn2Sample.nD Cert.Ffn2Sample.τ).loc Cert.Ffn2Sample.main_arg1) = m ((c.tc : Thread Cert.Ffn2Sample.nD Cert.Ffn2Sample.τ).loc Cert.Ffn2Sample.main_arg1)
      ∧ r.2.mem ((c.tc : Thread Cert.Ffn2Sample.nD Cert.Ffn2Sample.τ).loc Cert.Ffn2Sample.main_arg2) = m ((c.tc : Thread Cert.Ffn2Sample.nD Cert.Ffn2Sample.τ).loc Cert.Ffn2Sample.main_arg2)
      ∧ r.2.mem ((c.tc : Thread Cert.Ffn2Sample.nD Cert.Ffn2Sample.τ).loc Cert.Ffn2Sample.main_arg3) = m ((c.tc : Thread Cert.Ffn2Sample.nD Cert.Ffn2Sample.τ).loc Cert.Ffn2Sample.main_arg3)
      ∧ r.2.mem ((c.tc : Thread Cert.Ffn2Sample.nD Cert.Ffn2Sample.τ).loc Cert.Ffn2Sample.main_arg4) = m ((c.tc : Thread Cert.Ffn2Sample.nD Cert.Ffn2Sample.τ).loc Cert.Ffn2Sample.main_arg4)
      ∧ r.2.mem ((c.tc : Thread Cert.Ffn2Sample.nD Cert.Ffn2Sample.τ).loc Cert.Ffn2Sample.main_arg5) = m ((c.tc : Thread Cert.Ffn2Sample.nD Cert.Ffn2Sample.τ).loc Cert.Ffn2Sample.main_arg5)
      ∧ r.2.mem ((c.tc : Thread Cert.Ffn2Sample.nD Cert.Ffn2Sample.τ).loc Cert.Ffn2Sample.main_arg6) = m ((c.tc : Thread Cert.Ffn2Sample.nD Cert.Ffn2Sample.τ).loc Cert.Ffn2Sample.main_arg6)
      ∧ r.2.mem ((c.tc : Thread Cert.Ffn2Sample.nD Cert.Ffn2Sample.τ).loc Cert.Ffn2Sample.main_arg7) = m ((c.tc : Thread Cert.Ffn2Sample.nD Cert.Ffn2Sample.τ).loc Cert.Ffn2Sample.main_arg7))
      ∧ r.2.sem = fun _ => 0)

def quiescent_Ffn2SampleIdeal [hFfn2SampleIdeal : Cert.Ffn2SampleIdeal.Facts] : Prop :=
  ∀ (m : (ℓ : Loc Cert.Ffn2SampleIdeal.nD Cert.Ffn2SampleIdeal.τ Cert.Ffn2SampleIdeal.sig) → Buf (Elt Ideal) ℓ) (g : Dev Cert.Ffn2SampleIdeal.nD → PrngReg), Pre_Ffn2SampleIdeal m →
    θ_run (Cert.Ffn2SampleIdeal.defs (F := Ideal)) (onTc (τ := Cert.Ffn2SampleIdeal.τ) (Cert.Ffn2SampleIdeal.main (F := Ideal))) ⟨m, fun _ => 0, g⟩ (fun r => (∀ c : Dev Cert.Ffn2SampleIdeal.nD,
      r.2.mem ((c.tc : Thread Cert.Ffn2SampleIdeal.nD Cert.Ffn2SampleIdeal.τ).loc Cert.Ffn2SampleIdeal.main_arg0) = m ((c.tc : Thread Cert.Ffn2SampleIdeal.nD Cert.Ffn2SampleIdeal.τ).loc Cert.Ffn2SampleIdeal.main_arg0)
      ∧ r.2.mem ((c.tc : Thread Cert.Ffn2SampleIdeal.nD Cert.Ffn2SampleIdeal.τ).loc Cert.Ffn2SampleIdeal.main_arg1) = m ((c.tc : Thread Cert.Ffn2SampleIdeal.nD Cert.Ffn2SampleIdeal.τ).loc Cert.Ffn2SampleIdeal.main_arg1)
      ∧ r.2.mem ((c.tc : Thread Cert.Ffn2SampleIdeal.nD Cert.Ffn2SampleIdeal.τ).loc Cert.Ffn2SampleIdeal.main_arg2) = m ((c.tc : Thread Cert.Ffn2SampleIdeal.nD Cert.Ffn2SampleIdeal.τ).loc Cert.Ffn2SampleIdeal.main_arg2)
      ∧ r.2.mem ((c.tc : Thread Cert.Ffn2SampleIdeal.nD Cert.Ffn2SampleIdeal.τ).loc Cert.Ffn2SampleIdeal.main_arg3) = m ((c.tc : Thread Cert.Ffn2SampleIdeal.nD Cert.Ffn2SampleIdeal.τ).loc Cert.Ffn2SampleIdeal.main_arg3)
      ∧ r.2.mem ((c.tc : Thread Cert.Ffn2SampleIdeal.nD Cert.Ffn2SampleIdeal.τ).loc Cert.Ffn2SampleIdeal.main_arg4) = m ((c.tc : Thread Cert.Ffn2SampleIdeal.nD Cert.Ffn2SampleIdeal.τ).loc Cert.Ffn2SampleIdeal.main_arg4)
      ∧ r.2.mem ((c.tc : Thread Cert.Ffn2SampleIdeal.nD Cert.Ffn2SampleIdeal.τ).loc Cert.Ffn2SampleIdeal.main_arg5) = m ((c.tc : Thread Cert.Ffn2SampleIdeal.nD Cert.Ffn2SampleIdeal.τ).loc Cert.Ffn2SampleIdeal.main_arg5)
      ∧ r.2.mem ((c.tc : Thread Cert.Ffn2SampleIdeal.nD Cert.Ffn2SampleIdeal.τ).loc Cert.Ffn2SampleIdeal.main_arg6) = m ((c.tc : Thread Cert.Ffn2SampleIdeal.nD Cert.Ffn2SampleIdeal.τ).loc Cert.Ffn2SampleIdeal.main_arg6)
      ∧ r.2.mem ((c.tc : Thread Cert.Ffn2SampleIdeal.nD Cert.Ffn2SampleIdeal.τ).loc Cert.Ffn2SampleIdeal.main_arg7) = m ((c.tc : Thread Cert.Ffn2SampleIdeal.nD Cert.Ffn2SampleIdeal.τ).loc Cert.Ffn2SampleIdeal.main_arg7))
      ∧ r.2.sem = fun _ => 0)

def quiescent_Ffn2SampleRefIdeal [hFfn2SampleRefIdeal : Cert.Ffn2SampleRefIdeal.Facts] : Prop :=
  ∀ (m : (ℓ : Loc Cert.Ffn2SampleRefIdeal.nD Cert.Ffn2SampleRefIdeal.τ Cert.Ffn2SampleRefIdeal.sig) → Buf (Elt Ideal) ℓ) (g : Dev Cert.Ffn2SampleRefIdeal.nD → PrngReg), Pre_Ffn2SampleRefIdeal m →
    θ_run (Cert.Ffn2SampleRefIdeal.defs (F := Ideal)) (onTc (τ := Cert.Ffn2SampleRefIdeal.τ) (Cert.Ffn2SampleRefIdeal.main (F := Ideal))) ⟨m, fun _ => 0, g⟩ (fun r => (∀ c : Dev Cert.Ffn2SampleRefIdeal.nD,
      r.2.mem ((c.tc : Thread Cert.Ffn2SampleRefIdeal.nD Cert.Ffn2SampleRefIdeal.τ).loc Cert.Ffn2SampleRefIdeal.main_arg0) = m ((c.tc : Thread Cert.Ffn2SampleRefIdeal.nD Cert.Ffn2SampleRefIdeal.τ).loc Cert.Ffn2SampleRefIdeal.main_arg0)
      ∧ r.2.mem ((c.tc : Thread Cert.Ffn2SampleRefIdeal.nD Cert.Ffn2SampleRefIdeal.τ).loc Cert.Ffn2SampleRefIdeal.main_arg1) = m ((c.tc : Thread Cert.Ffn2SampleRefIdeal.nD Cert.Ffn2SampleRefIdeal.τ).loc Cert.Ffn2SampleRefIdeal.main_arg1)
      ∧ r.2.mem ((c.tc : Thread Cert.Ffn2SampleRefIdeal.nD Cert.Ffn2SampleRefIdeal.τ).loc Cert.Ffn2SampleRefIdeal.main_arg2) = m ((c.tc : Thread Cert.Ffn2SampleRefIdeal.nD Cert.Ffn2SampleRefIdeal.τ).loc Cert.Ffn2SampleRefIdeal.main_arg2)
      ∧ r.2.mem ((c.tc : Thread Cert.Ffn2SampleRefIdeal.nD Cert.Ffn2SampleRefIdeal.τ).loc Cert.Ffn2SampleRefIdeal.main_arg3) = m ((c.tc : Thread Cert.Ffn2SampleRefIdeal.nD Cert.Ffn2SampleRefIdeal.τ).loc Cert.Ffn2SampleRefIdeal.main_arg3)
      ∧ r.2.mem ((c.tc : Thread Cert.Ffn2SampleRefIdeal.nD Cert.Ffn2SampleRefIdeal.τ).loc Cert.Ffn2SampleRefIdeal.main_arg4) = m ((c.tc : Thread Cert.Ffn2SampleRefIdeal.nD Cert.Ffn2SampleRefIdeal.τ).loc Cert.Ffn2SampleRefIdeal.main_arg4)
      ∧ r.2.mem ((c.tc : Thread Cert.Ffn2SampleRefIdeal.nD Cert.Ffn2SampleRefIdeal.τ).loc Cert.Ffn2SampleRefIdeal.main_arg5) = m ((c.tc : Thread Cert.Ffn2SampleRefIdeal.nD Cert.Ffn2SampleRefIdeal.τ).loc Cert.Ffn2SampleRefIdeal.main_arg5)
      ∧ r.2.mem ((c.tc : Thread Cert.Ffn2SampleRefIdeal.nD Cert.Ffn2SampleRefIdeal.τ).loc Cert.Ffn2SampleRefIdeal.main_arg6) = m ((c.tc : Thread Cert.Ffn2SampleRefIdeal.nD Cert.Ffn2SampleRefIdeal.τ).loc Cert.Ffn2SampleRefIdeal.main_arg6)
      ∧ r.2.mem ((c.tc : Thread Cert.Ffn2SampleRefIdeal.nD Cert.Ffn2SampleRefIdeal.τ).loc Cert.Ffn2SampleRefIdeal.main_arg7) = m ((c.tc : Thread Cert.Ffn2SampleRefIdeal.nD Cert.Ffn2SampleRefIdeal.τ).loc Cert.Ffn2SampleRefIdeal.main_arg7))
      ∧ r.2.sem = fun _ => 0)

def quiescent_MixerSample [hMixerSample : Cert.MixerSample.Facts] : Prop :=
  ∀ (m : (ℓ : Loc Cert.MixerSample.nD Cert.MixerSample.τ Cert.MixerSample.sig) → Buf (Elt Bits) ℓ) (g : Dev Cert.MixerSample.nD → PrngReg), Pre_MixerSample m →
    θ_run (Cert.MixerSample.defs (F := Bits)) (onTc (τ := Cert.MixerSample.τ) (Cert.MixerSample.main (F := Bits))) ⟨m, fun _ => 0, g⟩ (fun r => (∀ c : Dev Cert.MixerSample.nD,
      r.2.mem ((c.tc : Thread Cert.MixerSample.nD Cert.MixerSample.τ).loc Cert.MixerSample.main_arg0) = m ((c.tc : Thread Cert.MixerSample.nD Cert.MixerSample.τ).loc Cert.MixerSample.main_arg0)
      ∧ r.2.mem ((c.tc : Thread Cert.MixerSample.nD Cert.MixerSample.τ).loc Cert.MixerSample.main_arg1) = m ((c.tc : Thread Cert.MixerSample.nD Cert.MixerSample.τ).loc Cert.MixerSample.main_arg1)
      ∧ r.2.mem ((c.tc : Thread Cert.MixerSample.nD Cert.MixerSample.τ).loc Cert.MixerSample.main_arg2) = m ((c.tc : Thread Cert.MixerSample.nD Cert.MixerSample.τ).loc Cert.MixerSample.main_arg2)
      ∧ r.2.mem ((c.tc : Thread Cert.MixerSample.nD Cert.MixerSample.τ).loc Cert.MixerSample.main_arg3) = m ((c.tc : Thread Cert.MixerSample.nD Cert.MixerSample.τ).loc Cert.MixerSample.main_arg3)
      ∧ r.2.mem ((c.tc : Thread Cert.MixerSample.nD Cert.MixerSample.τ).loc Cert.MixerSample.main_arg4) = m ((c.tc : Thread Cert.MixerSample.nD Cert.MixerSample.τ).loc Cert.MixerSample.main_arg4)
      ∧ r.2.mem ((c.tc : Thread Cert.MixerSample.nD Cert.MixerSample.τ).loc Cert.MixerSample.main_arg5) = m ((c.tc : Thread Cert.MixerSample.nD Cert.MixerSample.τ).loc Cert.MixerSample.main_arg5)
      ∧ r.2.mem ((c.tc : Thread Cert.MixerSample.nD Cert.MixerSample.τ).loc Cert.MixerSample.main_arg6) = m ((c.tc : Thread Cert.MixerSample.nD Cert.MixerSample.τ).loc Cert.MixerSample.main_arg6)
      ∧ r.2.mem ((c.tc : Thread Cert.MixerSample.nD Cert.MixerSample.τ).loc Cert.MixerSample.main_arg7) = m ((c.tc : Thread Cert.MixerSample.nD Cert.MixerSample.τ).loc Cert.MixerSample.main_arg7)
      ∧ r.2.mem ((c.tc : Thread Cert.MixerSample.nD Cert.MixerSample.τ).loc Cert.MixerSample.main_arg8) = m ((c.tc : Thread Cert.MixerSample.nD Cert.MixerSample.τ).loc Cert.MixerSample.main_arg8)
      ∧ r.2.mem ((c.tc : Thread Cert.MixerSample.nD Cert.MixerSample.τ).loc Cert.MixerSample.main_arg9) = m ((c.tc : Thread Cert.MixerSample.nD Cert.MixerSample.τ).loc Cert.MixerSample.main_arg9))
      ∧ r.2.sem = fun _ => 0)

def quiescent_MixerSampleIdeal [hMixerSampleIdeal : Cert.MixerSampleIdeal.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
      ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
      ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
      ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
      ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9))
      ∧ r.2.sem = fun _ => 0)

def quiescent_MixerSampleIdeal_pre_finite_gate_sample [hMixerSampleIdeal : Cert.MixerSampleIdeal.Facts] [hPre_finite_gate_sample : Cert.Pre_finite_gate_sample.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal_finite_gate_sample m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
      ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
      ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
      ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
      ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9))
      ∧ r.2.sem = fun _ => 0)

def quiescent_MixerSampleRefIdeal [hMixerSampleRefIdeal : Cert.MixerSampleRefIdeal.Facts] : Prop :=
  ∀ (m : (ℓ : Loc Cert.MixerSampleRefIdeal.nD Cert.MixerSampleRefIdeal.τ Cert.MixerSampleRefIdeal.sig) → Buf (Elt Ideal) ℓ) (g : Dev Cert.MixerSampleRefIdeal.nD → PrngReg), Pre_MixerSampleRefIdeal m →
    θ_run (Cert.MixerSampleRefIdeal.defs (F := Ideal)) (onTc (τ := Cert.MixerSampleRefIdeal.τ) (Cert.MixerSampleRefIdeal.main (F := Ideal))) ⟨m, fun _ => 0, g⟩ (fun r => (∀ c : Dev Cert.MixerSampleRefIdeal.nD,
      r.2.mem ((c.tc : Thread Cert.MixerSampleRefIdeal.nD Cert.MixerSampleRefIdeal.τ).loc Cert.MixerSampleRefIdeal.main_arg0) = m ((c.tc : Thread Cert.MixerSampleRefIdeal.nD Cert.MixerSampleRefIdeal.τ).loc Cert.MixerSampleRefIdeal.main_arg0)
      ∧ r.2.mem ((c.tc : Thread Cert.MixerSampleRefIdeal.nD Cert.MixerSampleRefIdeal.τ).loc Cert.MixerSampleRefIdeal.main_arg1) = m ((c.tc : Thread Cert.MixerSampleRefIdeal.nD Cert.MixerSampleRefIdeal.τ).loc Cert.MixerSampleRefIdeal.main_arg1)
      ∧ r.2.mem ((c.tc : Thread Cert.MixerSampleRefIdeal.nD Cert.MixerSampleRefIdeal.τ).loc Cert.MixerSampleRefIdeal.main_arg2) = m ((c.tc : Thread Cert.MixerSampleRefIdeal.nD Cert.MixerSampleRefIdeal.τ).loc Cert.MixerSampleRefIdeal.main_arg2)
      ∧ r.2.mem ((c.tc : Thread Cert.MixerSampleRefIdeal.nD Cert.MixerSampleRefIdeal.τ).loc Cert.MixerSampleRefIdeal.main_arg3) = m ((c.tc : Thread Cert.MixerSampleRefIdeal.nD Cert.MixerSampleRefIdeal.τ).loc Cert.MixerSampleRefIdeal.main_arg3)
      ∧ r.2.mem ((c.tc : Thread Cert.MixerSampleRefIdeal.nD Cert.MixerSampleRefIdeal.τ).loc Cert.MixerSampleRefIdeal.main_arg4) = m ((c.tc : Thread Cert.MixerSampleRefIdeal.nD Cert.MixerSampleRefIdeal.τ).loc Cert.MixerSampleRefIdeal.main_arg4)
      ∧ r.2.mem ((c.tc : Thread Cert.MixerSampleRefIdeal.nD Cert.MixerSampleRefIdeal.τ).loc Cert.MixerSampleRefIdeal.main_arg5) = m ((c.tc : Thread Cert.MixerSampleRefIdeal.nD Cert.MixerSampleRefIdeal.τ).loc Cert.MixerSampleRefIdeal.main_arg5)
      ∧ r.2.mem ((c.tc : Thread Cert.MixerSampleRefIdeal.nD Cert.MixerSampleRefIdeal.τ).loc Cert.MixerSampleRefIdeal.main_arg6) = m ((c.tc : Thread Cert.MixerSampleRefIdeal.nD Cert.MixerSampleRefIdeal.τ).loc Cert.MixerSampleRefIdeal.main_arg6)
      ∧ r.2.mem ((c.tc : Thread Cert.MixerSampleRefIdeal.nD Cert.MixerSampleRefIdeal.τ).loc Cert.MixerSampleRefIdeal.main_arg7) = m ((c.tc : Thread Cert.MixerSampleRefIdeal.nD Cert.MixerSampleRefIdeal.τ).loc Cert.MixerSampleRefIdeal.main_arg7)
      ∧ r.2.mem ((c.tc : Thread Cert.MixerSampleRefIdeal.nD Cert.MixerSampleRefIdeal.τ).loc Cert.MixerSampleRefIdeal.main_arg8) = m ((c.tc : Thread Cert.MixerSampleRefIdeal.nD Cert.MixerSampleRefIdeal.τ).loc Cert.MixerSampleRefIdeal.main_arg8)
      ∧ r.2.mem ((c.tc : Thread Cert.MixerSampleRefIdeal.nD Cert.MixerSampleRefIdeal.τ).loc Cert.MixerSampleRefIdeal.main_arg9) = m ((c.tc : Thread Cert.MixerSampleRefIdeal.nD Cert.MixerSampleRefIdeal.τ).loc Cert.MixerSampleRefIdeal.main_arg9))
      ∧ r.2.sem = fun _ => 0)

def quiescent_MixerSampleRefIdeal_pre_finite_gate_sample [hMixerSampleRefIdeal : Cert.MixerSampleRefIdeal.Facts] [hPre_finite_gate_sample : Cert.Pre_finite_gate_sample.Facts] : Prop :=
  ∀ (m : (ℓ : Loc Cert.MixerSampleRefIdeal.nD Cert.MixerSampleRefIdeal.τ Cert.MixerSampleRefIdeal.sig) → Buf (Elt Ideal) ℓ) (g : Dev Cert.MixerSampleRefIdeal.nD → PrngReg), Pre_MixerSampleRefIdeal_finite_gate_sample m →
    θ_run (Cert.MixerSampleRefIdeal.defs (F := Ideal)) (onTc (τ := Cert.MixerSampleRefIdeal.τ) (Cert.MixerSampleRefIdeal.main (F := Ideal))) ⟨m, fun _ => 0, g⟩ (fun r => (∀ c : Dev Cert.MixerSampleRefIdeal.nD,
      r.2.mem ((c.tc : Thread Cert.MixerSampleRefIdeal.nD Cert.MixerSampleRefIdeal.τ).loc Cert.MixerSampleRefIdeal.main_arg0) = m ((c.tc : Thread Cert.MixerSampleRefIdeal.nD Cert.MixerSampleRefIdeal.τ).loc Cert.MixerSampleRefIdeal.main_arg0)
      ∧ r.2.mem ((c.tc : Thread Cert.MixerSampleRefIdeal.nD Cert.MixerSampleRefIdeal.τ).loc Cert.MixerSampleRefIdeal.main_arg1) = m ((c.tc : Thread Cert.MixerSampleRefIdeal.nD Cert.MixerSampleRefIdeal.τ).loc Cert.MixerSampleRefIdeal.main_arg1)
      ∧ r.2.mem ((c.tc : Thread Cert.MixerSampleRefIdeal.nD Cert.MixerSampleRefIdeal.τ).loc Cert.MixerSampleRefIdeal.main_arg2) = m ((c.tc : Thread Cert.MixerSampleRefIdeal.nD Cert.MixerSampleRefIdeal.τ).loc Cert.MixerSampleRefIdeal.main_arg2)
      ∧ r.2.mem ((c.tc : Thread Cert.MixerSampleRefIdeal.nD Cert.MixerSampleRefIdeal.τ).loc Cert.MixerSampleRefIdeal.main_arg3) = m ((c.tc : Thread Cert.MixerSampleRefIdeal.nD Cert.MixerSampleRefIdeal.τ).loc Cert.MixerSampleRefIdeal.main_arg3)
      ∧ r.2.mem ((c.tc : Thread Cert.MixerSampleRefIdeal.nD Cert.MixerSampleRefIdeal.τ).loc Cert.MixerSampleRefIdeal.main_arg4) = m ((c.tc : Thread Cert.MixerSampleRefIdeal.nD Cert.MixerSampleRefIdeal.τ).loc Cert.MixerSampleRefIdeal.main_arg4)
      ∧ r.2.mem ((c.tc : Thread Cert.MixerSampleRefIdeal.nD Cert.MixerSampleRefIdeal.τ).loc Cert.MixerSampleRefIdeal.main_arg5) = m ((c.tc : Thread Cert.MixerSampleRefIdeal.nD Cert.MixerSampleRefIdeal.τ).loc Cert.MixerSampleRefIdeal.main_arg5)
      ∧ r.2.mem ((c.tc : Thread Cert.MixerSampleRefIdeal.nD Cert.MixerSampleRefIdeal.τ).loc Cert.MixerSampleRefIdeal.main_arg6) = m ((c.tc : Thread Cert.MixerSampleRefIdeal.nD Cert.MixerSampleRefIdeal.τ).loc Cert.MixerSampleRefIdeal.main_arg6)
      ∧ r.2.mem ((c.tc : Thread Cert.MixerSampleRefIdeal.nD Cert.MixerSampleRefIdeal.τ).loc Cert.MixerSampleRefIdeal.main_arg7) = m ((c.tc : Thread Cert.MixerSampleRefIdeal.nD Cert.MixerSampleRefIdeal.τ).loc Cert.MixerSampleRefIdeal.main_arg7)
      ∧ r.2.mem ((c.tc : Thread Cert.MixerSampleRefIdeal.nD Cert.MixerSampleRefIdeal.τ).loc Cert.MixerSampleRefIdeal.main_arg8) = m ((c.tc : Thread Cert.MixerSampleRefIdeal.nD Cert.MixerSampleRefIdeal.τ).loc Cert.MixerSampleRefIdeal.main_arg8)
      ∧ r.2.mem ((c.tc : Thread Cert.MixerSampleRefIdeal.nD Cert.MixerSampleRefIdeal.τ).loc Cert.MixerSampleRefIdeal.main_arg9) = m ((c.tc : Thread Cert.MixerSampleRefIdeal.nD Cert.MixerSampleRefIdeal.τ).loc Cert.MixerSampleRefIdeal.main_arg9))
      ∧ r.2.sem = fun _ => 0)

def preserves_Mixer_MixerIdeal : Prop :=
  True

def algebraic_MixerIdeal_MixerRefIdeal_pre_finite_gate [hMixerIdeal : Cert.MixerIdeal.Facts] [hMixerRefIdeal : Cert.MixerRefIdeal.Facts] [hPre_finite_gate : Cert.Pre_finite_gate.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_gate m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v20_1)) (v1 : (c : Dev Cert.MixerIdeal.nD) → Buf (Elt Ideal) ((c.tc : Thread Cert.MixerIdeal.nD Cert.MixerIdeal.τ).loc Cert.MixerIdeal.main_v20_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v20_1) = v0 c
          ∧ r.2.mem ((c.tc : Thread Cert.MixerIdeal.nD Cert.MixerIdeal.τ).loc Cert.MixerIdeal.main_v20_2) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v51) = v0 c
          ∧ r.2.mem ((c.tc : Thread Cert.MixerRefIdeal.nD Cert.MixerRefIdeal.τ).loc Cert.MixerRefIdeal.main_v32) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v8)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v8) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v42) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)
      ∧ m' ((c.tc : Thread Cert.Ffn2RefIdeal.nD Cert.Ffn2RefIdeal.τ).loc Cert.Ffn2RefIdeal.main_arg6) = m ((c.tc : Thread Cert.Ffn2Ideal.nD Cert.Ffn2Ideal.τ).loc Cert.Ffn2Ideal.main_arg6)
      ∧ m' ((c.tc : Thread Cert.Ffn2RefIdeal.nD Cert.Ffn2RefIdeal.τ).loc Cert.Ffn2RefIdeal.main_arg7) = m ((c.tc : Thread Cert.Ffn2Ideal.nD Cert.Ffn2Ideal.τ).loc Cert.Ffn2Ideal.main_arg7)) →
    ∃ (v0 : (c : Dev Cert.Ffn2Ideal.nD) → Buf (Elt Ideal) ((c.tc : Thread Cert.Ffn2Ideal.nD Cert.Ffn2Ideal.τ).loc Cert.Ffn2Ideal.main_v14)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v14) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
          ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v85) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5)
          ∧ r.2.mem ((c.tc : Thread Cert.Ffn2RefIdeal.nD Cert.Ffn2RefIdeal.τ).loc Cert.Ffn2RefIdeal.main_arg6) = m' ((c.tc : Thread Cert.Ffn2RefIdeal.nD Cert.Ffn2RefIdeal.τ).loc Cert.Ffn2RefIdeal.main_arg6)
          ∧ r.2.mem ((c.tc : Thread Cert.Ffn2RefIdeal.nD Cert.Ffn2RefIdeal.τ).loc Cert.Ffn2RefIdeal.main_arg7) = m' ((c.tc : Thread Cert.Ffn2RefIdeal.nD Cert.Ffn2RefIdeal.τ).loc Cert.Ffn2RefIdeal.main_arg7))

def preserves_Ffn1Sample_Ffn1SampleIdeal : Prop :=
  True

def algebraic_Ffn1SampleIdeal_Ffn1SampleRefIdeal [hFfn1SampleIdeal : Cert.Ffn1SampleIdeal.Facts] [hFfn1SampleRefIdeal : Cert.Ffn1SampleRefIdeal.Facts] : Prop :=
  ∀ (m : (ℓ : Loc Cert.Ffn1SampleIdeal.nD Cert.Ffn1SampleIdeal.τ Cert.Ffn1SampleIdeal.sig) → Buf (Elt Ideal) ℓ) (g : Dev Cert.Ffn1SampleIdeal.nD → PrngReg)
    (m' : (ℓ : Loc Cert.Ffn1SampleRefIdeal.nD Cert.Ffn1SampleRefIdeal.τ Cert.Ffn1SampleRefIdeal.sig) → Buf (Elt Ideal) ℓ) (g' : Dev Cert.Ffn1SampleRefIdeal.nD → PrngReg), Pre_Ffn1SampleIdeal m →
    (∀ c : Dev Cert.Ffn1SampleIdeal.nD,
      m' ((c.tc : Thread Cert.Ffn1SampleRefIdeal.nD Cert.Ffn1SampleRefIdeal.τ).loc Cert.Ffn1SampleRefIdeal.main_arg0) = m ((c.tc : Thread Cert.Ffn1SampleIdeal.nD Cert.Ffn1SampleIdeal.τ).loc Cert.Ffn1SampleIdeal.main_arg0)
      ∧ m' ((c.tc : Thread Cert.Ffn1SampleRefIdeal.nD Cert.Ffn1SampleRefIdeal.τ).loc Cert.Ffn1SampleRefIdeal.main_arg1) = m ((c.tc : Thread Cert.Ffn1SampleIdeal.nD Cert.Ffn1SampleIdeal.τ).loc Cert.Ffn1SampleIdeal.main_arg1)
      ∧ m' ((c.tc : Thread Cert.Ffn1SampleRefIdeal.nD Cert.Ffn1SampleRefIdeal.τ).loc Cert.Ffn1SampleRefIdeal.main_arg2) = m ((c.tc : Thread Cert.Ffn1SampleIdeal.nD Cert.Ffn1SampleIdeal.τ).loc Cert.Ffn1SampleIdeal.main_arg2)
      ∧ m' ((c.tc : Thread Cert.Ffn1SampleRefIdeal.nD Cert.Ffn1SampleRefIdeal.τ).loc Cert.Ffn1SampleRefIdeal.main_arg3) = m ((c.tc : Thread Cert.Ffn1SampleIdeal.nD Cert.Ffn1SampleIdeal.τ).loc Cert.Ffn1SampleIdeal.main_arg3)
      ∧ m' ((c.tc : Thread Cert.Ffn1SampleRefIdeal.nD Cert.Ffn1SampleRefIdeal.τ).loc Cert.Ffn1SampleRefIdeal.main_arg4) = m ((c.tc : Thread Cert.Ffn1SampleIdeal.nD Cert.Ffn1SampleIdeal.τ).loc Cert.Ffn1SampleIdeal.main_arg4)) →
    ∃ (v0 : (c : Dev Cert.Ffn1SampleIdeal.nD) → Buf (Elt Ideal) ((c.tc : Thread Cert.Ffn1SampleIdeal.nD Cert.Ffn1SampleIdeal.τ).loc Cert.Ffn1SampleIdeal.main_v8)),
      θ_run (Cert.Ffn1SampleIdeal.defs (F := Ideal)) (onTc (τ := Cert.Ffn1SampleIdeal.τ) (Cert.Ffn1SampleIdeal.main (F := Ideal))) ⟨m, fun _ => 0, g⟩ (fun r => ∀ c : Dev Cert.Ffn1SampleIdeal.nD,
          r.2.mem ((c.tc : Thread Cert.Ffn1SampleIdeal.nD Cert.Ffn1SampleIdeal.τ).loc Cert.Ffn1SampleIdeal.main_v8) = v0 c
          ∧ r.2.mem ((c.tc : Thread Cert.Ffn1SampleIdeal.nD Cert.Ffn1SampleIdeal.τ).loc Cert.Ffn1SampleIdeal.main_arg0) = m ((c.tc : Thread Cert.Ffn1SampleIdeal.nD Cert.Ffn1SampleIdeal.τ).loc Cert.Ffn1SampleIdeal.main_arg0)
          ∧ r.2.mem ((c.tc : Thread Cert.Ffn1SampleIdeal.nD Cert.Ffn1SampleIdeal.τ).loc Cert.Ffn1SampleIdeal.main_arg1) = m ((c.tc : Thread Cert.Ffn1SampleIdeal.nD Cert.Ffn1SampleIdeal.τ).loc Cert.Ffn1SampleIdeal.main_arg1)
          ∧ r.2.mem ((c.tc : Thread Cert.Ffn1SampleIdeal.nD Cert.Ffn1SampleIdeal.τ).loc Cert.Ffn1SampleIdeal.main_arg2) = m ((c.tc : Thread Cert.Ffn1SampleIdeal.nD Cert.Ffn1SampleIdeal.τ).loc Cert.Ffn1SampleIdeal.main_arg2)
          ∧ r.2.mem ((c.tc : Thread Cert.Ffn1SampleIdeal.nD Cert.Ffn1SampleIdeal.τ).loc Cert.Ffn1SampleIdeal.main_arg3) = m ((c.tc : Thread Cert.Ffn1SampleIdeal.nD Cert.Ffn1SampleIdeal.τ).loc Cert.Ffn1SampleIdeal.main_arg3)
          ∧ r.2.mem ((c.tc : Thread Cert.Ffn1SampleIdeal.nD Cert.Ffn1SampleIdeal.τ).loc Cert.Ffn1SampleIdeal.main_arg4) = m ((c.tc : Thread Cert.Ffn1SampleIdeal.nD Cert.Ffn1SampleIdeal.τ).loc Cert.Ffn1SampleIdeal.main_arg4))
      ∧ θ_run (Cert.Ffn1SampleRefIdeal.defs (F := Ideal)) (onTc (τ := Cert.Ffn1SampleRefIdeal.τ) (Cert.Ffn1SampleRefIdeal.main (F := Ideal))) ⟨m', fun _ => 0, g'⟩ (fun r => ∀ c : Dev Cert.Ffn1SampleRefIdeal.nD,
          r.2.mem ((c.tc : Thread Cert.Ffn1SampleRefIdeal.nD Cert.Ffn1SampleRefIdeal.τ).loc Cert.Ffn1SampleRefIdeal.main_v42) = v0 c
          ∧ r.2.mem ((c.tc : Thread Cert.Ffn1SampleRefIdeal.nD Cert.Ffn1SampleRefIdeal.τ).loc Cert.Ffn1SampleRefIdeal.main_arg0) = m' ((c.tc : Thread Cert.Ffn1SampleRefIdeal.nD Cert.Ffn1SampleRefIdeal.τ).loc Cert.Ffn1SampleRefIdeal.main_arg0)
          ∧ r.2.mem ((c.tc : Thread Cert.Ffn1SampleRefIdeal.nD Cert.Ffn1SampleRefIdeal.τ).loc Cert.Ffn1SampleRefIdeal.main_arg1) = m' ((c.tc : Thread Cert.Ffn1SampleRefIdeal.nD Cert.Ffn1SampleRefIdeal.τ).loc Cert.Ffn1SampleRefIdeal.main_arg1)
          ∧ r.2.mem ((c.tc : Thread Cert.Ffn1SampleRefIdeal.nD Cert.Ffn1SampleRefIdeal.τ).loc Cert.Ffn1SampleRefIdeal.main_arg2) = m' ((c.tc : Thread Cert.Ffn1SampleRefIdeal.nD Cert.Ffn1SampleRefIdeal.τ).loc Cert.Ffn1SampleRefIdeal.main_arg2)
          ∧ r.2.mem ((c.tc : Thread Cert.Ffn1SampleRefIdeal.nD Cert.Ffn1SampleRefIdeal.τ).loc Cert.Ffn1SampleRefIdeal.main_arg3) = m' ((c.tc : Thread Cert.Ffn1SampleRefIdeal.nD Cert.Ffn1SampleRefIdeal.τ).loc Cert.Ffn1SampleRefIdeal.main_arg3)
          ∧ r.2.mem ((c.tc : Thread Cert.Ffn1SampleRefIdeal.nD Cert.Ffn1SampleRefIdeal.τ).loc Cert.Ffn1SampleRefIdeal.main_arg4) = m' ((c.tc : Thread Cert.Ffn1SampleRefIdeal.nD Cert.Ffn1SampleRefIdeal.τ).loc Cert.Ffn1SampleRefIdeal.main_arg4))

def preserves_Ffn2Sample_Ffn2SampleIdeal : Prop :=
  True

def algebraic_Ffn2SampleIdeal_Ffn2SampleRefIdeal [hFfn2SampleIdeal : Cert.Ffn2SampleIdeal.Facts] [hFfn2SampleRefIdeal : Cert.Ffn2SampleRefIdeal.Facts] : Prop :=
  ∀ (m : (ℓ : Loc Cert.Ffn2SampleIdeal.nD Cert.Ffn2SampleIdeal.τ Cert.Ffn2SampleIdeal.sig) → Buf (Elt Ideal) ℓ) (g : Dev Cert.Ffn2SampleIdeal.nD → PrngReg)
    (m' : (ℓ : Loc Cert.Ffn2SampleRefIdeal.nD Cert.Ffn2SampleRefIdeal.τ Cert.Ffn2SampleRefIdeal.sig) → Buf (Elt Ideal) ℓ) (g' : Dev Cert.Ffn2SampleRefIdeal.nD → PrngReg), Pre_Ffn2SampleIdeal m →
    (∀ c : Dev Cert.Ffn2SampleIdeal.nD,
      m' ((c.tc : Thread Cert.Ffn2SampleRefIdeal.nD Cert.Ffn2SampleRefIdeal.τ).loc Cert.Ffn2SampleRefIdeal.main_arg0) = m ((c.tc : Thread Cert.Ffn2SampleIdeal.nD Cert.Ffn2SampleIdeal.τ).loc Cert.Ffn2SampleIdeal.main_arg0)
      ∧ m' ((c.tc : Thread Cert.Ffn2SampleRefIdeal.nD Cert.Ffn2SampleRefIdeal.τ).loc Cert.Ffn2SampleRefIdeal.main_arg1) = m ((c.tc : Thread Cert.Ffn2SampleIdeal.nD Cert.Ffn2SampleIdeal.τ).loc Cert.Ffn2SampleIdeal.main_arg1)
      ∧ m' ((c.tc : Thread Cert.Ffn2SampleRefIdeal.nD Cert.Ffn2SampleRefIdeal.τ).loc Cert.Ffn2SampleRefIdeal.main_arg2) = m ((c.tc : Thread Cert.Ffn2SampleIdeal.nD Cert.Ffn2SampleIdeal.τ).loc Cert.Ffn2SampleIdeal.main_arg2)
      ∧ m' ((c.tc : Thread Cert.Ffn2SampleRefIdeal.nD Cert.Ffn2SampleRefIdeal.τ).loc Cert.Ffn2SampleRefIdeal.main_arg3) = m ((c.tc : Thread Cert.Ffn2SampleIdeal.nD Cert.Ffn2SampleIdeal.τ).loc Cert.Ffn2SampleIdeal.main_arg3)
      ∧ m' ((c.tc : Thread Cert.Ffn2SampleRefIdeal.nD Cert.Ffn2SampleRefIdeal.τ).loc Cert.Ffn2SampleRefIdeal.main_arg4) = m ((c.tc : Thread Cert.Ffn2SampleIdeal.nD Cert.Ffn2SampleIdeal.τ).loc Cert.Ffn2SampleIdeal.main_arg4)
      ∧ m' ((c.tc : Thread Cert.Ffn2SampleRefIdeal.nD Cert.Ffn2SampleRefIdeal.τ).loc Cert.Ffn2SampleRefIdeal.main_arg5) = m ((c.tc : Thread Cert.Ffn2SampleIdeal.nD Cert.Ffn2SampleIdeal.τ).loc Cert.Ffn2SampleIdeal.main_arg5)
      ∧ m' ((c.tc : Thread Cert.Ffn2SampleRefIdeal.nD Cert.Ffn2SampleRefIdeal.τ).loc Cert.Ffn2SampleRefIdeal.main_arg6) = m ((c.tc : Thread Cert.Ffn2SampleIdeal.nD Cert.Ffn2SampleIdeal.τ).loc Cert.Ffn2SampleIdeal.main_arg6)
      ∧ m' ((c.tc : Thread Cert.Ffn2SampleRefIdeal.nD Cert.Ffn2SampleRefIdeal.τ).loc Cert.Ffn2SampleRefIdeal.main_arg7) = m ((c.tc : Thread Cert.Ffn2SampleIdeal.nD Cert.Ffn2SampleIdeal.τ).loc Cert.Ffn2SampleIdeal.main_arg7)) →
    ∃ (v0 : (c : Dev Cert.Ffn2SampleIdeal.nD) → Buf (Elt Ideal) ((c.tc : Thread Cert.Ffn2SampleIdeal.nD Cert.Ffn2SampleIdeal.τ).loc Cert.Ffn2SampleIdeal.main_v14)),
      θ_run (Cert.Ffn2SampleIdeal.defs (F := Ideal)) (onTc (τ := Cert.Ffn2SampleIdeal.τ) (Cert.Ffn2SampleIdeal.main (F := Ideal))) ⟨m, fun _ => 0, g⟩ (fun r => ∀ c : Dev Cert.Ffn2SampleIdeal.nD,
          r.2.mem ((c.tc : Thread Cert.Ffn2SampleIdeal.nD Cert.Ffn2SampleIdeal.τ).loc Cert.Ffn2SampleIdeal.main_v14) = v0 c
          ∧ r.2.mem ((c.tc : Thread Cert.Ffn2SampleIdeal.nD Cert.Ffn2SampleIdeal.τ).loc Cert.Ffn2SampleIdeal.main_arg0) = m ((c.tc : Thread Cert.Ffn2SampleIdeal.nD Cert.Ffn2SampleIdeal.τ).loc Cert.Ffn2SampleIdeal.main_arg0)
          ∧ r.2.mem ((c.tc : Thread Cert.Ffn2SampleIdeal.nD Cert.Ffn2SampleIdeal.τ).loc Cert.Ffn2SampleIdeal.main_arg1) = m ((c.tc : Thread Cert.Ffn2SampleIdeal.nD Cert.Ffn2SampleIdeal.τ).loc Cert.Ffn2SampleIdeal.main_arg1)
          ∧ r.2.mem ((c.tc : Thread Cert.Ffn2SampleIdeal.nD Cert.Ffn2SampleIdeal.τ).loc Cert.Ffn2SampleIdeal.main_arg2) = m ((c.tc : Thread Cert.Ffn2SampleIdeal.nD Cert.Ffn2SampleIdeal.τ).loc Cert.Ffn2SampleIdeal.main_arg2)
          ∧ r.2.mem ((c.tc : Thread Cert.Ffn2SampleIdeal.nD Cert.Ffn2SampleIdeal.τ).loc Cert.Ffn2SampleIdeal.main_arg3) = m ((c.tc : Thread Cert.Ffn2SampleIdeal.nD Cert.Ffn2SampleIdeal.τ).loc Cert.Ffn2SampleIdeal.main_arg3)
          ∧ r.2.mem ((c.tc : Thread Cert.Ffn2SampleIdeal.nD Cert.Ffn2SampleIdeal.τ).loc Cert.Ffn2SampleIdeal.main_arg4) = m ((c.tc : Thread Cert.Ffn2SampleIdeal.nD Cert.Ffn2SampleIdeal.τ).loc Cert.Ffn2SampleIdeal.main_arg4)
          ∧ r.2.mem ((c.tc : Thread Cert.Ffn2SampleIdeal.nD Cert.Ffn2SampleIdeal.τ).loc Cert.Ffn2SampleIdeal.main_arg5) = m ((c.tc : Thread Cert.Ffn2SampleIdeal.nD Cert.Ffn2SampleIdeal.τ).loc Cert.Ffn2SampleIdeal.main_arg5)
          ∧ r.2.mem ((c.tc : Thread Cert.Ffn2SampleIdeal.nD Cert.Ffn2SampleIdeal.τ).loc Cert.Ffn2SampleIdeal.main_arg6) = m ((c.tc : Thread Cert.Ffn2SampleIdeal.nD Cert.Ffn2SampleIdeal.τ).loc Cert.Ffn2SampleIdeal.main_arg6)
          ∧ r.2.mem ((c.tc : Thread Cert.Ffn2SampleIdeal.nD Cert.Ffn2SampleIdeal.τ).loc Cert.Ffn2SampleIdeal.main_arg7) = m ((c.tc : Thread Cert.Ffn2SampleIdeal.nD Cert.Ffn2SampleIdeal.τ).loc Cert.Ffn2SampleIdeal.main_arg7))
      ∧ θ_run (Cert.Ffn2SampleRefIdeal.defs (F := Ideal)) (onTc (τ := Cert.Ffn2SampleRefIdeal.τ) (Cert.Ffn2SampleRefIdeal.main (F := Ideal))) ⟨m', fun _ => 0, g'⟩ (fun r => ∀ c : Dev Cert.Ffn2SampleRefIdeal.nD,
          r.2.mem ((c.tc : Thread Cert.Ffn2SampleRefIdeal.nD Cert.Ffn2SampleRefIdeal.τ).loc Cert.Ffn2SampleRefIdeal.main_v85) = v0 c
          ∧ r.2.mem ((c.tc : Thread Cert.Ffn2SampleRefIdeal.nD Cert.Ffn2SampleRefIdeal.τ).loc Cert.Ffn2SampleRefIdeal.main_arg0) = m' ((c.tc : Thread Cert.Ffn2SampleRefIdeal.nD Cert.Ffn2SampleRefIdeal.τ).loc Cert.Ffn2SampleRefIdeal.main_arg0)
          ∧ r.2.mem ((c.tc : Thread Cert.Ffn2SampleRefIdeal.nD Cert.Ffn2SampleRefIdeal.τ).loc Cert.Ffn2SampleRefIdeal.main_arg1) = m' ((c.tc : Thread Cert.Ffn2SampleRefIdeal.nD Cert.Ffn2SampleRefIdeal.τ).loc Cert.Ffn2SampleRefIdeal.main_arg1)
          ∧ r.2.mem ((c.tc : Thread Cert.Ffn2SampleRefIdeal.nD Cert.Ffn2SampleRefIdeal.τ).loc Cert.Ffn2SampleRefIdeal.main_arg2) = m' ((c.tc : Thread Cert.Ffn2SampleRefIdeal.nD Cert.Ffn2SampleRefIdeal.τ).loc Cert.Ffn2SampleRefIdeal.main_arg2)
          ∧ r.2.mem ((c.tc : Thread Cert.Ffn2SampleRefIdeal.nD Cert.Ffn2SampleRefIdeal.τ).loc Cert.Ffn2SampleRefIdeal.main_arg3) = m' ((c.tc : Thread Cert.Ffn2SampleRefIdeal.nD Cert.Ffn2SampleRefIdeal.τ).loc Cert.Ffn2SampleRefIdeal.main_arg3)
          ∧ r.2.mem ((c.tc : Thread Cert.Ffn2SampleRefIdeal.nD Cert.Ffn2SampleRefIdeal.τ).loc Cert.Ffn2SampleRefIdeal.main_arg4) = m' ((c.tc : Thread Cert.Ffn2SampleRefIdeal.nD Cert.Ffn2SampleRefIdeal.τ).loc Cert.Ffn2SampleRefIdeal.main_arg4)
          ∧ r.2.mem ((c.tc : Thread Cert.Ffn2SampleRefIdeal.nD Cert.Ffn2SampleRefIdeal.τ).loc Cert.Ffn2SampleRefIdeal.main_arg5) = m' ((c.tc : Thread Cert.Ffn2SampleRefIdeal.nD Cert.Ffn2SampleRefIdeal.τ).loc Cert.Ffn2SampleRefIdeal.main_arg5)
          ∧ r.2.mem ((c.tc : Thread Cert.Ffn2SampleRefIdeal.nD Cert.Ffn2SampleRefIdeal.τ).loc Cert.Ffn2SampleRefIdeal.main_arg6) = m' ((c.tc : Thread Cert.Ffn2SampleRefIdeal.nD Cert.Ffn2SampleRefIdeal.τ).loc Cert.Ffn2SampleRefIdeal.main_arg6)
          ∧ r.2.mem ((c.tc : Thread Cert.Ffn2SampleRefIdeal.nD Cert.Ffn2SampleRefIdeal.τ).loc Cert.Ffn2SampleRefIdeal.main_arg7) = m' ((c.tc : Thread Cert.Ffn2SampleRefIdeal.nD Cert.Ffn2SampleRefIdeal.τ).loc Cert.Ffn2SampleRefIdeal.main_arg7))

def preserves_MixerSample_MixerSampleIdeal : Prop :=
  True

def algebraic_MixerSampleIdeal_MixerSampleRefIdeal_pre_finite_gate_sample [hMixerSampleIdeal : Cert.MixerSampleIdeal.Facts] [hMixerSampleRefIdeal : Cert.MixerSampleRefIdeal.Facts] [hPre_finite_gate_sample : Cert.Pre_finite_gate_sample.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg)
    (m' : (ℓ : Loc Cert.MixerSampleRefIdeal.nD Cert.MixerSampleRefIdeal.τ Cert.MixerSampleRefIdeal.sig) → Buf (Elt Ideal) ℓ) (g' : Dev Cert.MixerSampleRefIdeal.nD → PrngReg), Pre_MixerSampleIdeal_finite_gate_sample m →
    (∀ c : Dev Cert.MixerSampleIdeal.nD,
      m' ((c.tc : Thread Cert.MixerSampleRefIdeal.nD Cert.MixerSampleRefIdeal.τ).loc Cert.MixerSampleRefIdeal.main_arg0) = m ((c.tc : Thread Cert.MixerSampleIdeal.nD Cert.MixerSampleIdeal.τ).loc Cert.MixerSampleIdeal.main_arg0)
      ∧ m' ((c.tc : Thread Cert.MixerSampleRefIdeal.nD Cert.MixerSampleRefIdeal.τ).loc Cert.MixerSampleRefIdeal.main_arg1) = m ((c.tc : Thread Cert.MixerSampleIdeal.nD Cert.MixerSampleIdeal.τ).loc Cert.MixerSampleIdeal.main_arg1)
      ∧ m' ((c.tc : Thread Cert.MixerSampleRefIdeal.nD Cert.MixerSampleRefIdeal.τ).loc Cert.MixerSampleRefIdeal.main_arg2) = m ((c.tc : Thread Cert.MixerSampleIdeal.nD Cert.MixerSampleIdeal.τ).loc Cert.MixerSampleIdeal.main_arg2)
      ∧ m' ((c.tc : Thread Cert.MixerSampleRefIdeal.nD Cert.MixerSampleRefIdeal.τ).loc Cert.MixerSampleRefIdeal.main_arg3) = m ((c.tc : Thread Cert.MixerSampleIdeal.nD Cert.MixerSampleIdeal.τ).loc Cert.MixerSampleIdeal.main_arg3)
      ∧ m' ((c.tc : Thread Cert.MixerSampleRefIdeal.nD Cert.MixerSampleRefIdeal.τ).loc Cert.MixerSampleRefIdeal.main_arg4) = m ((c.tc : Thread Cert.MixerSampleIdeal.nD Cert.MixerSampleIdeal.τ).loc Cert.MixerSampleIdeal.main_arg4)
      ∧ m' ((c.tc : Thread Cert.MixerSampleRefIdeal.nD Cert.MixerSampleRefIdeal.τ).loc Cert.MixerSampleRefIdeal.main_arg5) = m ((c.tc : Thread Cert.MixerSampleIdeal.nD Cert.MixerSampleIdeal.τ).loc Cert.MixerSampleIdeal.main_arg5)
      ∧ m' ((c.tc : Thread Cert.MixerSampleRefIdeal.nD Cert.MixerSampleRefIdeal.τ).loc Cert.MixerSampleRefIdeal.main_arg6) = m ((c.tc : Thread Cert.MixerSampleIdeal.nD Cert.MixerSampleIdeal.τ).loc Cert.MixerSampleIdeal.main_arg6)
      ∧ m' ((c.tc : Thread Cert.MixerSampleRefIdeal.nD Cert.MixerSampleRefIdeal.τ).loc Cert.MixerSampleRefIdeal.main_arg7) = m ((c.tc : Thread Cert.MixerSampleIdeal.nD Cert.MixerSampleIdeal.τ).loc Cert.MixerSampleIdeal.main_arg7)
      ∧ m' ((c.tc : Thread Cert.MixerSampleRefIdeal.nD Cert.MixerSampleRefIdeal.τ).loc Cert.MixerSampleRefIdeal.main_arg8) = m ((c.tc : Thread Cert.MixerSampleIdeal.nD Cert.MixerSampleIdeal.τ).loc Cert.MixerSampleIdeal.main_arg8)
      ∧ m' ((c.tc : Thread Cert.MixerSampleRefIdeal.nD Cert.MixerSampleRefIdeal.τ).loc Cert.MixerSampleRefIdeal.main_arg9) = m ((c.tc : Thread Cert.MixerSampleIdeal.nD Cert.MixerSampleIdeal.τ).loc Cert.MixerSampleIdeal.main_arg9)) →
    ∃ (v0 : (c : Dev Cert.MixerSampleIdeal.nD) → Buf (Elt Ideal) ((c.tc : Thread Cert.MixerSampleIdeal.nD Cert.MixerSampleIdeal.τ).loc Cert.MixerSampleIdeal.main_v24_1)) (v1 : (c : Dev Cert.MixerSampleIdeal.nD) → Buf (Elt Ideal) ((c.tc : Thread Cert.MixerSampleIdeal.nD Cert.MixerSampleIdeal.τ).loc Cert.MixerSampleIdeal.main_v24_2)),
      θ_run (Cert.MixerSampleIdeal.defs (F := Ideal)) (onTc (τ := Cert.MixerSampleIdeal.τ) (Cert.MixerSampleIdeal.main (F := Ideal))) ⟨m, fun _ => 0, g⟩ (fun r => ∀ c : Dev Cert.MixerSampleIdeal.nD,
          r.2.mem ((c.tc : Thread Cert.MixerSampleIdeal.nD Cert.MixerSampleIdeal.τ).loc Cert.MixerSampleIdeal.main_v24_1) = v0 c
          ∧ r.2.mem ((c.tc : Thread Cert.MixerSampleIdeal.nD Cert.MixerSampleIdeal.τ).loc Cert.MixerSampleIdeal.main_v24_2) = v1 c
          ∧ r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
          ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
          ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
          ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
          ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
          ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
          ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
          ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
          ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
          ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9))
      ∧ θ_run (Cert.MixerSampleRefIdeal.defs (F := Ideal)) (onTc (τ := Cert.MixerSampleRefIdeal.τ) (Cert.MixerSampleRefIdeal.main (F := Ideal))) ⟨m', fun _ => 0, g'⟩ (fun r => ∀ c : Dev Cert.MixerSampleRefIdeal.nD,
          r.2.mem ((c.tc : Thread Cert.MixerSampleRefIdeal.nD Cert.MixerSampleRefIdeal.τ).loc Cert.MixerSampleRefIdeal.main_v55) = v0 c
          ∧ r.2.mem ((c.tc : Thread Cert.MixerSampleRefIdeal.nD Cert.MixerSampleRefIdeal.τ).loc Cert.MixerSampleRefIdeal.main_v56) = v1 c
          ∧ r.2.mem ((c.tc : Thread Cert.MixerSampleRefIdeal.nD Cert.MixerSampleRefIdeal.τ).loc Cert.MixerSampleRefIdeal.main_arg0) = m' ((c.tc : Thread Cert.MixerSampleRefIdeal.nD Cert.MixerSampleRefIdeal.τ).loc Cert.MixerSampleRefIdeal.main_arg0)
          ∧ r.2.mem ((c.tc : Thread Cert.MixerSampleRefIdeal.nD Cert.MixerSampleRefIdeal.τ).loc Cert.MixerSampleRefIdeal.main_arg1) = m' ((c.tc : Thread Cert.MixerSampleRefIdeal.nD Cert.MixerSampleRefIdeal.τ).loc Cert.MixerSampleRefIdeal.main_arg1)
          ∧ r.2.mem ((c.tc : Thread Cert.MixerSampleRefIdeal.nD Cert.MixerSampleRefIdeal.τ).loc Cert.MixerSampleRefIdeal.main_arg2) = m' ((c.tc : Thread Cert.MixerSampleRefIdeal.nD Cert.MixerSampleRefIdeal.τ).loc Cert.MixerSampleRefIdeal.main_arg2)
          ∧ r.2.mem ((c.tc : Thread Cert.MixerSampleRefIdeal.nD Cert.MixerSampleRefIdeal.τ).loc Cert.MixerSampleRefIdeal.main_arg3) = m' ((c.tc : Thread Cert.MixerSampleRefIdeal.nD Cert.MixerSampleRefIdeal.τ).loc Cert.MixerSampleRefIdeal.main_arg3)
          ∧ r.2.mem ((c.tc : Thread Cert.MixerSampleRefIdeal.nD Cert.MixerSampleRefIdeal.τ).loc Cert.MixerSampleRefIdeal.main_arg4) = m' ((c.tc : Thread Cert.MixerSampleRefIdeal.nD Cert.MixerSampleRefIdeal.τ).loc Cert.MixerSampleRefIdeal.main_arg4)
          ∧ r.2.mem ((c.tc : Thread Cert.MixerSampleRefIdeal.nD Cert.MixerSampleRefIdeal.τ).loc Cert.MixerSampleRefIdeal.main_arg5) = m' ((c.tc : Thread Cert.MixerSampleRefIdeal.nD Cert.MixerSampleRefIdeal.τ).loc Cert.MixerSampleRefIdeal.main_arg5)
          ∧ r.2.mem ((c.tc : Thread Cert.MixerSampleRefIdeal.nD Cert.MixerSampleRefIdeal.τ).loc Cert.MixerSampleRefIdeal.main_arg6) = m' ((c.tc : Thread Cert.MixerSampleRefIdeal.nD Cert.MixerSampleRefIdeal.τ).loc Cert.MixerSampleRefIdeal.main_arg6)
          ∧ r.2.mem ((c.tc : Thread Cert.MixerSampleRefIdeal.nD Cert.MixerSampleRefIdeal.τ).loc Cert.MixerSampleRefIdeal.main_arg7) = m' ((c.tc : Thread Cert.MixerSampleRefIdeal.nD Cert.MixerSampleRefIdeal.τ).loc Cert.MixerSampleRefIdeal.main_arg7)
          ∧ r.2.mem ((c.tc : Thread Cert.MixerSampleRefIdeal.nD Cert.MixerSampleRefIdeal.τ).loc Cert.MixerSampleRefIdeal.main_arg8) = m' ((c.tc : Thread Cert.MixerSampleRefIdeal.nD Cert.MixerSampleRefIdeal.τ).loc Cert.MixerSampleRefIdeal.main_arg8)
          ∧ r.2.mem ((c.tc : Thread Cert.MixerSampleRefIdeal.nD Cert.MixerSampleRefIdeal.τ).loc Cert.MixerSampleRefIdeal.main_arg9) = m' ((c.tc : Thread Cert.MixerSampleRefIdeal.nD Cert.MixerSampleRefIdeal.τ).loc Cert.MixerSampleRefIdeal.main_arg9))

def Claim : Prop :=
  ∃ (hMixer : Cert.Mixer.Facts) (hMixerIdeal : Cert.MixerIdeal.Facts) (hMixerRefIdeal : Cert.MixerRefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hFfn1Sample : Cert.Ffn1Sample.Facts) (hFfn1SampleIdeal : Cert.Ffn1SampleIdeal.Facts) (hFfn1SampleRefIdeal : Cert.Ffn1SampleRefIdeal.Facts) (hFfn2Sample : Cert.Ffn2Sample.Facts) (hFfn2SampleIdeal : Cert.Ffn2SampleIdeal.Facts) (hFfn2SampleRefIdeal : Cert.Ffn2SampleRefIdeal.Facts) (hMixerSample : Cert.MixerSample.Facts) (hMixerSampleIdeal : Cert.MixerSampleIdeal.Facts) (hMixerSampleRefIdeal : Cert.MixerSampleRefIdeal.Facts) (hPre_finite_gate : Cert.Pre_finite_gate.Facts) (hPre_finite_gate_sample : Cert.Pre_finite_gate_sample.Facts),
    quiescent_Mixer (hMixer := hMixer)
    ∧ quiescent_MixerIdeal (hMixerIdeal := hMixerIdeal)
    ∧ quiescent_MixerIdeal_pre_finite_gate (hMixerIdeal := hMixerIdeal) (hPre_finite_gate := hPre_finite_gate)
    ∧ quiescent_MixerRefIdeal (hMixerRefIdeal := hMixerRefIdeal)
    ∧ quiescent_MixerRefIdeal_pre_finite_gate (hMixerRefIdeal := hMixerRefIdeal) (hPre_finite_gate := hPre_finite_gate)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Ffn1Sample (hFfn1Sample := hFfn1Sample)
    ∧ quiescent_Ffn1SampleIdeal (hFfn1SampleIdeal := hFfn1SampleIdeal)
    ∧ quiescent_Ffn1SampleRefIdeal (hFfn1SampleRefIdeal := hFfn1SampleRefIdeal)
    ∧ quiescent_Ffn2Sample (hFfn2Sample := hFfn2Sample)
    ∧ quiescent_Ffn2SampleIdeal (hFfn2SampleIdeal := hFfn2SampleIdeal)
    ∧ quiescent_Ffn2SampleRefIdeal (hFfn2SampleRefIdeal := hFfn2SampleRefIdeal)
    ∧ quiescent_MixerSample (hMixerSample := hMixerSample)
    ∧ quiescent_MixerSampleIdeal (hMixerSampleIdeal := hMixerSampleIdeal)
    ∧ quiescent_MixerSampleIdeal_pre_finite_gate_sample (hMixerSampleIdeal := hMixerSampleIdeal) (hPre_finite_gate_sample := hPre_finite_gate_sample)
    ∧ quiescent_MixerSampleRefIdeal (hMixerSampleRefIdeal := hMixerSampleRefIdeal)
    ∧ quiescent_MixerSampleRefIdeal_pre_finite_gate_sample (hMixerSampleRefIdeal := hMixerSampleRefIdeal) (hPre_finite_gate_sample := hPre_finite_gate_sample)
    ∧ preserves_Mixer_MixerIdeal
    ∧ algebraic_MixerIdeal_MixerRefIdeal_pre_finite_gate (hMixerIdeal := hMixerIdeal) (hMixerRefIdeal := hMixerRefIdeal) (hPre_finite_gate := hPre_finite_gate)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Ffn1Sample_Ffn1SampleIdeal
    ∧ algebraic_Ffn1SampleIdeal_Ffn1SampleRefIdeal (hFfn1SampleIdeal := hFfn1SampleIdeal) (hFfn1SampleRefIdeal := hFfn1SampleRefIdeal)
    ∧ preserves_Ffn2Sample_Ffn2SampleIdeal
    ∧ algebraic_Ffn2SampleIdeal_Ffn2SampleRefIdeal (hFfn2SampleIdeal := hFfn2SampleIdeal) (hFfn2SampleRefIdeal := hFfn2SampleRefIdeal)
    ∧ preserves_MixerSample_MixerSampleIdeal
    ∧ algebraic_MixerSampleIdeal_MixerSampleRefIdeal_pre_finite_gate_sample (hMixerSampleIdeal := hMixerSampleIdeal) (hMixerSampleRefIdeal := hMixerSampleRefIdeal) (hPre_finite_gate_sample := hPre_finite_gate_sample)
-- ==== Pre_finite_gate.lean ====
abbrev S8x2048x1024 : Shape := ⟨3, ![8, 2048, 1024]⟩
abbrev S1x8x1024 : Shape := ⟨3, ![1, 8, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x8x1024 : S_.BroadcastsInDim S1x8x1024 (![] : Fin 0 → Fin S1x8x1024.rank)
  reducesTo_S1x8x1024_S_d0_1_2 : S1x8x1024.ReducesTo [0, 1, 2] S_
  bcast_S_S1x1024x3088 : S_.BroadcastsInDim S1x1024x3088 (![] : Fin 0 → Fin S1x1024x3088.rank)
  reducesTo_S1x1024x3088_S_d0_1_2 : S1x1024x3088.ReducesTo [0, 1, 2] S_
  bcast_S_S1x16x256 : S_.BroadcastsInDim S1x16x256 (![] : Fin 0 → Fin S1x16x256.rank)
  reducesTo_S1x16x256_S_d0_1_2 : S1x16x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S1x16x256 1) : IVec S_ 1 :=
  let main_c_5 : IVec S_ 1 := constantI S_ 1 1#1
  let main_v17 : IVec S_ 1 := (fun x v => Host.reduce IntOp.andi x v reducesTo_S1x16x256_S_d0_1_2 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S8x2048x1024 .f32) (main_arg1 : FVec F S1x8x1024 .f32) (main_arg2 : FVec F S1x1024x3088 .f32) (main_arg3 : FVec F S1x16x256 .f32) (main_arg4 : FVec F S1x256 .f32) (main_arg5 : FVec F S1x128 .f32) (main_arg6 : FVec F S1x3x512 .f32) (main_arg7 : FVec F S1x1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x8x1024 .f32 := Host.absf main_arg1
  let main_cst_0 : FVec F S_ .f32 := constant S_ .f32 0x7F800000#32
  let main_v5 : FVec F S1x8x1024 .f32 := broadcastInDim S1x8x1024 ![] bcast_S_S1x8x1024 main_cst_0
  let main_v6 : IVec S1x8x1024 1 := cmpf .olt main_v4 main_v5
  let main_c_1 : IVec S_ 1 := constantI S_ 1 1#1
  let main_v7 : IVec S_ 1 := (fun x v => Host.reduce IntOp.andi x v reducesTo_S1x8x1024_S_d0_1_2 h_S_) main_v6 main_c_1
  let main_v8 : IVec S_ 1 := andi main_v3 main_v7
  let main_v9 : FVec F S1x1024x3088 .f32 := Host.absf main_arg2
  let main_cst_2 : FVec F S_ .f32 := constant S_ .f32 0x7F800000#32
  let main_v10 : FVec F S1x1024x3088 .f32 := broadcastInDim S1x1024x3088 ![] bcast_S_S1x1024x3088 main_cst_2
  let main_v11 : IVec S1x1024x3088 1 := cmpf .olt main_v9 main_v10
  let main_c_3 : IVec S_ 1 := constantI S_ 1 1#1
  let main_v12 : IVec S_ 1 := (fun x v => Host.reduce IntOp.andi x v reducesTo_S1x1024x3088_S_d0_1_2 h_S_) main_v11 main_c_3
  let main_v13 : IVec S_ 1 := andi main_v8 main_v12
  let main_v14 : FVec F S1x16x256 .f32 := Host.absf main_arg3
  let main_cst_4 : FVec F S_ .f32 := constant S_ .f32 0x7F800000#32
  let main_v15 : FVec F S1x16x256 .f32 := broadcastInDim S1x16x256 ![] bcast_S_S1x16x256 main_cst_4
  let main_v16 : IVec S1x16x256 1 := cmpf .olt main_v14 main_v15
  fn_part1 (F := F) main_arg4 main_v13 main_v16
-- ==== Pre_finite_gate_sample.lean ====
abbrev S128x1x1024 : Shape := ⟨3, ![128, 1, 1024]⟩
abbrev S1x128x4x64x128 : Shape := ⟨5, ![1, 128, 4, 64, 128]⟩
abbrev S1x128x2x512 : Shape := ⟨4, ![1, 128, 2, 512]⟩
abbrev S1x8x1024 : Shape := ⟨3, ![1, 8, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S_ : Shape := ⟨0, ![]⟩

class Facts : Prop where
  bcast_S_S128x1x1024 : S_.BroadcastsInDim S128x1x1024 (![] : Fin 0 → Fin S128x1x1024.rank)
  reducesTo_S128x1x1024_S_d0_1_2 : S128x1x1024.ReducesTo [0, 1, 2] S_
  h_S_ : 0 < S_.numel
  bcast_S_S1x8x1024 : S_.BroadcastsInDim S1x8x1024 (![] : Fin 0 → Fin S1x8x1024.rank)
  reducesTo_S1x8x1024_S_d0_1_2 : S1x8x1024.ReducesTo [0, 1, 2] S_
  bcast_S_S1x1024x3088 : S_.BroadcastsInDim S1x1024x3088 (![] : Fin 0 → Fin S1x1024x3088.rank)
  reducesTo_S1x1024x3088_S_d0_1_2 : S1x1024x3088.ReducesTo [0, 1, 2] S_
  bcast_S_S1x16x256 : S_.BroadcastsInDim S1x16x256 (![] : Fin 0 → Fin S1x16x256.rank)
  reducesTo_S1x16x256_S_d0_1_2 : S1x16x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg6 : FVec F S1x256 .f32) (main_v13 : IVec S_ 1) (main_v16 : IVec S1x16x256 1) : IVec S_ 1 :=
  let main_c_5 : IVec S_ 1 := constantI S_ 1 1#1
  let main_v17 : IVec S_ 1 := (fun x v => Host.reduce IntOp.andi x v reducesTo_S1x16x256_S_d0_1_2 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S128x1x1024 .f32) (main_arg1 : FVec F S1x128x4x64x128 .f32) (main_arg2 : FVec F S1x128x2x512 .f32) (main_arg3 : FVec F S1x8x1024 .f32) (main_arg4 : FVec F S1x1024x3088 .f32) (main_arg5 : FVec F S1x16x256 .f32) (main_arg6 : FVec F S1x256 .f32) (main_arg7 : FVec F S1x128 .f32) (main_arg8 : FVec F S1x3x512 .f32) (main_arg9 : FVec F S1x1024x1024 .f32) : IVec S_ 1 :=
  let main_v0 : FVec F S128x1x1024 .f32 := Host.absf main_arg0
  let main_cst : FVec F S_ .f32 := constant S_ .f32 0x7F800000#32
  let main_v1 : FVec F S128x1x1024 .f32 := broadcastInDim S128x1x1024 ![] bcast_S_S128x1x1024 main_cst
  let main_v2 : IVec S128x1x1024 1 := cmpf .olt main_v0 main_v1
  let main_c : IVec S_ 1 := constantI S_ 1 1#1
  let main_v3 : IVec S_ 1 := (fun x v => Host.reduce IntOp.andi x v reducesTo_S128x1x1024_S_d0_1_2 h_S_) main_v2 main_c
  let main_v4 : FVec F S1x8x1024 .f32 := Host.absf main_arg3
  let main_cst_0 : FVec F S_ .f32 := constant S_ .f32 0x7F800000#32
  let main_v5 : FVec F S1x8x1024 .f32 := broadcastInDim S1x8x1024 ![] bcast_S_S1x8x1024 main_cst_0
  let main_v6 : IVec S1x8x1024 1 := cmpf .olt main_v4 main_v5
  let main_c_1 : IVec S_ 1 := constantI S_ 1 1#1
  let main_v7 : IVec S_ 1 := (fun x v => Host.reduce IntOp.andi x v reducesTo_S1x8x1024_S_d0_1_2 h_S_) main_v6 main_c_1
  let main_v8 : IVec S_ 1 := andi main_v3 main_v7
  let main_v9 : FVec F S1x1024x3088 .f32 := Host.absf main_arg4
  let main_cst_2 : FVec F S_ .f32 := constant S_ .f32 0x7F800000#32
  let main_v10 : FVec F S1x1024x3088 .f32 := broadcastInDim S1x1024x3088 ![] bcast_S_S1x1024x3088 main_cst_2
  let main_v11 : IVec S1x1024x3088 1 := cmpf .olt main_v9 main_v10
  let main_c_3 : IVec S_ 1 := constantI S_ 1 1#1
  let main_v12 : IVec S_ 1 := (fun x v => Host.reduce IntOp.andi x v reducesTo_S1x1024x3088_S_d0_1_2 h_S_) main_v11 main_c_3
  let main_v13 : IVec S_ 1 := andi main_v8 main_v12
  let main_v14 : FVec F S1x16x256 .f32 := Host.absf main_arg5
  let main_cst_4 : FVec F S_ .f32 := constant S_ .f32 0x7F800000#32
  let main_v15 : FVec F S1x16x256 .f32 := broadcastInDim S1x16x256 ![] bcast_S_S1x16x256 main_cst_4
  let main_v16 : IVec S1x16x256 1 := cmpf .olt main_v14 main_v15
  fn_part1 (F := F) main_arg6 main_v13 main_v16
-- ==== Mixer.lean ====
abbrev S8x2048x1024 : Shape := ⟨3, ![8, 2048, 1024]⟩
abbrev S1x8x1024 : Shape := ⟨3, ![1, 8, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S512x192 : Shape := ⟨2, ![512, 192]⟩
abbrev S64x256 : Shape := ⟨2, ![64, 256]⟩
abbrev S8x1024 : Shape := ⟨2, ![8, 1024]⟩
abbrev S1024x3088 : Shape := ⟨2, ![1024, 3088]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S16x256 : Shape := ⟨2, ![16, 256]⟩
abbrev S128x256 : Shape := ⟨2, ![128, 256]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S16384x1024 : Shape := ⟨2, ![16384, 1024]⟩
abbrev S8x256x128 : Shape := ⟨3, ![8, 256, 128]⟩
abbrev S8x2x512 : Shape := ⟨3, ![8, 2, 512]⟩
abbrev S512x1024 : Shape := ⟨2, ![512, 1024]⟩
abbrev S1x256x128 : Shape := ⟨3, ![1, 256, 128]⟩
abbrev S1x2x512 : Shape := ⟨3, ![1, 2, 512]⟩
abbrev S256x128 : Shape := ⟨2, ![256, 128]⟩
abbrev S8x512 : Shape := ⟨2, ![8, 512]⟩
abbrev S512x256 : Shape := ⟨2, ![512, 256]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S64x512 : Shape := ⟨2, ![64, 512]⟩
abbrev S256x512 : Shape := ⟨2, ![256, 512]⟩
abbrev S192x128 : Shape := ⟨2, ![192, 128]⟩
abbrev S192x256 : Shape := ⟨2, ![192, 256]⟩
abbrev S256x256 : Shape := ⟨2, ![256, 256]⟩
abbrev S1x512 : Shape := ⟨2, ![1, 512]⟩
abbrev S2x512 : Shape := ⟨2, ![2, 512]⟩

abbrev nBuf : Space → Nat
  | .hbm => 37
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1x8x1024, .f32⟩
  | .hbm, ⟨2, _⟩ => ⟨S1x1024x3088, .f32⟩
  | .hbm, ⟨3, _⟩ => ⟨S1x16x256, .f32⟩
  | .hbm, ⟨4, _⟩ => ⟨S1x256, .f32⟩
  | .hbm, ⟨5, _⟩ => ⟨S1x128, .f32⟩
  | .hbm, ⟨6, _⟩ => ⟨S1x3x512, .f32⟩
  | .hbm, ⟨7, _⟩ => ⟨S1x1024x1024, .f32⟩
  | .hbm, ⟨8, _⟩ => ⟨S512x192, .bf16⟩
  | .hbm, ⟨9, _⟩ => ⟨S64x256, .i32⟩
  | .hbm, ⟨10, _⟩ => ⟨S8x1024, .f32⟩
  | .hbm, ⟨11, _⟩ => ⟨S1024x3088, .f32⟩
  | .hbm, ⟨12, _⟩ => ⟨S1024x1536, .f32⟩
  | .hbm, ⟨13, _⟩ => ⟨S1024x1536, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x1536, .f32⟩
  | .hbm, ⟨20, _⟩ => ⟨S1024x1536, .bf16⟩
  | .hbm, ⟨21, _⟩ => ⟨S16x256, .f32⟩
  | .hbm, ⟨22, _⟩ => ⟨S_, .i32⟩
  | .hbm, ⟨23, _⟩ => ⟨S_, .f32⟩
  | .hbm, ⟨24, _⟩ => ⟨S128x256, .f32⟩
  | .hbm, ⟨25, _⟩ => ⟨S128x256, .bf16⟩
  | .hbm, ⟨26, _⟩ => ⟨S256, .f32⟩
  | .hbm, ⟨27, _⟩ => ⟨S1x256, .f32⟩
  | .hbm, ⟨28, _⟩ => ⟨S128, .f32⟩
  | .hbm, ⟨29, _⟩ => ⟨S1x128, .f32⟩
  | .hbm, ⟨30, _⟩ => ⟨S3x512, .f32⟩
  | .hbm, ⟨31, _⟩ => ⟨S1024x1024, .f32⟩
  | .hbm, ⟨32, _⟩ => ⟨S1024x1024, .bf16⟩
  | .hbm, ⟨33, _⟩ => ⟨S16384x1024, .f32⟩
  | .hbm, ⟨34, _⟩ => ⟨S16384x1024, .f32⟩
  | .hbm, ⟨35, _⟩ => ⟨S8x256x128, .f32⟩
  | .hbm, ⟨36, _⟩ => ⟨S8x2x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1536, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S1024x1536, .bf16⟩
  | .local _ .vmem, ⟨8, _⟩ => ⟨S1x128, .f32⟩
  | .local _ .vmem, ⟨9, _⟩ => ⟨S3x512, .f32⟩
  | .local _ .vmem, ⟨10, _⟩ => ⟨S1024x1024, .bf16⟩
  | .local _ .vmem, ⟨11, _⟩ => ⟨S512x192, .bf16⟩
  | .local _ .vmem, ⟨12, _⟩ => ⟨S64x256, .i32⟩
  | .local _ .vmem, ⟨13, _⟩ => ⟨S512x1024, .f32⟩
  | .local _ .vmem, ⟨14, _⟩ => ⟨S512x1024, .f32⟩
  | .local _ .vmem, ⟨15, _⟩ => ⟨S1x256x128, .f32⟩
  | .local _ .vmem, ⟨16, _⟩ => ⟨S1x256x128, .f32⟩
  | .local _ .vmem, ⟨17, _⟩ => ⟨S1x2x512, .f32⟩
  | .local _ .vmem, ⟨18, _⟩ => ⟨S1x2x512, .f32⟩
  | .local _ .vmem, ⟨19, _⟩ => ⟨S256x128, .f32⟩
  | .local _ .vmem, ⟨20, _⟩ => ⟨S8x512, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x512, .f32⟩
  | .local _ .vmem, ⟨25, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_66 : BitVec 32 := 0#32
  let c8_i32 : BitVec 32 := 8#32
  let v196 : BitVec 32 := Scalar.addi c0_i32_66 c8_i32
  let c1_i32_67 : BitVec 32 := 1#32
  ⟨c0_i32_66, v196, c1_i32_67⟩
def k0_mult1 (k0_t1 : Fin k0_t1_loop.trips) : BitVec 32 :=
  let c0_i32_66 : BitVec 32 := 0#32
  let c1_i32_67 : BitVec 32 := 1#32
  let arg24 : BitVec 32 := Scf.iv c0_i32_66 c1_i32_67 k0_t1
  let c64_i32_117 : BitVec 32 := 64#32
  let v333 : BitVec 32 := Scalar.muli arg24 c64_i32_117
  v333
def k0_off1 (k0_t1 : Fin k0_t1_loop.trips) : Fin 2 → Nat :=
  let c0_i32_66 : BitVec 32 := 0#32
  let c1_i32_67 : BitVec 32 := 1#32
  let arg24 : BitVec 32 := Scf.iv c0_i32_66 c1_i32_67 k0_t1
  let c64_i32_117 : BitVec 32 := 64#32
  let v333 : BitVec 32 := Scalar.muli arg24 c64_i32_117
  let v334 : BitVec 32 := v333
  let v335 : Index := Scalar.indexCast v334
  let c0_118 : Index := 0#32
  ![v335.toNat, 0]
def k0_off2 (k0_t1 : Fin k0_t1_loop.trips) : Fin 2 → Nat :=
  let c0_i32_66 : BitVec 32 := 0#32
  let c1_i32_67 : BitVec 32 := 1#32
  let arg24 : BitVec 32 := Scf.iv c0_i32_66 c1_i32_67 k0_t1
  let c64_i32_117 : BitVec 32 := 64#32
  let v333 : BitVec 32 := Scalar.muli arg24 c64_i32_117
  let v334 : BitVec 32 := v333
  let v339 : Index := Scalar.indexCast v334
  let c0_120 : Index := 0#32
  ![v339.toNat, 0]
def k0_cond2 (i : grid0.Coords) : BitVec 1 :=
  let arg1 : BitVec 32 := BitVec.ofNat 32 (i 1).val
  let c3_i32 : BitVec 32 := 3#32
  let v330 : BitVec 1 := Scalar.cmpi .eq arg1 c3_i32
  let v331 : BitVec 32 := Scalar.extui v330
  let c0_i32_116 : BitVec 32 := 0#32
  let v332 : BitVec 1 := Scalar.cmpi .ne v331 c0_i32_116
  v332

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MixerRefIdeal.lean ====
abbrev S8x2048x1024 : Shape := ⟨3, ![8, 2048, 1024]⟩
abbrev S1x8x1024 : Shape := ⟨3, ![1, 8, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S8x1024 : Shape := ⟨2, ![8, 1024]⟩
abbrev S_ : Shape := ⟨0, ![]⟩
abbrev S8x4x64x128 : Shape := ⟨4, ![8, 4, 64, 128]⟩
abbrev S8x2x512 : Shape := ⟨3, ![8, 2, 512]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x3088 : Shape := ⟨2, ![1024, 3088]⟩
abbrev S16x256 : Shape := ⟨2, ![16, 256]⟩
abbrev S256 : Shape := ⟨1, ![256]⟩
abbrev S8x2048x3088 : Shape := ⟨3, ![8, 2048, 3088]⟩
abbrev S8x2048x256 : Shape := ⟨3, ![8, 2048, 256]⟩
abbrev S8x2048x512 : Shape := ⟨3, ![8, 2048, 512]⟩
abbrev S8x2048x16 : Shape := ⟨3, ![8, 2048, 16]⟩
abbrev S8x2050x512 : Shape := ⟨3, ![8, 2050, 512]⟩
abbrev S8x2048x4x64 : Shape := ⟨4, ![8, 2048, 4, 64]⟩
abbrev S8x2048x4x128 : Shape := ⟨4, ![8, 2048, 4, 128]⟩
abbrev S1x1x256 : Shape := ⟨3, ![1, 1, 256]⟩
abbrev S8x32x64x4x64 : Shape := ⟨5, ![8, 32, 64, 4, 64]⟩
abbrev S8x32x64x4x128 : Shape := ⟨5, ![8, 32, 64, 4, 128]⟩
abbrev S32x8x64x4x64 : Shape := ⟨5, ![32, 8, 64, 4, 64]⟩
abbrev S32x8x64x4x128 : Shape := ⟨5, ![32, 8, 64, 4, 128]⟩
abbrev S1x8x64x4x64 : Shape := ⟨5, ![1, 8, 64, 4, 64]⟩
abbrev S8x64x4x64 : Shape := ⟨4, ![8, 64, 4, 64]⟩
abbrev S1x8x64x4x128 : Shape := ⟨5, ![1, 8, 64, 4, 128]⟩
abbrev S8x64x4x128 : Shape := ⟨4, ![8, 64, 4, 128]⟩
abbrev S8x1x4x64 : Shape := ⟨4, ![8, 1, 4, 64]⟩
abbrev S8x4x64 : Shape := ⟨3, ![8, 4, 64]⟩
abbrev S8x4x64x1 : Shape := ⟨4, ![8, 4, 64, 1]⟩
abbrev S8x256x128 : Shape := ⟨3, ![8, 256, 128]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x8x1024, .f32⟩
  | .hbm, ⟨2, _⟩ => ⟨S1x1024x3088, .f32⟩
  | .hbm, ⟨3, _⟩ => ⟨S1x16x256, .f32⟩
  | .hbm, ⟨4, _⟩ => ⟨S1x256, .f32⟩
  | .hbm, ⟨5, _⟩ => ⟨S1x128, .f32⟩
  | .hbm, ⟨6, _⟩ => ⟨S1x3x512, .f32⟩
  | .hbm, ⟨7, _⟩ => ⟨S1x1024x1024, .f32⟩
  | .hbm, ⟨8, _⟩ => ⟨S8x1024, .f32⟩
  | .hbm, ⟨9, _⟩ => ⟨S_, .f32⟩
  | .hbm, ⟨10, _⟩ => ⟨S8x4x64x128, .f32⟩
  | .hbm, ⟨11, _⟩ => ⟨S_, .f32⟩
  | .hbm, ⟨12, _⟩ => ⟨S8x2x512, .f32⟩
  | .hbm, ⟨13, _⟩ => ⟨S1x1024, .f32⟩
  | .hbm, ⟨14, _⟩ => ⟨S1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1024x3088, .f32⟩
  | .hbm, ⟨32, _⟩ => ⟨S16x256, .f32⟩
  | .hbm, ⟨33, _⟩ => ⟨S256, .f32⟩
  | .hbm, ⟨34, _⟩ => ⟨S8x2048x3088, .f32⟩
  | .hbm, ⟨35, _⟩ => ⟨S8x2048x256, .f32⟩
  | .hbm, ⟨36, _⟩ => ⟨S8x2048x256, .f32⟩
  | .hbm, ⟨37, _⟩ => ⟨S8x2048x512, .f32⟩
  | .hbm, ⟨38, _⟩ => ⟨S8x2048x512, .f32⟩
  | .hbm, ⟨39, _⟩ => ⟨S8x2048x16, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2050x512, .f32⟩
  | .hbm, ⟨45, _⟩ => ⟨S8x2x512, .f32⟩
  | .hbm, ⟨46, _⟩ => ⟨S8x2048x4x64, .f32⟩
  | .hbm, ⟨47, _⟩ => ⟨S8x2048x4x128, .f32⟩
  | .hbm, ⟨48, _⟩ => ⟨S8x2048x256, .f32⟩
  | .hbm, ⟨49, _⟩ => ⟨S1x1x256, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S_, .f32⟩
  | .hbm, ⟨54, _⟩ => ⟨S8x2048x256, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .i1⟩
  | .hbm, ⟨59, _⟩ => ⟨S8x2048x256, .f32⟩
  | .hbm, ⟨60, _⟩ => ⟨S8x2048x256, .f32⟩
  | .hbm, ⟨61, _⟩ => ⟨S8x2048x256, .f32⟩
  | .hbm, ⟨62, _⟩ => ⟨S8x2048x256, .f32⟩
  | .hbm, ⟨63, _⟩ => ⟨S8x2048x256, .f32⟩
  | .hbm, ⟨64, _⟩ => ⟨S8x2048x256, .f32⟩
  | .hbm, ⟨65, _⟩ => ⟨S8x2048x256, .f32⟩
  | .hbm, ⟨66, _⟩ => ⟨S8x2048x256, .f32⟩
  | .hbm, ⟨67, _⟩ => ⟨S8x2048x256, .f32⟩
  | .hbm, ⟨68, _⟩ => ⟨S_, .f32⟩
  | .hbm, ⟨69, _⟩ => ⟨S8x2048x256, .f32⟩
  | .hbm, ⟨70, _⟩ => ⟨S8x2048x256, .f32⟩
  | .hbm, ⟨71, _⟩ => ⟨S8x2048x4x64, .f32⟩
  | .hbm, ⟨72, _⟩ => ⟨S8x32x64x4x64, .f32⟩
  | .hbm, ⟨73, _⟩ => ⟨S8x32x64x4x128, .f32⟩
  | .hbm, ⟨74, _⟩ => ⟨S8x32x64x4x64, .f32⟩
  | .hbm, ⟨75, _⟩ => ⟨S_, .f32⟩
  | .hbm, ⟨76, _⟩ => ⟨S_, .f32⟩
  | .hbm, ⟨77, _⟩ => ⟨S8x32x64x4x64, .f32⟩
  | .hbm, ⟨78, _⟩ => ⟨S32x8x64x4x64, .f32⟩
  | .hbm, ⟨79, _⟩ => ⟨S32x8x64x4x128, .f32⟩
  | .hbm, ⟨80, _⟩ => ⟨S32x8x64x4x64, .f32⟩
  | .hbm, ⟨81, _⟩ => ⟨S_, .i32⟩
  | .hbm, ⟨82, _⟩ => ⟨S32x8x64x4x64, .f32⟩
  | .hbm, ⟨83, _⟩ => ⟨S32x8x64x4x128, .f32⟩
  | .hbm, ⟨84, _⟩ => ⟨S32x8x64x4x64, .f32⟩
  | .hbm, ⟨85, _⟩ => ⟨S_, .i32⟩
  | .hbm, ⟨86, _⟩ => ⟨S8x4x64x128, .f32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S1x8x64x4x64, .f32⟩
  | .hbm, ⟨94, _⟩ => ⟨S8x64x4x64, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S1x8x64x4x128, .f32⟩
  | .hbm, ⟨100, _⟩ => ⟨S8x64x4x128, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S1x8x64x4x64, .f32⟩
  | .hbm, ⟨106, _⟩ => ⟨S8x64x4x64, .f32⟩
  | .hbm, ⟨107, _⟩ => ⟨S8x1x4x64, .f32⟩
  | .hbm, ⟨108, _⟩ => ⟨S8x4x64, .f32⟩
  | .hbm, ⟨109, _⟩ => ⟨S8x1x4x64, .f32⟩
  | .hbm, ⟨110, _⟩ => ⟨S8x64x4x64, .f32⟩
  | .hbm, ⟨111, _⟩ => ⟨S8x64x4x64, .f32⟩
  | .hbm, ⟨112, _⟩ => ⟨S8x64x4x64, .f32⟩
  | .hbm, ⟨113, _⟩ => ⟨S8x64x4x64, .f32⟩
  | .hbm, ⟨114, _⟩ => ⟨S8x4x64, .f32⟩
  | .hbm, ⟨115, _⟩ => ⟨S8x4x64x1, .f32⟩
  | .hbm, ⟨116, _⟩ => ⟨S8x4x64x128, .f32⟩
  | .hbm, ⟨117, _⟩ => ⟨S8x4x64x128, .f32⟩
  | .hbm, ⟨118, _⟩ => ⟨S8x4x64x128, .f32⟩
  | .hbm, ⟨119, _⟩ => ⟨S8x4x64x128, .f32⟩
  | .hbm, ⟨120, _⟩ => ⟨S_, .i32⟩
  | .hbm, ⟨121, _⟩ => ⟨S_, .i32⟩
  | .hbm, ⟨122, _⟩ => ⟨S8x256x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_call0_cst : Ref sig .tc := ⟨.hbm, 75, rfl⟩
abbrev main_call1_call0_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c : Ref sig .tc := ⟨.hbm, 81, rfl⟩
abbrev main_v50_0 : Ref sig .tc := ⟨.hbm, 82, rfl⟩
abbrev main_v50_1 : Ref sig .tc := ⟨.hbm, 83, rfl⟩
abbrev main_v50_2 : Ref sig .tc := ⟨.hbm, 84, rfl⟩
abbrev main_v50_3 : Ref sig .tc := ⟨.hbm, 85, rfl⟩
abbrev main_v50_4 : Ref sig .tc := ⟨.hbm, 86, rfl⟩
abbrev main_while0c_c_9 : Ref sig .tc := ⟨.hbm, 87, rfl⟩
abbrev main_while0c_v52 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_c_1 : Ref sig .tc := ⟨.hbm, 91, rfl⟩
abbrev main_while0b_call2_c_2 : Ref sig .tc := ⟨.hbm, 92, rfl⟩
abbrev main_while0b_call2_v0 : Ref sig .tc := ⟨.hbm, 93, rfl⟩
abbrev main_while0b_v52 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v53 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_c_9 : Ref sig .tc := ⟨.hbm, 120, rfl⟩
abbrev main_while0b_v68 : Ref sig .tc := ⟨.hbm, 121, rfl⟩
abbrev main_v51 : Ref sig .tc := ⟨.hbm, 122, rfl⟩

abbrev nD : Nat := 1
abbrev τ : Topo := Topo.v7x

variable {F : FTy → Type} [FloatOps F]

abbrev main_while0_count : Scf.Loop 32 := ⟨0#32, 32#32, 1#32⟩
-- ==== Ffn1.lean ====
abbrev S8x2048x1024 : Shape := ⟨3, ![8, 2048, 1024]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S8x1024 : Shape := ⟨2, ![8, 1024]⟩
abbrev S1024x2816 : Shape := ⟨2, ![1024, 2816]⟩
abbrev S2816x1024 : Shape := ⟨2, ![2816, 1024]⟩
abbrev S16384x1024 : Shape := ⟨2, ![16384, 1024]⟩
abbrev S512x1024 : Shape := ⟨2, ![512, 1024]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x8x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S16384x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn1RefIdeal.lean ====
abbrev S8x2048x1024 : Shape := ⟨3, ![8, 2048, 1024]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x8x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8x1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S_, .f32⟩
  | .hbm, ⟨31, _⟩ => ⟨S8x2048x2816, .f32⟩
  | .hbm, ⟨32, _⟩ => ⟨S8x2048x2816, .f32⟩
  | .hbm, ⟨33, _⟩ => ⟨S_, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x1024, .f32⟩
  | .hbm, ⟨40, _⟩ => ⟨S1x1024, .f32⟩
  | .hbm, ⟨41, _⟩ => ⟨S1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Ffn2.lean ====
abbrev S8x2048x1024 : Shape := ⟨3, ![8, 2048, 1024]⟩
abbrev S1x8x2048x256 : Shape := ⟨4, ![1, 8, 2048, 256]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S8x1024 : Shape := ⟨2, ![8, 1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S8x2048x256 : Shape := ⟨3, ![8, 2048, 256]⟩
abbrev S16384x256 : Shape := ⟨2, ![16384, 256]⟩
abbrev S16384x1024 : Shape := ⟨2, ![16384, 1024]⟩
abbrev S512x1024 : Shape := ⟨2, ![512, 1024]⟩
abbrev S512x256 : Shape := ⟨2, ![512, 256]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩

abbrev nBuf : Space → Nat
  | .hbm => 23
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S1x8x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S8x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S256x1024, .f32⟩
  | .hbm, ⟨16, _⟩ => ⟨S256x1024, .bf16⟩
  | .hbm, ⟨17, _⟩ => ⟨S1024x1024, .f32⟩
  | .hbm, ⟨18, _⟩ => ⟨S1024x1024, .bf16⟩
  | .hbm, ⟨19, _⟩ => ⟨S8x2048x256, .f32⟩
  | .hbm, ⟨20, _⟩ => ⟨S16384x256, .f32⟩
  | .hbm, ⟨21, _⟩ => ⟨S16384x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x256, .f32⟩
  | .local _ .vmem, ⟨7, _⟩ => ⟨S512x256, .f32⟩
  | .local _ .vmem, ⟨8, _⟩ => ⟨S256x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Ffn2RefIdeal.lean ====
abbrev S8x2048x1024 : Shape := ⟨3, ![8, 2048, 1024]⟩
abbrev S1x8x2048x256 : Shape := ⟨4, ![1, 8, 2048, 256]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S1024x1024 : Shape := ⟨2, ![1024, 1024]⟩
abbrev S8x2048x256 : Shape := ⟨3, ![8, 2048, 256]⟩
abbrev S256x1024 : Shape := ⟨2, ![256, 1024]⟩
abbrev S16384x1024 : Shape := ⟨2, ![16384, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S1x8x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S8x1024, .f32⟩
  | .hbm, ⟨9, _⟩ => ⟨S1x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1024x2816, .f32⟩
  | .hbm, ⟨28, _⟩ => ⟨S1024x2816, .f32⟩
  | .hbm, ⟨29, _⟩ => ⟨S2816x1024, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S_, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S1x1024, .f32⟩
  | .hbm, ⟨66, _⟩ => ⟨S1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S1024x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x2048x1024, .f32⟩
  | .hbm, ⟨89, _⟩ => ⟨S8x2048x1024, .f32⟩
  | .hbm, ⟨90, _⟩ => ⟨S_, .f32⟩
  | .hbm, ⟨91, _⟩ => ⟨S8x2048x1024, .f32⟩
  | .hbm, ⟨92, _⟩ => ⟨S8x2048x1024, .f32⟩
  | .hbm, ⟨93, _⟩ => ⟨S8x2048x256, .f32⟩
  | .hbm, ⟨94, _⟩ => ⟨S256x1024, .f32⟩
  | .hbm, ⟨95, _⟩ => ⟨S8x2048x1024, .f32⟩
  | .hbm, ⟨96, _⟩ => ⟨S8x2048x1024, .f32⟩
  | .hbm, ⟨97, _⟩ => ⟨S1x1024, .f32⟩
  | .hbm, ⟨98, _⟩ => ⟨S1024, .f32⟩
  | .hbm, ⟨99, _⟩ => ⟨S8x2048x1024, .f32⟩
  | .hbm, ⟨100, _⟩ => ⟨S_, .f32⟩
  | .hbm, ⟨101, _⟩ => ⟨S8x2048, .f32⟩
  | .hbm, ⟨102, _⟩ => ⟨S8x2048x1, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S_, .f32⟩
  | .hbm, ⟨107, _⟩ => ⟨S8x2048x1, .f32⟩
  | .hbm, ⟨108, _⟩ => ⟨S8x2048x1, .f32⟩
  | .hbm, ⟨109, _⟩ => ⟨S8x2048x1, .f32⟩
  | .hbm, ⟨110, _⟩ => ⟨S8x2048x1024, .f32⟩
  | .hbm, ⟨111, _⟩ => ⟨S8x2048x1024, .f32⟩
  | .hbm, ⟨112, _⟩ => ⟨S1x1x1024, .f32⟩
  | .hbm, ⟨113, _⟩ => ⟨S8x2048x1024, .f32⟩
  | .hbm, ⟨114, _⟩ => ⟨S8x2048x1024, .f32⟩
  | .hbm, ⟨115, _⟩ => ⟨S8x2048x1024, .f32⟩
  | .hbm, ⟨116, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Ffn1Sample.lean ====
abbrev S128x1x1024 : Shape := ⟨3, ![128, 1, 1024]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S8x1024 : Shape := ⟨2, ![8, 1024]⟩
abbrev S1024x2816 : Shape := ⟨2, ![1024, 2816]⟩
abbrev S2816x1024 : Shape := ⟨2, ![2816, 1024]⟩
abbrev S128x1024 : Shape := ⟨2, ![128, 1024]⟩
abbrev S128x2816 : Shape := ⟨2, ![128, 2816]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1x8x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S128x1024, .f32⟩
  | .hbm, ⟨13, _⟩ => ⟨S128x1024, .f32⟩
  | .local _ .vmem, ⟨0, _⟩ => ⟨S128x1024, .f32⟩
  | .local _ .vmem, ⟨1, _⟩ => ⟨S8x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S128x1024, .f32⟩
  | .local _ .vmem, ⟨6, _⟩ => ⟨S128x2816, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Ffn1SampleRefIdeal.lean ====
abbrev S128x1x1024 : Shape := ⟨3, ![128, 1, 1024]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2816 : Shape := ⟨2, ![1024, 2816]⟩
abbrev S2816x1024 : Shape := ⟨2, ![2816, 1024]⟩
abbrev S128x1x2816 : Shape := ⟨3, ![128, 1, 2816]⟩
abbrev S128x1024 : Shape := ⟨2, ![128, 1024]⟩

abbrev nBuf : Space → Nat
  | .hbm => 63
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x8x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8x1024, .f32⟩
  | .hbm, ⟨6, _⟩ => ⟨S1x1024, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S128x1x2816, .f32⟩
  | .hbm, ⟨28, _⟩ => ⟨S128x1x2816, .f32⟩
  | .hbm, ⟨29, _⟩ => ⟨S128x1x2816, .f32⟩
  | .hbm, ⟨30, _⟩ => ⟨S_, .f32⟩
  | .hbm, ⟨31, _⟩ => ⟨S128x1x2816, .f32⟩
  | .hbm, ⟨32, _⟩ => ⟨S128x1x2816, .f32⟩
  | .hbm, ⟨33, _⟩ => ⟨S_, .f32⟩
  | .hbm, ⟨34, _⟩ => ⟨S128x1x2816, .f32⟩
  | .hbm, ⟨35, _⟩ => ⟨S128x1x2816, .f32⟩
  | .hbm, ⟨36, _⟩ => ⟨S128x1x2816, .f32⟩
  | .hbm, ⟨37, _⟩ => ⟨S128x1x2816, .f32⟩
  | .hbm, ⟨38, _⟩ => ⟨S128x1x2816, .f32⟩
  | .hbm, ⟨39, _⟩ => ⟨S128x1x1024, .f32⟩
  | .hbm, ⟨40, _⟩ => ⟨S1x1024, .f32⟩
  | .hbm, ⟨41, _⟩ => ⟨S1024, .f32⟩
  | .hbm, ⟨42, _⟩ => ⟨S128x1x1024, .f32⟩
  | .hbm, ⟨43, _⟩ => ⟨S_, .f32⟩
  | .hbm, ⟨44, _⟩ => ⟨S128x1, .f32⟩
  | .hbm, ⟨45, _⟩ => ⟨S128x1x1, .f32⟩
  | .hbm, ⟨46, _⟩ => ⟨S_, .f32⟩
  | .hbm, ⟨47, _⟩ => ⟨S128x1x1, .f32⟩
  | .hbm, ⟨48, _⟩ => ⟨S128x1x1, .f32⟩
  | .hbm, ⟨49, _⟩ => ⟨S_, .f32⟩
  | .hbm, ⟨50, _⟩ => ⟨S128x1x1, .f32⟩
  | .hbm, ⟨51, _⟩ => ⟨S128x1x1, .f32⟩
  | .hbm, ⟨52, _⟩ => ⟨S128x1x1, .f32⟩
  | .hbm, ⟨53, _⟩ => ⟨S128x1x1024, .f32⟩
  | .hbm, ⟨54, _⟩ => ⟨S128x1x1024, .f32⟩
  | .hbm, ⟨55, _⟩ => ⟨S1x1x1024, .f32⟩
  | .hbm, ⟨56, _⟩ => ⟨S128x1x1024, .f32⟩
  | .hbm, ⟨57, _⟩ => ⟨S128x1x1024, .f32⟩
  | .hbm, ⟨58, _⟩ => ⟨S_, .f32⟩
  | .hbm, ⟨59, _⟩ => ⟨S128x1x1024, .f32⟩
  | .hbm, ⟨60, _⟩ => ⟨S128x1x1024, .f32⟩
  | .hbm, ⟨61, _⟩ => ⟨S128x1x1024, .f32⟩
  | .hbm, ⟨62, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Ffn2Sample.lean ====
abbrev S128x1x1024 : Shape := ⟨3, ![128, 1, 1024]⟩
abbrev S1x128x1x256 : Shape := ⟨4, ![1, 128, 1, 256]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S8x1024 : Shape := ⟨2, ![8, 1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S128x1x256 : Shape := ⟨3, ![128, 1, 256]⟩
abbrev S128x256 : Shape := ⟨2, ![128, 256]⟩
abbrev S128x1024 : Shape := ⟨2, ![128, 1024]⟩
abbrev S128x2816 : Shape := ⟨2, ![128, 2816]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩

abbrev nBuf : Space → Nat
  | .hbm => 23
  | .vmem => 10
  | .smem => 0
  | _ => 0

abbrev bufTy : (tb : Table) → Fin (tcTables nBuf tb) → BufTy
  | .hbm, ⟨0, _⟩ => ⟨S128x1x1024, .f32⟩
  | .hbm, ⟨1, _⟩ => ⟨S1x128x1x256, .f32⟩
  | .hbm, ⟨2, _⟩ => ⟨S1x8x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S8x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S256x1024, .f32⟩
  | .hbm, ⟨16, _⟩ => ⟨S256x1024, .bf16⟩
  | .hbm, ⟨17, _⟩ => ⟨S1024x1024, .f32⟩
  | .hbm, ⟨18, _⟩ => ⟨S1024x1024, .bf16⟩
  | .hbm, ⟨19, _⟩ => ⟨S128x1x256, .f32⟩
  | .hbm, ⟨20, _⟩ => ⟨S128x256, .f32⟩
  | .hbm, ⟨21, _⟩ => ⟨S128x1024, .f32⟩
  | .hbm, ⟨22, _⟩ => ⟨S128x1024, .f32⟩
  | .local _ .vmem, ⟨0, _⟩ => ⟨S128x1024, .f32⟩
  | .local _ .vmem, ⟨1, _⟩ => ⟨S8x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S128x256, .f32⟩
  | .local _ .vmem, ⟨6, _⟩ => ⟨S256x1024, .bf16⟩
  | .local _ .vmem, ⟨7, _⟩ => ⟨S1024x1024, .bf16⟩
  | .local _ .vmem, ⟨8, _⟩ => ⟨S128x1024, .f32⟩
  | .local _ .vmem, ⟨9, _⟩ => ⟨S128x2816, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Ffn2SampleRefIdeal.lean ====
abbrev S128x1x1024 : Shape := ⟨3, ![128, 1, 1024]⟩
abbrev S1x128x1x256 : Shape := ⟨4, ![1, 128, 1, 256]⟩
abbrev S1x8x1024 : Shape := ⟨3, ![1, 8, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2816 : Shape := ⟨2, ![1024, 2816]⟩
abbrev S2816x1024 : Shape := ⟨2, ![2816, 1024]⟩
abbrev S128x1x2816 : Shape := ⟨3, ![128, 1, 2816]⟩
abbrev S1024x1024 : Shape := ⟨2, ![1024, 1024]⟩
abbrev S128x1x256 : Shape := ⟨3, ![128, 1, 256]⟩
abbrev S256x1024 : Shape := ⟨2, ![256, 1024]⟩
abbrev S128x1024 : Shape := ⟨2, ![128, 1024]⟩

abbrev nBuf : Space → Nat
  | .hbm => 117
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x1x256, .f32⟩
  | .hbm, ⟨2, _⟩ => ⟨S1x8x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S8x1024, .f32⟩
  | .hbm, ⟨9, _⟩ => ⟨S1x1024, .f32⟩
  | .hbm, ⟨10, _⟩ => ⟨S1024, .f32⟩
  | .hbm, ⟨11, _⟩ => ⟨S128x1x1024, .f32⟩
  | .hbm, ⟨12, _⟩ => ⟨S_, .f32⟩
  | .hbm, ⟨13, _⟩ => ⟨S128x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S128x1x1, .f32⟩
  | .hbm, ⟨22, _⟩ => ⟨S128x1x1024, .f32⟩
  | .hbm, ⟨23, _⟩ => ⟨S128x1x1024, .f32⟩
  | .hbm, ⟨24, _⟩ => ⟨S1x1x1024, .f32⟩
  | .hbm, ⟨25, _⟩ => ⟨S128x1x1024, .f32⟩
  | .hbm, ⟨26, _⟩ => ⟨S128x1x1024, .f32⟩
  | .hbm, ⟨27, _⟩ => ⟨S1024x2816, .f32⟩
  | .hbm, ⟨28, _⟩ => ⟨S1024x2816, .f32⟩
  | .hbm, ⟨29, _⟩ => ⟨S2816x1024, .f32⟩
  | .hbm, ⟨30, _⟩ => ⟨S128x1x2816, .f32⟩
  | .hbm, ⟨31, _⟩ => ⟨S128x1x2816, .f32⟩
  | .hbm, ⟨32, _⟩ => ⟨S128x1x2816, .f32⟩
  | .hbm, ⟨33, _⟩ => ⟨S_, .f32⟩
  | .hbm, ⟨34, _⟩ => ⟨S128x1x2816, .f32⟩
  | .hbm, ⟨35, _⟩ => ⟨S128x1x2816, .f32⟩
  | .hbm, ⟨36, _⟩ => ⟨S_, .f32⟩
  | .hbm, ⟨37, _⟩ => ⟨S128x1x2816, .f32⟩
  | .hbm, ⟨38, _⟩ => ⟨S128x1x2816, .f32⟩
  | .hbm, ⟨39, _⟩ => ⟨S128x1x2816, .f32⟩
  | .hbm, ⟨40, _⟩ => ⟨S128x1x2816, .f32⟩
  | .hbm, ⟨41, _⟩ => ⟨S128x1x2816, .f32⟩
  | .hbm, ⟨42, _⟩ => ⟨S128x1x1024, .f32⟩
  | .hbm, ⟨43, _⟩ => ⟨S1x1024, .f32⟩
  | .hbm, ⟨44, _⟩ => ⟨S1024, .f32⟩
  | .hbm, ⟨45, _⟩ => ⟨S128x1x1024, .f32⟩
  | .hbm, ⟨46, _⟩ => ⟨S_, .f32⟩
  | .hbm, ⟨47, _⟩ => ⟨S128x1, .f32⟩
  | .hbm, ⟨48, _⟩ => ⟨S128x1x1, .f32⟩
  | .hbm, ⟨49, _⟩ => ⟨S_, .f32⟩
  | .hbm, ⟨50, _⟩ => ⟨S128x1x1, .f32⟩
  | .hbm, ⟨51, _⟩ => ⟨S128x1x1, .f32⟩
  | .hbm, ⟨52, _⟩ => ⟨S_, .f32⟩
  | .hbm, ⟨53, _⟩ => ⟨S128x1x1, .f32⟩
  | .hbm, ⟨54, _⟩ => ⟨S128x1x1, .f32⟩
  | .hbm, ⟨55, _⟩ => ⟨S128x1x1, .f32⟩
  | .hbm, ⟨56, _⟩ => ⟨S128x1x1024, .f32⟩
  | .hbm, ⟨57, _⟩ => ⟨S128x1x1024, .f32⟩
  | .hbm, ⟨58, _⟩ => ⟨S1x1x1024, .f32⟩
  | .hbm, ⟨59, _⟩ => ⟨S128x1x1024, .f32⟩
  | .hbm, ⟨60, _⟩ => ⟨S128x1x1024, .f32⟩
  | .hbm, ⟨61, _⟩ => ⟨S_, .f32⟩
  | .hbm, ⟨62, _⟩ => ⟨S128x1x1024, .f32⟩
  | .hbm, ⟨63, _⟩ => ⟨S128x1x1024, .f32⟩
  | .hbm, ⟨64, _⟩ => ⟨S128x1x1024, .f32⟩
  | .hbm, ⟨65, _⟩ => ⟨S1x1024, .f32⟩
  | .hbm, ⟨66, _⟩ => ⟨S1024, .f32⟩
  | .hbm, ⟨67, _⟩ => ⟨S128x1x1024, .f32⟩
  | .hbm, ⟨68, _⟩ => ⟨S_, .f32⟩
  | .hbm, ⟨69, _⟩ => ⟨S128x1, .f32⟩
  | .hbm, ⟨70, _⟩ => ⟨S128x1x1, .f32⟩
  | .hbm, ⟨71, _⟩ => ⟨S_, .f32⟩
  | .hbm, ⟨72, _⟩ => ⟨S128x1x1, .f32⟩
  | .hbm, ⟨73, _⟩ => ⟨S128x1x1, .f32⟩
  | .hbm, ⟨74, _⟩ => ⟨S_, .f32⟩
  | .hbm, ⟨75, _⟩ => ⟨S128x1x1, .f32⟩
  | .hbm, ⟨76, _⟩ => ⟨S128x1x1, .f32⟩
  | .hbm, ⟨77, _⟩ => ⟨S128x1x1, .f32⟩
  | .hbm, ⟨78, _⟩ => ⟨S128x1x1024, .f32⟩
  | .hbm, ⟨79, _⟩ => ⟨S128x1x1024, .f32⟩
  | .hbm, ⟨80, _⟩ => ⟨S1x1x1024, .f32⟩
  | .hbm, ⟨81, _⟩ => ⟨S128x1x1024, .f32⟩
  | .hbm, ⟨82, _⟩ => ⟨S128x1x1024, .f32⟩
  | .hbm, ⟨83, _⟩ => ⟨S1024x1024, .f32⟩
  | .hbm, ⟨84, _⟩ => ⟨S128x1x1024, .f32⟩
  | .hbm, ⟨85, _⟩ => ⟨S128x1x1024, .f32⟩
  | .hbm, ⟨86, _⟩ => ⟨S128x1x1024, .f32⟩
  | .hbm, ⟨87, _⟩ => ⟨S_, .f32⟩
  | .hbm, ⟨88, _⟩ => ⟨S128x1x1024, .f32⟩
  | .hbm, ⟨89, _⟩ => ⟨S128x1x1024, .f32⟩
  | .hbm, ⟨90, _⟩ => ⟨S_, .f32⟩
  | .hbm, ⟨91, _⟩ => ⟨S128x1x1024, .f32⟩
  | .hbm, ⟨92, _⟩ => ⟨S128x1x1024, .f32⟩
  | .hbm, ⟨93, _⟩ => ⟨S128x1x256, .f32⟩
  | .hbm, ⟨94, _⟩ => ⟨S256x1024, .f32⟩
  | .hbm, ⟨95, _⟩ => ⟨S128x1x1024, .f32⟩
  | .hbm, ⟨96, _⟩ => ⟨S128x1x1024, .f32⟩
  | .hbm, ⟨97, _⟩ => ⟨S1x1024, .f32⟩
  | .hbm, ⟨98, _⟩ => ⟨S1024, .f32⟩
  | .hbm, ⟨99, _⟩ => ⟨S128x1x1024, .f32⟩
  | .hbm, ⟨100, _⟩ => ⟨S_, .f32⟩
  | .hbm, ⟨101, _⟩ => ⟨S128x1, .f32⟩
  | .hbm, ⟨102, _⟩ => ⟨S128x1x1, .f32⟩
  | .hbm, ⟨103, _⟩ => ⟨S_, .f32⟩
  | .hbm, ⟨104, _⟩ => ⟨S128x1x1, .f32⟩
  | .hbm, ⟨105, _⟩ => ⟨S128x1x1, .f32⟩
  | .hbm, ⟨106, _⟩ => ⟨S_, .f32⟩
  | .hbm, ⟨107, _⟩ => ⟨S128x1x1, .f32⟩
  | .hbm, ⟨108, _⟩ => ⟨S128x1x1, .f32⟩
  | .hbm, ⟨109, _⟩ => ⟨S128x1x1, .f32⟩
  | .hbm, ⟨110, _⟩ => ⟨S128x1x1024, .f32⟩
  | .hbm, ⟨111, _⟩ => ⟨S128x1x1024, .f32⟩
  | .hbm, ⟨112, _⟩ => ⟨S1x1x1024, .f32⟩
  | .hbm, ⟨113, _⟩ => ⟨S128x1x1024, .f32⟩
  | .hbm, ⟨114, _⟩ => ⟨S128x1x1024, .f32⟩
  | .hbm, ⟨115, _⟩ => ⟨S128x1x1024, .f32⟩
  | .hbm, ⟨116, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== MixerSample.lean ====
abbrev S128x1x1024 : Shape := ⟨3, ![128, 1, 1024]⟩
abbrev S1x128x4x64x128 : Shape := ⟨5, ![1, 128, 4, 64, 128]⟩
abbrev S1x128x2x512 : Shape := ⟨4, ![1, 128, 2, 512]⟩
abbrev S1x8x1024 : Shape := ⟨3, ![1, 8, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S8x1024 : Shape := ⟨2, ![8, 1024]⟩
abbrev S1024x3088 : Shape := ⟨2, ![1024, 3088]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S16x256 : Shape := ⟨2, ![16, 256]⟩
abbrev S128x256 : Shape := ⟨2, ![128, 256]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S128x4x64x128 : Shape := ⟨4, ![128, 4, 64, 128]⟩
abbrev S128x256x128 : Shape := ⟨3, ![128, 256, 128]⟩
abbrev S128x2x512 : Shape := ⟨3, ![128, 2, 512]⟩
abbrev S128x1024 : Shape := ⟨2, ![128, 1024]⟩
abbrev S16x256x128 : Shape := ⟨3, ![16, 256, 128]⟩
abbrev S384x256 : Shape := ⟨2, ![384, 256]⟩
abbrev S128x512 : Shape := ⟨2, ![128, 512]⟩
abbrev S1x1024 : Shape := ⟨2, ![1, 1024]⟩
abbrev S128x1 : Shape := ⟨2, ![128, 1]⟩
abbrev S128x1536 : Shape := ⟨2, ![128, 1536]⟩
abbrev S128x128 : Shape := ⟨2, ![128, 128]⟩
abbrev S1x512 : Shape := ⟨2, ![1, 512]⟩
abbrev S384x128 : Shape := ⟨2, ![384, 128]⟩
abbrev S256x128 : Shape := ⟨2, ![256, 128]⟩
abbrev S64x128 : Shape := ⟨2, ![64, 128]⟩
abbrev S1x256x128 : Shape := ⟨3, ![1, 256, 128]⟩

abbrev nBuf : Space → Nat
  | .hbm => 41
  | .vmem => 24
  | .smem => 0
  | _ => 0

abbrev bufTy : (tb : Table) → Fin (tcTables nBuf tb) → BufTy
  | .hbm, ⟨0, _⟩ => ⟨S128x1x1024, .f32⟩
  | .hbm, ⟨1, _⟩ => ⟨S1x128x4x64x128, .f32⟩
  | .hbm, ⟨2, _⟩ => ⟨S1x128x2x512, .f32⟩
  | .hbm, ⟨3, _⟩ => ⟨S1x8x1024, .f32⟩
  | .hbm, ⟨4, _⟩ => ⟨S1x1024x3088, .f32⟩
  | .hbm, ⟨5, _⟩ => ⟨S1x16x256, .f32⟩
  | .hbm, ⟨6, _⟩ => ⟨S1x256, .f32⟩
  | .hbm, ⟨7, _⟩ => ⟨S1x128, .f32⟩
  | .hbm, ⟨8, _⟩ => ⟨S1x3x512, .f32⟩
  | .hbm, ⟨9, _⟩ => ⟨S1x1024x1024, .f32⟩
  | .hbm, ⟨10, _⟩ => ⟨S8x1024, .f32⟩
  | .hbm, ⟨11, _⟩ => ⟨S1024x3088, .f32⟩
  | .hbm, ⟨12, _⟩ => ⟨S1024x1536, .f32⟩
  | .hbm, ⟨13, _⟩ => ⟨S1024x1536, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x1536, .f32⟩
  | .hbm, ⟨20, _⟩ => ⟨S1024x1536, .bf16⟩
  | .hbm, ⟨21, _⟩ => ⟨S16x256, .f32⟩
  | .hbm, ⟨22, _⟩ => ⟨S_, .i32⟩
  | .hbm, ⟨23, _⟩ => ⟨S_, .f32⟩
  | .hbm, ⟨24, _⟩ => ⟨S128x256, .f32⟩
  | .hbm, ⟨25, _⟩ => ⟨S128x256, .bf16⟩
  | .hbm, ⟨26, _⟩ => ⟨S256, .f32⟩
  | .hbm, ⟨27, _⟩ => ⟨S1x256, .f32⟩
  | .hbm, ⟨28, _⟩ => ⟨S128, .f32⟩
  | .hbm, ⟨29, _⟩ => ⟨S1x128, .f32⟩
  | .hbm, ⟨30, _⟩ => ⟨S3x512, .f32⟩
  | .hbm, ⟨31, _⟩ => ⟨S1024x1024, .f32⟩
  | .hbm, ⟨32, _⟩ => ⟨S1024x1024, .bf16⟩
  | .hbm, ⟨33, _⟩ => ⟨S128x4x64x128, .f32⟩
  | .hbm, ⟨34, _⟩ => ⟨S128x256x128, .f32⟩
  | .hbm, ⟨35, _⟩ => ⟨S128x2x512, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x256x128, .f32⟩
  | .hbm, ⟨40, _⟩ => ⟨S128x1024, .f32⟩
  | .local _ .vmem, ⟨0, _⟩ => ⟨S128x1024, .f32⟩
  | .local _ .vmem, ⟨1, _⟩ => ⟨S16x256x128, .f32⟩
  | .local _ .vmem, ⟨2, _⟩ => ⟨S16x256x128, .f32⟩
  | .local _ .vmem, ⟨3, _⟩ => ⟨S128x1024, .f32⟩
  | .local _ .vmem, ⟨4, _⟩ => ⟨S8x1024, .f32⟩
  | .local _ .vmem, ⟨5, _⟩ => ⟨S1024x1536, .bf16⟩
  | .local _ .vmem, ⟨6, _⟩ => ⟨S1024x128, .bf16⟩
  | .local _ .vmem, ⟨7, _⟩ => ⟨S128x256, .bf16⟩
  | .local _ .vmem, ⟨8, _⟩ => ⟨S1x256, .f32⟩
  | .local _ .vmem, ⟨9, _⟩ => ⟨S1024x1536, .bf16⟩
  | .local _ .vmem, ⟨10, _⟩ => ⟨S1x128, .f32⟩
  | .local _ .vmem, ⟨11, _⟩ => ⟨S3x512, .f32⟩
  | .local _ .vmem, ⟨12, _⟩ => ⟨S1024x1024, .bf16⟩
  | .local _ .vmem, ⟨13, _⟩ => ⟨S128x1024, .f32⟩
  | .local _ .vmem, ⟨14, _⟩ => ⟨S16x256x128, .f32⟩
  | .local _ .vmem, ⟨15, _⟩ => ⟨S16x256x128, .f32⟩
  | .local _ .vmem, ⟨16, _⟩ => ⟨S128x1024, .f32⟩
  | .local _ .vmem, ⟨17, _⟩ => ⟨S128x256, .bf16⟩
  | .local _ .vmem, ⟨18, _⟩ => ⟨S128x256, .bf16⟩
  | .local _ .vmem, ⟨19, _⟩ => ⟨S384x256, .bf16⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off1 (i : grid0.Coords) (k0_t1 : Fin k0_t1_loop.trips) : Fin 2 → Nat :=
  let arg0 : BitVec 32 := BitVec.ofNat 32 (i 0).val
  let c16_i32_4 : BitVec 32 := 16#32
  let v8 : BitVec 32 := Scalar.muli arg0 c16_i32_4
  let c0_i32_1 : BitVec 32 := 0#32
  let c1_i32 : BitVec 32 := 1#32
  let arg23 : BitVec 32 := Scf.iv c0_i32_1 c1_i32 k0_t1
  let v9 : BitVec 32 := Scalar.addi v8 arg23
  let v23 : Index := Scalar.indexCast v9
  let c0_14 : Index := 0#32
  ![v23.toNat, 0]
def k0_off2 (k0_t1 : Fin k0_t1_loop.trips) : Fin 3 → Nat :=
  let c0_i32_1 : BitVec 32 := 0#32
  let c1_i32 : BitVec 32 := 1#32
  let arg23 : BitVec 32 := Scf.iv c0_i32_1 c1_i32 k0_t1
  let v39 : Index := Scalar.indexCast arg23
  let c0_15 : Index := 0#32
  let c0_16 : Index := 0#32
  ![v39.toNat, 0, 0]
def k0_cond2 (i : grid0.Coords) : BitVec 1 :=
  let arg0 : BitVec 32 := BitVec.ofNat 32 (i 0).val
  let c7_i32 : BitVec 32 := 7#32
  let v5 : BitVec 1 := Scalar.cmpi .eq arg0 c7_i32
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixerSampleRefIdeal.lean ====
abbrev S128x1x1024 : Shape := ⟨3, ![128, 1, 1024]⟩
abbrev S1x128x4x64x128 : Shape := ⟨5, ![1, 128, 4, 64, 128]⟩
abbrev S1x128x2x512 : Shape := ⟨4, ![1, 128, 2, 512]⟩
abbrev S1x8x1024 : Shape := ⟨3, ![1, 8, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x4x64x128 : Shape := ⟨4, ![128, 4, 64, 128]⟩
abbrev S128x2x512 : Shape := ⟨3, ![128, 2, 512]⟩
abbrev S1024x3088 : Shape := ⟨2, ![1024, 3088]⟩
abbrev S16x256 : Shape := ⟨2, ![16, 256]⟩
abbrev S256 : Shape := ⟨1, ![256]⟩
abbrev S128x1x3088 : Shape := ⟨3, ![128, 1, 3088]⟩
abbrev S128x1x256 : Shape := ⟨3, ![128, 1, 256]⟩
abbrev S128x1x512 : Shape := ⟨3, ![128, 1, 512]⟩
abbrev S128x1x16 : Shape := ⟨3, ![128, 1, 16]⟩
abbrev S128x3x512 : Shape := ⟨3, ![128, 3, 512]⟩
abbrev S128x1x4x64 : Shape := ⟨4, ![128, 1, 4, 64]⟩
abbrev S128x1x4x128 : Shape := ⟨4, ![128, 1, 4, 128]⟩
abbrev S1x1x256 : Shape := ⟨3, ![1, 1, 256]⟩
abbrev S128x4x64 : Shape := ⟨3, ![128, 4, 64]⟩
abbrev S128x4x64x1 : Shape := ⟨4, ![128, 4, 64, 1]⟩
abbrev S128x256x128 : Shape := ⟨3, ![128, 256, 128]⟩
abbrev S128x1024 : Shape := ⟨2, ![128, 1024]⟩

abbrev nBuf : Space → Nat
  | .hbm => 88
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x4x64x128, .f32⟩
  | .hbm, ⟨2, _⟩ => ⟨S1x128x2x512, .f32⟩
  | .hbm, ⟨3, _⟩ => ⟨S1x8x1024, .f32⟩
  | .hbm, ⟨4, _⟩ => ⟨S1x1024x3088, .f32⟩
  | .hbm, ⟨5, _⟩ => ⟨S1x16x256, .f32⟩
  | .hbm, ⟨6, _⟩ => ⟨S1x256, .f32⟩
  | .hbm, ⟨7, _⟩ => ⟨S1x128, .f32⟩
  | .hbm, ⟨8, _⟩ => ⟨S1x3x512, .f32⟩
  | .hbm, ⟨9, _⟩ => ⟨S1x1024x1024, .f32⟩
  | .hbm, ⟨10, _⟩ => ⟨S8x1024, .f32⟩
  | .hbm, ⟨11, _⟩ => ⟨S1x1024, .f32⟩
  | .hbm, ⟨12, _⟩ => ⟨S1024, .f32⟩
  | .hbm, ⟨13, _⟩ => ⟨S128x1x1024, .f32⟩
  | .hbm, ⟨14, _⟩ => ⟨S_, .f32⟩
  | .hbm, ⟨15, _⟩ => ⟨S128x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S128x1x1, .f32⟩
  | .hbm, ⟨24, _⟩ => ⟨S128x1x1024, .f32⟩
  | .hbm, ⟨25, _⟩ => ⟨S128x1x1024, .f32⟩
  | .hbm, ⟨26, _⟩ => ⟨S1x1x1024, .f32⟩
  | .hbm, ⟨27, _⟩ => ⟨S128x1x1024, .f32⟩
  | .hbm, ⟨28, _⟩ => ⟨S128x1x1024, .f32⟩
  | .hbm, ⟨29, _⟩ => ⟨S128x4x64x128, .f32⟩
  | .hbm, ⟨30, _⟩ => ⟨S128x2x512, .f32⟩
  | .hbm, ⟨31, _⟩ => ⟨S1024x3088, .f32⟩
  | .hbm, ⟨32, _⟩ => ⟨S16x256, .f32⟩
  | .hbm, ⟨33, _⟩ => ⟨S256, .f32⟩
  | .hbm, ⟨34, _⟩ => ⟨S128x1x3088, .f32⟩
  | .hbm, ⟨35, _⟩ => ⟨S128x1x256, .f32⟩
  | .hbm, ⟨36, _⟩ => ⟨S128x1x256, .f32⟩
  | .hbm, ⟨37, _⟩ => ⟨S128x1x512, .f32⟩
  | .hbm, ⟨38, _⟩ => ⟨S128x1x512, .f32⟩
  | .hbm, ⟨39, _⟩ => ⟨S128x1x16, .f32⟩
  | .hbm, ⟨40, _⟩ => ⟨S128x1x512, .f32⟩
  | .hbm, ⟨41, _⟩ => ⟨S128x1x512, .f32⟩
  | .hbm, ⟨42, _⟩ => ⟨S128x1x512, .f32⟩
  | .hbm, ⟨43, _⟩ => ⟨S128x1x512, .f32⟩
  | .hbm, ⟨44, _⟩ => ⟨S128x3x512, .f32⟩
  | .hbm, ⟨45, _⟩ => ⟨S128x2x512, .f32⟩
  | .hbm, ⟨46, _⟩ => ⟨S128x1x4x64, .f32⟩
  | .hbm, ⟨47, _⟩ => ⟨S128x1x4x128, .f32⟩
  | .hbm, ⟨48, _⟩ => ⟨S128x1x256, .f32⟩
  | .hbm, ⟨49, _⟩ => ⟨S1x1x256, .f32⟩
  | .hbm, ⟨50, _⟩ => ⟨S128x1x256, .f32⟩
  | .hbm, ⟨51, _⟩ => ⟨S128x1x256, .f32⟩
  | .hbm, ⟨52, _⟩ => ⟨S128x1x256, .f32⟩
  | .hbm, ⟨53, _⟩ => ⟨S_, .f32⟩
  | .hbm, ⟨54, _⟩ => ⟨S128x1x256, .f32⟩
  | .hbm, ⟨55, _⟩ => ⟨S128x1x256, .f32⟩
  | .hbm, ⟨56, _⟩ => ⟨S128x1x256, .f32⟩
  | .hbm, ⟨57, _⟩ => ⟨S128x1x256, .f32⟩
  | .hbm, ⟨58, _⟩ => ⟨S128x1x256, .i1⟩
  | .hbm, ⟨59, _⟩ => ⟨S128x1x256, .f32⟩
  | .hbm, ⟨60, _⟩ => ⟨S128x1x256, .f32⟩
  | .hbm, ⟨61, _⟩ => ⟨S128x1x256, .f32⟩
  | .hbm, ⟨62, _⟩ => ⟨S128x1x256, .f32⟩
  | .hbm, ⟨63, _⟩ => ⟨S128x1x256, .f32⟩
  | .hbm, ⟨64, _⟩ => ⟨S128x1x256, .f32⟩
  | .hbm, ⟨65, _⟩ => ⟨S128x1x256, .f32⟩
  | .hbm, ⟨66, _⟩ => ⟨S128x1x256, .f32⟩
  | .hbm, ⟨67, _⟩ => ⟨S128x1x256, .f32⟩
  | .hbm, ⟨68, _⟩ => ⟨S_, .f32⟩
  | .hbm, ⟨69, _⟩ => ⟨S128x1x256, .f32⟩
  | .hbm, ⟨70, _⟩ => ⟨S128x1x256, .f32⟩
  | .hbm, ⟨71, _⟩ => ⟨S128x1x4x64, .f32⟩
  | .hbm, ⟨72, _⟩ => ⟨S_, .f32⟩
  | .hbm, ⟨73, _⟩ => ⟨S_, .f32⟩
  | .hbm, ⟨74, _⟩ => ⟨S128x1x4x64, .f32⟩
  | .hbm, ⟨75, _⟩ => ⟨S128x4x64, .f32⟩
  | .hbm, ⟨76, _⟩ => ⟨S128x1x4x64, .f32⟩
  | .hbm, ⟨77, _⟩ => ⟨S128x1x4x64, .f32⟩
  | .hbm, ⟨78, _⟩ => ⟨S128x1x4x64, .f32⟩
  | .hbm, ⟨79, _⟩ => ⟨S128x1x4x64, .f32⟩
  | .hbm, ⟨80, _⟩ => ⟨S128x4x64, .f32⟩
  | .hbm, ⟨81, _⟩ => ⟨S128x4x64x1, .f32⟩
  | .hbm, ⟨82, _⟩ => ⟨S128x4x64x128, .f32⟩
  | .hbm, ⟨83, _⟩ => ⟨S128x4x64x128, .f32⟩
  | .hbm, ⟨84, _⟩ => ⟨S128x4x64x128, .f32⟩
  | .hbm, ⟨85, _⟩ => ⟨S128x4x64x128, .f32⟩
  | .hbm, ⟨86, _⟩ => ⟨S128x256x128, .f32⟩
  | .hbm, ⟨87, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v39 : Ref sig .tc := ⟨.hbm, 67, rfl⟩
abbrev main_cst_2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_call0_cst : Ref sig .tc := ⟨.hbm, 72, rfl⟩
abbrev main_call1_call0_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Proof.Rows.lean ====
/-
  The scalar mathematics shared by the programs of this directory, on rows of extended reals: the root-mean-square
  norm of a row of 1024 entries, and the gated feed-forward block of one row.
-/
module

public import Idealize.ShloMosaic.PureOps
public import Idealize.ShloMosaic.PureOps.Ideal.Laws

@[expose] public section
noncomputable section

open Idealize.ShloMosaic

namespace Cert.Rows

/-- The row `x` divided by the root of its mean square (plus the programs' small constant), times the gains `g`. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- Column `k` of a row times a matrix. -/
def lin {n p : ℕ} (x : Fin n → EReal) (w : Fin n → Fin p → EReal) (k : Fin p) : EReal := ∑ j, x j * w j k

/-- The gate's value times the logistic of it, times the other branch. -/
def swish (g u : EReal) : EReal := g * Ideal.div 1 (1 + Ideal.exp (0 - g)) * u

/-- The hidden row of the gated block. -/
def hidden (x g : Fin 1024 → EReal) (wg wu : Fin 1024 → Fin 2816 → EReal) (j : Fin 2816) : EReal :=
  swish (lin (norm x g) wg j) (lin (norm x g) wu j)

/-- One row through the feed-forward block: the row plus half the norm of the block's output. -/
def feed (x g g' : Fin 1024 → EReal) (wg wu : Fin 1024 → Fin 2816 → EReal) (wd : Fin 2816 → Fin 1024 → EReal)
    (k : Fin 1024) : EReal :=
  x k + Ideal.ofBits .f32 0x3F000000#32 * norm (lin (hidden x g wg wu) wd) g' k

/-- A row plus the norm of the per-layer embedding, projected, times the gate read off the row's own norm. -/
def embed (h g g' : Fin 1024 → EReal) (p : Fin 256 → EReal) (wp : Fin 256 → Fin 1024 → EReal)
    (wg : Fin 1024 → Fin 1024 → EReal) (k : Fin 1024) : EReal :=
  h k + norm (fun j => lin p wp j * Ideal.div 1 (1 + Ideal.exp (0 - lin (norm h g) wg j))) g' k

end Cert.Rows

end
-- ==== Proof.Feed1Block.lean ====
/-
  What one grid point of the first feed-forward block leaves in its output block: row `r` of the block is the row
  function (Rows.lean) of row `r` of the input block. The hidden row is written to a scratch buffer in eleven column
  pieces of 256 and read back whole; `hiddenV` is what it then holds.
-/
module

public import proofs.«01_k».proof.Proof.Rows
public import proofs.«01_k».proof.Proof.Gen.Ffn1Ideal.Value
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem

namespace Cert.Ffn1Ideal.Feed

open Cert.Ffn1Ideal Cert.Ffn1Ideal.Gen

variable (x0 : Vec Ideal S512x1024 .f32) (x1 : Vec Ideal S8x1024 .f32) (x2 x3 : Vec Ideal S1024x2816 .bf16)
  (x4 : Vec Ideal S2816x1024 .bf16)

/-- The hidden rows of a block. -/
def hiddenV : Vec Ideal S512x2816 .bf16 := fun y =>
  Rows.hidden (fun j => x0 (ix2 (y 0) j)) (fun j => x1 (ix2 0 j)) (fun i j => x2 (ix2 i j)) (fun i j => x3 (ix2 i j)) (y 1)

theorem hiddenV_apply (r : Fin 512) (k : Fin 2816) :
    hiddenV x0 x1 x2 x3 (ix2 r k) = Rows.hidden (fun j => x0 (ix2 r j)) (fun j => x1 (ix2 0 j)) (fun i j => x2 (ix2 i j)) (fun i j => x3 (ix2 i j)) k := rfl

/-- The normed block. -/
theorem normed (r : Fin 512) (k : Fin 1024) :
    k0_pay4 x0 (View.ld x1 (Rect.unit ![0, 0] ![1, 1024] inb_S8x1024_S1x1024_0_0)) (ix2 r k)
      = Rows.norm (fun j => x0 (ix2 r j)) (fun j => x1 (ix2 0 j)) k := by
  pointwise [k0_pay4, k0_pay3, Rows.norm]

/-- Where a column piece of the scratch sits. -/
theorem emb_col (o : ℕ) (h : ∀ a, (![0, o] : Fin 2 → ℕ) a + (![512, 256] : Fin 2 → ℕ) a ≤ S512x2816.size a) (r : Fin 512) (k : Fin 256) :
    (Rect.unit (s := S512x2816) ![0, o] ![512, 256] h).emb (ix2 r k)
      = ix2 r ⟨o + k.val, by have h1 : o + 256 ≤ 2816 := h 1; omega⟩ := by
  funext a
  refine Fin.ext ?_
  match a with
  | ⟨0, _⟩ => show 0 + 1 * r.val = r.val; omega
  | ⟨1, _⟩ => show o + 1 * k.val = o + k.val; omega

/-- The piece of columns 0 to 255. -/
theorem piece0 (y : S512x256.Idx) :
    k0_pay5 x0 (View.ld x1 (Rect.unit ![0, 0] ![1, 1024] inb_S8x1024_S1x1024_0_0)) (View.ld x2 (Rect.unit ![0, 0] ![1024, 256] inb_S1024x2816_S1024x256_0_0)) (View.ld x3 (Rect.unit ![0, 0] ![1024, 256] inb_S1024x2816_S1024x256_0_0)) y
      = hiddenV x0 x1 x2 x3 ((Rect.unit (s := S512x2816) ![0, 0] ![512, 256] inb_S512x2816_S512x256_0_0).emb y) := by
  obtain ⟨r, k, rfl⟩ : ∃ (r : Fin 512) (k : Fin 256), y = ix2 r k := ⟨y 0, y 1, eq_ix2 y⟩
  rw [emb_col, hiddenV_apply]
  pointwise [k0_pay5, normed, Rows.hidden, Rows.swish, Rows.lin]

/-- The piece of columns 256 to 511. -/
theorem piece256 (y : S512x256.Idx) :
    k0_pay7 (k0_pay4 x0 (View.ld x1 (Rect.unit ![0, 0] ![1, 1024] inb_S8x1024_S1x1024_0_0))) (k0_pay6 (View.ld x2 (Rect.unit ![0, 256] ![1024, 256] inb_S1024x2816_S1024x256_0_256))) (View.ld x3 (Rect.unit ![0, 256] ![1024, 256] inb_S1024x2816_S1024x256_0_256)) y
      = hiddenV x0 x1 x2 x3 ((Rect.unit (s := S512x2816) ![0, 256] ![512, 256] inb_S512x2816_S512x256_0_256).emb y) := by
  obtain ⟨r, k, rfl⟩ : ∃ (r : Fin 512) (k : Fin 256), y = ix2 r k := ⟨y 0, y 1, eq_ix2 y⟩
  rw [emb_col, hiddenV_apply]
  pointwise [k0_pay7, k0_pay6, normed, Rows.hidden, Rows.swish, Rows.lin]

/-- The piece of columns 512 to 767. -/
theorem piece512 (y : S512x256.Idx) :
    k0_pay8 (k0_pay4 x0 (View.ld x1 (Rect.unit ![0, 0] ![1, 1024] inb_S8x1024_S1x1024_0_0))) (View.ld x2 (Rect.unit ![0, 512] ![1024, 256] inb_S1024x2816_S1024x256_0_512)) (View.ld x3 (Rect.unit ![0, 512] ![1024, 256] inb_S1024x2816_S1024x256_0_512)) y
      = hiddenV x0 x1 x2 x3 ((Rect.unit (s := S512x2816) ![0, 512] ![512, 256] inb_S512x2816_S512x256_0_512).emb y) := by
  obtain ⟨r, k, rfl⟩ : ∃ (r : Fin 512) (k : Fin 256), y = ix2 r k := ⟨y 0, y 1, eq_ix2 y⟩
  rw [emb_col, hiddenV_apply]
  pointwise [k0_pay8, normed, Rows.hidden, Rows.swish, Rows.lin]

/-- The piece of columns 768 to 1023. -/
theorem piece768 (y : S512x256.Idx) :
    k0_pay9 (k0_pay4 x0 (View.ld x1 (Rect.unit ![0, 0] ![1, 1024] inb_S8x1024_S1x1024_0_0))) (View.ld x2 (Rect.unit ![0, 768] ![1024, 256] inb_S1024x2816_S1024x256_0_768)) (View.ld x3 (Rect.unit ![0, 768] ![1024, 256] inb_S1024x2816_S1024x256_0_768)) y
      = hiddenV x0 x1 x2 x3 ((Rect.unit (s := S512x2816) ![0, 768] ![512, 256] inb_S512x2816_S512x256_0_768).emb y) := by
  obtain ⟨r, k, rfl⟩ : ∃ (r : Fin 512) (k : Fin 256), y = ix2 r k := ⟨y 0, y 1, eq_ix2 y⟩
  rw [emb_col, hiddenV_apply]
  pointwise [k0_pay9, normed, Rows.hidden, Rows.swish, Rows.lin]

/-- The piece of columns 1024 to 1279. -/
theorem piece1024 (y : S512x256.Idx) :
    k0_pay10 (k0_pay4 x0 (View.ld x1 (Rect.unit ![0, 0] ![1, 1024] inb_S8x1024_S1x1024_0_0))) (View.ld x2 (Rect.unit ![0, 1024] ![1024, 256] inb_S1024x2816_S1024x256_0_1024)) (View.ld x3 (Rect.unit ![0, 1024] ![1024, 256] inb_S1024x2816_S1024x256_0_1024)) y
      = hiddenV x0 x1 x2 x3 ((Rect.unit (s := S512x2816) ![0, 1024] ![512, 256] inb_S512x2816_S512x256_0_1024).emb y) := by
  obtain ⟨r, k, rfl⟩ : ∃ (r : Fin 512) (k : Fin 256), y = ix2 r k := ⟨y 0, y 1, eq_ix2 y⟩
  rw [emb_col, hiddenV_apply]
  pointwise [k0_pay10, normed, Rows.hidden, Rows.swish, Rows.lin]

/-- The piece of columns 1280 to 1535. -/
theorem piece1280 (y : S512x256.Idx) :
    k0_pay11 (k0_pay4 x0 (View.ld x1 (Rect.unit ![0, 0] ![1, 1024] inb_S8x1024_S1x1024_0_0))) (View.ld x2 (Rect.unit ![0, 1280] ![1024, 256] inb_S1024x2816_S1024x256_0_1280)) (View.ld x3 (Rect.unit ![0, 1280] ![1024, 256] inb_S1024x2816_S1024x256_0_1280)) y
      = hiddenV x0 x1 x2 x3 ((Rect.unit (s := S512x2816) ![0, 1280] ![512, 256] inb_S512x2816_S512x256_0_1280).emb y) := by
  obtain ⟨r, k, rfl⟩ : ∃ (r : Fin 512) (k : Fin 256), y = ix2 r k := ⟨y 0, y 1, eq_ix2 y⟩
  rw [emb_col, hiddenV_apply]
  pointwise [k0_pay11, normed, Rows.hidden, Rows.swish, Rows.lin]

/-- The piece of columns 1536 to 1791. -/
theorem piece1536 (y : S512x256.Idx) :
    k0_pay13 (k0_pay12 (k0_pay4 x0 (View.ld x1 (Rect.unit ![0, 0] ![1, 1024] inb_S8x1024_S1x1024_0_0))) (View.ld x2 (Rect.unit ![0, 1536] ![1024, 256] inb_S1024x2816_S1024x256_0_1536)) (View.ld x3 (Rect.unit ![0, 1536] ![1024, 256] inb_S1024x2816_S1024x256_0_1536))) y
      = hiddenV x0 x1 x2 x3 ((Rect.unit (s := S512x2816) ![0, 1536] ![512, 256] inb_S512x2816_S512x256_0_1536).emb y) := by
  obtain ⟨r, k, rfl⟩ : ∃ (r : Fin 512) (k : Fin 256), y = ix2 r k := ⟨y 0, y 1, eq_ix2 y⟩
  rw [emb_col, hiddenV_apply]
  pointwise [k0_pay13, k0_pay12, normed, Rows.hidden, Rows.swish, Rows.lin]

/-- The piece of columns 1792 to 2047. -/
theorem piece1792 (y : S512x256.Idx) :
    k0_pay14 (k0_pay4 x0 (View.ld x1 (Rect.unit ![0, 0] ![1, 1024] inb_S8x1024_S1x1024_0_0))) (View.ld x2 (Rect.unit ![0, 1792] ![1024, 256] inb_S1024x2816_S1024x256_0_1792)) (View.ld x3 (Rect.unit ![0, 1792] ![1024, 256] inb_S1024x2816_S1024x256_0_1792)) y
      = hiddenV x0 x1 x2 x3 ((Rect.unit (s := S512x2816) ![0, 1792] ![512, 256] inb_S512x2816_S512x256_0_1792).emb y) := by
  obtain ⟨r, k, rfl⟩ : ∃ (r : Fin 512) (k : Fin 256), y = ix2 r k := ⟨y 0, y 1, eq_ix2 y⟩
  rw [emb_col, hiddenV_apply]
  pointwise [k0_pay14, normed, Rows.hidden, Rows.swish, Rows.lin]

/-- The piece of columns 2048 to 2303. -/
theorem piece2048 (y : S512x256.Idx) :
    k0_pay16 (k0_pay15 (k0_pay4 x0 (View.ld x1 (Rect.unit ![0, 0] ![1, 1024] inb_S8x1024_S1x1024_0_0))) (View.ld x2 (Rect.unit ![0, 2048] ![1024, 256] inb_S1024x2816_S1024x256_0_2048)) (View.ld x3 (Rect.unit ![0, 2048] ![1024, 256] inb_S1024x2816_S1024x256_0_2048))) y
      = hiddenV x0 x1 x2 x3 ((Rect.unit (s := S512x2816) ![0, 2048] ![512, 256] inb_S512x2816_S512x256_0_2048).emb y) := by
  obtain ⟨r, k, rfl⟩ : ∃ (r : Fin 512) (k : Fin 256), y = ix2 r k := ⟨y 0, y 1, eq_ix2 y⟩
  rw [emb_col, hiddenV_apply]
  pointwise [k0_pay16, k0_pay15, normed, Rows.hidden, Rows.swish, Rows.lin]

/-- The piece of columns 2304 to 2559. -/
theorem piece2304 (y : S512x256.Idx) :
    k0_pay17 (k0_pay4 x0 (View.ld x1 (Rect.unit ![0, 0] ![1, 1024] inb_S8x1024_S1x1024_0_0))) (View.ld x2 (Rect.unit ![0, 2304] ![1024, 256] inb_S1024x2816_S1024x256_0_2304)) (View.ld x3 (Rect.unit ![0, 2304] ![1024, 256] inb_S1024x2816_S1024x256_0_2304)) y
      = hiddenV x0 x1 x2 x3 ((Rect.unit (s := S512x2816) ![0, 2304] ![512, 256] inb_S512x2816_S512x256_0_2304).emb y) := by
  obtain ⟨r, k, rfl⟩ : ∃ (r : Fin 512) (k : Fin 256), y = ix2 r k := ⟨y 0, y 1, eq_ix2 y⟩
  rw [emb_col, hiddenV_apply]
  pointwise [k0_pay17, normed, Rows.hidden, Rows.swish, Rows.lin]

/-- The piece of columns 2560 to 2815. -/
theorem piece2560 (y : S512x256.Idx) :
    k0_pay1 (k0_pay18 (k0_pay4 x0 (View.ld x1 (Rect.unit ![0, 0] ![1, 1024] inb_S8x1024_S1x1024_0_0))) (View.ld x2 (Rect.unit ![0, 2560] ![1024, 256] inb_S1024x2816_S1024x256_0_2560)) (View.ld x3 (Rect.unit ![0, 2560] ![1024, 256] inb_S1024x2816_S1024x256_0_2560))) y
      = hiddenV x0 x1 x2 x3 ((Rect.unit (s := S512x2816) ![0, 2560] ![512, 256] inb_S512x2816_S512x256_0_2560).emb y) := by
  obtain ⟨r, k, rfl⟩ : ∃ (r : Fin 512) (k : Fin 256), y = ix2 r k := ⟨y 0, y 1, eq_ix2 y⟩
  rw [emb_col, hiddenV_apply]
  pointwise [k0_pay1, k0_pay18, normed, Rows.hidden, Rows.swish, Rows.lin]

/-- Pieces that all agree with `G` and cover the scratch read back as `G`. -/
theorem readback (v : View sig .tc .vmem S512x2816 .bf16) (G : Vec Ideal S512x2816 .bf16)
    (L : List (View.Piece (Elt Ideal) S512x2816 .bf16)) (h : ∀ p ∈ L, ∀ x : p.1.shape.Idx, p.2 x = G (p.1.emb x))
    (hc : ∀ y, ∃ p ∈ L, y ∈ p.1.set) :
    v.readCov L (Rect.unit ![0, 0] ![512, 2816] inb_S512x2816_S512x2816_0_0).toLoadRect = G := by
  rw [View.readCov_eq_canon']
  funext y
  show View.canon L _ = G y
  rw [View.canon_apply_of_pieces G L h _ (hc _)]
  congr 1
  funext a
  refine Fin.ext ?_
  match a with
  | ⟨0, _⟩ => show 0 + 1 * (y 0).val = (y 0).val; omega
  | ⟨1, _⟩ => show 0 + 1 * (y 1).val = (y 1).val; omega

/-- The row after the feed-forward block. -/
theorem fed (r : Fin 512) (k : Fin 1024) :
    k0_pay2 (k0_pay3 x0) (hiddenV x0 x1 x2 x3) x4 (View.ld x1 (Rect.unit ![1, 0] ![1, 1024] inb_S8x1024_S1x1024_1_0)) (ix2 r k) = Rows.feed (fun j => x0 (ix2 r j)) (fun j => x1 (ix2 0 j)) (fun j => x1 (ix2 1 j)) (fun i j => x2 (ix2 i j)) (fun i j => x3 (ix2 i j)) (fun i j => x4 (ix2 i j)) k := by
  pointwise [k0_pay2, k0_pay3, hiddenV_apply, Rows.feed, Rows.norm, Rows.lin]

/-- WHAT THE BODY LEAVES in its output block, at `(r, k)`. -/
theorem out_apply (c : Dev nD) (i : grid0.Coords)
    (a1 : Memref sig .tc .vmem S512x1024 .f32) (h1 : a1.IsWhole)
    (a2 : Memref sig .tc .vmem S8x1024 .f32) (h2 : a2.IsWhole)
    (a3 : Memref sig .tc .vmem S1024x2816 .bf16) (h3 : a3.IsWhole)
    (a4 : Memref sig .tc .vmem S1024x2816 .bf16) (h4 : a4.IsWhole)
    (a5 : Memref sig .tc .vmem S2816x1024 .bf16) (h5 : a5.IsWhole)
    (a6 : Memref sig .tc .vmem S512x1024 .f32) (h6 : a6.IsWhole)
    (a7 : Memref sig .tc .vmem S512x2816 .bf16) (h7 : a7.IsWhole)
    (r : Fin 512) (k : Fin 1024) :
    out0_A_5 c i a1 h1 a2 h2 a3 h3 a4 h4 a5 h5 a6 h6 a7 h7 x0 x1 x2 x3 x4 (ix2 r k)
      = Rows.feed (fun j => x0 (ix2 r j)) (fun j => x1 (ix2 0 j)) (fun j => x1 (ix2 1 j)) (fun i j => x2 (ix2 i j)) (fun i j => x3 (ix2 i j)) (fun i j => x4 (ix2 i j)) k := by
  frame_out
  rw [readback _ (hiddenV x0 x1 x2 x3) _ ?h ?c]
  · exact fed x0 x1 x2 x3 x4 r k
  · simp only [List.forall_mem_cons, List.not_mem_nil, false_imp_iff, implies_true, and_true]
    exact ⟨piece2560 _ _ _ _, piece2304 _ _ _ _, piece2048 _ _ _ _, piece1792 _ _ _ _, piece1536 _ _ _ _, piece1280 _ _ _ _, piece1024 _ _ _ _, piece768 _ _ _ _, piece512 _ _ _ _, piece256 _ _ _ _, piece0 _ _ _ _⟩
  · exact fun y => View.cover_of_tiledL _ ![512, 256] (by sl_kernel_rfl) y

end Cert.Ffn1Ideal.Feed

end
-- ==== Proof.Feed1Ref.lean ====
/-
  The first feed-forward block as the plain reference computes it, read at an index: row `r` of the result is the
  block's row function of the argument's row.
-/
module

public import proofs.«01_k».proof.Proof.Rows
public import proofs.«01_k».proof.Proof.Gen.Ffn1RefIdeal.Read
public import Idealize.ShloMosaic.Lib.Pointwise

@[expose] public section
set_option maxRecDepth 16384
noncomputable section

open Idealize.ShloMosaic Idealize.ShloMosaic.TcCoe

namespace Cert.Ffn1RefIdeal.Feed

open Cert.Ffn1RefIdeal Cert.Ffn1RefIdeal.Read

variable (x0 : Vec Ideal S8x2048x1024 .f32) (x1 : Vec Ideal S1x8x1024 .f32) (x2 x3 : Vec Ideal S1x1024x2816 .f32)
  (x4 : Vec Ideal S1x2816x1024 .f32)

/-- The normed row. -/
theorem normed (b : Fin 8) (t : Fin 2048) (k : Fin 1024) :
    val_main_v15 (F := Ideal) x0 x1 (ix3 b t k) = Rows.norm (fun j => x0 (ix3 b t j)) (fun j => x1 (ix3 0 0 j)) k := by
  pointwise [val_main_v15, val_main_v14, val_main_v13, val_main_v12, val_main_v11, val_main_v10, val_main_v9, val_main_v8, val_main_cst_1,
    val_main_v7, val_main_v6, val_main_cst_0, val_main_v5, val_main_v4, val_main_cst, val_main_v3, val_main_v2, val_main_v1, val_main_v0, Rows.norm]

/-- The hidden row. -/
theorem hid (b : Fin 8) (t : Fin 2048) (j : Fin 2816) :
    val_main_v22 (F := Ideal) x0 x1 x2 x3 (ix3 b t j)
      = Rows.hidden (fun j => x0 (ix3 b t j)) (fun j => x1 (ix3 0 0 j)) (fun i j => x2 (ix3 0 i j)) (fun i j => x3 (ix3 0 i j)) j := by
  pointwise [val_main_v22, val_main_v21, val_main_v20, val_main_call0_v5, val_main_call0_v4, val_main_call0_cst_0, val_main_call0_v3,
    val_main_call0_v2, val_main_call0_cst, val_main_call0_v1, val_main_call0_v0, val_main_v19, val_main_v17, val_main_v16, normed,
    Rows.hidden, Rows.swish, Rows.lin]
  rw [zero_sub]

/-- The block's output before its norm. -/
theorem down (b : Fin 8) (t : Fin 2048) (k : Fin 1024) :
    val_main_v23 (F := Ideal) x0 x1 x2 x3 x4 (ix3 b t k)
      = Rows.lin (Rows.hidden (fun j => x0 (ix3 b t j)) (fun j => x1 (ix3 0 0 j)) (fun i j => x2 (ix3 0 i j)) (fun i j => x3 (ix3 0 i j)))
          (fun i j => x4 (ix3 0 i j)) k := by
  pointwise [val_main_v23, val_main_v18, hid, Rows.lin]

/-- The result at `(r, k)`: row `r` is token `r % 2048` of sequence `r / 2048`. -/
theorem result (r : Fin 16384) (k : Fin 1024) :
    val_main_v42 (F := Ideal) x0 x1 x2 x3 x4 (ix2 r k)
      = Rows.feed (fun j => x0 (ix3 ⟨r.val / 2048, by omega⟩ ⟨r.val % 2048, by omega⟩ j)) (fun j => x1 (ix3 0 0 j))
          (fun j => x1 (ix3 0 1 j)) (fun i j => x2 (ix3 0 i j)) (fun i j => x3 (ix3 0 i j)) (fun i j => x4 (ix3 0 i j)) k := by
  pointwise [val_main_v42, val_main_v41, val_main_v40, val_main_v39, val_main_cst_5, val_main_v38, val_main_v37, val_main_v36, val_main_v35,
    val_main_v34, val_main_v33, val_main_v32, val_main_v31, val_main_cst_4, val_main_v30, val_main_v29, val_main_cst_3, val_main_v28,
    val_main_v27, val_main_cst_2, val_main_v26, val_main_v25, val_main_v24, val_main_v0, down, Rows.feed, Rows.norm]

end Cert.Ffn1RefIdeal.Feed

end
-- ==== Proof.Feed1Value.lean ====
/-
  The array the first feed-forward call ends with: every row is the row function of the argument's row. And the claim
  against the plain reference.
-/
module

public import proofs.«01_k».proof.Proof.Feed1Block
public import proofs.«01_k».proof.Proof.Feed1Ref
public import proofs.«01_k».proof.Proof.Gen.Ffn1RefIdeal.Run
public import Idealize.ShloMosaic.Lib.Pipeline.ValueKit

@[expose] public section
set_option maxRecDepth 16384
noncomputable section

open Idealize.ShloMosaic Idealize.ShloMosaic.TcCoe Idealize.SL.Sem

namespace Cert.Ffn1Ideal.Feed

open Cert.Ffn1Ideal Cert.Ffn1Ideal.Gen

variable (m : (ℓ : Loc nD τ sig) → Buf (Elt Ideal) ℓ) (ρ : Dev nD → PrngReg)

/-- The result as a function of the arguments. -/
def G (x0 : Vec Ideal S8x2048x1024 .f32) (x1 : Vec Ideal S1x8x1024 .f32) (x2 : Vec Ideal S1x1024x2816 .f32) (x3 : Vec Ideal S1x1024x2816 .f32) (x4 : Vec Ideal S1x2816x1024 .f32) :
    Vec Ideal S16384x1024 .f32 := fun y =>
  Rows.feed (fun j => x0 (ix3 ⟨(y 0).val / 2048, by have : (y 0).val < 16384 := (y 0).isLt; omega⟩ ⟨(y 0).val % 2048, by omega⟩ j)) (fun j => x1 (ix3 0 0 j)) (fun j => x1 (ix3 0 1 j)) (fun i j => x2 (ix3 0 i j)) (fun i j => x3 (ix3 0 i j))
    (fun i j => x4 (ix3 0 i j)) (y 1)

theorem i0 : ∀ t : Fin cfg0.N, win0_0.index t = ![(grid0.coords t 0).val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![(grid0.coords t 0).val, 0] := (by decide +kernel : ∀ t : Fin grid0.N, _)

/-- Input block 0 at an index. -/
theorem b0 (c : Dev nD) (t : Fin cfg0.N) (r : Fin 512) (j : Fin 1024) :
    iblk m c 0 t (ix2 r j) = (m ((c : Thread nD τ).loc main_arg0) : Vec Ideal S8x2048x1024 .f32) (ix3 ⟨((grid0.coords t 0).val * 512 + r.val) / 2048, by have : (grid0.coords t 0).val < 32 := (grid0.coords t 0).isLt; omega⟩
        ⟨((grid0.coords t 0).val * 512 + r.val) % 2048, by omega⟩ j) := by
  blk_simp [iblk]
  entry_read
  pointwise
  blk_ext [i0 t]

/-- Input block 1 at an index. -/
theorem b1 (c : Dev nD) (t : Fin cfg0.N) (r : Fin 8) (j : Fin 1024) :
    iblk m c 1 t (ix2 r j) = (m ((c : Thread nD τ).loc main_arg1) : Vec Ideal S1x8x1024 .f32) (ix3 0 r j) := by
  blk_simp [iblk]
  entry_read
  pointwise
  blk_ext [i1 t]

/-- Input block 2 at an index. -/
theorem b2 (c : Dev nD) (t : Fin cfg0.N) (r : Fin 1024) (j : Fin 2816) :
    iblk m c 2 t (ix2 r j) = (m ((c : Thread nD τ).loc main_arg2) : Vec Ideal S1x1024x2816 .f32) (ix3 0 r j) := by
  blk_simp [iblk]
  entry_read
  pointwise
  blk_ext [i2 t]

/-- Input block 3 at an index. -/
theorem b3 (c : Dev nD) (t : Fin cfg0.N) (r : Fin 1024) (j : Fin 2816) :
    iblk m c 3 t (ix2 r j) = (m ((c : Thread nD τ).loc main_arg3) : Vec Ideal S1x1024x2816 .f32) (ix3 0 r j) := by
  blk_simp [iblk]
  entry_read
  pointwise
  blk_ext [i3 t]

/-- Input block 4 at an index. -/
theorem b4 (c : Dev nD) (t : Fin cfg0.N) (r : Fin 2816) (j : Fin 1024) :
    iblk m c 4 t (ix2 r j) = (m ((c : Thread nD τ).loc main_arg4) : Vec Ideal S1x2816x1024 .f32) (ix3 0 r j) := by
  blk_simp [iblk]
  entry_read
  pointwise
  blk_ext [i4 t]

/-- The result array at the end. -/
theorem final (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, k, rfl⟩ : ∃ (r : Fin 512) (k : Fin 1024), y = ix2 r k := ⟨y 0, y 1, eq_ix2 y⟩
  blk_simp
  rw [after0_5]
  refine (out_apply ..).trans ?_
  have e : (win0_5.blk t).view.emb (ix2 r k)
      = ix2 ⟨(grid0.coords t 0).val * 512 + r.val, by have : (grid0.coords t 0).val < 32 := (grid0.coords t 0).isLt; omega⟩ k := by
    blk_ext [i5 t]
  rw [e]
  simp only [b0, b1, b2, b3, b4]
  rfl

end Cert.Ffn1Ideal.Feed

end
-- ==== Proof.Feed2Block.lean ====
/-
  What one grid point of the second feed-forward block and the per-layer embedding leaves in its output block: row `r` of the block is the row
  function (Rows.lean) of row `r` of the input block. The hidden row is written to a scratch buffer in eleven column
  pieces of 256 and read back whole; `hiddenV` is what it then holds.
-/
module

public import proofs.«01_k».proof.Proof.Rows
public import proofs.«01_k».proof.Proof.Gen.Ffn2Ideal.Value
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem

namespace Cert.Ffn2Ideal.Feed

open Cert.Ffn2Ideal Cert.Ffn2Ideal.Gen

variable (x0 : Vec Ideal S512x1024 .f32) (x1 : Vec Ideal S8x1024 .f32) (x2 x3 : Vec Ideal S1024x2816 .bf16)
  (x4 : Vec Ideal S2816x1024 .bf16)

/-- The hidden rows of a block. -/
def hiddenV : Vec Ideal S512x2816 .bf16 := fun y =>
  Rows.hidden (fun j => x0 (ix2 (y 0) j)) (fun j => x1 (ix2 4 j)) (fun i j => x2 (ix2 i j)) (fun i j => x3 (ix2 i j)) (y 1)

theorem hiddenV_apply (r : Fin 512) (k : Fin 2816) :
    hiddenV x0 x1 x2 x3 (ix2 r k) = Rows.hidden (fun j => x0 (ix2 r j)) (fun j => x1 (ix2 4 j)) (fun i j => x2 (ix2 i j)) (fun i j => x3 (ix2 i j)) k := rfl

/-- The normed block. -/
theorem normed (r : Fin 512) (k : Fin 1024) :
    k0_pay3 x0 (View.ld x1 (Rect.unit ![4, 0] ![1, 1024] inb_S8x1024_S1x1024_4_0)) (ix2 r k)
      = Rows.norm (fun j => x0 (ix2 r j)) (fun j => x1 (ix2 4 j)) k := by
  pointwise [k0_pay3, k0_pay2, Rows.norm]

/-- Where a column piece of the scratch sits. -/
theorem emb_col (o : ℕ) (h : ∀ a, (![0, o] : Fin 2 → ℕ) a + (![512, 256] : Fin 2 → ℕ) a ≤ S512x2816.size a) (r : Fin 512) (k : Fin 256) :
    (Rect.unit (s := S512x2816) ![0, o] ![512, 256] h).emb (ix2 r k)
      = ix2 r ⟨o + k.val, by have h1 : o + 256 ≤ 2816 := h 1; omega⟩ := by
  funext a
  refine Fin.ext ?_
  match a with
  | ⟨0, _⟩ => show 0 + 1 * r.val = r.val; omega
  | ⟨1, _⟩ => show o + 1 * k.val = o + k.val; omega

/-- The piece of columns 0 to 255. -/
theorem piece0 (y : S512x256.Idx) :
    k0_pay4 x0 (View.ld x1 (Rect.unit ![4, 0] ![1, 1024] inb_S8x1024_S1x1024_4_0)) (View.ld x2 (Rect.unit ![0, 0] ![1024, 256] inb_S1024x2816_S1024x256_0_0)) (View.ld x3 (Rect.unit ![0, 0] ![1024, 256] inb_S1024x2816_S1024x256_0_0)) y
      = hiddenV x0 x1 x2 x3 ((Rect.unit (s := S512x2816) ![0, 0] ![512, 256] inb_S512x2816_S512x256_0_0).emb y) := by
  obtain ⟨r, k, rfl⟩ : ∃ (r : Fin 512) (k : Fin 256), y = ix2 r k := ⟨y 0, y 1, eq_ix2 y⟩
  rw [emb_col, hiddenV_apply]
  pointwise [k0_pay4, normed, Rows.hidden, Rows.swish, Rows.lin]

/-- The piece of columns 256 to 511. -/
theorem piece256 (y : S512x256.Idx) :
    k0_pay6 (k0_pay3 x0 (View.ld x1 (Rect.unit ![4, 0] ![1, 1024] inb_S8x1024_S1x1024_4_0))) (k0_pay5 (View.ld x2 (Rect.unit ![0, 256] ![1024, 256] inb_S1024x2816_S1024x256_0_256))) (View.ld x3 (Rect.unit ![0, 256] ![1024, 256] inb_S1024x2816_S1024x256_0_256)) y
      = hiddenV x0 x1 x2 x3 ((Rect.unit (s := S512x2816) ![0, 256] ![512, 256] inb_S512x2816_S512x256_0_256).emb y) := by
  obtain ⟨r, k, rfl⟩ : ∃ (r : Fin 512) (k : Fin 256), y = ix2 r k := ⟨y 0, y 1, eq_ix2 y⟩
  rw [emb_col, hiddenV_apply]
  pointwise [k0_pay6, k0_pay5, normed, Rows.hidden, Rows.swish, Rows.lin]

/-- The piece of columns 512 to 767. -/
theorem piece512 (y : S512x256.Idx) :
    k0_pay7 (k0_pay3 x0 (View.ld x1 (Rect.unit ![4, 0] ![1, 1024] inb_S8x1024_S1x1024_4_0))) (View.ld x2 (Rect.unit ![0, 512] ![1024, 256] inb_S1024x2816_S1024x256_0_512)) (View.ld x3 (Rect.unit ![0, 512] ![1024, 256] inb_S1024x2816_S1024x256_0_512)) y
      = hiddenV x0 x1 x2 x3 ((Rect.unit (s := S512x2816) ![0, 512] ![512, 256] inb_S512x2816_S512x256_0_512).emb y) := by
  obtain ⟨r, k, rfl⟩ : ∃ (r : Fin 512) (k : Fin 256), y = ix2 r k := ⟨y 0, y 1, eq_ix2 y⟩
  rw [emb_col, hiddenV_apply]
  pointwise [k0_pay7, normed, Rows.hidden, Rows.swish, Rows.lin]

/-- The piece of columns 768 to 1023. -/
theorem piece768 (y : S512x256.Idx) :
    k0_pay8 (k0_pay3 x0 (View.ld x1 (Rect.unit ![4, 0] ![1, 1024] inb_S8x1024_S1x1024_4_0))) (View.ld x2 (Rect.unit ![0, 768] ![1024, 256] inb_S1024x2816_S1024x256_0_768)) (View.ld x3 (Rect.unit ![0, 768] ![1024, 256] inb_S1024x2816_S1024x256_0_768)) y
      = hiddenV x0 x1 x2 x3 ((Rect.unit (s := S512x2816) ![0, 768] ![512, 256] inb_S512x2816_S512x256_0_768).emb y) := by
  obtain ⟨r, k, rfl⟩ : ∃ (r : Fin 512) (k : Fin 256), y = ix2 r k := ⟨y 0, y 1, eq_ix2 y⟩
  rw [emb_col, hiddenV_apply]
  pointwise [k0_pay8, normed, Rows.hidden, Rows.swish, Rows.lin]

/-- The piece of columns 1024 to 1279. -/
theorem piece1024 (y : S512x256.Idx) :
    k0_pay9 (k0_pay3 x0 (View.ld x1 (Rect.unit ![4, 0] ![1, 1024] inb_S8x1024_S1x1024_4_0))) (View.ld x2 (Rect.unit ![0, 1024] ![1024, 256] inb_S1024x2816_S1024x256_0_1024)) (View.ld x3 (Rect.unit ![0, 1024] ![1024, 256] inb_S1024x2816_S1024x256_0_1024)) y
      = hiddenV x0 x1 x2 x3 ((Rect.unit (s := S512x2816) ![0, 1024] ![512, 256] inb_S512x2816_S512x256_0_1024).emb y) := by
  obtain ⟨r, k, rfl⟩ : ∃ (r : Fin 512) (k : Fin 256), y = ix2 r k := ⟨y 0, y 1, eq_ix2 y⟩
  rw [emb_col, hiddenV_apply]
  pointwise [k0_pay9, normed, Rows.hidden, Rows.swish, Rows.lin]

/-- The piece of columns 1280 to 1535. -/
theorem piece1280 (y : S512x256.Idx) :
    k0_pay10 (k0_pay3 x0 (View.ld x1 (Rect.unit ![4, 0] ![1, 1024] inb_S8x1024_S1x1024_4_0))) (View.ld x2 (Rect.unit ![0, 1280] ![1024, 256] inb_S1024x2816_S1024x256_0_1280)) (View.ld x3 (Rect.unit ![0, 1280] ![1024, 256] inb_S1024x2816_S1024x256_0_1280)) y
      = hiddenV x0 x1 x2 x3 ((Rect.unit (s := S512x2816) ![0, 1280] ![512, 256] inb_S512x2816_S512x256_0_1280).emb y) := by
  obtain ⟨r, k, rfl⟩ : ∃ (r : Fin 512) (k : Fin 256), y = ix2 r k := ⟨y 0, y 1, eq_ix2 y⟩
  rw [emb_col, hiddenV_apply]
  pointwise [k0_pay10, normed, Rows.hidden, Rows.swish, Rows.lin]

/-- The piece of columns 1536 to 1791. -/
theorem piece1536 (y : S512x256.Idx) :
    k0_pay12 (k0_pay11 (k0_pay3 x0 (View.ld x1 (Rect.unit ![4, 0] ![1, 1024] inb_S8x1024_S1x1024_4_0))) (View.ld x2 (Rect.unit ![0, 1536] ![1024, 256] inb_S1024x2816_S1024x256_0_1536)) (View.ld x3 (Rect.unit ![0, 1536] ![1024, 256] inb_S1024x2816_S1024x256_0_1536))) y
      = hiddenV x0 x1 x2 x3 ((Rect.unit (s := S512x2816) ![0, 1536] ![512, 256] inb_S512x2816_S512x256_0_1536).emb y) := by
  obtain ⟨r, k, rfl⟩ : ∃ (r : Fin 512) (k : Fin 256), y = ix2 r k := ⟨y 0, y 1, eq_ix2 y⟩
  rw [emb_col, hiddenV_apply]
  pointwise [k0_pay12, k0_pay11, normed, Rows.hidden, Rows.swish, Rows.lin]

/-- The piece of columns 1792 to 2047. -/
theorem piece1792 (y : S512x256.Idx) :
    k0_pay13 (k0_pay3 x0 (View.ld x1 (Rect.unit ![4, 0] ![1, 1024] inb_S8x1024_S1x1024_4_0))) (View.ld x2 (Rect.unit ![0, 1792] ![1024, 256] inb_S1024x2816_S1024x256_0_1792)) (View.ld x3 (Rect.unit ![0, 1792] ![1024, 256] inb_S1024x2816_S1024x256_0_1792)) y
      = hiddenV x0 x1 x2 x3 ((Rect.unit (s := S512x2816) ![0, 1792] ![512, 256] inb_S512x2816_S512x256_0_1792).emb y) := by
  obtain ⟨r, k, rfl⟩ : ∃ (r : Fin 512) (k : Fin 256), y = ix2 r k := ⟨y 0, y 1, eq_ix2 y⟩
  rw [emb_col, hiddenV_apply]
  pointwise [k0_pay13, normed, Rows.hidden, Rows.swish, Rows.lin]

/-- The piece of columns 2048 to 2303. -/
theorem piece2048 (y : S512x256.Idx) :
    k0_pay15 (k0_pay14 (k0_pay3 x0 (View.ld x1 (Rect.unit ![4, 0] ![1, 1024] inb_S8x1024_S1x1024_4_0))) (View.ld x2 (Rect.unit ![0, 2048] ![1024, 256] inb_S1024x2816_S1024x256_0_2048)) (View.ld x3 (Rect.unit ![0, 2048] ![1024, 256] inb_S1024x2816_S1024x256_0_2048))) y
      = hiddenV x0 x1 x2 x3 ((Rect.unit (s := S512x2816) ![0, 2048] ![512, 256] inb_S512x2816_S512x256_0_2048).emb y) := by
  obtain ⟨r, k, rfl⟩ : ∃ (r : Fin 512) (k : Fin 256), y = ix2 r k := ⟨y 0, y 1, eq_ix2 y⟩
  rw [emb_col, hiddenV_apply]
  pointwise [k0_pay15, k0_pay14, normed, Rows.hidden, Rows.swish, Rows.lin]

/-- The piece of columns 2304 to 2559. -/
theorem piece2304 (y : S512x256.Idx) :
    k0_pay16 (k0_pay3 x0 (View.ld x1 (Rect.unit ![4, 0] ![1, 1024] inb_S8x1024_S1x1024_4_0))) (View.ld x2 (Rect.unit ![0, 2304] ![1024, 256] inb_S1024x2816_S1024x256_0_2304)) (View.ld x3 (Rect.unit ![0, 2304] ![1024, 256] inb_S1024x2816_S1024x256_0_2304)) y
      = hiddenV x0 x1 x2 x3 ((Rect.unit (s := S512x2816) ![0, 2304] ![512, 256] inb_S512x2816_S512x256_0_2304).emb y) := by
  obtain ⟨r, k, rfl⟩ : ∃ (r : Fin 512) (k : Fin 256), y = ix2 r k := ⟨y 0, y 1, eq_ix2 y⟩
  rw [emb_col, hiddenV_apply]
  pointwise [k0_pay16, normed, Rows.hidden, Rows.swish, Rows.lin]

/-- The piece of columns 2560 to 2815. -/
theorem piece2560 (y : S512x256.Idx) :
    k0_pay18 (k0_pay17 (k0_pay3 x0 (View.ld x1 (Rect.unit ![4, 0] ![1, 1024] inb_S8x1024_S1x1024_4_0))) (View.ld x2 (Rect.unit ![0, 2560] ![1024, 256] inb_S1024x2816_S1024x256_0_2560)) (View.ld x3 (Rect.unit ![0, 2560] ![1024, 256] inb_S1024x2816_S1024x256_0_2560))) y
      = hiddenV x0 x1 x2 x3 ((Rect.unit (s := S512x2816) ![0, 2560] ![512, 256] inb_S512x2816_S512x256_0_2560).emb y) := by
  obtain ⟨r, k, rfl⟩ : ∃ (r : Fin 512) (k : Fin 256), y = ix2 r k := ⟨y 0, y 1, eq_ix2 y⟩
  rw [emb_col, hiddenV_apply]
  pointwise [k0_pay18, k0_pay17, normed, Rows.hidden, Rows.swish, Rows.lin]

/-- Pieces that all agree with `G` and cover the scratch read back as `G`. -/
theorem readback (v : View sig .tc .vmem S512x2816 .bf16) (G : Vec Ideal S512x2816 .bf16)
    (L : List (View.Piece (Elt Ideal) S512x2816 .bf16)) (h : ∀ p ∈ L, ∀ x : p.1.shape.Idx, p.2 x = G (p.1.emb x))
    (hc : ∀ y, ∃ p ∈ L, y ∈ p.1.set) :
    v.readCov L (Rect.unit ![0, 0] ![512, 2816] inb_S512x2816_S512x2816_0_0).toLoadRect = G := by
  rw [View.readCov_eq_canon']
  funext y
  show View.canon L _ = G y
  rw [View.canon_apply_of_pieces G L h _ (hc _)]
  congr 1
  funext a
  refine Fin.ext ?_
  match a with
  | ⟨0, _⟩ => show 0 + 1 * (y 0).val = (y 0).val; omega
  | ⟨1, _⟩ => show 0 + 1 * (y 1).val = (y 1).val; omega

/-- The row after the feed-forward block. -/
theorem fed (r : Fin 512) (k : Fin 1024) :
    k0_pay19 (k0_pay2 x0) (hiddenV x0 x1 x2 x3) x4 (View.ld x1 (Rect.unit ![5, 0] ![1, 1024] inb_S8x1024_S1x1024_5_0)) (ix2 r k) = (Rows.feed (fun j => x0 (ix2 r j)) (fun j => x1 (ix2 4 j)) (fun j => x1 (ix2 5 j)) (fun i j => x2 (ix2 i j)) (fun i j => x3 (ix2 i j)) (fun i j => x4 (ix2 i j))) k := by
  pointwise [k0_pay19, k0_pay2, hiddenV_apply, Rows.feed, Rows.norm, Rows.lin]

/-- Its norm. -/
theorem fed_normed (r : Fin 512) (k : Fin 1024) :
    k0_pay20 (k0_pay2 x0) (hiddenV x0 x1 x2 x3) x4 (View.ld x1 (Rect.unit ![5, 0] ![1, 1024] inb_S8x1024_S1x1024_5_0)) (View.ld x1 (Rect.unit ![6, 0] ![1, 1024] inb_S8x1024_S1x1024_6_0)) (ix2 r k) = Rows.norm (Rows.feed (fun j => x0 (ix2 r j)) (fun j => x1 (ix2 4 j)) (fun j => x1 (ix2 5 j)) (fun i j => x2 (ix2 i j)) (fun i j => x3 (ix2 i j)) (fun i j => x4 (ix2 i j))) (fun j => x1 (ix2 6 j)) k := by
  have e : ∀ j, k0_pay19 (k0_pay2 x0) (hiddenV x0 x1 x2 x3) x4 (View.ld x1 (Rect.unit ![5, 0] ![1, 1024] inb_S8x1024_S1x1024_5_0)) (ix2 r j) = (Rows.feed (fun j => x0 (ix2 r j)) (fun j => x1 (ix2 4 j)) (fun j => x1 (ix2 5 j)) (fun i j => x2 (ix2 i j)) (fun i j => x3 (ix2 i j)) (fun i j => x4 (ix2 i j))) j := fed x0 x1 x2 x3 x4 r
  pointwise [k0_pay20, e, Rows.norm]

/-- The row with its embedding, from the row and its norm. -/
theorem embedded (h : FVec Ideal S512x1024 .f32) (hn : FVec Ideal S512x1024 .bf16) (x5 : Vec Ideal S512x256 .f32) (x6 : Vec Ideal S256x1024 .bf16) (x7 : Vec Ideal S1024x1024 .bf16) (r : Fin 512) (k : Fin 1024)
    (f g : Fin 1024 → EReal) (e : ∀ j, h (ix2 r j) = f j) (en : ∀ j, hn (ix2 r j) = Rows.norm f g j) :
    k0_pay1 h hn x7 x5 x6 (View.ld x1 (Rect.unit ![7, 0] ![1, 1024] inb_S8x1024_S1x1024_7_0)) (ix2 r k)
      = Rows.embed f g (fun j => x1 (ix2 7 j)) (fun j => x5 (ix2 r j)) (fun i j => x6 (ix2 i j)) (fun i j => x7 (ix2 i j)) k := by
  pointwise [k0_pay1, e, en, Rows.embed, Rows.lin, Rows.norm]

/-- WHAT THE BODY LEAVES in its output block, at `(r, k)`. -/
theorem out_apply (c : Dev nD) (i : grid0.Coords)
    (a1 : Memref sig .tc .vmem S512x1024 .f32) (h1 : a1.IsWhole)
    (a2 : Memref sig .tc .vmem S8x1024 .f32) (h2 : a2.IsWhole)
    (a3 : Memref sig .tc .vmem S1024x2816 .bf16) (h3 : a3.IsWhole)
    (a4 : Memref sig .tc .vmem S1024x2816 .bf16) (h4 : a4.IsWhole)
    (a5 : Memref sig .tc .vmem S2816x1024 .bf16) (h5 : a5.IsWhole)
    (a6 : Memref sig .tc .vmem S512x256 .f32) (h6 : a6.IsWhole)
    (a7 : Memref sig .tc .vmem S256x1024 .bf16) (h7 : a7.IsWhole)
    (a8 : Memref sig .tc .vmem S1024x1024 .bf16) (h8 : a8.IsWhole)
    (a9 : Memref sig .tc .vmem S512x1024 .f32) (h9 : a9.IsWhole)
    (a10 : Memref sig .tc .vmem S512x2816 .bf16) (h10 : a10.IsWhole)
    (x5 : Vec Ideal S512x256 .f32) (x6 : Vec Ideal S256x1024 .bf16) (x7 : Vec Ideal S1024x1024 .bf16) (r : Fin 512) (k : Fin 1024) :
    out0_A_8 c i a1 h1 a2 h2 a3 h3 a4 h4 a5 h5 a6 h6 a7 h7 a8 h8 a9 h9 a10 h10 x0 x1 x2 x3 x4 x5 x6 x7 (ix2 r k)
      = Rows.embed (Rows.feed (fun j => x0 (ix2 r j)) (fun j => x1 (ix2 4 j)) (fun j => x1 (ix2 5 j)) (fun i j => x2 (ix2 i j)) (fun i j => x3 (ix2 i j)) (fun i j => x4 (ix2 i j))) (fun j => x1 (ix2 6 j)) (fun j => x1 (ix2 7 j)) (fun j => x5 (ix2 r j)) (fun i j => x6 (ix2 i j)) (fun i j => x7 (ix2 i j)) k := by
  frame_out
  rw [readback _ (hiddenV x0 x1 x2 x3) _ ?h ?c]
  · exact embedded x1 _ _ _ _ _ r k _ _ (fun j => fed _ _ _ _ _ r j) fun j => fed_normed _ _ _ _ _ r j
  · simp only [List.forall_mem_cons, List.not_mem_nil, false_imp_iff, implies_true, and_true]
    exact ⟨piece2560 _ _ _ _, piece2304 _ _ _ _, piece2048 _ _ _ _, piece1792 _ _ _ _, piece1536 _ _ _ _, piece1280 _ _ _ _, piece1024 _ _ _ _, piece768 _ _ _ _, piece512 _ _ _ _, piece256 _ _ _ _, piece0 _ _ _ _⟩
  · exact fun y => View.cover_of_tiledL _ ![512, 256] (by sl_kernel_rfl) y

end Cert.Ffn2Ideal.Feed

end
-- ==== Proof.Feed2Ref.lean ====
/-
  The second feed-forward block, followed by the per-layer embedding, as the plain reference computes them, read at an
  index.
-/
module

public import proofs.«01_k».proof.Proof.Rows
public import proofs.«01_k».proof.Proof.Gen.Ffn2RefIdeal.Read
public import Idealize.ShloMosaic.Lib.Pointwise

@[expose] public section
set_option maxRecDepth 16384
noncomputable section

open Idealize.ShloMosaic Idealize.ShloMosaic.TcCoe

namespace Cert.Ffn2RefIdeal.Feed

open Cert.Ffn2RefIdeal Cert.Ffn2RefIdeal.Read

variable (x0 : Vec Ideal S8x2048x1024 .f32) (x1 : Vec Ideal S1x8x2048x256 .f32) (x2 : Vec Ideal S1x8x1024 .f32)
  (x3 x4 : Vec Ideal S1x1024x2816 .f32) (x5 : Vec Ideal S1x2816x1024 .f32) (x6 : Vec Ideal S1x256x1024 .f32)
  (x7 : Vec Ideal S1x1024x1024 .f32)

/-- The normed row. -/
theorem normed (b : Fin 8) (t : Fin 2048) (k : Fin 1024) :
    val_main_v15 (F := Ideal) x0 x2 (ix3 b t k) = Rows.norm (fun j => x0 (ix3 b t j)) (fun j => x2 (ix3 0 4 j)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Rows.norm]

/-- The hidden row. -/
theorem hid (b : Fin 8) (t : Fin 2048) (j : Fin 2816) :
    val_main_v22 (F := Ideal) x0 x2 x3 x4 (ix3 b t j) = Rows.hidden (fun j => x0 (ix3 b t j)) (fun j => x2 (ix3 0 4 j)) (fun i j => x3 (ix3 0 i j)) (fun i j => x4 (ix3 0 i j)) j := by
  pointwise [val_main_v22, val_main_v21, val_main_v20, val_main_call0_v5, val_main_call0_v4, val_main_call0_cst_0, val_main_call0_v3,
    val_main_call0_v2, val_main_call0_cst, val_main_call0_v1, val_main_call0_v0, val_main_v19, val_main_v17, val_main_v16, normed,
    Rows.hidden, Rows.swish, Rows.lin]
  rw [zero_sub]

/-- The block's output before its norm. -/
theorem down (b : Fin 8) (t : Fin 2048) (k : Fin 1024) :
    val_main_v23 (F := Ideal) x0 x2 x3 x4 x5 (ix3 b t k) = Rows.lin (Rows.hidden (fun j => x0 (ix3 b t j)) (fun j => x2 (ix3 0 4 j)) (fun i j => x3 (ix3 0 i j)) (fun i j => x4 (ix3 0 i j))) (fun i j => x5 (ix3 0 i j)) k := by
  pointwise [val_main_v23, val_main_v18, hid, Rows.lin]

/-- The row after the block. -/
theorem mid (b : Fin 8) (t : Fin 2048) (k : Fin 1024) :
    val_main_v41 (F := Ideal) x0 x2 x3 x4 x5 (ix3 b t k) = Rows.feed (fun j => x0 (ix3 b t j)) (fun j => x2 (ix3 0 4 j)) (fun j => x2 (ix3 0 5 j)) (fun i j => x3 (ix3 0 i j)) (fun i j => x4 (ix3 0 i j)) (fun i j => x5 (ix3 0 i j)) k := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v0, val_main_cst_2, val_main_cst_3, val_main_cst_4, val_main_cst_5, down, Rows.feed, Rows.norm]

/-- The norm of the row after the block. -/
theorem normed' (b : Fin 8) (t : Fin 2048) (k : Fin 1024) :
    val_main_v56 (F := Ideal) x0 x2 x3 x4 x5 (ix3 b t k) = Rows.norm (Rows.feed (fun j => x0 (ix3 b t j)) (fun j => x2 (ix3 0 4 j)) (fun j => x2 (ix3 0 5 j)) (fun i j => x3 (ix3 0 i j)) (fun i j => x4 (ix3 0 i j)) (fun i j => x5 (ix3 0 i j))) (fun j => x2 (ix3 0 6 j)) k := by
  pointwise [val_main_v56, val_main_v55, val_main_v54, val_main_v53, val_main_v52, val_main_v51, val_main_v50, val_main_v49, val_main_v48, val_main_v47, val_main_v46, val_main_v45, val_main_v44, val_main_v43, val_main_v42, val_main_v0, val_main_cst_6, val_main_cst_7, val_main_cst_8, mid, Rows.norm]

/-- The gated embedding before its norm. -/
theorem gated (b : Fin 8) (t : Fin 2048) (k : Fin 1024) :
    val_main_v68 (F := Ideal) x0 x1 x2 x3 x4 x5 x6 x7 (ix3 b t k)
      = Rows.lin (fun j => x1 (ix4 0 b t j)) (fun i j => x6 (ix3 0 i j)) k * Ideal.div 1 (1 + Ideal.exp (0 -
          Rows.lin (Rows.norm (Rows.feed (fun j => x0 (ix3 b t j)) (fun j => x2 (ix3 0 4 j)) (fun j => x2 (ix3 0 5 j)) (fun i j => x3 (ix3 0 i j)) (fun i j => x4 (ix3 0 i j)) (fun i j => x5 (ix3 0 i j))) (fun j => x2 (ix3 0 6 j))) (fun i j => x7 (ix3 0 i j)) k)) := by
  pointwise [val_main_v68, val_main_v67, val_main_v66, val_main_v65, val_main_v64, val_main_v63, val_main_v62, val_main_v61, val_main_v60, val_main_v59, val_main_v58, val_main_v57, val_main_cst_9, val_main_cst_10, normed', Rows.lin]
  rw [zero_sub]

/-- The result at `(r, k)`: row `r` is token `r % 2048` of sequence `r / 2048`. -/
theorem result (r : Fin 16384) (k : Fin 1024) :
    val_main_v85 (F := Ideal) x0 x1 x2 x3 x4 x5 x6 x7 (ix2 r k)
      = Rows.embed (Rows.feed (fun j => x0 (ix3 ⟨r.val / 2048, by omega⟩ ⟨r.val % 2048, by omega⟩ j)) (fun j => x2 (ix3 0 4 j)) (fun j => x2 (ix3 0 5 j)) (fun i j => x3 (ix3 0 i j)) (fun i j => x4 (ix3 0 i j)) (fun i j => x5 (ix3 0 i j)))
          (fun j => x2 (ix3 0 6 j)) (fun j => x2 (ix3 0 7 j)) (fun j => x1 (ix4 0 ⟨r.val / 2048, by omega⟩ ⟨r.val % 2048, by omega⟩ j))
          (fun i j => x6 (ix3 0 i j)) (fun i j => x7 (ix3 0 i j)) k := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v0, val_main_cst_11, val_main_cst_12, val_main_cst_13, gated, mid, Rows.embed, Rows.norm]

end Cert.Ffn2RefIdeal.Feed

end
-- ==== Proof.Feed2Value.lean ====
/-
  The array the second feed-forward call ends with: every row is the row function of the argument's row. And the claim
  against the plain reference.
-/
module

public import proofs.«01_k».proof.Proof.Feed2Block
public import proofs.«01_k».proof.Proof.Feed2Ref
public import proofs.«01_k».proof.Proof.Gen.Ffn2RefIdeal.Run
public import Idealize.ShloMosaic.Lib.Pipeline.ValueKit

@[expose] public section
set_option maxRecDepth 16384
noncomputable section

open Idealize.ShloMosaic Idealize.ShloMosaic.TcCoe Idealize.SL.Sem

namespace Cert.Ffn2Ideal.Feed

open Cert.Ffn2Ideal Cert.Ffn2Ideal.Gen

variable (m : (ℓ : Loc nD τ sig) → Buf (Elt Ideal) ℓ) (ρ : Dev nD → PrngReg)

/-- The result as a function of the arguments. -/
def G (x0 : Vec Ideal S8x2048x1024 .f32) (x1 : Vec Ideal S1x8x2048x256 .f32) (x2 : Vec Ideal S1x8x1024 .f32) (x3 : Vec Ideal S1x1024x2816 .f32) (x4 : Vec Ideal S1x1024x2816 .f32) (x5 : Vec Ideal S1x2816x1024 .f32) (x6 : Vec Ideal S1x256x1024 .f32) (x7 : Vec Ideal S1x1024x1024 .f32) :
    Vec Ideal S16384x1024 .f32 := fun y =>
  Rows.embed (Rows.feed (fun j => x0 (ix3 ⟨(y 0).val / 2048, by have : (y 0).val < 16384 := (y 0).isLt; omega⟩ ⟨(y 0).val % 2048, by omega⟩ j)) (fun j => x2 (ix3 0 4 j)) (fun j => x2 (ix3 0 5 j)) (fun i j => x3 (ix3 0 i j)) (fun i j => x4 (ix3 0 i j))
    (fun i j => x5 (ix3 0 i j))) (fun j => x2 (ix3 0 6 j)) (fun j => x2 (ix3 0 7 j)) (fun j => x1 (ix4 0 ⟨(y 0).val / 2048, by have : (y 0).val < 16384 := (y 0).isLt; omega⟩ ⟨(y 0).val % 2048, by omega⟩ j))
    (fun i j => x6 (ix3 0 i j)) (fun i j => x7 (ix3 0 i j)) (y 1)

theorem i0 : ∀ t : Fin cfg0.N, win0_0.index t = ![(grid0.coords t 0).val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![(grid0.coords t 0).val, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![(grid0.coords t 0).val, 0] := (by decide +kernel : ∀ t : Fin grid0.N, _)

/-- Input block 0 at an index. -/
theorem b0 (c : Dev nD) (t : Fin cfg0.N) (r : Fin 512) (j : Fin 1024) :
    iblk m c 0 t (ix2 r j) = (m ((c : Thread nD τ).loc main_arg0) : Vec Ideal S8x2048x1024 .f32) (ix3 ⟨((grid0.coords t 0).val * 512 + r.val) / 2048, by have : (grid0.coords t 0).val < 32 := (grid0.coords t 0).isLt; omega⟩
        ⟨((grid0.coords t 0).val * 512 + r.val) % 2048, by omega⟩ j) := by
  blk_simp [iblk]
  entry_read
  pointwise
  blk_ext [i0 t]

/-- Input block 1 at an index. -/
theorem b1 (c : Dev nD) (t : Fin cfg0.N) (r : Fin 8) (j : Fin 1024) :
    iblk m c 1 t (ix2 r j) = (m ((c : Thread nD τ).loc main_arg2) : Vec Ideal S1x8x1024 .f32) (ix3 0 r j) := by
  blk_simp [iblk]
  entry_read
  pointwise
  blk_ext [i1 t]

/-- Input block 2 at an index. -/
theorem b2 (c : Dev nD) (t : Fin cfg0.N) (r : Fin 1024) (j : Fin 2816) :
    iblk m c 2 t (ix2 r j) = (m ((c : Thread nD τ).loc main_arg3) : Vec Ideal S1x1024x2816 .f32) (ix3 0 r j) := by
  blk_simp [iblk]
  entry_read
  pointwise
  blk_ext [i2 t]

/-- Input block 3 at an index. -/
theorem b3 (c : Dev nD) (t : Fin cfg0.N) (r : Fin 1024) (j : Fin 2816) :
    iblk m c 3 t (ix2 r j) = (m ((c : Thread nD τ).loc main_arg4) : Vec Ideal S1x1024x2816 .f32) (ix3 0 r j) := by
  blk_simp [iblk]
  entry_read
  pointwise
  blk_ext [i3 t]

/-- Input block 4 at an index. -/
theorem b4 (c : Dev nD) (t : Fin cfg0.N) (r : Fin 2816) (j : Fin 1024) :
    iblk m c 4 t (ix2 r j) = (m ((c : Thread nD τ).loc main_arg5) : Vec Ideal S1x2816x1024 .f32) (ix3 0 r j) := by
  blk_simp [iblk]
  entry_read
  pointwise
  blk_ext [i4 t]

/-- Input block 5 at an index. -/
theorem b5 (c : Dev nD) (t : Fin cfg0.N) (r : Fin 512) (j : Fin 256) :
    iblk m c 5 t (ix2 r j) = (m ((c : Thread nD τ).loc main_arg1) : Vec Ideal S1x8x2048x256 .f32) (ix4 0 ⟨((grid0.coords t 0).val * 512 + r.val) / 2048, by have : (grid0.coords t 0).val < 32 := (grid0.coords t 0).isLt; omega⟩
        ⟨((grid0.coords t 0).val * 512 + r.val) % 2048, by omega⟩ j) := by
  blk_simp [iblk]
  entry_read
  pointwise
  blk_ext [i5 t]

/-- Input block 6 at an index. -/
theorem b6 (c : Dev nD) (t : Fin cfg0.N) (r : Fin 256) (j : Fin 1024) :
    iblk m c 6 t (ix2 r j) = (m ((c : Thread nD τ).loc main_arg6) : Vec Ideal S1x256x1024 .f32) (ix3 0 r j) := by
  blk_simp [iblk]
  entry_read
  pointwise
  blk_ext [i6 t]

/-- Input block 7 at an index. -/
theorem b7 (c : Dev nD) (t : Fin cfg0.N) (r : Fin 1024) (j : Fin 1024) :
    iblk m c 7 t (ix2 r j) = (m ((c : Thread nD τ).loc main_arg7) : Vec Ideal S1x1024x1024 .f32) (ix3 0 r j) := by
  blk_simp [iblk]
  entry_read
  pointwise
  blk_ext [i7 t]

/-- The result array at the end. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨r, k, rfl⟩ : ∃ (r : Fin 512) (k : Fin 1024), y = ix2 r k := ⟨y 0, y 1, eq_ix2 y⟩
  blk_simp
  rw [after0_8]
  refine (out_apply ..).trans ?_
  have e : (win0_8.blk t).view.emb (ix2 r k)
      = ix2 ⟨(grid0.coords t 0).val * 512 + r.val, by have : (grid0.coords t 0).val < 32 := (grid0.coords t 0).isLt; omega⟩ k := by
    blk_ext [i8 t]
  rw [e]
  simp only [b0, b1, b2, b3, b4, b5, b6, b7]
  rfl

end Cert.Ffn2Ideal.Feed

end
-- ==== Proof.FeedClaims.lean ====
/-
  The claims about the two feed-forward calls.
-/
module

public import proofs.«01_k».proof.Defs
public import proofs.«01_k».proof.Proof.Feed1Value
public import proofs.«01_k».proof.Proof.Feed2Value
public import proofs.«01_k».proof.Proof.Gen.Ffn1.Frame
public import proofs.«01_k».proof.Proof.Gen.Ffn2.Frame
public import Idealize.ShloMosaic.Lib.Quiescent

@[expose] public section
noncomputable section

open Idealize.ShloMosaic Idealize.ShloMosaic.TcCoe Idealize.SL.Sem

namespace Cert.Proof.FeedClaims

theorem frame_1 : Cert.quiescent_Ffn1 := fun m ρ _ => Cert.Ffn1.Gen.frame m ρ
theorem frame_1i : Cert.quiescent_Ffn1Ideal := fun m ρ _ => Cert.Ffn1Ideal.Gen.frame m ρ
theorem frame_1r : Cert.quiescent_Ffn1RefIdeal := fun m ρ _ =>
  (θ_run Cert.Ffn1RefIdeal.defs _ _).mono (fun r h => ⟨fun c => (h c).2,
      Idealize.ShloMosaic.sem_eq_zero_of_no_sems (by decide) r.2⟩)
    (Cert.Ffn1RefIdeal.Value.run (F := Ideal) m ρ)
theorem preserves_1 : Cert.preserves_Ffn1_Ffn1Ideal := trivial

/-- The reference's result is the same function of the arguments. -/
theorem ref_eq_1 (x0 x1 x2 x3 x4) : Cert.Ffn1RefIdeal.Read.val_main_v42 (F := Ideal) x0 x1 x2 x3 x4 = Cert.Ffn1Ideal.Feed.G x0 x1 x2 x3 x4 := by
  funext y
  rw [eq_ix2 y]
  exact Cert.Ffn1RefIdeal.Feed.result x0 x1 x2 x3 x4 (y 0) (y 1)

theorem algebraic_1 : Cert.algebraic_Ffn1Ideal_Ffn1RefIdeal := by
  intro m ρ m' ρ' _ hag
  refine ⟨fun c => (Cert.Ffn1Ideal.Gen.dats m 0 c).arrAt 5 Cert.Ffn1Ideal.cfg0.N, Cert.Ffn1Ideal.Value.run_blocks m ρ, ?_⟩
  refine (θ_run Cert.Ffn1RefIdeal.defs _ _).mono (fun _ h c => ⟨(h c).1.trans ?_, (h c).2⟩)
    (Cert.Ffn1RefIdeal.Value.run (F := Ideal) m' ρ')
  rw [Cert.Ffn1RefIdeal.Read.val_main_v42_eq, ref_eq_1]
  refine Eq.trans ?_ (Cert.Ffn1Ideal.Feed.final m c).symm
  show Cert.Ffn1Ideal.Feed.G (m' ((c.tc : Thread Cert.Ffn1RefIdeal.nD Cert.Ffn1RefIdeal.τ).loc Cert.Ffn1RefIdeal.main_arg0)) (m' ((c.tc : Thread Cert.Ffn1RefIdeal.nD Cert.Ffn1RefIdeal.τ).loc Cert.Ffn1RefIdeal.main_arg1)) (m' ((c.tc : Thread Cert.Ffn1RefIdeal.nD Cert.Ffn1RefIdeal.τ).loc Cert.Ffn1RefIdeal.main_arg2)) (m' ((c.tc : Thread Cert.Ffn1RefIdeal.nD Cert.Ffn1RefIdeal.τ).loc Cert.Ffn1RefIdeal.main_arg3)) (m' ((c.tc : Thread Cert.Ffn1RefIdeal.nD Cert.Ffn1RefIdeal.τ).loc Cert.Ffn1RefIdeal.main_arg4)) = _
  rw [(hag c).1, (hag c).2.1, (hag c).2.2.1, (hag c).2.2.2.1, (hag c).2.2.2.2]

theorem frame_2 : Cert.quiescent_Ffn2 := fun m ρ _ => Cert.Ffn2.Gen.frame m ρ
theorem frame_2i : Cert.quiescent_Ffn2Ideal := fun m ρ _ => Cert.Ffn2Ideal.Gen.frame m ρ
theorem frame_2r : Cert.quiescent_Ffn2RefIdeal := fun m ρ _ =>
  (θ_run Cert.Ffn2RefIdeal.defs _ _).mono (fun r h => ⟨fun c => (h c).2,
      Idealize.ShloMosaic.sem_eq_zero_of_no_sems (by decide) r.2⟩)
    (Cert.Ffn2RefIdeal.Value.run (F := Ideal) m ρ)
theorem preserves_2 : Cert.preserves_Ffn2_Ffn2Ideal := trivial

/-- The reference's result is the same function of the arguments. -/
theorem ref_eq_2 (x0 x1 x2 x3 x4 x5 x6 x7) : Cert.Ffn2RefIdeal.Read.val_main_v85 (F := Ideal) x0 x1 x2 x3 x4 x5 x6 x7 = Cert.Ffn2Ideal.Feed.G x0 x1 x2 x3 x4 x5 x6 x7 := by
  funext y
  rw [eq_ix2 y]
  exact Cert.Ffn2RefIdeal.Feed.result x0 x1 x2 x3 x4 x5 x6 x7 (y 0) (y 1)

theorem algebraic_2 : Cert.algebraic_Ffn2Ideal_Ffn2RefIdeal := by
  intro m ρ m' ρ' _ hag
  refine ⟨fun c => (Cert.Ffn2Ideal.Gen.dats m 0 c).arrAt 8 Cert.Ffn2Ideal.cfg0.N, Cert.Ffn2Ideal.Value.run_blocks m ρ, ?_⟩
  refine (θ_run Cert.Ffn2RefIdeal.defs _ _).mono (fun _ h c => ⟨(h c).1.trans ?_, (h c).2⟩)
    (Cert.Ffn2RefIdeal.Value.run (F := Ideal) m' ρ')
  rw [Cert.Ffn2RefIdeal.Read.val_main_v85_eq, ref_eq_2]
  refine Eq.trans ?_ (Cert.Ffn2Ideal.Feed.final m c).symm
  show Cert.Ffn2Ideal.Feed.G (m' ((c.tc : Thread Cert.Ffn2RefIdeal.nD Cert.Ffn2RefIdeal.τ).loc Cert.Ffn2RefIdeal.main_arg0)) (m' ((c.tc : Thread Cert.Ffn2RefIdeal.nD Cert.Ffn2RefIdeal.τ).loc Cert.Ffn2RefIdeal.main_arg1)) (m' ((c.tc : Thread Cert.Ffn2RefIdeal.nD Cert.Ffn2RefIdeal.τ).loc Cert.Ffn2RefIdeal.main_arg2)) (m' ((c.tc : Thread Cert.Ffn2RefIdeal.nD Cert.Ffn2RefIdeal.τ).loc Cert.Ffn2RefIdeal.main_arg3)) (m' ((c.tc : Thread Cert.Ffn2RefIdeal.nD Cert.Ffn2RefIdeal.τ).loc Cert.Ffn2RefIdeal.main_arg4)) (m' ((c.tc : Thread Cert.Ffn2RefIdeal.nD Cert.Ffn2RefIdeal.τ).loc Cert.Ffn2RefIdeal.main_arg5)) (m' ((c.tc : Thread Cert.Ffn2RefIdeal.nD Cert.Ffn2RefIdeal.τ).loc Cert.Ffn2RefIdeal.main_arg6)) (m' ((c.tc : Thread Cert.Ffn2RefIdeal.nD Cert.Ffn2RefIdeal.τ).loc Cert.Ffn2RefIdeal.main_arg7)) = _
  rw [(hag c).1, (hag c).2.1, (hag c).2.2.1, (hag c).2.2.2.1, (hag c).2.2.2.2.1, (hag c).2.2.2.2.2.1, (hag c).2.2.2.2.2.2.1, (hag c).2.2.2.2.2.2.2]

end Cert.Proof.FeedClaims

end
-- ==== Proof.Sample1Block.lean ====
/-
  What one grid point of the first feed-forward block for the sample leaves in its output block: row `r` of the block is the row
  function (Rows.lean) of row `r` of the input block. The hidden row is written to a scratch buffer in eleven column
  pieces of 256 and read back whole; `hiddenV` is what it then holds.
-/
module

public import proofs.«01_k».proof.Proof.Rows
public import proofs.«01_k».proof.Proof.Gen.Ffn1SampleIdeal.Value
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem

namespace Cert.Ffn1SampleIdeal.Feed

open Cert.Ffn1SampleIdeal Cert.Ffn1SampleIdeal.Gen

variable (x0 : Vec Ideal S128x1024 .f32) (x1 : Vec Ideal S8x1024 .f32) (x2 x3 : Vec Ideal S1024x2816 .bf16)
  (x4 : Vec Ideal S2816x1024 .bf16)

/-- The hidden rows of a block. -/
def hiddenV : Vec Ideal S128x2816 .bf16 := fun y =>
  Rows.hidden (fun j => x0 (ix2 (y 0) j)) (fun j => x1 (ix2 0 j)) (fun i j => x2 (ix2 i j)) (fun i j => x3 (ix2 i j)) (y 1)

theorem hiddenV_apply (r : Fin 128) (k : Fin 2816) :
    hiddenV x0 x1 x2 x3 (ix2 r k) = Rows.hidden (fun j => x0 (ix2 r j)) (fun j => x1 (ix2 0 j)) (fun i j => x2 (ix2 i j)) (fun i j => x3 (ix2 i j)) k := rfl

/-- The normed block. -/
theorem normed (r : Fin 128) (k : Fin 1024) :
    k0_pay4 x0 (View.ld x1 (Rect.unit ![0, 0] ![1, 1024] inb_S8x1024_S1x1024_0_0)) (ix2 r k)
      = Rows.norm (fun j => x0 (ix2 r j)) (fun j => x1 (ix2 0 j)) k := by
  pointwise [k0_pay4, k0_pay3, Rows.norm]

/-- Where a column piece of the scratch sits. -/
theorem emb_col (o : ℕ) (h : ∀ a, (![0, o] : Fin 2 → ℕ) a + (![128, 256] : Fin 2 → ℕ) a ≤ S128x2816.size a) (r : Fin 128) (k : Fin 256) :
    (Rect.unit (s := S128x2816) ![0, o] ![128, 256] h).emb (ix2 r k)
      = ix2 r ⟨o + k.val, by have h1 : o + 256 ≤ 2816 := h 1; omega⟩ := by
  funext a
  refine Fin.ext ?_
  match a with
  | ⟨0, _⟩ => show 0 + 1 * r.val = r.val; omega
  | ⟨1, _⟩ => show o + 1 * k.val = o + k.val; omega

/-- The piece of columns 0 to 255. -/
theorem piece0 (y : S128x256.Idx) :
    k0_pay5 x0 (View.ld x1 (Rect.unit ![0, 0] ![1, 1024] inb_S8x1024_S1x1024_0_0)) (View.ld x2 (Rect.unit ![0, 0] ![1024, 256] inb_S1024x2816_S1024x256_0_0)) (View.ld x3 (Rect.unit ![0, 0] ![1024, 256] inb_S1024x2816_S1024x256_0_0)) y
      = hiddenV x0 x1 x2 x3 ((Rect.unit (s := S128x2816) ![0, 0] ![128, 256] inb_S128x2816_S128x256_0_0).emb y) := by
  obtain ⟨r, k, rfl⟩ : ∃ (r : Fin 128) (k : Fin 256), y = ix2 r k := ⟨y 0, y 1, eq_ix2 y⟩
  rw [emb_col, hiddenV_apply]
  pointwise [k0_pay5, normed, Rows.hidden, Rows.swish, Rows.lin]

/-- The piece of columns 256 to 511. -/
theorem piece256 (y : S128x256.Idx) :
    k0_pay7 (k0_pay4 x0 (View.ld x1 (Rect.unit ![0, 0] ![1, 1024] inb_S8x1024_S1x1024_0_0))) (k0_pay6 (View.ld x2 (Rect.unit ![0, 256] ![1024, 256] inb_S1024x2816_S1024x256_0_256))) (View.ld x3 (Rect.unit ![0, 256] ![1024, 256] inb_S1024x2816_S1024x256_0_256)) y
      = hiddenV x0 x1 x2 x3 ((Rect.unit (s := S128x2816) ![0, 256] ![128, 256] inb_S128x2816_S128x256_0_256).emb y) := by
  obtain ⟨r, k, rfl⟩ : ∃ (r : Fin 128) (k : Fin 256), y = ix2 r k := ⟨y 0, y 1, eq_ix2 y⟩
  rw [emb_col, hiddenV_apply]
  pointwise [k0_pay7, k0_pay6, normed, Rows.hidden, Rows.swish, Rows.lin]

/-- The piece of columns 512 to 767. -/
theorem piece512 (y : S128x256.Idx) :
    k0_pay8 (k0_pay4 x0 (View.ld x1 (Rect.unit ![0, 0] ![1, 1024] inb_S8x1024_S1x1024_0_0))) (View.ld x2 (Rect.unit ![0, 512] ![1024, 256] inb_S1024x2816_S1024x256_0_512)) (View.ld x3 (Rect.unit ![0, 512] ![1024, 256] inb_S1024x2816_S1024x256_0_512)) y
      = hiddenV x0 x1 x2 x3 ((Rect.unit (s := S128x2816) ![0, 512] ![128, 256] inb_S128x2816_S128x256_0_512).emb y) := by
  obtain ⟨r, k, rfl⟩ : ∃ (r : Fin 128) (k : Fin 256), y = ix2 r k := ⟨y 0, y 1, eq_ix2 y⟩
  rw [emb_col, hiddenV_apply]
  pointwise [k0_pay8, normed, Rows.hidden, Rows.swish, Rows.lin]

/-- The piece of columns 768 to 1023. -/
theorem piece768 (y : S128x256.Idx) :
    k0_pay9 (k0_pay4 x0 (View.ld x1 (Rect.unit ![0, 0] ![1, 1024] inb_S8x1024_S1x1024_0_0))) (View.ld x2 (Rect.unit ![0, 768] ![1024, 256] inb_S1024x2816_S1024x256_0_768)) (View.ld x3 (Rect.unit ![0, 768] ![1024, 256] inb_S1024x2816_S1024x256_0_768)) y
      = hiddenV x0 x1 x2 x3 ((Rect.unit (s := S128x2816) ![0, 768] ![128, 256] inb_S128x2816_S128x256_0_768).emb y) := by
  obtain ⟨r, k, rfl⟩ : ∃ (r : Fin 128) (k : Fin 256), y = ix2 r k := ⟨y 0, y 1, eq_ix2 y⟩
  rw [emb_col, hiddenV_apply]
  pointwise [k0_pay9, normed, Rows.hidden, Rows.swish, Rows.lin]

/-- The piece of columns 1024 to 1279. -/
theorem piece1024 (y : S128x256.Idx) :
    k0_pay10 (k0_pay4 x0 (View.ld x1 (Rect.unit ![0, 0] ![1, 1024] inb_S8x1024_S1x1024_0_0))) (View.ld x2 (Rect.unit ![0, 1024] ![1024, 256] inb_S1024x2816_S1024x256_0_1024)) (View.ld x3 (Rect.unit ![0, 1024] ![1024, 256] inb_S1024x2816_S1024x256_0_1024)) y
      = hiddenV x0 x1 x2 x3 ((Rect.unit (s := S128x2816) ![0, 1024] ![128, 256] inb_S128x2816_S128x256_0_1024).emb y) := by
  obtain ⟨r, k, rfl⟩ : ∃ (r : Fin 128) (k : Fin 256), y = ix2 r k := ⟨y 0, y 1, eq_ix2 y⟩
  rw [emb_col, hiddenV_apply]
  pointwise [k0_pay10, normed, Rows.hidden, Rows.swish, Rows.lin]

/-- The piece of columns 1280 to 1535. -/
theorem piece1280 (y : S128x256.Idx) :
    k0_pay11 (k0_pay4 x0 (View.ld x1 (Rect.unit ![0, 0] ![1, 1024] inb_S8x1024_S1x1024_0_0))) (View.ld x2 (Rect.unit ![0, 1280] ![1024, 256] inb_S1024x2816_S1024x256_0_1280)) (View.ld x3 (Rect.unit ![0, 1280] ![1024, 256] inb_S1024x2816_S1024x256_0_1280)) y
      = hiddenV x0 x1 x2 x3 ((Rect.unit (s := S128x2816) ![0, 1280] ![128, 256] inb_S128x2816_S128x256_0_1280).emb y) := by
  obtain ⟨r, k, rfl⟩ : ∃ (r : Fin 128) (k : Fin 256), y = ix2 r k := ⟨y 0, y 1, eq_ix2 y⟩
  rw [emb_col, hiddenV_apply]
  pointwise [k0_pay11, normed, Rows.hidden, Rows.swish, Rows.lin]

/-- The piece of columns 1536 to 1791. -/
theorem piece1536 (y : S128x256.Idx) :
    k0_pay13 (k0_pay12 (k0_pay4 x0 (View.ld x1 (Rect.unit ![0, 0] ![1, 1024] inb_S8x1024_S1x1024_0_0))) (View.ld x2 (Rect.unit ![0, 1536] ![1024, 256] inb_S1024x2816_S1024x256_0_1536)) (View.ld x3 (Rect.unit ![0, 1536] ![1024, 256] inb_S1024x2816_S1024x256_0_1536))) y
      = hiddenV x0 x1 x2 x3 ((Rect.unit (s := S128x2816) ![0, 1536] ![128, 256] inb_S128x2816_S128x256_0_1536).emb y) := by
  obtain ⟨r, k, rfl⟩ : ∃ (r : Fin 128) (k : Fin 256), y = ix2 r k := ⟨y 0, y 1, eq_ix2 y⟩
  rw [emb_col, hiddenV_apply]
  pointwise [k0_pay13, k0_pay12, normed, Rows.hidden, Rows.swish, Rows.lin]

/-- The piece of columns 1792 to 2047. -/
theorem piece1792 (y : S128x256.Idx) :
    k0_pay14 (k0_pay4 x0 (View.ld x1 (Rect.unit ![0, 0] ![1, 1024] inb_S8x1024_S1x1024_0_0))) (View.ld x2 (Rect.unit ![0, 1792] ![1024, 256] inb_S1024x2816_S1024x256_0_1792)) (View.ld x3 (Rect.unit ![0, 1792] ![1024, 256] inb_S1024x2816_S1024x256_0_1792)) y
      = hiddenV x0 x1 x2 x3 ((Rect.unit (s := S128x2816) ![0, 1792] ![128, 256] inb_S128x2816_S128x256_0_1792).emb y) := by
  obtain ⟨r, k, rfl⟩ : ∃ (r : Fin 128) (k : Fin 256), y = ix2 r k := ⟨y 0, y 1, eq_ix2 y⟩
  rw [emb_col, hiddenV_apply]
  pointwise [k0_pay14, normed, Rows.hidden, Rows.swish, Rows.lin]

/-- The piece of columns 2048 to 2303. -/
theorem piece2048 (y : S128x256.Idx) :
    k0_pay16 (k0_pay15 (k0_pay4 x0 (View.ld x1 (Rect.unit ![0, 0] ![1, 1024] inb_S8x1024_S1x1024_0_0))) (View.ld x2 (Rect.unit ![0, 2048] ![1024, 256] inb_S1024x2816_S1024x256_0_2048)) (View.ld x3 (Rect.unit ![0, 2048] ![1024, 256] inb_S1024x2816_S1024x256_0_2048))) y
      = hiddenV x0 x1 x2 x3 ((Rect.unit (s := S128x2816) ![0, 2048] ![128, 256] inb_S128x2816_S128x256_0_2048).emb y) := by
  obtain ⟨r, k, rfl⟩ : ∃ (r : Fin 128) (k : Fin 256), y = ix2 r k := ⟨y 0, y 1, eq_ix2 y⟩
  rw [emb_col, hiddenV_apply]
  pointwise [k0_pay16, k0_pay15, normed, Rows.hidden, Rows.swish, Rows.lin]

/-- The piece of columns 2304 to 2559. -/
theorem piece2304 (y : S128x256.Idx) :
    k0_pay17 (k0_pay4 x0 (View.ld x1 (Rect.unit ![0, 0] ![1, 1024] inb_S8x1024_S1x1024_0_0))) (View.ld x2 (Rect.unit ![0, 2304] ![1024, 256] inb_S1024x2816_S1024x256_0_2304)) (View.ld x3 (Rect.unit ![0, 2304] ![1024, 256] inb_S1024x2816_S1024x256_0_2304)) y
      = hiddenV x0 x1 x2 x3 ((Rect.unit (s := S128x2816) ![0, 2304] ![128, 256] inb_S128x2816_S128x256_0_2304).emb y) := by
  obtain ⟨r, k, rfl⟩ : ∃ (r : Fin 128) (k : Fin 256), y = ix2 r k := ⟨y 0, y 1, eq_ix2 y⟩
  rw [emb_col, hiddenV_apply]
  pointwise [k0_pay17, normed, Rows.hidden, Rows.swish, Rows.lin]

/-- The piece of columns 2560 to 2815. -/
theorem piece2560 (y : S128x256.Idx) :
    k0_pay1 (k0_pay18 (k0_pay4 x0 (View.ld x1 (Rect.unit ![0, 0] ![1, 1024] inb_S8x1024_S1x1024_0_0))) (View.ld x2 (Rect.unit ![0, 2560] ![1024, 256] inb_S1024x2816_S1024x256_0_2560)) (View.ld x3 (Rect.unit ![0, 2560] ![1024, 256] inb_S1024x2816_S1024x256_0_2560))) y
      = hiddenV x0 x1 x2 x3 ((Rect.unit (s := S128x2816) ![0, 2560] ![128, 256] inb_S128x2816_S128x256_0_2560).emb y) := by
  obtain ⟨r, k, rfl⟩ : ∃ (r : Fin 128) (k : Fin 256), y = ix2 r k := ⟨y 0, y 1, eq_ix2 y⟩
  rw [emb_col, hiddenV_apply]
  pointwise [k0_pay1, k0_pay18, normed, Rows.hidden, Rows.swish, Rows.lin]

/-- Pieces that all agree with `G` and cover the scratch read back as `G`. -/
theorem readback (v : View sig .tc .vmem S128x2816 .bf16) (G : Vec Ideal S128x2816 .bf16)
    (L : List (View.Piece (Elt Ideal) S128x2816 .bf16)) (h : ∀ p ∈ L, ∀ x : p.1.shape.Idx, p.2 x = G (p.1.emb x))
    (hc : ∀ y, ∃ p ∈ L, y ∈ p.1.set) :
    v.readCov L (Rect.unit ![0, 0] ![128, 2816] inb_S128x2816_S128x2816_0_0).toLoadRect = G := by
  rw [View.readCov_eq_canon']
  funext y
  show View.canon L _ = G y
  rw [View.canon_apply_of_pieces G L h _ (hc _)]
  congr 1
  funext a
  refine Fin.ext ?_
  match a with
  | ⟨0, _⟩ => show 0 + 1 * (y 0).val = (y 0).val; omega
  | ⟨1, _⟩ => show 0 + 1 * (y 1).val = (y 1).val; omega

/-- The row after the feed-forward block. -/
theorem fed (r : Fin 128) (k : Fin 1024) :
    k0_pay2 (k0_pay3 x0) (hiddenV x0 x1 x2 x3) x4 (View.ld x1 (Rect.unit ![1, 0] ![1, 1024] inb_S8x1024_S1x1024_1_0)) (ix2 r k) = Rows.feed (fun j => x0 (ix2 r j)) (fun j => x1 (ix2 0 j)) (fun j => x1 (ix2 1 j)) (fun i j => x2 (ix2 i j)) (fun i j => x3 (ix2 i j)) (fun i j => x4 (ix2 i j)) k := by
  pointwise [k0_pay2, k0_pay3, hiddenV_apply, Rows.feed, Rows.norm, Rows.lin]

/-- WHAT THE BODY LEAVES in its output block, at `(r, k)`. -/
theorem out_apply (c : Dev nD) (i : grid0.Coords)
    (a1 : Memref sig .tc .vmem S128x1024 .f32) (h1 : a1.IsWhole)
    (a2 : Memref sig .tc .vmem S8x1024 .f32) (h2 : a2.IsWhole)
    (a3 : Memref sig .tc .vmem S1024x2816 .bf16) (h3 : a3.IsWhole)
    (a4 : Memref sig .tc .vmem S1024x2816 .bf16) (h4 : a4.IsWhole)
    (a5 : Memref sig .tc .vmem S2816x1024 .bf16) (h5 : a5.IsWhole)
    (a6 : Memref sig .tc .vmem S128x1024 .f32) (h6 : a6.IsWhole)
    (a7 : Memref sig .tc .vmem S128x2816 .bf16) (h7 : a7.IsWhole)
    (r : Fin 128) (k : Fin 1024) :
    out0_A_5 c i a1 h1 a2 h2 a3 h3 a4 h4 a5 h5 a6 h6 a7 h7 x0 x1 x2 x3 x4 (ix2 r k)
      = Rows.feed (fun j => x0 (ix2 r j)) (fun j => x1 (ix2 0 j)) (fun j => x1 (ix2 1 j)) (fun i j => x2 (ix2 i j)) (fun i j => x3 (ix2 i j)) (fun i j => x4 (ix2 i j)) k := by
  frame_out
  rw [readback _ (hiddenV x0 x1 x2 x3) _ ?h ?c]
  · exact fed x0 x1 x2 x3 x4 r k
  · simp only [List.forall_mem_cons, List.not_mem_nil, false_imp_iff, implies_true, and_true]
    exact ⟨piece2560 _ _ _ _, piece2304 _ _ _ _, piece2048 _ _ _ _, piece1792 _ _ _ _, piece1536 _ _ _ _, piece1280 _ _ _ _, piece1024 _ _ _ _, piece768 _ _ _ _, piece512 _ _ _ _, piece256 _ _ _ _, piece0 _ _ _ _⟩
  · exact fun y => View.cover_of_tiledL _ ![128, 256] (by sl_kernel_rfl) y

end Cert.Ffn1SampleIdeal.Feed

end
-- ==== Proof.Sample1Ref.lean ====
/-
  The first feed-forward block for the sample as the plain reference computes it, read at an index: row `r` of the result is the
  block's row function of the argument's row.
-/
module

public import proofs.«01_k».proof.Proof.Rows
public import proofs.«01_k».proof.Proof.Gen.Ffn1SampleRefIdeal.Read
public import Idealize.ShloMosaic.Lib.Pointwise

@[expose] public section
set_option maxRecDepth 16384
noncomputable section

open Idealize.ShloMosaic Idealize.ShloMosaic.TcCoe

namespace Cert.Ffn1SampleRefIdeal.Feed

open Cert.Ffn1SampleRefIdeal Cert.Ffn1SampleRefIdeal.Read

variable (x0 : Vec Ideal S128x1x1024 .f32) (x1 : Vec Ideal S1x8x1024 .f32) (x2 x3 : Vec Ideal S1x1024x2816 .f32)
  (x4 : Vec Ideal S1x2816x1024 .f32)

/-- The normed row. -/
theorem normed (b : Fin 128) (k : Fin 1024) :
    val_main_v15 (F := Ideal) x0 x1 (ix3 b 0 k) = Rows.norm (fun j => x0 (ix3 b 0 j)) (fun j => x1 (ix3 0 0 j)) k := by
  pointwise [val_main_v15, val_main_v14, val_main_v13, val_main_v12, val_main_v11, val_main_v10, val_main_v9, val_main_v8, val_main_cst_1,
    val_main_v7, val_main_v6, val_main_cst_0, val_main_v5, val_main_v4, val_main_cst, val_main_v3, val_main_v2, val_main_v1, val_main_v0, Rows.norm]

/-- The hidden row. -/
theorem hid (b : Fin 128) (j : Fin 2816) :
    val_main_v22 (F := Ideal) x0 x1 x2 x3 (ix3 b 0 j)
      = Rows.hidden (fun j => x0 (ix3 b 0 j)) (fun j => x1 (ix3 0 0 j)) (fun i j => x2 (ix3 0 i j)) (fun i j => x3 (ix3 0 i j)) j := by
  pointwise [val_main_v22, val_main_v21, val_main_v20, val_main_call0_v5, val_main_call0_v4, val_main_call0_cst_0, val_main_call0_v3,
    val_main_call0_v2, val_main_call0_cst, val_main_call0_v1, val_main_call0_v0, val_main_v19, val_main_v17, val_main_v16, normed,
    Rows.hidden, Rows.swish, Rows.lin]
  rw [zero_sub]

/-- The block's output before its norm. -/
theorem down (b : Fin 128) (k : Fin 1024) :
    val_main_v23 (F := Ideal) x0 x1 x2 x3 x4 (ix3 b 0 k)
      = Rows.lin (Rows.hidden (fun j => x0 (ix3 b 0 j)) (fun j => x1 (ix3 0 0 j)) (fun i j => x2 (ix3 0 i j)) (fun i j => x3 (ix3 0 i j)))
          (fun i j => x4 (ix3 0 i j)) k := by
  pointwise [val_main_v23, val_main_v18, hid, Rows.lin]

/-- The result at `(r, k)`: row `r` is the token of sequence `r`. -/
theorem result (r : Fin 128) (k : Fin 1024) :
    val_main_v42 (F := Ideal) x0 x1 x2 x3 x4 (ix2 r k)
      = Rows.feed (fun j => x0 (ix3 r 0 j)) (fun j => x1 (ix3 0 0 j))
          (fun j => x1 (ix3 0 1 j)) (fun i j => x2 (ix3 0 i j)) (fun i j => x3 (ix3 0 i j)) (fun i j => x4 (ix3 0 i j)) k := by
  pointwise [val_main_v42, val_main_v41, val_main_v40, val_main_v39, val_main_cst_5, val_main_v38, val_main_v37, val_main_v36, val_main_v35,
    val_main_v34, val_main_v33, val_main_v32, val_main_v31, val_main_cst_4, val_main_v30, val_main_v29, val_main_cst_3, val_main_v28,
    val_main_v27, val_main_cst_2, val_main_v26, val_main_v25, val_main_v24, val_main_v0, down, Rows.feed, Rows.norm]

end Cert.Ffn1SampleRefIdeal.Feed

end
-- ==== Proof.Sample1Value.lean ====
/-
  The array the first feed-forward call ends, for the sample, with: every row is the row function of the argument's row. And the claim
  against the plain reference.
-/
module

public import proofs.«01_k».proof.Proof.Sample1Block
public import proofs.«01_k».proof.Proof.Sample1Ref
public import proofs.«01_k».proof.Proof.Gen.Ffn1SampleRefIdeal.Run
public import Idealize.ShloMosaic.Lib.Pipeline.ValueKit

@[expose] public section
set_option maxRecDepth 16384
noncomputable section

open Idealize.ShloMosaic Idealize.ShloMosaic.TcCoe Idealize.SL.Sem

namespace Cert.Ffn1SampleIdeal.Feed

open Cert.Ffn1SampleIdeal Cert.Ffn1SampleIdeal.Gen

variable (m : (ℓ : Loc nD τ sig) → Buf (Elt Ideal) ℓ) (ρ : Dev nD → PrngReg)

/-- The result as a function of the arguments. -/
def G (x0 : Vec Ideal S128x1x1024 .f32) (x1 : Vec Ideal S1x8x1024 .f32) (x2 : Vec Ideal S1x1024x2816 .f32) (x3 : Vec Ideal S1x1024x2816 .f32) (x4 : Vec Ideal S1x2816x1024 .f32) :
    Vec Ideal S128x1024 .f32 := fun y =>
  Rows.feed (fun j => x0 (ix3 (y 0) 0 j)) (fun j => x1 (ix3 0 0 j)) (fun j => x1 (ix3 0 1 j)) (fun i j => x2 (ix3 0 i j)) (fun i j => x3 (ix3 0 i j))
    (fun i j => x4 (ix3 0 i j)) (y 1)

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)

/-- Input block 0 at an index. -/
theorem b0 (c : Dev nD) (t : Fin cfg0.N) (r : Fin 128) (j : Fin 1024) :
    iblk m c 0 t (ix2 r j) = (m ((c : Thread nD τ).loc main_arg0) : Vec Ideal S128x1x1024 .f32) (ix3 r 0 j) := by
  blk_simp [iblk]
  entry_read
  pointwise
  blk_ext [i0 t]

/-- Input block 1 at an index. -/
theorem b1 (c : Dev nD) (t : Fin cfg0.N) (r : Fin 8) (j : Fin 1024) :
    iblk m c 1 t (ix2 r j) = (m ((c : Thread nD τ).loc main_arg1) : Vec Ideal S1x8x1024 .f32) (ix3 0 r j) := by
  blk_simp [iblk]
  entry_read
  pointwise
  blk_ext [i1 t]

/-- Input block 2 at an index. -/
theorem b2 (c : Dev nD) (t : Fin cfg0.N) (r : Fin 1024) (j : Fin 2816) :
    iblk m c 2 t (ix2 r j) = (m ((c : Thread nD τ).loc main_arg2) : Vec Ideal S1x1024x2816 .f32) (ix3 0 r j) := by
  blk_simp [iblk]
  entry_read
  pointwise
  blk_ext [i2 t]

/-- Input block 3 at an index. -/
theorem b3 (c : Dev nD) (t : Fin cfg0.N) (r : Fin 1024) (j : Fin 2816) :
    iblk m c 3 t (ix2 r j) = (m ((c : Thread nD τ).loc main_arg3) : Vec Ideal S1x1024x2816 .f32) (ix3 0 r j) := by
  blk_simp [iblk]
  entry_read
  pointwise
  blk_ext [i3 t]

/-- Input block 4 at an index. -/
theorem b4 (c : Dev nD) (t : Fin cfg0.N) (r : Fin 2816) (j : Fin 1024) :
    iblk m c 4 t (ix2 r j) = (m ((c : Thread nD τ).loc main_arg4) : Vec Ideal S1x2816x1024 .f32) (ix3 0 r j) := by
  blk_simp [iblk]
  entry_read
  pointwise
  blk_ext [i4 t]

/-- The result array at the end. -/
theorem final (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, k, rfl⟩ : ∃ (r : Fin 128) (k : Fin 1024), y = ix2 r k := ⟨y 0, y 1, eq_ix2 y⟩
  blk_simp
  rw [after0_5]
  refine (out_apply ..).trans ?_
  have e : (win0_5.blk t).view.emb (ix2 r k)
      = ix2 r k := by
    blk_ext [i5 t]
  rw [e]
  simp only [b0, b1, b2, b3, b4]
  rfl

end Cert.Ffn1SampleIdeal.Feed

end
-- ==== Proof.Sample2Block.lean ====
/-
  What one grid point of the second feed-forward block for the sample and the per-layer embedding leaves in its output block: row `r` of the block is the row
  function (Rows.lean) of row `r` of the input block. The hidden row is written to a scratch buffer in eleven column
  pieces of 256 and read back whole; `hiddenV` is what it then holds.
-/
module

public import proofs.«01_k».proof.Proof.Rows
public import proofs.«01_k».proof.Proof.Gen.Ffn2SampleIdeal.Value
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem

namespace Cert.Ffn2SampleIdeal.Feed

open Cert.Ffn2SampleIdeal Cert.Ffn2SampleIdeal.Gen

variable (x0 : Vec Ideal S128x1024 .f32) (x1 : Vec Ideal S8x1024 .f32) (x2 x3 : Vec Ideal S1024x2816 .bf16)
  (x4 : Vec Ideal S2816x1024 .bf16)

/-- The hidden rows of a block. -/
def hiddenV : Vec Ideal S128x2816 .bf16 := fun y =>
  Rows.hidden (fun j => x0 (ix2 (y 0) j)) (fun j => x1 (ix2 4 j)) (fun i j => x2 (ix2 i j)) (fun i j => x3 (ix2 i j)) (y 1)

theorem hiddenV_apply (r : Fin 128) (k : Fin 2816) :
    hiddenV x0 x1 x2 x3 (ix2 r k) = Rows.hidden (fun j => x0 (ix2 r j)) (fun j => x1 (ix2 4 j)) (fun i j => x2 (ix2 i j)) (fun i j => x3 (ix2 i j)) k := rfl

/-- The normed block. -/
theorem normed (r : Fin 128) (k : Fin 1024) :
    k0_pay3 x0 (View.ld x1 (Rect.unit ![4, 0] ![1, 1024] inb_S8x1024_S1x1024_4_0)) (ix2 r k)
      = Rows.norm (fun j => x0 (ix2 r j)) (fun j => x1 (ix2 4 j)) k := by
  pointwise [k0_pay3, k0_pay2, Rows.norm]

/-- Where a column piece of the scratch sits. -/
theorem emb_col (o : ℕ) (h : ∀ a, (![0, o] : Fin 2 → ℕ) a + (![128, 256] : Fin 2 → ℕ) a ≤ S128x2816.size a) (r : Fin 128) (k : Fin 256) :
    (Rect.unit (s := S128x2816) ![0, o] ![128, 256] h).emb (ix2 r k)
      = ix2 r ⟨o + k.val, by have h1 : o + 256 ≤ 2816 := h 1; omega⟩ := by
  funext a
  refine Fin.ext ?_
  match a with
  | ⟨0, _⟩ => show 0 + 1 * r.val = r.val; omega
  | ⟨1, _⟩ => show o + 1 * k.val = o + k.val; omega

/-- The piece of columns 0 to 255. -/
theorem piece0 (y : S128x256.Idx) :
    k0_pay4 x0 (View.ld x1 (Rect.unit ![4, 0] ![1, 1024] inb_S8x1024_S1x1024_4_0)) (View.ld x2 (Rect.unit ![0, 0] ![1024, 256] inb_S1024x2816_S1024x256_0_0)) (View.ld x3 (Rect.unit ![0, 0] ![1024, 256] inb_S1024x2816_S1024x256_0_0)) y
      = hiddenV x0 x1 x2 x3 ((Rect.unit (s := S128x2816) ![0, 0] ![128, 256] inb_S128x2816_S128x256_0_0).emb y) := by
  obtain ⟨r, k, rfl⟩ : ∃ (r : Fin 128) (k : Fin 256), y = ix2 r k := ⟨y 0, y 1, eq_ix2 y⟩
  rw [emb_col, hiddenV_apply]
  pointwise [k0_pay4, normed, Rows.hidden, Rows.swish, Rows.lin]

/-- The piece of columns 256 to 511. -/
theorem piece256 (y : S128x256.Idx) :
    k0_pay6 (k0_pay3 x0 (View.ld x1 (Rect.unit ![4, 0] ![1, 1024] inb_S8x1024_S1x1024_4_0))) (k0_pay5 (View.ld x2 (Rect.unit ![0, 256] ![1024, 256] inb_S1024x2816_S1024x256_0_256))) (View.ld x3 (Rect.unit ![0, 256] ![1024, 256] inb_S1024x2816_S1024x256_0_256)) y
      = hiddenV x0 x1 x2 x3 ((Rect.unit (s := S128x2816) ![0, 256] ![128, 256] inb_S128x2816_S128x256_0_256).emb y) := by
  obtain ⟨r, k, rfl⟩ : ∃ (r : Fin 128) (k : Fin 256), y = ix2 r k := ⟨y 0, y 1, eq_ix2 y⟩
  rw [emb_col, hiddenV_apply]
  pointwise [k0_pay6, k0_pay5, normed, Rows.hidden, Rows.swish, Rows.lin]

/-- The piece of columns 512 to 767. -/
theorem piece512 (y : S128x256.Idx) :
    k0_pay7 (k0_pay3 x0 (View.ld x1 (Rect.unit ![4, 0] ![1, 1024] inb_S8x1024_S1x1024_4_0))) (View.ld x2 (Rect.unit ![0, 512] ![1024, 256] inb_S1024x2816_S1024x256_0_512)) (View.ld x3 (Rect.unit ![0, 512] ![1024, 256] inb_S1024x2816_S1024x256_0_512)) y
      = hiddenV x0 x1 x2 x3 ((Rect.unit (s := S128x2816) ![0, 512] ![128, 256] inb_S128x2816_S128x256_0_512).emb y) := by
  obtain ⟨r, k, rfl⟩ : ∃ (r : Fin 128) (k : Fin 256), y = ix2 r k := ⟨y 0, y 1, eq_ix2 y⟩
  rw [emb_col, hiddenV_apply]
  pointwise [k0_pay7, normed, Rows.hidden, Rows.swish, Rows.lin]

/-- The piece of columns 768 to 1023. -/
theorem piece768 (y : S128x256.Idx) :
    k0_pay8 (k0_pay3 x0 (View.ld x1 (Rect.unit ![4, 0] ![1, 1024] inb_S8x1024_S1x1024_4_0))) (View.ld x2 (Rect.unit ![0, 768] ![1024, 256] inb_S1024x2816_S1024x256_0_768)) (View.ld x3 (Rect.unit ![0, 768] ![1024, 256] inb_S1024x2816_S1024x256_0_768)) y
      = hiddenV x0 x1 x2 x3 ((Rect.unit (s := S128x2816) ![0, 768] ![128, 256] inb_S128x2816_S128x256_0_768).emb y) := by
  obtain ⟨r, k, rfl⟩ : ∃ (r : Fin 128) (k : Fin 256), y = ix2 r k := ⟨y 0, y 1, eq_ix2 y⟩
  rw [emb_col, hiddenV_apply]
  pointwise [k0_pay8, normed, Rows.hidden, Rows.swish, Rows.lin]

/-- The piece of columns 1024 to 1279. -/
theorem piece1024 (y : S128x256.Idx) :
    k0_pay9 (k0_pay3 x0 (View.ld x1 (Rect.unit ![4, 0] ![1, 1024] inb_S8x1024_S1x1024_4_0))) (View.ld x2 (Rect.unit ![0, 1024] ![1024, 256] inb_S1024x2816_S1024x256_0_1024)) (View.ld x3 (Rect.unit ![0, 1024] ![1024, 256] inb_S1024x2816_S1024x256_0_1024)) y
      = hiddenV x0 x1 x2 x3 ((Rect.unit (s := S128x2816) ![0, 1024] ![128, 256] inb_S128x2816_S128x256_0_1024).emb y) := by
  obtain ⟨r, k, rfl⟩ : ∃ (r : Fin 128) (k : Fin 256), y = ix2 r k := ⟨y 0, y 1, eq_ix2 y⟩
  rw [emb_col, hiddenV_apply]
  pointwise [k0_pay9, normed, Rows.hidden, Rows.swish, Rows.lin]

/-- The piece of columns 1280 to 1535. -/
theorem piece1280 (y : S128x256.Idx) :
    k0_pay10 (k0_pay3 x0 (View.ld x1 (Rect.unit ![4, 0] ![1, 1024] inb_S8x1024_S1x1024_4_0))) (View.ld x2 (Rect.unit ![0, 1280] ![1024, 256] inb_S1024x2816_S1024x256_0_1280)) (View.ld x3 (Rect.unit ![0, 1280] ![1024, 256] inb_S1024x2816_S1024x256_0_1280)) y
      = hiddenV x0 x1 x2 x3 ((Rect.unit (s := S128x2816) ![0, 1280] ![128, 256] inb_S128x2816_S128x256_0_1280).emb y) := by
  obtain ⟨r, k, rfl⟩ : ∃ (r : Fin 128) (k : Fin 256), y = ix2 r k := ⟨y 0, y 1, eq_ix2 y⟩
  rw [emb_col, hiddenV_apply]
  pointwise [k0_pay10, normed, Rows.hidden, Rows.swish, Rows.lin]

/-- The piece of columns 1536 to 1791. -/
theorem piece1536 (y : S128x256.Idx) :
    k0_pay12 (k0_pay11 (k0_pay3 x0 (View.ld x1 (Rect.unit ![4, 0] ![1, 1024] inb_S8x1024_S1x1024_4_0))) (View.ld x2 (Rect.unit ![0, 1536] ![1024, 256] inb_S1024x2816_S1024x256_0_1536)) (View.ld x3 (Rect.unit ![0, 1536] ![1024, 256] inb_S1024x2816_S1024x256_0_1536))) y
      = hiddenV x0 x1 x2 x3 ((Rect.unit (s := S128x2816) ![0, 1536] ![128, 256] inb_S128x2816_S128x256_0_1536).emb y) := by
  obtain ⟨r, k, rfl⟩ : ∃ (r : Fin 128) (k : Fin 256), y = ix2 r k := ⟨y 0, y 1, eq_ix2 y⟩
  rw [emb_col, hiddenV_apply]
  pointwise [k0_pay12, k0_pay11, normed, Rows.hidden, Rows.swish, Rows.lin]

/-- The piece of columns 1792 to 2047. -/
theorem piece1792 (y : S128x256.Idx) :
    k0_pay13 (k0_pay3 x0 (View.ld x1 (Rect.unit ![4, 0] ![1, 1024] inb_S8x1024_S1x1024_4_0))) (View.ld x2 (Rect.unit ![0, 1792] ![1024, 256] inb_S1024x2816_S1024x256_0_1792)) (View.ld x3 (Rect.unit ![0, 1792] ![1024, 256] inb_S1024x2816_S1024x256_0_1792)) y
      = hiddenV x0 x1 x2 x3 ((Rect.unit (s := S128x2816) ![0, 1792] ![128, 256] inb_S128x2816_S128x256_0_1792).emb y) := by
  obtain ⟨r, k, rfl⟩ : ∃ (r : Fin 128) (k : Fin 256), y = ix2 r k := ⟨y 0, y 1, eq_ix2 y⟩
  rw [emb_col, hiddenV_apply]
  pointwise [k0_pay13, normed, Rows.hidden, Rows.swish, Rows.lin]

/-- The piece of columns 2048 to 2303. -/
theorem piece2048 (y : S128x256.Idx) :
    k0_pay15 (k0_pay14 (k0_pay3 x0 (View.ld x1 (Rect.unit ![4, 0] ![1, 1024] inb_S8x1024_S1x1024_4_0))) (View.ld x2 (Rect.unit ![0, 2048] ![1024, 256] inb_S1024x2816_S1024x256_0_2048)) (View.ld x3 (Rect.unit ![0, 2048] ![1024, 256] inb_S1024x2816_S1024x256_0_2048))) y
      = hiddenV x0 x1 x2 x3 ((Rect.unit (s := S128x2816) ![0, 2048] ![128, 256] inb_S128x2816_S128x256_0_2048).emb y) := by
  obtain ⟨r, k, rfl⟩ : ∃ (r : Fin 128) (k : Fin 256), y = ix2 r k := ⟨y 0, y 1, eq_ix2 y⟩
  rw [emb_col, hiddenV_apply]
  pointwise [k0_pay15, k0_pay14, normed, Rows.hidden, Rows.swish, Rows.lin]

/-- The piece of columns 2304 to 2559. -/
theorem piece2304 (y : S128x256.Idx) :
    k0_pay16 (k0_pay3 x0 (View.ld x1 (Rect.unit ![4, 0] ![1, 1024] inb_S8x1024_S1x1024_4_0))) (View.ld x2 (Rect.unit ![0, 2304] ![1024, 256] inb_S1024x2816_S1024x256_0_2304)) (View.ld x3 (Rect.unit ![0, 2304] ![1024, 256] inb_S1024x2816_S1024x256_0_2304)) y
      = hiddenV x0 x1 x2 x3 ((Rect.unit (s := S128x2816) ![0, 2304] ![128, 256] inb_S128x2816_S128x256_0_2304).emb y) := by
  obtain ⟨r, k, rfl⟩ : ∃ (r : Fin 128) (k : Fin 256), y = ix2 r k := ⟨y 0, y 1, eq_ix2 y⟩
  rw [emb_col, hiddenV_apply]
  pointwise [k0_pay16, normed, Rows.hidden, Rows.swish, Rows.lin]

/-- The piece of columns 2560 to 2815. -/
theorem piece2560 (y : S128x256.Idx) :
    k0_pay18 (k0_pay17 (k0_pay3 x0 (View.ld x1 (Rect.unit ![4, 0] ![1, 1024] inb_S8x1024_S1x1024_4_0))) (View.ld x2 (Rect.unit ![0, 2560] ![1024, 256] inb_S1024x2816_S1024x256_0_2560)) (View.ld x3 (Rect.unit ![0, 2560] ![1024, 256] inb_S1024x2816_S1024x256_0_2560))) y
      = hiddenV x0 x1 x2 x3 ((Rect.unit (s := S128x2816) ![0, 2560] ![128, 256] inb_S128x2816_S128x256_0_2560).emb y) := by
  obtain ⟨r, k, rfl⟩ : ∃ (r : Fin 128) (k : Fin 256), y = ix2 r k := ⟨y 0, y 1, eq_ix2 y⟩
  rw [emb_col, hiddenV_apply]
  pointwise [k0_pay18, k0_pay17, normed, Rows.hidden, Rows.swish, Rows.lin]

/-- Pieces that all agree with `G` and cover the scratch read back as `G`. -/
theorem readback (v : View sig .tc .vmem S128x2816 .bf16) (G : Vec Ideal S128x2816 .bf16)
    (L : List (View.Piece (Elt Ideal) S128x2816 .bf16)) (h : ∀ p ∈ L, ∀ x : p.1.shape.Idx, p.2 x = G (p.1.emb x))
    (hc : ∀ y, ∃ p ∈ L, y ∈ p.1.set) :
    v.readCov L (Rect.unit ![0, 0] ![128, 2816] inb_S128x2816_S128x2816_0_0).toLoadRect = G := by
  rw [View.readCov_eq_canon']
  funext y
  show View.canon L _ = G y
  rw [View.canon_apply_of_pieces G L h _ (hc _)]
  congr 1
  funext a
  refine Fin.ext ?_
  match a with
  | ⟨0, _⟩ => show 0 + 1 * (y 0).val = (y 0).val; omega
  | ⟨1, _⟩ => show 0 + 1 * (y 1).val = (y 1).val; omega

/-- The row after the feed-forward block. -/
theorem fed (r : Fin 128) (k : Fin 1024) :
    k0_pay19 (k0_pay2 x0) (hiddenV x0 x1 x2 x3) x4 (View.ld x1 (Rect.unit ![5, 0] ![1, 1024] inb_S8x1024_S1x1024_5_0)) (ix2 r k) = (Rows.feed (fun j => x0 (ix2 r j)) (fun j => x1 (ix2 4 j)) (fun j => x1 (ix2 5 j)) (fun i j => x2 (ix2 i j)) (fun i j => x3 (ix2 i j)) (fun i j => x4 (ix2 i j))) k := by
  pointwise [k0_pay19, k0_pay2, hiddenV_apply, Rows.feed, Rows.norm, Rows.lin]

/-- Its norm. -/
theorem fed_normed (r : Fin 128) (k : Fin 1024) :
    k0_pay20 (k0_pay2 x0) (hiddenV x0 x1 x2 x3) x4 (View.ld x1 (Rect.unit ![5, 0] ![1, 1024] inb_S8x1024_S1x1024_5_0)) (View.ld x1 (Rect.unit ![6, 0] ![1, 1024] inb_S8x1024_S1x1024_6_0)) (ix2 r k) = Rows.norm (Rows.feed (fun j => x0 (ix2 r j)) (fun j => x1 (ix2 4 j)) (fun j => x1 (ix2 5 j)) (fun i j => x2 (ix2 i j)) (fun i j => x3 (ix2 i j)) (fun i j => x4 (ix2 i j))) (fun j => x1 (ix2 6 j)) k := by
  have e : ∀ j, k0_pay19 (k0_pay2 x0) (hiddenV x0 x1 x2 x3) x4 (View.ld x1 (Rect.unit ![5, 0] ![1, 1024] inb_S8x1024_S1x1024_5_0)) (ix2 r j) = (Rows.feed (fun j => x0 (ix2 r j)) (fun j => x1 (ix2 4 j)) (fun j => x1 (ix2 5 j)) (fun i j => x2 (ix2 i j)) (fun i j => x3 (ix2 i j)) (fun i j => x4 (ix2 i j))) j := fed x0 x1 x2 x3 x4 r
  pointwise [k0_pay20, e, Rows.norm]

/-- The row with its embedding, from the row and its norm. -/
theorem embedded (h : FVec Ideal S128x1024 .f32) (hn : FVec Ideal S128x1024 .bf16) (x5 : Vec Ideal S128x256 .f32) (x6 : Vec Ideal S256x1024 .bf16) (x7 : Vec Ideal S1024x1024 .bf16) (r : Fin 128) (k : Fin 1024)
    (f g : Fin 1024 → EReal) (e : ∀ j, h (ix2 r j) = f j) (en : ∀ j, hn (ix2 r j) = Rows.norm f g j) :
    k0_pay1 h hn x7 x5 x6 (View.ld x1 (Rect.unit ![7, 0] ![1, 1024] inb_S8x1024_S1x1024_7_0)) (ix2 r k)
      = Rows.embed f g (fun j => x1 (ix2 7 j)) (fun j => x5 (ix2 r j)) (fun i j => x6 (ix2 i j)) (fun i j => x7 (ix2 i j)) k := by
  pointwise [k0_pay1, e, en, Rows.embed, Rows.lin, Rows.norm]

/-- WHAT THE BODY LEAVES in its output block, at `(r, k)`. -/
theorem out_apply (c : Dev nD) (i : grid0.Coords)
    (a1 : Memref sig .tc .vmem S128x1024 .f32) (h1 : a1.IsWhole)
    (a2 : Memref sig .tc .vmem S8x1024 .f32) (h2 : a2.IsWhole)
    (a3 : Memref sig .tc .vmem S1024x2816 .bf16) (h3 : a3.IsWhole)
    (a4 : Memref sig .tc .vmem S1024x2816 .bf16) (h4 : a4.IsWhole)
    (a5 : Memref sig .tc .vmem S2816x1024 .bf16) (h5 : a5.IsWhole)
    (a6 : Memref sig .tc .vmem S128x256 .f32) (h6 : a6.IsWhole)
    (a7 : Memref sig .tc .vmem S256x1024 .bf16) (h7 : a7.IsWhole)
    (a8 : Memref sig .tc .vmem S1024x1024 .bf16) (h8 : a8.IsWhole)
    (a9 : Memref sig .tc .vmem S128x1024 .f32) (h9 : a9.IsWhole)
    (a10 : Memref sig .tc .vmem S128x2816 .bf16) (h10 : a10.IsWhole)
    (x5 : Vec Ideal S128x256 .f32) (x6 : Vec Ideal S256x1024 .bf16) (x7 : Vec Ideal S1024x1024 .bf16) (r : Fin 128) (k : Fin 1024) :
    out0_A_8 c i a1 h1 a2 h2 a3 h3 a4 h4 a5 h5 a6 h6 a7 h7 a8 h8 a9 h9 a10 h10 x0 x1 x2 x3 x4 x5 x6 x7 (ix2 r k)
      = Rows.embed (Rows.feed (fun j => x0 (ix2 r j)) (fun j => x1 (ix2 4 j)) (fun j => x1 (ix2 5 j)) (fun i j => x2 (ix2 i j)) (fun i j => x3 (ix2 i j)) (fun i j => x4 (ix2 i j))) (fun j => x1 (ix2 6 j)) (fun j => x1 (ix2 7 j)) (fun j => x5 (ix2 r j)) (fun i j => x6 (ix2 i j)) (fun i j => x7 (ix2 i j)) k := by
  frame_out
  rw [readback _ (hiddenV x0 x1 x2 x3) _ ?h ?c]
  · exact embedded x1 _ _ _ _ _ r k _ _ (fun j => fed _ _ _ _ _ r j) fun j => fed_normed _ _ _ _ _ r j
  · simp only [List.forall_mem_cons, List.not_mem_nil, false_imp_iff, implies_true, and_true]
    exact ⟨piece2560 _ _ _ _, piece2304 _ _ _ _, piece2048 _ _ _ _, piece1792 _ _ _ _, piece1536 _ _ _ _, piece1280 _ _ _ _, piece1024 _ _ _ _, piece768 _ _ _ _, piece512 _ _ _ _, piece256 _ _ _ _, piece0 _ _ _ _⟩
  · exact fun y => View.cover_of_tiledL _ ![128, 256] (by sl_kernel_rfl) y

end Cert.Ffn2SampleIdeal.Feed

end
-- ==== Proof.Sample2Ref.lean ====
/-
  The second feed-forward block for the sample, followed by the per-layer embedding, as the plain reference computes them, read at an
  index.
-/
module

public import proofs.«01_k».proof.Proof.Rows
public import proofs.«01_k».proof.Proof.Gen.Ffn2SampleRefIdeal.Read
public import Idealize.ShloMosaic.Lib.Pointwise

@[expose] public section
set_option maxRecDepth 16384
noncomputable section

open Idealize.ShloMosaic Idealize.ShloMosaic.TcCoe

namespace Cert.Ffn2SampleRefIdeal.Feed

open Cert.Ffn2SampleRefIdeal Cert.Ffn2SampleRefIdeal.Read

variable (x0 : Vec Ideal S128x1x1024 .f32) (x1 : Vec Ideal S1x128x1x256 .f32) (x2 : Vec Ideal S1x8x1024 .f32)
  (x3 x4 : Vec Ideal S1x1024x2816 .f32) (x5 : Vec Ideal S1x2816x1024 .f32) (x6 : Vec Ideal S1x256x1024 .f32)
  (x7 : Vec Ideal S1x1024x1024 .f32)

/-- The normed row. -/
theorem normed (b : Fin 128) (k : Fin 1024) :
    val_main_v15 (F := Ideal) x0 x2 (ix3 b 0 k) = Rows.norm (fun j => x0 (ix3 b 0 j)) (fun j => x2 (ix3 0 4 j)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Rows.norm]

/-- The hidden row. -/
theorem hid (b : Fin 128) (j : Fin 2816) :
    val_main_v22 (F := Ideal) x0 x2 x3 x4 (ix3 b 0 j) = Rows.hidden (fun j => x0 (ix3 b 0 j)) (fun j => x2 (ix3 0 4 j)) (fun i j => x3 (ix3 0 i j)) (fun i j => x4 (ix3 0 i j)) j := by
  pointwise [val_main_v22, val_main_v21, val_main_v20, val_main_call0_v5, val_main_call0_v4, val_main_call0_cst_0, val_main_call0_v3,
    val_main_call0_v2, val_main_call0_cst, val_main_call0_v1, val_main_call0_v0, val_main_v19, val_main_v17, val_main_v16, normed,
    Rows.hidden, Rows.swish, Rows.lin]
  rw [zero_sub]

/-- The block's output before its norm. -/
theorem down (b : Fin 128) (k : Fin 1024) :
    val_main_v23 (F := Ideal) x0 x2 x3 x4 x5 (ix3 b 0 k) = Rows.lin (Rows.hidden (fun j => x0 (ix3 b 0 j)) (fun j => x2 (ix3 0 4 j)) (fun i j => x3 (ix3 0 i j)) (fun i j => x4 (ix3 0 i j))) (fun i j => x5 (ix3 0 i j)) k := by
  pointwise [val_main_v23, val_main_v18, hid, Rows.lin]

/-- The row after the block. -/
theorem mid (b : Fin 128) (k : Fin 1024) :
    val_main_v41 (F := Ideal) x0 x2 x3 x4 x5 (ix3 b 0 k) = Rows.feed (fun j => x0 (ix3 b 0 j)) (fun j => x2 (ix3 0 4 j)) (fun j => x2 (ix3 0 5 j)) (fun i j => x3 (ix3 0 i j)) (fun i j => x4 (ix3 0 i j)) (fun i j => x5 (ix3 0 i j)) k := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v0, val_main_cst_2, val_main_cst_3, val_main_cst_4, val_main_cst_5, down, Rows.feed, Rows.norm]

/-- The norm of the row after the block. -/
theorem normed' (b : Fin 128) (k : Fin 1024) :
    val_main_v56 (F := Ideal) x0 x2 x3 x4 x5 (ix3 b 0 k) = Rows.norm (Rows.feed (fun j => x0 (ix3 b 0 j)) (fun j => x2 (ix3 0 4 j)) (fun j => x2 (ix3 0 5 j)) (fun i j => x3 (ix3 0 i j)) (fun i j => x4 (ix3 0 i j)) (fun i j => x5 (ix3 0 i j))) (fun j => x2 (ix3 0 6 j)) k := by
  pointwise [val_main_v56, val_main_v55, val_main_v54, val_main_v53, val_main_v52, val_main_v51, val_main_v50, val_main_v49, val_main_v48, val_main_v47, val_main_v46, val_main_v45, val_main_v44, val_main_v43, val_main_v42, val_main_v0, val_main_cst_6, val_main_cst_7, val_main_cst_8, mid, Rows.norm]

/-- The gated embedding before its norm. -/
theorem gated (b : Fin 128) (k : Fin 1024) :
    val_main_v68 (F := Ideal) x0 x1 x2 x3 x4 x5 x6 x7 (ix3 b 0 k)
      = Rows.lin (fun j => x1 (ix4 0 b 0 j)) (fun i j => x6 (ix3 0 i j)) k * Ideal.div 1 (1 + Ideal.exp (0 -
          Rows.lin (Rows.norm (Rows.feed (fun j => x0 (ix3 b 0 j)) (fun j => x2 (ix3 0 4 j)) (fun j => x2 (ix3 0 5 j)) (fun i j => x3 (ix3 0 i j)) (fun i j => x4 (ix3 0 i j)) (fun i j => x5 (ix3 0 i j))) (fun j => x2 (ix3 0 6 j))) (fun i j => x7 (ix3 0 i j)) k)) := by
  pointwise [val_main_v68, val_main_v67, val_main_v66, val_main_v65, val_main_v64, val_main_v63, val_main_v62, val_main_v61, val_main_v60, val_main_v59, val_main_v58, val_main_v57, val_main_cst_9, val_main_cst_10, normed', Rows.lin]
  rw [zero_sub]

/-- The result at `(r, k)`: row `r` is the token of sequence `r`. -/
theorem result (r : Fin 128) (k : Fin 1024) :
    val_main_v85 (F := Ideal) x0 x1 x2 x3 x4 x5 x6 x7 (ix2 r k)
      = Rows.embed (Rows.feed (fun j => x0 (ix3 r 0 j)) (fun j => x2 (ix3 0 4 j)) (fun j => x2 (ix3 0 5 j)) (fun i j => x3 (ix3 0 i j)) (fun i j => x4 (ix3 0 i j)) (fun i j => x5 (ix3 0 i j)))
          (fun j => x2 (ix3 0 6 j)) (fun j => x2 (ix3 0 7 j)) (fun j => x1 (ix4 0 r 0 j))
          (fun i j => x6 (ix3 0 i j)) (fun i j => x7 (ix3 0 i j)) k := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v0, val_main_cst_11, val_main_cst_12, val_main_cst_13, gated, mid, Rows.embed, Rows.norm]

end Cert.Ffn2SampleRefIdeal.Feed

end
-- ==== Proof.Sample2Value.lean ====
/-
  The array the second feed-forward call ends, for the sample, with: every row is the row function of the argument's row. And the claim
  against the plain reference.
-/
module

public import proofs.«01_k».proof.Proof.Sample2Block
public import proofs.«01_k».proof.Proof.Sample2Ref
public import proofs.«01_k».proof.Proof.Gen.Ffn2SampleRefIdeal.Run
public import Idealize.ShloMosaic.Lib.Pipeline.ValueKit

@[expose] public section
set_option maxRecDepth 16384
noncomputable section

open Idealize.ShloMosaic Idealize.ShloMosaic.TcCoe Idealize.SL.Sem

namespace Cert.Ffn2SampleIdeal.Feed

open Cert.Ffn2SampleIdeal Cert.Ffn2SampleIdeal.Gen

variable (m : (ℓ : Loc nD τ sig) → Buf (Elt Ideal) ℓ) (ρ : Dev nD → PrngReg)

/-- The result as a function of the arguments. -/
def G (x0 : Vec Ideal S128x1x1024 .f32) (x1 : Vec Ideal S1x128x1x256 .f32) (x2 : Vec Ideal S1x8x1024 .f32) (x3 : Vec Ideal S1x1024x2816 .f32) (x4 : Vec Ideal S1x1024x2816 .f32) (x5 : Vec Ideal S1x2816x1024 .f32) (x6 : Vec Ideal S1x256x1024 .f32) (x7 : Vec Ideal S1x1024x1024 .f32) :
    Vec Ideal S128x1024 .f32 := fun y =>
  Rows.embed (Rows.feed (fun j => x0 (ix3 (y 0) 0 j)) (fun j => x2 (ix3 0 4 j)) (fun j => x2 (ix3 0 5 j)) (fun i j => x3 (ix3 0 i j)) (fun i j => x4 (ix3 0 i j))
    (fun i j => x5 (ix3 0 i j))) (fun j => x2 (ix3 0 6 j)) (fun j => x2 (ix3 0 7 j)) (fun j => x1 (ix4 0 (y 0) 0 j))
    (fun i j => x6 (ix3 0 i j)) (fun i j => x7 (ix3 0 i j)) (y 1)

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)

/-- Input block 0 at an index. -/
theorem b0 (c : Dev nD) (t : Fin cfg0.N) (r : Fin 128) (j : Fin 1024) :
    iblk m c 0 t (ix2 r j) = (m ((c : Thread nD τ).loc main_arg0) : Vec Ideal S128x1x1024 .f32) (ix3 r 0 j) := by
  blk_simp [iblk]
  entry_read
  pointwise
  blk_ext [i0 t]

/-- Input block 1 at an index. -/
theorem b1 (c : Dev nD) (t : Fin cfg0.N) (r : Fin 8) (j : Fin 1024) :
    iblk m c 1 t (ix2 r j) = (m ((c : Thread nD τ).loc main_arg2) : Vec Ideal S1x8x1024 .f32) (ix3 0 r j) := by
  blk_simp [iblk]
  entry_read
  pointwise
  blk_ext [i1 t]

/-- Input block 2 at an index. -/
theorem b2 (c : Dev nD) (t : Fin cfg0.N) (r : Fin 1024) (j : Fin 2816) :
    iblk m c 2 t (ix2 r j) = (m ((c : Thread nD τ).loc main_arg3) : Vec Ideal S1x1024x2816 .f32) (ix3 0 r j) := by
  blk_simp [iblk]
  entry_read
  pointwise
  blk_ext [i2 t]

/-- Input block 3 at an index. -/
theorem b3 (c : Dev nD) (t : Fin cfg0.N) (r : Fin 1024) (j : Fin 2816) :
    iblk m c 3 t (ix2 r j) = (m ((c : Thread nD τ).loc main_arg4) : Vec Ideal S1x1024x2816 .f32) (ix3 0 r j) := by
  blk_simp [iblk]
  entry_read
  pointwise
  blk_ext [i3 t]

/-- Input block 4 at an index. -/
theorem b4 (c : Dev nD) (t : Fin cfg0.N) (r : Fin 2816) (j : Fin 1024) :
    iblk m c 4 t (ix2 r j) = (m ((c : Thread nD τ).loc main_arg5) : Vec Ideal S1x2816x1024 .f32) (ix3 0 r j) := by
  blk_simp [iblk]
  entry_read
  pointwise
  blk_ext [i4 t]

/-- Input block 5 at an index. -/
theorem b5 (c : Dev nD) (t : Fin cfg0.N) (r : Fin 128) (j : Fin 256) :
    iblk m c 5 t (ix2 r j) = (m ((c : Thread nD τ).loc main_arg1) : Vec Ideal S1x128x1x256 .f32) (ix4 0 r 0 j) := by
  blk_simp [iblk]
  entry_read
  pointwise
  blk_ext [i5 t]

/-- Input block 6 at an index. -/
theorem b6 (c : Dev nD) (t : Fin cfg0.N) (r : Fin 256) (j : Fin 1024) :
    iblk m c 6 t (ix2 r j) = (m ((c : Thread nD τ).loc main_arg6) : Vec Ideal S1x256x1024 .f32) (ix3 0 r j) := by
  blk_simp [iblk]
  entry_read
  pointwise
  blk_ext [i6 t]

/-- Input block 7 at an index. -/
theorem b7 (c : Dev nD) (t : Fin cfg0.N) (r : Fin 1024) (j : Fin 1024) :
    iblk m c 7 t (ix2 r j) = (m ((c : Thread nD τ).loc main_arg7) : Vec Ideal S1x1024x1024 .f32) (ix3 0 r j) := by
  blk_simp [iblk]
  entry_read
  pointwise
  blk_ext [i7 t]

/-- The result array at the end. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨r, k, rfl⟩ : ∃ (r : Fin 128) (k : Fin 1024), y = ix2 r k := ⟨y 0, y 1, eq_ix2 y⟩
  blk_simp
  rw [after0_8]
  refine (out_apply ..).trans ?_
  have e : (win0_8.blk t).view.emb (ix2 r k)
      = ix2 r k := by
    blk_ext [i8 t]
  rw [e]
  simp only [b0, b1, b2, b3, b4, b5, b6, b7]
  rfl

end Cert.Ffn2SampleIdeal.Feed

end
-- ==== Proof.SampleClaims.lean ====
/-
  The claims about the two feed-forward calls made for the sample.
-/
module

public import proofs.«01_k».proof.Defs
public import proofs.«01_k».proof.Proof.Sample1Value
public import proofs.«01_k».proof.Proof.Sample2Value
public import proofs.«01_k».proof.Proof.Gen.Ffn1Sample.Frame
public import proofs.«01_k».proof.Proof.Gen.Ffn2Sample.Frame
public import Idealize.ShloMosaic.Lib.Quiescent

@[expose] public section
noncomputable section

open Idealize.ShloMosaic Idealize.ShloMosaic.TcCoe Idealize.SL.Sem

namespace Cert.Proof.SampleClaims

theorem frame_1 : Cert.quiescent_Ffn1Sample := fun m ρ _ => Cert.Ffn1Sample.Gen.frame m ρ
theorem frame_1i : Cert.quiescent_Ffn1SampleIdeal := fun m ρ _ => Cert.Ffn1SampleIdeal.Gen.frame m ρ
theorem frame_1r : Cert.quiescent_Ffn1SampleRefIdeal := fun m ρ _ =>
  (θ_run Cert.Ffn1SampleRefIdeal.defs _ _).mono (fun r h => ⟨fun c => (h c).2,
      Idealize.ShloMosaic.sem_eq_zero_of_no_sems (by decide) r.2⟩)
    (Cert.Ffn1SampleRefIdeal.Value.run (F := Ideal) m ρ)
theorem preserves_1 : Cert.preserves_Ffn1Sample_Ffn1SampleIdeal := trivial

/-- The reference's result is the same function of the arguments. -/
theorem ref_eq_1 (x0 x1 x2 x3 x4) : Cert.Ffn1SampleRefIdeal.Read.val_main_v42 (F := Ideal) x0 x1 x2 x3 x4 = Cert.Ffn1SampleIdeal.Feed.G x0 x1 x2 x3 x4 := by
  funext y
  rw [eq_ix2 y]
  exact Cert.Ffn1SampleRefIdeal.Feed.result x0 x1 x2 x3 x4 (y 0) (y 1)

theorem algebraic_1 : Cert.algebraic_Ffn1SampleIdeal_Ffn1SampleRefIdeal := by
  intro m ρ m' ρ' _ hag
  refine ⟨fun c => (Cert.Ffn1SampleIdeal.Gen.dats m 0 c).arrAt 5 Cert.Ffn1SampleIdeal.cfg0.N, Cert.Ffn1SampleIdeal.Value.run_blocks m ρ, ?_⟩
  refine (θ_run Cert.Ffn1SampleRefIdeal.defs _ _).mono (fun _ h c => ⟨(h c).1.trans ?_, (h c).2⟩)
    (Cert.Ffn1SampleRefIdeal.Value.run (F := Ideal) m' ρ')
  rw [Cert.Ffn1SampleRefIdeal.Read.val_main_v42_eq, ref_eq_1]
  refine Eq.trans ?_ (Cert.Ffn1SampleIdeal.Feed.final m c).symm
  show Cert.Ffn1SampleIdeal.Feed.G (m' ((c.tc : Thread Cert.Ffn1SampleRefIdeal.nD Cert.Ffn1SampleRefIdeal.τ).loc Cert.Ffn1SampleRefIdeal.main_arg0)) (m' ((c.tc : Thread Cert.Ffn1SampleRefIdeal.nD Cert.Ffn1SampleRefIdeal.τ).loc Cert.Ffn1SampleRefIdeal.main_arg1)) (m' ((c.tc : Thread Cert.Ffn1SampleRefIdeal.nD Cert.Ffn1SampleRefIdeal.τ).loc Cert.Ffn1SampleRefIdeal.main_arg2)) (m' ((c.tc : Thread Cert.Ffn1SampleRefIdeal.nD Cert.Ffn1SampleRefIdeal.τ).loc Cert.Ffn1SampleRefIdeal.main_arg3)) (m' ((c.tc : Thread Cert.Ffn1SampleRefIdeal.nD Cert.Ffn1SampleRefIdeal.τ).loc Cert.Ffn1SampleRefIdeal.main_arg4)) = _
  rw [(hag c).1, (hag c).2.1, (hag c).2.2.1, (hag c).2.2.2.1, (hag c).2.2.2.2]

theorem frame_2 : Cert.quiescent_Ffn2Sample := fun m ρ _ => Cert.Ffn2Sample.Gen.frame m ρ
theorem frame_2i : Cert.quiescent_Ffn2SampleIdeal := fun m ρ _ => Cert.Ffn2SampleIdeal.Gen.frame m ρ
theorem frame_2r : Cert.quiescent_Ffn2SampleRefIdeal := fun m ρ _ =>
  (θ_run Cert.Ffn2SampleRefIdeal.defs _ _).mono (fun r h => ⟨fun c => (h c).2,
      Idealize.ShloMosaic.sem_eq_zero_of_no_sems (by decide) r.2⟩)
    (Cert.Ffn2SampleRefIdeal.Value.run (F := Ideal) m ρ)
theorem preserves_2 : Cert.preserves_Ffn2Sample_Ffn2SampleIdeal := trivial

/-- The reference's result is the same function of the arguments. -/
theorem ref_eq_2 (x0 x1 x2 x3 x4 x5 x6 x7) : Cert.Ffn2SampleRefIdeal.Read.val_main_v85 (F := Ideal) x0 x1 x2 x3 x4 x5 x6 x7 = Cert.Ffn2SampleIdeal.Feed.G x0 x1 x2 x3 x4 x5 x6 x7 := by
  funext y
  rw [eq_ix2 y]
  exact Cert.Ffn2SampleRefIdeal.Feed.result x0 x1 x2 x3 x4 x5 x6 x7 (y 0) (y 1)

theorem algebraic_2 : Cert.algebraic_Ffn2SampleIdeal_Ffn2SampleRefIdeal := by
  intro m ρ m' ρ' _ hag
  refine ⟨fun c => (Cert.Ffn2SampleIdeal.Gen.dats m 0 c).arrAt 8 Cert.Ffn2SampleIdeal.cfg0.N, Cert.Ffn2SampleIdeal.Value.run_blocks m ρ, ?_⟩
  refine (θ_run Cert.Ffn2SampleRefIdeal.defs _ _).mono (fun _ h c => ⟨(h c).1.trans ?_, (h c).2⟩)
    (Cert.Ffn2SampleRefIdeal.Value.run (F := Ideal) m' ρ')
  rw [Cert.Ffn2SampleRefIdeal.Read.val_main_v85_eq, ref_eq_2]
  refine Eq.trans ?_ (Cert.Ffn2SampleIdeal.Feed.final m c).symm
  show Cert.Ffn2SampleIdeal.Feed.G (m' ((c.tc : Thread Cert.Ffn2SampleRefIdeal.nD Cert.Ffn2SampleRefIdeal.τ).loc Cert.Ffn2SampleRefIdeal.main_arg0)) (m' ((c.tc : Thread Cert.Ffn2SampleRefIdeal.nD Cert.Ffn2SampleRefIdeal.τ).loc Cert.Ffn2SampleRefIdeal.main_arg1)) (m' ((c.tc : Thread Cert.Ffn2SampleRefIdeal.nD Cert.Ffn2SampleRefIdeal.τ).loc Cert.Ffn2SampleRefIdeal.main_arg2)) (m' ((c.tc : Thread Cert.Ffn2SampleRefIdeal.nD Cert.Ffn2SampleRefIdeal.τ).loc Cert.Ffn2SampleRefIdeal.main_arg3)) (m' ((c.tc : Thread Cert.Ffn2SampleRefIdeal.nD Cert.Ffn2SampleRefIdeal.τ).loc Cert.Ffn2SampleRefIdeal.main_arg4)) (m' ((c.tc : Thread Cert.Ffn2SampleRefIdeal.nD Cert.Ffn2SampleRefIdeal.τ).loc Cert.Ffn2SampleRefIdeal.main_arg5)) (m' ((c.tc : Thread Cert.Ffn2SampleRefIdeal.nD Cert.Ffn2SampleRefIdeal.τ).loc Cert.Ffn2SampleRefIdeal.main_arg6)) (m' ((c.tc : Thread Cert.Ffn2SampleRefIdeal.nD Cert.Ffn2SampleRefIdeal.τ).loc Cert.Ffn2SampleRefIdeal.main_arg7)) = _
  rw [(hag c).1, (hag c).2.1, (hag c).2.2.1, (hag c).2.2.2.1, (hag c).2.2.2.2.1, (hag c).2.2.2.2.2.1, (hag c).2.2.2.2.2.2.1, (hag c).2.2.2.2.2.2.2]

end Cert.Proof.SampleClaims

end
-- ==== Proof.MixBody.lean ====
/-
  The mixer's body at a point: its two conditions over the grid, the buffers it is passed, and what the launch hands it.
-/
module

public import proofs.«01_k».proof.Proof.Gen.MixerIdeal.Frame
public import proofs.«01_k».proof.Proof.Gen.MixerIdeal.Skeleton
public import proofs.«01_k».proof.Proof.Gen.MixerIdeal.Loops

@[expose] public section
set_option maxRecDepth 16384
noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

/-- The first tile of a sequence: the state and the carry are reset. -/
abbrev isFirst (i : grid0.Coords) : Prop := (Scalar.cmpi .ne (Scalar.extui (Scalar.cmpi .eq (BitVec.ofNat 32 (i 1).val) 0#32)) 0#32) = 1#1

/-- The last tile of a sequence: the state and the carry are written out. -/
abbrev isLast (i : grid0.Coords) : Prop := k0_cond2 i = 1#1

theorem isFirst_iff : ∀ t : Fin cfg0.N, isFirst (grid0.coords t) ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)

theorem isLast_iff : ∀ t : Fin cfg0.N, isLast (grid0.coords t) ↔ t.val % 4 = 3 :=
  (fun t => by
    have ht : t.val < 32 := Nat.lt_of_lt_of_eq t.isLt N_0
    have e1 : (grid0.coords t 1).val = t.val / 1 % 4 := Pipeline.Grid.coords_val t 1 (by decide) rfl
    simp only [isLast, k0_cond2, e1]
    word_cmp
   : ∀ t : Fin grid0.N, isLast (grid0.coords t) ↔ t.val % 4 = 3)

theorem live (w : Fin 15) (hw : w.val < 13) : ∀ t : Fin cfg0.N, cfg0.idle w (grid0.coords t) = false := by
  intro t
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl

/-- Window 0's buffer at point `t`. -/
abbrev stg0 (t : Fin cfg0.N) : Memref sig .tc .vmem S512x1024 .f32 := win0_0.stage (cfg0.slots t 0)
/-- Window 1's buffer at point `t`. -/
abbrev stg1 (t : Fin cfg0.N) : Memref sig .tc .vmem S8x1024 .f32 := win0_1.stage (cfg0.slots t 1)
/-- Window 2's buffer at point `t`. -/
abbrev stg2 (t : Fin cfg0.N) : Memref sig .tc .vmem S1024x1536 .bf16 := win0_2.stage (cfg0.slots t 2)
/-- Window 3's buffer at point `t`. -/
abbrev stg3 (t : Fin cfg0.N) : Memref sig .tc .vmem S1024x128 .bf16 := win0_3.stage (cfg0.slots t 3)
/-- Window 4's buffer at point `t`. -/
abbrev stg4 (t : Fin cfg0.N) : Memref sig .tc .vmem S128x256 .bf16 := win0_4.stage (cfg0.slots t 4)
/-- Window 5's buffer at point `t`. -/
abbrev stg5 (t : Fin cfg0.N) : Memref sig .tc .vmem S1x256 .f32 := win0_5.stage (cfg0.slots t 5)
/-- Window 6's buffer at point `t`. -/
abbrev stg6 (t : Fin cfg0.N) : Memref sig .tc .vmem S1024x1536 .bf16 := win0_6.stage (cfg0.slots t 6)
/-- Window 7's buffer at point `t`. -/
abbrev stg7 (t : Fin cfg0.N) : Memref sig .tc .vmem S1x128 .f32 := win0_7.stage (cfg0.slots t 7)
/-- Window 8's buffer at point `t`. -/
abbrev stg8 (t : Fin cfg0.N) : Memref sig .tc .vmem S3x512 .f32 := win0_8.stage (cfg0.slots t 8)
/-- Window 9's buffer at point `t`. -/
abbrev stg9 (t : Fin cfg0.N) : Memref sig .tc .vmem S1024x1024 .bf16 := win0_9.stage (cfg0.slots t 9)
/-- Window 10's buffer at point `t`. -/
abbrev stg10 (t : Fin cfg0.N) : Memref sig .tc .vmem S512x192 .bf16 := win0_10.stage (cfg0.slots t 10)
/-- Window 11's buffer at point `t`. -/
abbrev stg11 (t : Fin cfg0.N) : Memref sig .tc .vmem S64x256 .i32 := win0_11.stage (cfg0.slots t 11)
/-- Window 12's buffer at point `t`. -/
abbrev stg12 (t : Fin cfg0.N) : Memref sig .tc .vmem S512x1024 .f32 := win0_12.stage (cfg0.slots t 12)
/-- Window 13's buffer at point `t`. -/
abbrev stg13 (t : Fin cfg0.N) : Memref sig .tc .vmem S1x256x128 .f32 := win0_13.stage (cfg0.slots t 13)
/-- Window 14's buffer at point `t`. -/
abbrev stg14 (t : Fin cfg0.N) : Memref sig .tc .vmem S1x2x512 .f32 := win0_14.stage (cfg0.slots t 14)
/-- Scratch buffer 0. -/
abbrev scr0 : Memref sig .tc .vmem S256x128 .f32 := Memref.whole cc0_scratch0
/-- Scratch buffer 1. -/
abbrev scr1 : Memref sig .tc .vmem S8x512 .f32 := Memref.whole cc0_scratch1
/-- Scratch buffer 2. -/
abbrev scr2 : Memref sig .tc .vmem S512x256 .f32 := Memref.whole cc0_scratch2
/-- Scratch buffer 3. -/
abbrev scr3 : Memref sig .tc .vmem S512x256 .f32 := Memref.whole cc0_scratch3
/-- Scratch buffer 4. -/
abbrev scr4 : Memref sig .tc .vmem S512x256 .f32 := Memref.whole cc0_scratch4
/-- Scratch buffer 5. -/
abbrev scr5 : Memref sig .tc .vmem S512x512 .f32 := Memref.whole cc0_scratch5
/-- Scratch buffer 6. -/
abbrev scr6 : Memref sig .tc .vmem S512x512 .f32 := Memref.whole cc0_scratch6

/-- What the launch hands the body beside the windows: the seven scratch buffers and the generator's register. -/
theorem launchInv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  unfold Pipeline.ΦA; rw [scopedRest0_eq]; simp only [scr0, scr1, scr2, scr3, scr4, scr5, scr6, owns_whole]; try rfl

end Cert.MixerIdeal.Body

end
-- ==== Proof.MixRunA.lean ====
/-
  The mixer's body run on the first tile of a sequence.
-/
module

public import proofs.«01_k».proof.Proof.MixBody

@[expose] public section
set_option maxRecDepth 16384
noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

set_option maxHeartbeats 4000000 in
/-- The body on the first tile of a sequence: what its stores leave in the outputs and in the two carried buffers, as pieces, with the triple they are found by. -/
noncomputable def runA (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs6 : Vec F S512x512 .f32) :
    Σ' (L12 : List (View.Piece (Elt F) S512x1024 .f32)) (LS : List (View.Piece (Elt F) S256x128 .f32)) (LC : List (View.Piece (Elt F) S8x512 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS) ∗ (∃ f, arg18.view.loc (c : Thread nD τ) ↦[arg18.view.set]{fullShare} arg18.view.writes (Elt F) f LC) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  refine ⟨?_, ?_, ?_, fun E K => ?run⟩
  case run =>
    simp only [cc0_mixer_prompt_eq_skeleton]; unfold cc0_mixer_prompt_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg23.eq_unread hf21
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [H13]
    · iexists _, _; isplitr; swap; · iexact H13
      ipureintro; rfl
    isplitl [H14]
    · iexists _, _; isplitr; swap; · iexact H14
      ipureintro; rfl
    isplitl [H15]
    · iexists _; iexact H15
    isplitl [H16]
    · iexists _; iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.MixerIdeal.Body

end
-- ==== Proof.MixRunB.lean ====
/-
  The mixer's body run on a tile that is neither first nor last.
-/
module

public import proofs.«01_k».proof.Proof.MixBody

@[expose] public section
set_option maxRecDepth 16384
noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

set_option maxHeartbeats 4000000 in
/-- The body on a tile that is neither first nor last: what its stores leave in the outputs and in the two carried buffers, as pieces, with the triple they are found by. -/
noncomputable def runB (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32) :
    Σ' (L12 : List (View.Piece (Elt F) S512x1024 .f32)) (LS : List (View.Piece (Elt F) S256x128 .f32)) (LC : List (View.Piece (Elt F) S8x512 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS) ∗ (∃ f, arg18.view.loc (c : Thread nD τ) ↦[arg18.view.set]{fullShare} arg18.view.writes (Elt F) f LC) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  refine ⟨?_, ?_, ?_, fun E K => ?run⟩
  case run =>
    simp only [cc0_mixer_prompt_eq_skeleton]; unfold cc0_mixer_prompt_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg18.eq_unread hf16; obtain rfl := harg23.eq_unread hf21
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [H13]
    · iexists _, _; isplitr; swap; · iexact H13
      ipureintro; rfl
    isplitl [H14]
    · iexists _, _; isplitr; swap; · iexact H14
      ipureintro; rfl
    isplitl [H15]
    · iexists _; iexact H15
    isplitl [H16]
    · iexists _; iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.MixerIdeal.Body

end
-- ==== Proof.MixRunC.lean ====
/-
  The mixer's body run on the last tile of a sequence.
-/
module

public import proofs.«01_k».proof.Proof.MixBody

@[expose] public section
set_option maxRecDepth 16384
noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

set_option maxHeartbeats 4000000 in
/-- The body on the last tile of a sequence: what its stores leave in the outputs and in the two carried buffers, as pieces, with the triple they are found by. -/
noncomputable def runC (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32) :
    Σ' (L12 : List (View.Piece (Elt F) S512x1024 .f32)) (L13 : List (View.Piece (Elt F) S1x256x128 .f32)) (L14 : List (View.Piece (Elt F) S1x2x512 .f32)) (LS : List (View.Piece (Elt F) S256x128 .f32)) (LC : List (View.Piece (Elt F) S8x512 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS) ∗ (∃ f, arg18.view.loc (c : Thread nD τ) ↦[arg18.view.set]{fullShare} arg18.view.writes (Elt F) f LC) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  refine ⟨?_, ?_, ?_, ?_, ?_, fun E K => ?run⟩
  case run =>
    simp only [cc0_mixer_prompt_eq_skeleton]; unfold cc0_mixer_prompt_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg18.eq_unread hf16; obtain rfl := harg23.eq_unread hf21
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.MixerIdeal.Body

end
-- ==== Proof.MixTrip.lean ====
/-
  One trip of the mixer's loop: what it leaves in the state, and the eight trips of a tile one after the other.
-/
module

public import proofs.«01_k».proof.Proof.Gen.MixerIdeal.Skeleton
public import proofs.«01_k».proof.Proof.Gen.MixerIdeal.Loops
public import Idealize.ShloMosaic.Lib.WholeRead

@[expose] public section
set_option maxRecDepth 16384
noncomputable section

namespace Cert.MixerIdeal.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerIdeal.Gen

variable {F : FTy → Type} [FloatOps F]

local notation "𝕄" => MT nD τ sig Unit (Elt F) ℕ (UR sig nD τ) ℕ

/-- What a chunk of 64 rows leaves in the state `S`: its keys, its log decays, its values and the table of masks. -/
def chunkS (Kk La : Vec F S64x256 .f32) (V : Vec F S64x512 .f32) (Mm : Vec F S512x192 .bf16) (S : Vec F S256x128 .f32) :
    Vec F S256x128 .f32 :=
  k0_pay61 (k0_pay4 La) S (k0_pay30 Kk (k0_pay3 V) (k0_pay5 La Mm)) k0_pay31 (k0_pay32 k0_pay60)
    (k0_pay33 Kk (k0_pay3 V) (k0_pay5 La Mm))

theorem chunkS_congr {Kk Kk' La La' : Vec F S64x256 .f32} {V V' : Vec F S64x512 .f32} {Mm Mm' : Vec F S512x192 .bf16}
    {S S' : Vec F S256x128 .f32} (h1 : Kk = Kk') (h2 : La = La') (h3 : V = V') (h4 : Mm = Mm') (h5 : S = S') :
    chunkS Kk La V Mm S = chunkS Kk' La' V' Mm' S' := by subst h1 h2 h3 h4 h5; rfl

/-- The rows of chunk `k` of a tile of 256 columns. -/
def rows1 (X : Vec F S512x256 .f32) (k : Fin k0_t1_loop.trips) : Vec F S64x256 .f32 :=
  fun x => X ((Rect.unit (s := S512x256) (k0_off1 k) S64x256.size (k0_off1_inb k)).toLoadRect.idx x)

/-- The rows of chunk `k` of a tile of 512 columns. -/
def rows2 (X : Vec F S512x512 .f32) (k : Fin k0_t1_loop.trips) : Vec F S64x512 .f32 :=
  fun x => X ((Rect.unit (s := S512x512) (k0_off2 k) S64x512.size (k0_off2_inb k)).toLoadRect.idx x)

/-- The state after the first `n` chunks of a tile. -/
def loopS (K LA : Vec F S512x256 .f32) (V : Vec F S512x512 .f32) (Mm : Vec F S512x192 .bf16) (S : Vec F S256x128 .f32) :
    ℕ → Vec F S256x128 .f32
  | 0 => S
  | n + 1 => if h : n < k0_t1_loop.trips then
      chunkS (rows1 K ⟨n, h⟩) (rows1 LA ⟨n, h⟩) (rows2 V ⟨n, h⟩) Mm (loopS K LA V Mm S n) else loopS K LA V Mm S n

set_option maxHeartbeats 4000000 in
/-- One trip's piece in the state is the whole state. -/
theorem trip_S (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (v54 : FVec F S512x512 .f32) (v55 : FVec F S512x512 .f32) (v68 : Vec F S64x256 .i32) (v93 : IVec S64x256 32) (v118 : IVec S64x512 32) (v143 : IVec S256x512 32) (v146 : IVec S256x512 32) (v165 : IVec S256x512 1) (v167 : IVec S256x512 32) (X_arg12 : BufTy.Contents (Elt F) arg12.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) (f_arg17 : BufTy.Contents (Elt F) arg17.view.ty) (f_arg23 : BufTy.Contents (Elt F) arg23.view.ty) : (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 k f_arg17 f_arg23).1
    = [⟨Rect.unit ![0, 0] ![256, 128] inb_S256x128_S256x128_0_0,
        chunkS (View.readAt (Elt F) arg20.view (Rect.unit (s := S512x256) (k0_off1 k) S64x256.size (k0_off1_inb k)).toLoadRect X_arg20) (View.readAt (Elt F) arg21.view (Rect.unit (s := S512x256) (k0_off1 k) S64x256.size (k0_off1_inb k)).toLoadRect X_arg21) (View.readAt (Elt F) arg22.view (Rect.unit (s := S512x512) (k0_off2 k) S64x512.size (k0_off2_inb k)).toLoadRect X_arg22)
          (View.readAt (Elt F) arg12.view (Rect.unit ![0, 0] S512x192.size inb_S512x192_S512x192_0_0).toLoadRect X_arg12)
          (View.readAt (Elt F) arg17.view (Rect.unit ![0, 0] S256x128.size inb_S256x128_S256x128_0_0).toLoadRect f_arg17)⟩] := by
  dsimp only [tripL_k0_t1]; unfold trip_k0_t1; dsimp only; sl_unfold_run_names; rfl

/-- The whole of a state is read back where it was stored. -/
theorem emb_S (y : S256x128.Idx) : (Rect.unit (s := S256x128) ![0, 0] ![256, 128] inb_S256x128_S256x128_0_0).emb y = y := by
  funext a; apply Fin.ext
  match a with
  | ⟨0, _⟩ => show 0 + 1 * (y 0).val = (y 0).val; omega
  | ⟨1, _⟩ => show 0 + 1 * (y 1).val = (y 1).val; omega

theorem emb_M (y : S512x192.Idx) : (Rect.unit (s := S512x192) ![0, 0] S512x192.size inb_S512x192_S512x192_0_0).emb y = y := by
  funext a; apply Fin.ext
  match a with
  | ⟨0, _⟩ => show 0 + 1 * (y 0).val = (y 0).val; omega
  | ⟨1, _⟩ => show 0 + 1 * (y 1).val = (y 1).val; omega

/-- A state stored whole is what its buffer then reads. -/
theorem read_S (v : View sig .tc .vmem S256x128 .f32) (f : BufTy.Contents (Elt F) v.ty) (w : Vec F S256x128 .f32)
    (L : List (View.Piece (Elt F) S256x128 .f32)) :
    View.read (Elt F) v (v.writes (Elt F) f ([⟨Rect.unit ![0, 0] ![256, 128] inb_S256x128_S256x128_0_0, w⟩] ++ L)) = w := by
  funext y
  have h := View.read_writes_cons_emb (Val := Elt F) v f (Rect.unit (s := S256x128) ![0, 0] ![256, 128] inb_S256x128_S256x128_0_0) w L y
  rw [emb_S] at h
  exact h

set_option maxHeartbeats 400000 in
/-- The state after the trips before `n`, read through its buffer. -/
theorem loop_S (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (v54 : FVec F S512x512 .f32) (v55 : FVec F S512x512 .f32) (v68 : Vec F S64x256 .i32) (v93 : IVec S64x256 32) (v118 : IVec S64x512 32) (v143 : IVec S256x512 32) (v146 : IVec S256x512 32) (v165 : IVec S256x512 1) (v167 : IVec S256x512 32) (X_arg12 : BufTy.Contents (Elt F) arg12.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty)  (Mm : Vec F S512x192 .bf16) (K LA : Vec F S512x256 .f32) (V : Vec F S512x512 .f32) (S : Vec F S256x128 .f32)
    (hM : View.read (Elt F) arg12.view X_arg12 = Mm) (hK : View.read (Elt F) arg20.view X_arg20 = K)
    (hLA : View.read (Elt F) arg21.view X_arg21 = LA) (hV : View.read (Elt F) arg22.view X_arg22 = V)
    (G_arg17 : BufTy.Contents (Elt F) arg17.view.ty) (G_arg23 : BufTy.Contents (Elt F) arg23.view.ty)
    (hS : View.read (Elt F) arg17.view G_arg17 = S) : ∀ n ≤ k0_t1_loop.trips,
      View.read (Elt F) arg17.view (arg17.view.writes (Elt F) G_arg17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 n).1)
        = loopS K LA V Mm S n := by
  intro n; induction n with
  | zero => intro _; rw [pb_k0_t1.eq_1]; exact hS
  | succ n ih0 =>
    intro hn
    have hlt : n < k0_t1_loop.trips := hn
    have ih := ih0 (Nat.le_of_lt hn)
    have e3 := (congrArg Prod.fst (pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 ⟨n, hlt⟩)).trans
      (congrArg (· ++ (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 n).1) (trip_S 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 ⟨n, hlt⟩ _ _))
    refine (congrArg (fun L => View.read (Elt F) arg17.view (arg17.view.writes (Elt F) G_arg17 L)) e3).trans ?_
    clear e3
    rw [show loopS K LA V Mm S (n + 1) = chunkS (rows1 K ⟨n, hlt⟩) (rows1 LA ⟨n, hlt⟩) (rows2 V ⟨n, hlt⟩) Mm (loopS K LA V Mm S n) from dif_pos hlt]
    refine (read_S arg17.view G_arg17 _ _).trans ?_
    refine chunkS_congr ?_ ?_ ?_ ?_ ?_
    · exact funext fun x => congrFun hK _
    · exact funext fun x => congrFun hLA _
    · exact funext fun x => congrFun hV _
    · refine Eq.trans ?_ hM
      funext x; exact congrArg (View.read (Elt F) arg12.view X_arg12) (emb_M x)
    · refine Eq.trans ?_ ih
      funext x; exact congrArg (View.read (Elt F) arg17.view _) (emb_S x)

set_option maxHeartbeats 400000 in
/-- The last trip's piece is the whole state after it. -/
theorem loop_piece (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (v54 : FVec F S512x512 .f32) (v55 : FVec F S512x512 .f32) (v68 : Vec F S64x256 .i32) (v93 : IVec S64x256 32) (v118 : IVec S64x512 32) (v143 : IVec S256x512 32) (v146 : IVec S256x512 32) (v165 : IVec S256x512 1) (v167 : IVec S256x512 32) (X_arg12 : BufTy.Contents (Elt F) arg12.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty)  (Mm : Vec F S512x192 .bf16) (K LA : Vec F S512x256 .f32) (V : Vec F S512x512 .f32) (S : Vec F S256x128 .f32)
    (hM : View.read (Elt F) arg12.view X_arg12 = Mm) (hK : View.read (Elt F) arg20.view X_arg20 = K)
    (hLA : View.read (Elt F) arg21.view X_arg21 = LA) (hV : View.read (Elt F) arg22.view X_arg22 = V)
    (G_arg17 : BufTy.Contents (Elt F) arg17.view.ty) (G_arg23 : BufTy.Contents (Elt F) arg23.view.ty)
    (hS : View.read (Elt F) arg17.view G_arg17 = S) : ∃ rest,
      (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 k0_t1_loop.trips).1
        = [⟨Rect.unit ![0, 0] ![256, 128] inb_S256x128_S256x128_0_0, loopS K LA V Mm S k0_t1_loop.trips⟩] ++ rest := by
  obtain ⟨n, hn⟩ : ∃ n, k0_t1_loop.trips = n + 1 := ⟨7, by decide⟩
  have hlt : n < k0_t1_loop.trips := by omega
  have ih := loop_S 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 Mm K LA V S hM hK hLA hV G_arg17 G_arg23 hS n hlt.le
  refine ⟨(pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 n).1, ?_⟩
  have e3 := (congrArg Prod.fst (pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 ⟨n, hlt⟩)).trans
      (congrArg (· ++ (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 n).1) (trip_S 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 ⟨n, hlt⟩ _ _))
  rw [hn]
  refine e3.trans (congrArg (· ++ (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 n).1) ?_)
  rw [show loopS K LA V Mm S (n + 1) = chunkS (rows1 K ⟨n, hlt⟩) (rows1 LA ⟨n, hlt⟩) (rows2 V ⟨n, hlt⟩) Mm (loopS K LA V Mm S n) from dif_pos hlt]
  refine congrArg (fun w => [(⟨Rect.unit ![0, 0] ![256, 128] inb_S256x128_S256x128_0_0, w⟩ : View.Piece (Elt F) S256x128 .f32)]) ?_
  refine chunkS_congr ?_ ?_ ?_ ?_ ?_
  · exact funext fun x => congrFun hK _
  · exact funext fun x => congrFun hLA _
  · exact funext fun x => congrFun hV _
  · refine Eq.trans ?_ hM
    funext x; exact congrArg (View.read (Elt F) arg12.view X_arg12) (emb_M x)
  · refine Eq.trans ?_ ih
    funext x; exact congrArg (View.read (Elt F) arg17.view _) (emb_S x)

/-- What the state's buffer reads after the loop, whatever it held before and whatever was stored in it earlier. -/
theorem loop_read (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (v54 : FVec F S512x512 .f32) (v55 : FVec F S512x512 .f32) (v68 : Vec F S64x256 .i32) (v93 : IVec S64x256 32) (v118 : IVec S64x512 32) (v143 : IVec S256x512 32) (v146 : IVec S256x512 32) (v165 : IVec S256x512 1) (v167 : IVec S256x512 32) (X_arg12 : BufTy.Contents (Elt F) arg12.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty)  (Mm : Vec F S512x192 .bf16) (K LA : Vec F S512x256 .f32) (V : Vec F S512x512 .f32) (S : Vec F S256x128 .f32)
    (hM : View.read (Elt F) arg12.view X_arg12 = Mm) (hK : View.read (Elt F) arg20.view X_arg20 = K)
    (hLA : View.read (Elt F) arg21.view X_arg21 = LA) (hV : View.read (Elt F) arg22.view X_arg22 = V)
    (G_arg17 : BufTy.Contents (Elt F) arg17.view.ty) (G_arg23 : BufTy.Contents (Elt F) arg23.view.ty)
    (hS : View.read (Elt F) arg17.view G_arg17 = S)
    (f : BufTy.Contents (Elt F) arg17.view.ty) (tail : List (View.Piece (Elt F) S256x128 .f32)) :
    View.read (Elt F) arg17.view (arg17.view.writes (Elt F) f ((pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 k0_t1_loop.trips).1 ++ tail))
      = loopS K LA V Mm S k0_t1_loop.trips := by
  obtain ⟨rest, h⟩ := loop_piece 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 Mm K LA V S hM hK hLA hV G_arg17 G_arg23 hS
  rw [h, List.append_assoc]
  exact read_S _ _ _ _

theorem loop_read0 (𝒱 : Variants) (c : Dev nD) (bd : Option 𝒱.V) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (v54 : FVec F S512x512 .f32) (v55 : FVec F S512x512 .f32) (v68 : Vec F S64x256 .i32) (v93 : IVec S64x256 32) (v118 : IVec S64x512 32) (v143 : IVec S256x512 32) (v146 : IVec S256x512 32) (v165 : IVec S256x512 1) (v167 : IVec S256x512 32) (X_arg12 : BufTy.Contents (Elt F) arg12.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty)  (Mm : Vec F S512x192 .bf16) (K LA : Vec F S512x256 .f32) (V : Vec F S512x512 .f32) (S : Vec F S256x128 .f32)
    (hM : View.read (Elt F) arg12.view X_arg12 = Mm) (hK : View.read (Elt F) arg20.view X_arg20 = K)
    (hLA : View.read (Elt F) arg21.view X_arg21 = LA) (hV : View.read (Elt F) arg22.view X_arg22 = V)
    (G_arg17 : BufTy.Contents (Elt F) arg17.view.ty) (G_arg23 : BufTy.Contents (Elt F) arg23.view.ty)
    (hS : View.read (Elt F) arg17.view G_arg17 = S)
    (f : BufTy.Contents (Elt F) arg17.view.ty) :
    View.read (Elt F) arg17.view (arg17.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 G_arg17 G_arg23 k0_t1_loop.trips).1)
      = loopS K LA V Mm S k0_t1_loop.trips := by
  obtain ⟨rest, h⟩ := loop_piece 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v54 v55 v68 v93 v118 v143 v146 v165 v167 X_arg12 X_arg19 X_arg20 X_arg21 X_arg22 Mm K LA V S hM hK hLA hV G_arg17 G_arg23 hS
  rw [h]
  exact read_S _ _ _ _

end Cert.MixerIdeal.Trip
end
-- ==== Proof.MixTile.lean ====
/-
  What the mixer's body leaves at a tile: the state of the recurrence and the convolution's carry.
-/
module

public import proofs.«01_k».proof.Proof.MixRunA
public import proofs.«01_k».proof.Proof.MixRunB
public import proofs.«01_k».proof.Proof.MixRunC
public import proofs.«01_k».proof.Proof.MixTrip
public import Idealize.ShloMosaic.Lib.WholeRead

@[expose] public section
set_option maxRecDepth 16384
noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

open Cert.MixerIdeal.Trip

/-- The row of gains the mixer's norm takes. -/
def gain (x1 : Vec F S8x1024 .f32) : Vec F S1x1024 .f32 :=
  fun x => x1 ((Rect.unit (s := S8x1024) ![2, 0] S1x1024.size inb_S8x1024_S1x1024_2_0).toLoadRect.idx x)

/-- A tile's keys, -/
def tK (x0 : Vec F S512x1024 .f32) (x1 : Vec F S8x1024 .f32) (x2 : Vec F S1024x1536 .bf16) : Vec F S512x256 .f32 :=
  k0_pay47 (k0_pay38 x0 (gain x1) x2)

/-- its values, -/
def tV (x0 : Vec F S512x1024 .f32) (x1 : Vec F S8x1024 .f32) (x2 : Vec F S1024x1536 .bf16) : Vec F S512x512 .f32 :=
  k0_pay49 (k0_pay38 x0 (gain x1) x2)

/-- and the logarithms of its decays. -/
def tLA (x0 : Vec F S512x1024 .f32) (x1 : Vec F S8x1024 .f32) (x3 : Vec F S1024x128 .bf16) (x4 : Vec F S128x256 .bf16)
    (x5 : Vec F S1x256 .f32) : Vec F S512x256 .f32 :=
  k0_pay48 (k0_pay39 x0 (gain x1) x3 x4 x5) (k0_pay40 x0 (gain x1) x3 x4 x5)

/-- The state a tile leaves, from the state `S` before it. -/
def tileS (x0 : Vec F S512x1024 .f32) (x1 : Vec F S8x1024 .f32) (x2 : Vec F S1024x1536 .bf16) (x3 : Vec F S1024x128 .bf16)
    (x4 : Vec F S128x256 .bf16) (x5 : Vec F S1x256 .f32) (x10 : Vec F S512x192 .bf16) (S : Vec F S256x128 .f32) : Vec F S256x128 .f32 :=
  loopS (tK x0 x1 x2) (tLA x0 x1 x3 x4 x5) (tV x0 x1 x2) x10 S k0_t1_loop.trips

/-- The carry a tile leaves: its last eight rows of the product the convolution takes. -/
def tileC (x0 : Vec F S512x1024 .f32) (x1 : Vec F S8x1024 .f32) (x6 : Vec F S1024x1536 .bf16) : Vec F S8x512 .f32 :=
  k0_pay65 (k0_pay62 (k0_pay44 (k0_pay37 x0 (gain x1)) x6) (k0_pay45 (k0_pay37 x0 (gain x1)) x6))

/-- The last two rows of a carry. -/
def tail2 (C : Vec F S8x512 .f32) : Vec F S2x512 .f32 :=
  fun x => C ((Rect.unit (s := S8x512) ![6, 0] S2x512.size inb_S8x512_S2x512_6_0).toLoadRect.idx x)

/-- A rectangle over a whole buffer places every index at itself. -/
theorem emb_full {d : Fin 2 → ℕ} (inb) (y : (⟨2, d⟩ : Shape).Idx) : (Rect.unit (s := ⟨2, d⟩) ![0, 0] d inb).emb y = y := by
  funext a; apply Fin.ext
  match a with
  | ⟨0, _⟩ => show 0 + 1 * (y 0).val = (y 0).val; omega
  | ⟨1, _⟩ => show 0 + 1 * (y 1).val = (y 1).val; omega

/-- A load of a whole buffer reads what it holds. -/
theorem readAt_full {d : Fin 2 → ℕ} {e : EltTy} {m : Memref sig .tc .vmem ⟨2, d⟩ e} (h : m.IsWhole) (X : (⟨2, d⟩ : Shape).Idx → Elt F e)
    (inb) : View.readAt (Elt F) m.view (Rect.unit (s := ⟨2, d⟩) ![0, 0] d inb).toLoadRect (h.unread X) = X := by
  funext x
  exact (h.readAt_unread X _ x).trans (congrArg X (emb_full inb x))

/-- A store over a whole buffer is what it then reads. -/
theorem read_full {d : Fin 2 → ℕ} {e : EltTy} (v : View sig .tc .vmem ⟨2, d⟩ e) (f : BufTy.Contents (Elt F) v.ty)
    (inb) (w : (⟨2, d⟩ : Shape).Idx → Elt F e) (L : List (View.Piece (Elt F) ⟨2, d⟩ e)) :
    View.read (Elt F) v (v.writes (Elt F) f (⟨Rect.unit (s := ⟨2, d⟩) ![0, 0] d inb, w⟩ :: L)) = w := by
  funext y
  have h := View.read_writes_cons_emb (Val := Elt F) v f (Rect.unit (s := ⟨2, d⟩) ![0, 0] d inb) w L y
  rw [emb_full] at h
  exact h

theorem emb_full3 {d : Fin 3 → ℕ} (inb) (y : (⟨3, d⟩ : Shape).Idx) : (Rect.unit (s := ⟨3, d⟩) ![0, 0, 0] d inb).emb y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem read_full3 {d : Fin 3 → ℕ} {e : EltTy} (v : View sig .tc .vmem ⟨3, d⟩ e) (f : BufTy.Contents (Elt F) v.ty)
    (inb) (w : (⟨3, d⟩ : Shape).Idx → Elt F e) (L : List (View.Piece (Elt F) ⟨3, d⟩ e)) :
    View.read (Elt F) v (v.writes (Elt F) f (⟨Rect.unit (s := ⟨3, d⟩) ![0, 0, 0] d inb, w⟩ :: L)) = w := by
  funext y
  have h := View.read_writes_cons_emb (Val := Elt F) v f (Rect.unit (s := ⟨3, d⟩) ![0, 0, 0] d inb) w L y
  rw [emb_full3] at h
  exact h

theorem gain_eq {m : Memref sig .tc .vmem S8x1024 .f32} (h : m.IsWhole) (x1 : Vec F S8x1024 .f32) :
    View.readAt (Elt F) m.view (Rect.unit (s := S8x1024) ![2, 0] S1x1024.size inb_S8x1024_S1x1024_2_0).toLoadRect (h.unread x1) = gain x1 :=
  funext fun x => h.readAt_unread x1 _ x

theorem runA_S (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs6 : Vec F S512x512 .f32)
    (f : BufTy.Contents (Elt F) arg17.view.ty) :
    View.read (Elt F) arg17.view (arg17.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs6).2.1) = tileS x0 x1 x2 x3 x4 x5 x10 k0_pay34 := by
  dsimp only [runA]
  sl_unfold_run_names
  exact loop_read _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x10 (tK x0 x1 x2) (tLA x0 x1 x3 x4 x5) (tV x0 x1 x2) k0_pay34 (harg12.read_unread _)
    (by
      refine (read_full _ _ _ _ _).trans ?_
      simp only [readAt_full harg2, readAt_full harg4, gain_eq harg3]; rfl)
    (by
      refine (read_full _ _ _ _ _).trans ?_
      simp only [readAt_full harg2, readAt_full harg5, readAt_full harg6, readAt_full harg7, gain_eq harg3]; rfl)
    (by
      refine (read_full _ _ _ _ _).trans ?_
      simp only [readAt_full harg2, readAt_full harg4, gain_eq harg3]; rfl)
    _ _ (read_full _ _ _ _ _) f _

theorem runA_C (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs6 : Vec F S512x512 .f32)
    (f : BufTy.Contents (Elt F) arg18.view.ty) :
    View.read (Elt F) arg18.view (arg18.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs6).2.2.1) = tileC x0 x1 x6 := by
  dsimp only [runA]
  sl_unfold_run_names
  refine (read_full _ _ _ _ _).trans ?_
  simp only [readAt_full harg2, readAt_full harg8, gain_eq harg3]; rfl

theorem runB_S (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32)
    (f : BufTy.Contents (Elt F) arg17.view.ty) :
    View.read (Elt F) arg17.view (arg17.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs6).2.1) = tileS x0 x1 x2 x3 x4 x5 x10 xs0 := by
  dsimp only [runB]
  sl_unfold_run_names
  exact loop_read0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x10 (tK x0 x1 x2) (tLA x0 x1 x3 x4 x5) (tV x0 x1 x2) xs0 (harg12.read_unread _)
    (by
      refine (read_full _ _ _ _ _).trans ?_
      simp only [readAt_full harg2, readAt_full harg4, gain_eq harg3]; rfl)
    (by
      refine (read_full _ _ _ _ _).trans ?_
      simp only [readAt_full harg2, readAt_full harg5, readAt_full harg6, readAt_full harg7, gain_eq harg3]; rfl)
    (by
      refine (read_full _ _ _ _ _).trans ?_
      simp only [readAt_full harg2, readAt_full harg4, gain_eq harg3]; rfl)
    _ _ (harg17.read_unread _) f

theorem runB_C (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32)
    (f : BufTy.Contents (Elt F) arg18.view.ty) :
    View.read (Elt F) arg18.view (arg18.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs6).2.2.1) = tileC x0 x1 x6 := by
  dsimp only [runB]
  sl_unfold_run_names
  refine (read_full _ _ _ _ _).trans ?_
  simp only [readAt_full harg2, readAt_full harg8, gain_eq harg3]; rfl

theorem runC_S (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32)
    (f : BufTy.Contents (Elt F) arg17.view.ty) :
    View.read (Elt F) arg17.view (arg17.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs6).2.2.2.1) = tileS x0 x1 x2 x3 x4 x5 x10 xs0 := by
  dsimp only [runC]
  sl_unfold_run_names
  exact loop_read0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x10 (tK x0 x1 x2) (tLA x0 x1 x3 x4 x5) (tV x0 x1 x2) xs0 (harg12.read_unread _)
    (by
      refine (read_full _ _ _ _ _).trans ?_
      simp only [readAt_full harg2, readAt_full harg4, gain_eq harg3]; rfl)
    (by
      refine (read_full _ _ _ _ _).trans ?_
      simp only [readAt_full harg2, readAt_full harg5, readAt_full harg6, readAt_full harg7, gain_eq harg3]; rfl)
    (by
      refine (read_full _ _ _ _ _).trans ?_
      simp only [readAt_full harg2, readAt_full harg4, gain_eq harg3]; rfl)
    _ _ (harg17.read_unread _) f

theorem runC_C (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32)
    (f : BufTy.Contents (Elt F) arg18.view.ty) :
    View.read (Elt F) arg18.view (arg18.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs6).2.2.2.2.1) = tileC x0 x1 x6 := by
  dsimp only [runC]
  sl_unfold_run_names
  refine (read_full _ _ _ _ _).trans ?_
  simp only [readAt_full harg2, readAt_full harg8, gain_eq harg3]; rfl

theorem runC_13 (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32)
    (f : BufTy.Contents (Elt F) arg15.view.ty) :
    View.read (Elt F) arg15.view (arg15.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs6).2.1) = k0_pay1 (F := F) (tileS x0 x1 x2 x3 x4 x5 x10 xs0) := by
  dsimp only [runC]
  sl_unfold_run_names
  refine (read_full3 _ _ _ _ _).trans (congrArg (k0_pay1 (F := F)) ?_)
  refine Eq.trans (funext fun x => congrArg (View.read (Elt F) arg17.view _) (emb_full _ x)) ?_
  exact loop_read0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x10 (tK x0 x1 x2) (tLA x0 x1 x3 x4 x5) (tV x0 x1 x2) xs0 (harg12.read_unread _)
    (by
      refine (read_full _ _ _ _ _).trans ?_
      simp only [readAt_full harg2, readAt_full harg4, gain_eq harg3]; rfl)
    (by
      refine (read_full _ _ _ _ _).trans ?_
      simp only [readAt_full harg2, readAt_full harg5, readAt_full harg6, readAt_full harg7, gain_eq harg3]; rfl)
    (by
      refine (read_full _ _ _ _ _).trans ?_
      simp only [readAt_full harg2, readAt_full harg4, gain_eq harg3]; rfl)
    _ _ (harg17.read_unread _) _

theorem runC_14 (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32) (xs0 : Vec F S256x128 .f32) (xs1 : Vec F S8x512 .f32) (xs6 : Vec F S512x512 .f32)
    (f : BufTy.Contents (Elt F) arg16.view.ty) :
    View.read (Elt F) arg16.view (arg16.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs6).2.2.1) = k0_pay2 (F := F) (tail2 (tileC x0 x1 x6)) := by
  dsimp only [runC]
  sl_unfold_run_names
  refine (read_full3 _ _ _ _ _).trans (congrArg (k0_pay2 (F := F)) ?_)
  refine funext fun x => congrFun (show View.read (Elt F) arg18.view _ = tileC x0 x1 x6 from ?_) _
  refine (read_full _ _ _ _ _).trans ?_
  simp only [readAt_full harg2, readAt_full harg8, gain_eq harg3]; rfl
end Cert.MixerIdeal.Body

end
-- ==== Proof.MixLaunch.lean ====
/-
  The mixer's body at every point of its grid, and the launch.
-/
module

public import proofs.«01_k».proof.Proof.MixTile

@[expose] public section
set_option maxRecDepth 16384
noncomputable section

namespace Cert.MixerIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

open Cert.MixerIdeal.Trip

variable (m : (l : Loc nD τ sig) → Buf (Elt F) l) (ρ : Dev nD → PrngReg)

/-- The state of the recurrence before tile `n`, -/
def stAt (c : Dev nD) : ℕ → Vec F S256x128 .f32
  | 0 => k0_pay34
  | n + 1 =>
    if h : n < cfg0.N then
      tileS (iblk m c 0 ⟨n, h⟩) (iblk m c 1 ⟨n, h⟩) (iblk m c 2 ⟨n, h⟩) (iblk m c 3 ⟨n, h⟩) (iblk m c 4 ⟨n, h⟩) (iblk m c 5 ⟨n, h⟩)
        (iblk m c 10 ⟨n, h⟩) (if n % 4 = 0 then k0_pay34 else stAt c n)
    else stAt c n

/-- and the convolution's carry. -/
def carAt (c : Dev nD) (t : Fin cfg0.N) : Vec F S8x512 .f32 := tileC (iblk m c 0 t) (iblk m c 1 t) (iblk m c 6 t)

theorem stAt_first (c : Dev nD) (t : Fin cfg0.N) (h : t.val % 4 = 0) :
    stAt m c (t.val + 1) = tileS (iblk m c 0 t) (iblk m c 1 t) (iblk m c 2 t) (iblk m c 3 t) (iblk m c 4 t) (iblk m c 5 t)
        (iblk m c 10 t) k0_pay34 :=
  (dif_pos t.isLt).trans (congrArg _ (if_pos h))

theorem stAt_next (c : Dev nD) (t : Fin cfg0.N) (h : ¬t.val % 4 = 0) :
    stAt m c (t.val + 1) = tileS (iblk m c 0 t) (iblk m c 1 t) (iblk m c 2 t) (iblk m c 3 t) (iblk m c 4 t) (iblk m c 5 t)
        (iblk m c 10 t) (stAt m c t.val) :=
  (dif_pos t.isLt).trans (congrArg _ (if_neg h))

/-- What holds of the scratch buffers before tile `n`: after a tile the state and the carry are that tile's. -/
def PhiS (c : Dev nD) : (n : ℕ) → n ≤ cfg0.N → sProp 𝕄
  | 0, _ => Pipeline.ΦA spec0 c
  | n + 1, hn => iprop(iprop(owns (c : Thread nD τ) scr0 fullShare (stAt m c (n + 1)) ∗ owns (c : Thread nD τ) scr1 fullShare (carAt m c ⟨n, hn⟩) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r))

theorem PhiS_succ (c : Dev nD) (n : ℕ) (hn : n < cfg0.N) : PhiS m c (n + 1) hn = iprop(iprop(owns (c : Thread nD τ) scr0 fullShare (stAt m c (n + 1)) ∗ owns (c : Thread nD τ) scr1 fullShare (carAt m c ⟨n, hn⟩) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := rfl

theorem PhiS_pos (c : Dev nD) (t : Fin cfg0.N) (h : t.val ≠ 0) : PhiS m c t.val (Nat.le_of_lt t.isLt)
    = iprop(iprop(owns (c : Thread nD τ) scr0 fullShare (stAt m c t.val) ∗ owns (c : Thread nD τ) scr1 fullShare (carAt m c ⟨t.val - 1, by have := t.isLt; omega⟩) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  obtain ⟨n, hn⟩ := t
  cases n with
  | zero => exact absurd rfl h
  | succ n => rfl

/-- Whatever the scratch buffers hold, they are what the launch gave. -/
theorem PhiS_out (c : Dev nD) (n : ℕ) (hn : n ≤ cfg0.N) : PhiS m c n hn ⊢ Pipeline.ΦA spec0 c := by
  cases n with
  | zero => exact Idealize.SL.BI.Entails.refl _
  | succ n =>
    rw [PhiS_succ, launchInv_eq]
    iintro ⟨⟨HS0, HS1, HS2, HS3, HS4, HS5, HS6⟩, Hg⟩
    isplitr [Hg]
    · isplitl [HS0]; · iexists _; iexact HS0
      isplitl [HS1]; · iexists _; iexact HS1
      isplitl [HS2]; · iexact HS2
      isplitl [HS3]; · iexact HS3
      iframel HS4 HS5
      iexact HS6
    iexact Hg

/-- The windows whose contents after the body are not named. -/
def forgets0 : Fin 15 → Bool := fun w => w.val == 12

/-- The arrays as the launch finds them, and what the body leaves in every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => (k0_pay1 (F := F) (stAt m c (t.val + 1)) : Vec F S1x256x128 .f32)
    | ⟨14, _⟩ => (k0_pay2 (F := F) (tail2 (carAt m c t)) : Vec F S1x2x512 .f32)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = (k0_pay1 (F := F) (stAt m c (t.val + 1)) : Vec F S1x256x128 .f32) := by dsimp only [dats]
theorem after0_14 (c : Dev nD) (t : Fin cfg0.N) : (dats m 0 c).after 14 t = (k0_pay2 (F := F) (tail2 (carAt m c t)) : Vec F S1x2x512 .f32) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem idle0_13 (t : Fin cfg0.N) (h : ¬t.val % 4 = 3) : cfg0.idle 13 (grid0.coords t) = true := by
  show (!(k0_cond2 (grid0.coords t) == 1#1)) = true
  have h' : ¬k0_cond2 (grid0.coords t) = 1#1 := fun e => h ((isLast_iff t).mp e)
  simp [h']

theorem fetch0_13 : ∀ t : Fin cfg0.N, ¬((cfg0.win 13).fetch t = true) := (by decide : ∀ t : Fin grid0.N, ¬(win0_13.fetch t = true))

/-- Result 13's buffer is found as it was given: it is written on the last tile of a sequence only, and then copied out. -/
theorem before0_13 (c : Dev nD) : ∀ (n : ℕ) (hn : n < cfg0.N) (d), (dats m 0 c).before 13 ⟨n, hn⟩ d = d := by
  intro n
  induction n with
  | zero => intro hn d; rw [Dat.before, if_neg (fetch0_13 _), if_pos rfl]
  | succ n ih =>
    intro hn d
    rw [Dat.before, if_neg (fetch0_13 _), if_neg (Nat.succ_ne_zero n)]
    by_cases h3 : n % 4 = 3
    · rw [if_pos ((flush0_13 _).mpr h3)]
    · rw [if_neg (fun e => h3 ((flush0_13 _).mp e))]
      have hn' : n < cfg0.N := by omega
      have hi : idle0 13 (grid0.coords ⟨n, hn'⟩) = true := idle0_13 ⟨n, hn'⟩ h3
      dsimp only
      simp only [Nat.add_sub_cancel]
      rw [hi]
      exact ((dats m 0 c).found_eq_before 13 _ d).trans (ih _ d)

theorem leaves0_13 (c : Dev nD) (t : Fin cfg0.N) (h : t.val % 4 = 3) :
    (dats m 0 c).leavesExact 13 t = owns (c : Thread nD τ) (stg13 t) fullShare ((dats m 0 c).after 13 t) := by
  have hl : cfg0.idle 13 (cfg0.grid.coords t) = false := by
    show (!(k0_cond2 (grid0.coords t) == 1#1)) = false
    have h' : k0_cond2 (grid0.coords t) = 1#1 := (isLast_iff t).mpr h
    simp [h']
  unfold Dat.leavesExact; rw [hl]

theorem leavesIdle0_13 (c : Dev nD) (t : Fin cfg0.N) (h : ¬t.val % 4 = 3) :
    (dats m 0 c).leavesExact 13 t = iprop(∃ d, owns (c : Thread nD τ) (stg13 t) fullShare d) := by
  rw [(dats m 0 c).leavesExact_idle 13 t (idle0_13 t h) (Bool.eq_false_iff.mpr fun e => h ((flush0_13 t).mp e))]
  simp only [before0_13 m c t.val t.isLt]
  rfl

theorem idle0_14 (t : Fin cfg0.N) (h : ¬t.val % 4 = 3) : cfg0.idle 14 (grid0.coords t) = true := by
  show (!(k0_cond2 (grid0.coords t) == 1#1)) = true
  have h' : ¬k0_cond2 (grid0.coords t) = 1#1 := fun e => h ((isLast_iff t).mp e)
  simp [h']

theorem fetch0_14 : ∀ t : Fin cfg0.N, ¬((cfg0.win 14).fetch t = true) := (by decide : ∀ t : Fin grid0.N, ¬(win0_14.fetch t = true))

/-- Result 14's buffer is found as it was given: it is written on the last tile of a sequence only, and then copied out. -/
theorem before0_14 (c : Dev nD) : ∀ (n : ℕ) (hn : n < cfg0.N) (d), (dats m 0 c).before 14 ⟨n, hn⟩ d = d := by
  intro n
  induction n with
  | zero => intro hn d; rw [Dat.before, if_neg (fetch0_14 _), if_pos rfl]
  | succ n ih =>
    intro hn d
    rw [Dat.before, if_neg (fetch0_14 _), if_neg (Nat.succ_ne_zero n)]
    by_cases h3 : n % 4 = 3
    · rw [if_pos ((flush0_14 _).mpr h3)]
    · rw [if_neg (fun e => h3 ((flush0_14 _).mp e))]
      have hn' : n < cfg0.N := by omega
      have hi : idle0 14 (grid0.coords ⟨n, hn'⟩) = true := idle0_14 ⟨n, hn'⟩ h3
      dsimp only
      simp only [Nat.add_sub_cancel]
      rw [hi]
      exact ((dats m 0 c).found_eq_before 14 _ d).trans (ih _ d)

theorem leaves0_14 (c : Dev nD) (t : Fin cfg0.N) (h : t.val % 4 = 3) :
    (dats m 0 c).leavesExact 14 t = owns (c : Thread nD τ) (stg14 t) fullShare ((dats m 0 c).after 14 t) := by
  have hl : cfg0.idle 14 (cfg0.grid.coords t) = false := by
    show (!(k0_cond2 (grid0.coords t) == 1#1)) = false
    have h' : k0_cond2 (grid0.coords t) = 1#1 := (isLast_iff t).mpr h
    simp [h']
  unfold Dat.leavesExact; rw [hl]

theorem leavesIdle0_14 (c : Dev nD) (t : Fin cfg0.N) (h : ¬t.val % 4 = 3) :
    (dats m 0 c).leavesExact 14 t = iprop(∃ d, owns (c : Thread nD τ) (stg14 t) fullShare d) := by
  rw [(dats m 0 c).leavesExact_idle 14 t (idle0_14 t h) (Bool.eq_false_iff.mpr fun e => h ((flush0_14 t).mp e))]
  simp only [before0_14 m c t.val t.isLt]
  rfl

theorem leavesIn (w : Fin 15) (hw : w.val < 13) (c : Dev nD) (t : Fin cfg0.N) :
    (dats m 0 c).leavesExact w t = owns (c : Thread nD τ) ((cfg0.win w).stage (cfg0.slots t w)) fullShare ((dats m 0 c).after w t) := by
  have hl : cfg0.idle w (cfg0.grid.coords t) = false := live w hw t
  unfold Dat.leavesExact; rw [hl]

theorem leaves0_0 (c : Dev nD) (t : Fin cfg0.N) : (dats m 0 c).leavesExact 0 t = owns (c : Thread nD τ) (stg0 t) fullShare (iblk m c 0 t) := by
  rw [leavesIn m 0 (by decide) c t, after0_0]
theorem leaves0_1 (c : Dev nD) (t : Fin cfg0.N) : (dats m 0 c).leavesExact 1 t = owns (c : Thread nD τ) (stg1 t) fullShare (iblk m c 1 t) := by
  rw [leavesIn m 1 (by decide) c t, after0_1]
theorem leaves0_2 (c : Dev nD) (t : Fin cfg0.N) : (dats m 0 c).leavesExact 2 t = owns (c : Thread nD τ) (stg2 t) fullShare (iblk m c 2 t) := by
  rw [leavesIn m 2 (by decide) c t, after0_2]
theorem leaves0_3 (c : Dev nD) (t : Fin cfg0.N) : (dats m 0 c).leavesExact 3 t = owns (c : Thread nD τ) (stg3 t) fullShare (iblk m c 3 t) := by
  rw [leavesIn m 3 (by decide) c t, after0_3]
theorem leaves0_4 (c : Dev nD) (t : Fin cfg0.N) : (dats m 0 c).leavesExact 4 t = owns (c : Thread nD τ) (stg4 t) fullShare (iblk m c 4 t) := by
  rw [leavesIn m 4 (by decide) c t, after0_4]
theorem leaves0_5 (c : Dev nD) (t : Fin cfg0.N) : (dats m 0 c).leavesExact 5 t = owns (c : Thread nD τ) (stg5 t) fullShare (iblk m c 5 t) := by
  rw [leavesIn m 5 (by decide) c t, after0_5]
theorem leaves0_6 (c : Dev nD) (t : Fin cfg0.N) : (dats m 0 c).leavesExact 6 t = owns (c : Thread nD τ) (stg6 t) fullShare (iblk m c 6 t) := by
  rw [leavesIn m 6 (by decide) c t, after0_6]
theorem leaves0_7 (c : Dev nD) (t : Fin cfg0.N) : (dats m 0 c).leavesExact 7 t = owns (c : Thread nD τ) (stg7 t) fullShare (iblk m c 7 t) := by
  rw [leavesIn m 7 (by decide) c t, after0_7]
theorem leaves0_8 (c : Dev nD) (t : Fin cfg0.N) : (dats m 0 c).leavesExact 8 t = owns (c : Thread nD τ) (stg8 t) fullShare (iblk m c 8 t) := by
  rw [leavesIn m 8 (by decide) c t, after0_8]
theorem leaves0_9 (c : Dev nD) (t : Fin cfg0.N) : (dats m 0 c).leavesExact 9 t = owns (c : Thread nD τ) (stg9 t) fullShare (iblk m c 9 t) := by
  rw [leavesIn m 9 (by decide) c t, after0_9]
theorem leaves0_10 (c : Dev nD) (t : Fin cfg0.N) : (dats m 0 c).leavesExact 10 t = owns (c : Thread nD τ) (stg10 t) fullShare (iblk m c 10 t) := by
  rw [leavesIn m 10 (by decide) c t, after0_10]
theorem leaves0_11 (c : Dev nD) (t : Fin cfg0.N) : (dats m 0 c).leavesExact 11 t = owns (c : Thread nD τ) (stg11 t) fullShare (iblk m c 11 t) := by
  rw [leavesIn m 11 (by decide) c t, after0_11]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare d)
    ∗ (∃ d, owns (c : Thread nD τ) (stg13 t) fullShare ((dats m 0 c).before 13 t d))
    ∗ (∃ d, owns (c : Thread nD τ) (stg14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (stg12 t) fullShare d)
    ∗ (dats m 0 c).leavesExact 13 t
    ∗ (dats m 0 c).leavesExact 14 t)

set_option maxHeartbeats 4000000 in
/-- The body at a sequence's first tile. -/
theorem soundA (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  simp only [before0_13 m c t.val t.isLt, before0_14 m c t.val t.isLt]
  rw [leavesIdle0_13 m c t h1, leavesIdle0_14 m c t h1]
  rw [show (dats m 0 c).owesAt () t.succ = (dats m 0 c).owesAt () t.castSucc from rfl]
  rw [show (dats m 0 c).Φ t.succ = PhiS m c (t.val + 1) t.isLt from rfl, PhiS_succ, PhiS_castSucc m c t, stAt_first m c t h0]
  unfold carAt
  by_cases hz : t.val = 0
  · rw [show PhiS m c t.val (Nat.le_of_lt t.isLt) = Pipeline.ΦA spec0 c from by obtain ⟨n, hn⟩ := t; cases hz; rfl, launchInv_eq]
    iintro ⟨⟨⟨HS0, HS1, HS2, HS3, HS4, HS5, ⟨%s6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s6).2.2.2 Set.univ _)
    iframel H0 H1 H2 H3 H4 H5 H6 H7 H8 H9 H10 H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iframel HS4 HS5 HS6
    iintro ⟨H0, H1, H2, H3, H4, H5, H6, H7, H8, H9, H10, H11, ⟨%e12, H12⟩, H13, H14, ⟨%es0, HS0⟩, ⟨%es1, HS1⟩, HS2, HS3, HS4, HS5, HS6⟩
    isplitl [HS0 HS1 HS2 HS3 HS4 HS5 HS6 Hg]
    · isplitr [Hg]
      · isplitl [HS0]
        · unfold owns; iexists _; isplitr; swap; · iexact HS0
          ipureintro; exact runA_S c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s6 _
        isplitl [HS1]
        · unfold owns; iexists _; isplitr; swap; · iexact HS1
          ipureintro; exact runA_C c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s6 _
        isplitl [HS2]; · iexact HS2
        isplitl [HS3]; · iexact HS3
        iframel HS4 HS5
        iexact HS6
      iexact Hg
    iframel Ho H0 H1 H2 H3 H4 H5 H6 H7 H8 H9 H10 H11
    isplitl [H12]
    · iexists _; unfold owns; iexists _; isplitr; swap; · iexact H12
      ipureintro; rfl
    isplitl [H13]; · iexact H13
    iexact H14
  · rw [PhiS_pos m c t hz]
    iintro ⟨⟨⟨HS0, HS1, HS2, HS3, HS4, HS5, ⟨%s6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s6).2.2.2 Set.univ _)
    iframel H0 H1 H2 H3 H4 H5 H6 H7 H8 H9 H10 H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexact HS2
    isplitl [HS3]; · iexact HS3
    iframel HS4 HS5 HS6
    iintro ⟨H0, H1, H2, H3, H4, H5, H6, H7, H8, H9, H10, H11, ⟨%e12, H12⟩, H13, H14, ⟨%es0, HS0⟩, ⟨%es1, HS1⟩, HS2, HS3, HS4, HS5, HS6⟩
    isplitl [HS0 HS1 HS2 HS3 HS4 HS5 HS6 Hg]
    · isplitr [Hg]
      · isplitl [HS0]
        · unfold owns; iexists _; isplitr; swap; · iexact HS0
          ipureintro; exact runA_S c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s6 _
        isplitl [HS1]
        · unfold owns; iexists _; isplitr; swap; · iexact HS1
          ipureintro; exact runA_C c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s6 _
        isplitl [HS2]; · iexact HS2
        isplitl [HS3]; · iexact HS3
        iframel HS4 HS5
        iexact HS6
      iexact Hg
    iframel Ho H0 H1 H2 H3 H4 H5 H6 H7 H8 H9 H10 H11
    isplitl [H12]
    · iexists _; unfold owns; iexists _; isplitr; swap; · iexact H12
      ipureintro; rfl
    isplitl [H13]; · iexact H13
    iexact H14

set_option maxHeartbeats 4000000 in
/-- The body at a tile neither first nor last. -/
theorem soundB (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  simp only [before0_13 m c t.val t.isLt, before0_14 m c t.val t.isLt]
  rw [leavesIdle0_13 m c t h1, leavesIdle0_14 m c t h1]
  rw [show (dats m 0 c).owesAt () t.succ = (dats m 0 c).owesAt () t.castSucc from rfl]
  rw [show (dats m 0 c).Φ t.succ = PhiS m c (t.val + 1) t.isLt from rfl, PhiS_succ, PhiS_castSucc m c t, stAt_next m c t h0]
  unfold carAt
  rw [PhiS_pos m c t (fun e => h0 (by rw [e]))]
  iintro ⟨⟨⟨HS0, HS1, HS2, HS3, HS4, HS5, ⟨%s6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB c (grid0.coords t) _ _ _ _ _ _ _ _ _ _ _ _ _ _ _ _ _ _ _ _ _ _ _ _ _ _ _ _ _ _ _ _ _ _ _ _ _ _ _ _ _ _ _ _ (fun h => h0 ((isFirst_iff t).mp h)) (fun h => h1 ((isLast_iff t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6).2.2.2 Set.univ _)
  iframel H0 H1 H2 H3 H4 H5 H6 H7 H8 H9 H10 H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H9, H10, H11, ⟨%e12, H12⟩, H13, H14, ⟨%es0, HS0⟩, ⟨%es1, HS1⟩, HS2, HS3, HS4, HS5, HS6⟩
  isplitl [HS0 HS1 HS2 HS3 HS4 HS5 HS6 Hg]
  · isplitr [Hg]
    · isplitl [HS0]
      · unfold owns; iexists _; isplitr; swap; · iexact HS0
        ipureintro; exact runB_S c (grid0.coords t) _ _ _ _ _ _ _ _ _ _ _ _ _ _ _ _ _ _ _ _ _ _ _ _ _ _ _ _ _ _ _ _ _ _ _ _ _ _ _ _ _ _ _ _ (fun h => h0 ((isFirst_iff t).mp h)) (fun h => h1 ((isLast_iff t).mp h))
          (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6 _
      isplitl [HS1]
      · unfold owns; iexists _; isplitr; swap; · iexact HS1
        ipureintro; exact runB_C c (grid0.coords t) _ _ _ _ _ _ _ _ _ _ _ _ _ _ _ _ _ _ _ _ _ _ _ _ _ _ _ _ _ _ _ _ _ _ _ _ _ _ _ _ _ _ _ _ (fun h => h0 ((isFirst_iff t).mp h)) (fun h => h1 ((isLast_iff t).mp h))
          (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6 _
      isplitl [HS2]; · iexact HS2
      isplitl [HS3]; · iexact HS3
      iframel HS4 HS5
      iexact HS6
    iexact Hg
  iframel Ho H0 H1 H2 H3 H4 H5 H6 H7 H8 H9 H10 H11
  isplitl [H12]
  · iexists _; unfold owns; iexists _; isplitr; swap; · iexact H12
    ipureintro; rfl
  isplitl [H13]; · iexact H13
  iexact H14

set_option maxHeartbeats 4000000 in
/-- The body at a sequence's last tile. -/
theorem soundC (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  simp only [before0_13 m c t.val t.isLt, before0_14 m c t.val t.isLt]
  rw [leaves0_13 m c t h1, leaves0_14 m c t h1, after0_13, after0_14]
  rw [show (dats m 0 c).owesAt () t.succ = (dats m 0 c).owesAt () t.castSucc from rfl]
  rw [show (dats m 0 c).Φ t.succ = PhiS m c (t.val + 1) t.isLt from rfl, PhiS_succ, PhiS_castSucc m c t, stAt_next m c t h0]
  unfold carAt
  rw [PhiS_pos m c t (fun e => h0 (by rw [e]))]
  iintro ⟨⟨⟨HS0, HS1, HS2, HS3, HS4, HS5, ⟨%s6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runC c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6).2.2.2.2.2 Set.univ _)
  iframel H0 H1 H2 H3 H4 H5 H6 H7 H8 H9 H10 H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H9, H10, H11, ⟨%e12, H12⟩, ⟨%e13, H13⟩, ⟨%e14, H14⟩, ⟨%es0, HS0⟩, ⟨%es1, HS1⟩, HS2, HS3, HS4, HS5, HS6⟩
  isplitl [HS0 HS1 HS2 HS3 HS4 HS5 HS6 Hg]
  · isplitr [Hg]
    · isplitl [HS0]
      · unfold owns; iexists _; isplitr; swap; · iexact HS0
        ipureintro; exact runC_S c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1)
          (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6 _
      isplitl [HS1]
      · unfold owns; iexists _; isplitr; swap; · iexact HS1
        ipureintro; exact runC_C c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1)
          (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6 _
      isplitl [HS2]; · iexact HS2
      isplitl [HS3]; · iexact HS3
      iframel HS4 HS5
      iexact HS6
    iexact Hg
  iframel Ho H0 H1 H2 H3 H4 H5 H6 H7 H8 H9 H10 H11
  isplitl [H12]
  · iexists _; unfold owns; iexists _; isplitr; swap; · iexact H12
    ipureintro; rfl
  isplitl [H13]
  · unfold owns; iexists _; isplitr; swap; · iexact H13
    ipureintro; exact runC_13 c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1)
          (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6 _
  unfold owns; iexists _; isplitr; swap; · iexact H14
  ipureintro; exact runC_14 c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1)
          (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (stAt m c t.val) _ s6 _

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundA m c t h0 (by omega)
  · by_cases h1 : t.val % 4 = 3
    · exact soundC m c t h0 h1
    · exact soundB m c t h0 h1

theorem defs₀_row (t : Fin cfg0.N) :
    defs₀ (F := F) .tc cfg0.body (cfg0.bodyArgs t (cfg0.slots t)) = bodyAt0 t := by
  unfold defs₀; rw [Defs.onTc_tc]

/-- The body meets what is asked of it at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  exact PhiS_out m c cfg0.N (Nat.le_refl _)

set_option backward.isDefEq.respectTransparency.types false in
/-- The launch, from any memory with every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(((h.1 c).2 main_arg0 (Pipeline.mem_restRefs_of main_arg0 (by decide) (by decide))).trans (V_main_arg0 m c)),
    (((h.1 c).2 main_arg1 (Pipeline.mem_restRefs_of main_arg1 (by decide) (by decide))).trans (V_main_arg1 m c)),
    (((h.1 c).2 main_arg2 (Pipeline.mem_restRefs_of main_arg2 (by decide) (by decide))).trans (V_main_arg2 m c)),
    (((h.1 c).2 main_arg3 (Pipeline.mem_restRefs_of main_arg3 (by decide) (by decide))).trans (V_main_arg3 m c)),
    (((h.1 c).2 main_arg4 (Pipeline.mem_restRefs_of main_arg4 (by decide) (by decide))).trans (V_main_arg4 m c)),
    (((h.1 c).2 main_arg5 (Pipeline.mem_restRefs_of main_arg5 (by decide) (by decide))).trans (V_main_arg5 m c)),
    (((h.1 c).2 main_arg6 (Pipeline.mem_restRefs_of main_arg6 (by decide) (by decide))).trans (V_main_arg6 m c)),
    (((h.1 c).2 main_arg7 (Pipeline.mem_restRefs_of main_arg7 (by decide) (by decide))).trans (V_main_arg7 m c))⟩, h.2⟩) (run_main m ρ)

theorem arr13 (c : Dev nD) (r) (h : (Pipeline.RDat.FramePost (cfgs 0) (fun c => (dats m 0 c).toRForget forgets0) (V m)) r) :
    r.2.mem ((c.tc : Thread nD τ).loc (Pipeline.arrRef spec0 13)) = (dats m 0 c).arrAt 13 cfg0.N :=
  ((dats m 0 c).toRForget_arrAt_iff (fgt := forgets0) (w := 13) (by decide) _ _).mp ((h c).1 13)

theorem arr14 (c : Dev nD) (r) (h : (Pipeline.RDat.FramePost (cfgs 0) (fun c => (dats m 0 c).toRForget forgets0) (V m)) r) :
    r.2.mem ((c.tc : Thread nD τ).loc (Pipeline.arrRef spec0 14)) = (dats m 0 c).arrAt 14 cfg0.N :=
  ((dats m 0 c).toRForget_arrAt_iff (fgt := forgets0) (w := 14) (by decide) _ _).mp ((h c).1 14)

end Cert.MixerIdeal.Body

end
-- ==== Proof.MixRows.lean ====
/-
  The scalar mathematics of the mixer's recurrence, on extended reals: the decay read off a gate, one chunk of 64 tokens
  applied to a state, and the states of a sequence of 2048 tokens chunk after chunk.
-/
module

public import proofs.«01_k».proof.Proof.Rows

@[expose] public section
noncomputable section

open Idealize.ShloMosaic

namespace Cert.Rows

/-- The logarithm of a decay: the logarithm of the logistic of the gate's logit, over sixteen. -/
def decay (a : EReal) : EReal :=
  (min a 0 - Ideal.log1p (Ideal.exp (0 - max a (-a)))) * Ideal.ofBits .f32 0x3D800000#32

/-- What is left to decay after token `s` of a chunk. -/
def later (L : Fin 64 → EReal) (s : Fin 64) : EReal := ∑ u : Fin 64, if s < u then L u else 0

/-- One chunk applied to a state: row `c` of the state is a key of head `c / 64`, and takes that head's values. -/
def chunk (K LA : Fin 64 → Fin 256 → EReal) (V : Fin 64 → Fin 512 → EReal) (S : Fin 256 → Fin 128 → EReal)
    (c : Fin 256) (v : Fin 128) : EReal :=
  Ideal.exp (∑ s, LA s c) * S c v
    + ∑ s, K s c * Ideal.exp (later (fun u => LA u c) s) * V s ⟨c.val / 64 * 128 + v.val, by omega⟩

/-- Token `s` of chunk `n`. -/
def tok (n : ℕ) (s : Fin 64) : Fin 2048 := ⟨(n * 64 + s.val) % 2048, Nat.mod_lt _ (by norm_num)⟩

/-- The state before chunk `n`, from zero. -/
def states (K LA : Fin 2048 → Fin 256 → EReal) (V : Fin 2048 → Fin 512 → EReal) : ℕ → Fin 256 → Fin 128 → EReal
  | 0 => fun _ _ => 0
  | n + 1 => chunk (fun s => K (tok n s)) (fun s => LA (tok n s)) (fun s => V (tok n s)) (states K LA V n)

/-- A token's keys, -/
def keys (x g : Fin 1024 → EReal) (w : Fin 1024 → Fin 3088 → EReal) (c : Fin 256) : EReal :=
  lin (norm x g) w ⟨256 + c.val, by omega⟩

/-- its values, -/
def vals (x g : Fin 1024 → EReal) (w : Fin 1024 → Fin 3088 → EReal) (c : Fin 512) : EReal :=
  lin (norm x g) w ⟨512 + c.val, by omega⟩

/-- its gate's logits, -/
def gate (x g : Fin 1024 → EReal) (w : Fin 1024 → Fin 3088 → EReal) (wu : Fin 16 → Fin 256 → EReal) (b : Fin 256 → EReal)
    (c : Fin 256) : EReal :=
  (∑ j : Fin 16, lin (norm x g) w ⟨1536 + j.val, by omega⟩ * wu j c) + b c

/-- and the product its convolution takes. -/
def conv (x g : Fin 1024 → EReal) (w : Fin 1024 → Fin 3088 → EReal) (c : Fin 512) : EReal :=
  lin (norm x g) w ⟨2064 + c.val, by omega⟩ * lin (norm x g) w ⟨2576 + c.val, by omega⟩

/-- The state a sequence of 2048 rows leaves. -/
def stateOf (x : Fin 2048 → Fin 1024 → EReal) (g : Fin 1024 → EReal) (w : Fin 1024 → Fin 3088 → EReal) (wu : Fin 16 → Fin 256 → EReal)
    (b : Fin 256 → EReal) : ℕ → Fin 256 → Fin 128 → EReal :=
  states (fun n => keys (x n) g w) (fun n c => decay (gate (x n) g w wu b c)) (fun n => vals (x n) g w)

end Cert.Rows

end
-- ==== Proof.MixBlock.lean ====
/-
  What the mixer's body computes from a tile, read at an index over the extended reals.
-/
module

public import proofs.«01_k».proof.Proof.MixRows
public import proofs.«01_k».proof.Proof.MixTile
public import Idealize.ShloMosaic.Lib.Pointwise
public import Idealize.ShloMosaic.Lib.Pipeline.ValueKit

@[expose] public section
set_option maxRecDepth 16384
noncomputable section

open Idealize.ShloMosaic Idealize.ShloMosaic.TcCoe

namespace Cert.MixerIdeal.Body

open Cert.MixerIdeal Cert.MixerIdeal.Gen Cert.MixerIdeal.Trip

variable (x0 : Vec Ideal S512x1024 .f32) (x1 : Vec Ideal S8x1024 .f32) (x2 x6 : Vec Ideal S1024x1536 .bf16)
  (x3 : Vec Ideal S1024x128 .bf16) (x4 : Vec Ideal S128x256 .bf16) (x5 : Vec Ideal S1x256 .f32)

theorem gain_apply (j : Fin 1024) : gain x1 (ix2 0 j) = x1 (ix2 2 j) := by
  unfold gain
  refine congrArg x1 ?_
  funext a
  refine Fin.ext ?_
  match a with
  | ⟨0, _⟩ => rfl
  | ⟨1, _⟩ => show 0 + 1 * j.val = j.val; omega

/-- The normed rows. -/
theorem normed (r : Fin 512) (k : Fin 1024) :
    k0_pay37 x0 (gain x1) (ix2 r k) = Rows.norm (fun j => x0 (ix2 r j)) (fun j => x1 (ix2 2 j)) k := by
  pointwise [k0_pay37, k0_pay36, gain_apply, Rows.norm]

theorem proj (r : Fin 512) (k : Fin 1536) :
    k0_pay38 x0 (gain x1) x2 (ix2 r k) = Rows.lin (Rows.norm (fun j => x0 (ix2 r j)) (fun j => x1 (ix2 2 j))) (fun i j => x2 (ix2 i j)) k := by
  pointwise [k0_pay38, normed, Rows.lin]

/-- The keys. -/
theorem tK_apply (r : Fin 512) (k : Fin 256) :
    tK x0 x1 x2 (ix2 r k) = Rows.lin (Rows.norm (fun j => x0 (ix2 r j)) (fun j => x1 (ix2 2 j))) (fun i j => x2 (ix2 i j)) ⟨256 + k.val, by omega⟩ := by
  unfold tK
  pointwise [k0_pay47, proj]

/-- The values. -/
theorem tV_apply (r : Fin 512) (k : Fin 512) :
    tV x0 x1 x2 (ix2 r k) = Rows.lin (Rows.norm (fun j => x0 (ix2 r j)) (fun j => x1 (ix2 2 j))) (fun i j => x2 (ix2 i j)) ⟨512 + k.val, by omega⟩ := by
  unfold tV
  pointwise [k0_pay49, proj]

/-- The gate's logits. -/
theorem logit (r : Fin 512) (k : Fin 256) :
    k0_pay39 x0 (gain x1) x3 x4 x5 (ix2 r k)
      = (∑ j : Fin 128, Rows.lin (Rows.norm (fun j => x0 (ix2 r j)) (fun j => x1 (ix2 2 j))) (fun i j => x3 (ix2 i j)) j * x4 (ix2 j k)) + x5 (ix2 0 k) := by
  pointwise [k0_pay39, normed, Rows.lin]

/-- The logarithms of the decays. -/
theorem tLA_apply (r : Fin 512) (k : Fin 256) :
    tLA x0 x1 x3 x4 x5 (ix2 r k) = Rows.decay (
      (∑ j : Fin 128, Rows.lin (Rows.norm (fun j => x0 (ix2 r j)) (fun j => x1 (ix2 2 j))) (fun i j => x3 (ix2 i j)) j * x4 (ix2 j k)) + x5 (ix2 0 k)) := by
  unfold tLA
  pointwise [k0_pay48, k0_pay40, logit, Rows.decay]
  rfl

theorem proj6 (r : Fin 512) (k : Fin 1536) :
    k0_pay41 (k0_pay37 x0 (gain x1)) x6 (ix2 r k) = Rows.lin (Rows.norm (fun j => x0 (ix2 r j)) (fun j => x1 (ix2 2 j))) (fun i j => x6 (ix2 i j)) k := by
  pointwise [k0_pay41, normed, Rows.lin]

/-- The last eight rows of the product the convolution takes. -/
theorem tileC_apply (r : Fin 8) (k : Fin 512) :
    tileC x0 x1 x6 (ix2 r k) = Rows.lin (Rows.norm (fun j => x0 (ix2 ⟨504 + r.val, by omega⟩ j)) (fun j => x1 (ix2 2 j))) (fun i j => x6 (ix2 i j)) ⟨512 + k.val, by omega⟩
      * Rows.lin (Rows.norm (fun j => x0 (ix2 ⟨504 + r.val, by omega⟩ j)) (fun j => x1 (ix2 2 j))) (fun i j => x6 (ix2 i j)) ⟨1024 + k.val, by omega⟩ := by
  unfold tileC
  pointwise [k0_pay65, k0_pay62, k0_pay44, k0_pay45, proj6]

variable (Kk La : Vec Ideal S64x256 .f32) (Vv : Vec Ideal S64x512 .f32) (Mm : Vec Ideal S512x192 .bf16) (S : Vec Ideal S256x128 .f32)

theorem upd (c : Fin 256) (v : Fin 512) :
    k0_pay30 Kk (k0_pay3 Vv) (k0_pay5 La Mm) (ix2 c v) = ∑ s : Fin 64, Kk (ix2 s c) * Ideal.exp (∑ j : Fin 192, Mm (ix2 ⟨448 + s.val, by omega⟩ j) * k0_pay4 La (ix2 j c)) * Vv (ix2 s v) := by
  pointwise [k0_pay30, k0_pay3, k0_pay5]

/-- A row's head, as the integer operations spell it. -/
theorem head_word : ∀ c : Fin 256,
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) =
    BitVec.ofNat 32 (c.val / 64) := by decide +kernel

theorem head (c : Fin 256) (v : Fin 128) : k0_pay60 (ix2 c v) = BitVec.ofNat 32 (c.val / 64) := by
  pointwise [k0_pay60]
  exact head_word c

/-- The block of columns a row takes is its own head's. -/
theorem own_head (c : Fin 256) (a b d e z : EReal) (f : EReal)
    (h0 : c.val / 64 = 0 → a = f) (h1 : c.val / 64 = 1 → b = f) (h2 : c.val / 64 = 2 → d = f) (h3 : c.val / 64 = 3 → e = f) :
    Scalar.select (IntOp.cmpi .eq (BitVec.ofNat 32 (c.val / 64)) 3#32) e
      (Scalar.select (IntOp.cmpi .eq (BitVec.ofNat 32 (c.val / 64)) 2#32) d
        (Scalar.select (IntOp.cmpi .eq (BitVec.ofNat 32 (c.val / 64)) 1#32) b
          (Scalar.select (IntOp.cmpi .eq (BitVec.ofNat 32 (c.val / 64)) 0#32) a z))) = f := by
  have hc : c.val / 64 = 0 ∨ c.val / 64 = 1 ∨ c.val / 64 = 2 ∨ c.val / 64 = 3 := by omega
  rcases hc with h | h | h | h
  · rw [h]; exact h0 h
  · rw [h]; exact h1 h
  · rw [h]; exact h2 h
  · rw [h]; exact h3 h

/-- One chunk, before its sums are simplified. -/
theorem chunkS_raw (c : Fin 256) (v : Fin 128) :
    chunkS Kk La Vv Mm S (ix2 c v) = Ideal.exp (∑ j : Fin 192, k0_pay4 La (ix2 j c)) * S (ix2 c v)
      + ∑ s : Fin 64, Kk (ix2 s c) * Ideal.exp (∑ j : Fin 192, Mm (ix2 ⟨448 + s.val, by omega⟩ j) * k0_pay4 La (ix2 j c)) * Vv (ix2 s ⟨c.val / 64 * 128 + v.val, by omega⟩) := by
  unfold chunkS
  pointwise [k0_pay61, k0_pay31, k0_pay32, k0_pay33, head, upd]
  refine congrArg (_ + ·) (own_head c _ _ _ _ _ _ ?_ ?_ ?_ ?_)
  · intro h
    have e : (⟨v.val, by omega⟩ : Fin 512) = ⟨c.val / 64 * 128 + v.val, by omega⟩ := Fin.mk_eq_mk.mpr (by omega)
    rw [← e]
  · intro h
    have e : (⟨128 + v.val, by omega⟩ : Fin 512) = ⟨c.val / 64 * 128 + v.val, by omega⟩ := Fin.mk_eq_mk.mpr (by omega)
    rw [← e]
  · intro h
    have e : (⟨256 + v.val, by omega⟩ : Fin 512) = ⟨c.val / 64 * 128 + v.val, by omega⟩ := Fin.mk_eq_mk.mpr (by omega)
    rw [← e]
  · intro h
    have e : (⟨384 + v.val, by omega⟩ : Fin 512) = ⟨c.val / 64 * 128 + v.val, by omega⟩ := Fin.mk_eq_mk.mpr (by omega)
    rw [← e]

/-- A sum over 192 rows, 64 at a time. -/
theorem sum192 (f : Fin 192 → EReal) :
    ∑ j, f j = (∑ u : Fin 64, f ⟨u.val, by omega⟩) + (∑ u : Fin 64, f ⟨64 + u.val, by omega⟩) + ∑ u : Fin 64, f ⟨128 + u.val, by omega⟩ := by
  refine (Fin.sum_univ_add (a := 128) (b := 64) f).trans ?_
  exact congrArg (· + _) (Fin.sum_univ_add (a := 64) (b := 64) fun i => f (Fin.castAdd 64 i))

theorem part0 (u : Fin 64) (c : Fin 256) : k0_pay4 La (ix2 ⟨u.val, by omega⟩ c) = La (ix2 u c) := by
  pointwise [k0_pay4]

theorem part1 (u : Fin 64) (c : Fin 256) (h : ∃ x : ℝ, La (ix2 u c) = x) : k0_pay4 La (ix2 ⟨64 + u.val, by omega⟩ c) = 0 := by
  obtain ⟨x, hx⟩ := h
  pointwise [k0_pay4]
  rw [hx, ← EReal.coe_sub, sub_self, EReal.coe_zero]

theorem part2 (u : Fin 64) (c : Fin 256) (h : ∀ u c, ∃ x : ℝ, La (ix2 u c) = x) : k0_pay4 La (ix2 ⟨128 + u.val, by omega⟩ c) = 0 := by
  pointwise [k0_pay4]
  refine (dif_neg (by omega)).trans ((dif_neg (by omega)).trans ?_)
  obtain ⟨x, hx⟩ := h ⟨128 + u.val - 64 - 64, by omega⟩ c
  rw [hx, ← EReal.coe_sub, sub_self, EReal.coe_zero, sub_zero]

/-- One chunk applied to a state, where the decays' logarithms are real and the table's last rows pick what is later. -/
theorem chunkS_apply (hL : ∀ u c, ∃ x : ℝ, La (ix2 u c) = x)
    (hM : ∀ s u : Fin 64, Mm (ix2 ⟨448 + s.val, by omega⟩ ⟨u.val, by omega⟩) = if s < u then 1 else 0) (c : Fin 256) (v : Fin 128) :
    chunkS Kk La Vv Mm S (ix2 c v) = Rows.chunk (fun s c => Kk (ix2 s c)) (fun s c => La (ix2 s c)) (fun s c => Vv (ix2 s c))
      (fun c v => S (ix2 c v)) c v := by
  rw [chunkS_raw]
  have e : ∀ s : Fin 64, (∑ j : Fin 192, Mm (ix2 ⟨448 + s.val, by omega⟩ j) * k0_pay4 La (ix2 j c)) = Rows.later (fun u => La (ix2 u c)) s := by
    intro s
    rw [sum192]
    simp only [part0, part1 La _ c (hL _ c), part2 La _ c hL, mul_zero, Finset.sum_const_zero, add_zero, hM]
    refine Finset.sum_congr rfl fun u _ => ?_
    by_cases h : s < u
    · simp [h]
    · simp [h]
  simp only [e]
  rw [sum192]
  simp only [part0, part1 La _ c (hL _ c), part2 La _ c hL, Finset.sum_const_zero, add_zero]
  rfl

end Cert.MixerIdeal.Body

end
-- ==== Proof.MixIn.lean ====
/-
  The blocks the token mixer's grid steps read, at an index, in the arguments.
-/
module

public import proofs.«01_k».proof.Proof.MixLaunch
public import proofs.«01_k».proof.Proof.MixBlock
public import Idealize.ShloMosaic.Lib.Pipeline.ValueKit
public import Idealize.ShloMosaic.Lib.StableHlo.ReadAt

@[expose] public section
set_option maxRecDepth 16384
noncomputable section

open Idealize.ShloMosaic Idealize.ShloMosaic.TcCoe Idealize.SL.Sem

namespace Cert.MixerIdeal.Body

open Cert.MixerIdeal Cert.MixerIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i10 : ∀ t : Fin cfg0.N, win0_10.index t = ![0, 0] := (by decide +kernel : ∀ t : Fin grid0.N, _)
theorem i13 : ∀ t : Fin cfg0.N, win0_13.index t = ![t.val / 4, 0, 0] := (by decide +kernel : ∀ t : Fin grid0.N, _)
theorem i14 : ∀ t : Fin cfg0.N, win0_14.index t = ![t.val / 4, 0, 0] := (by decide +kernel : ∀ t : Fin grid0.N, _)

theorem e0 (c : Dev nD) (r : Fin 16384) (j : Fin 1024) :
    (V m c main_v19 : Vec Ideal S16384x1024 .f32) (ix2 r j) = (m ((c : Thread nD τ).loc main_arg0) : Vec Ideal S8x2048x1024 .f32) (ix3 ⟨r.val / 2048, by omega⟩ ⟨r.val % 2048, by omega⟩ j) := by
  show StableHlo.after ([hostOps0, hostOps0_1, hostOps0_2, hostOps0_3, hostOps0_4].flatten) _ _ _ = _
  simp only [List.flatten_cons, List.flatten_nil, List.append_nil, List.cons_append, List.nil_append]
  after_reads_at

theorem e1 (c : Dev nD) (r : Fin 8) (j : Fin 1024) :
    (V m c main_v0 : Vec Ideal S8x1024 .f32) (ix2 r j) = (m ((c : Thread nD τ).loc main_arg1) : Vec Ideal S1x8x1024 .f32) (ix3 0 r j) := by
  show StableHlo.after ([hostOps0, hostOps0_1, hostOps0_2, hostOps0_3, hostOps0_4].flatten) _ _ _ = _
  simp only [List.flatten_cons, List.flatten_nil, List.append_nil, List.cons_append, List.nil_append]
  after_reads_at

theorem e2 (c : Dev nD) (r : Fin 1024) (j : Fin 1536) :
    (V m c main_v3 : Vec Ideal S1024x1536 .bf16) (ix2 r j) = (m ((c : Thread nD τ).loc main_arg2) : Vec Ideal S1x1024x3088 .f32) (ix3 0 r ⟨j.val, by omega⟩) := by
  show StableHlo.after ([hostOps0, hostOps0_1, hostOps0_2, hostOps0_3, hostOps0_4].flatten) _ _ _ = _
  simp only [List.flatten_cons, List.flatten_nil, List.append_nil, List.cons_append, List.nil_append]
  after_reads_at

theorem e3 (c : Dev nD) (r : Fin 1024) (j : Fin 16) :
    (V m c main_v6 : Vec Ideal S1024x128 .bf16) (ix2 r ⟨j.val, by omega⟩) = (m ((c : Thread nD τ).loc main_arg2) : Vec Ideal S1x1024x3088 .f32) (ix3 0 r ⟨1536 + j.val, by omega⟩) := by
  show StableHlo.after ([hostOps0, hostOps0_1, hostOps0_2, hostOps0_3, hostOps0_4].flatten) _ _ _ = _
  simp only [List.flatten_cons, List.flatten_nil, List.append_nil, List.cons_append, List.nil_append]
  after_reads_at

theorem e4 (c : Dev nD) (r : Fin 128) (j : Fin 256) :
    (V m c main_v11 : Vec Ideal S128x256 .bf16) (ix2 r j) = (if h : r.val < 16 then (m ((c : Thread nD τ).loc main_arg3) : Vec Ideal S1x16x256 .f32) (ix3 0 ⟨r.val, h⟩ j) else (0 : EReal)) := by
  show StableHlo.after ([hostOps0, hostOps0_1, hostOps0_2, hostOps0_3, hostOps0_4].flatten) _ _ _ = _
  simp only [List.flatten_cons, List.flatten_nil, List.append_nil, List.cons_append, List.nil_append]
  after_reads_at
  refine dite_congr rfl (fun _ => rfl) fun _ => ?_
  show ((((0#32 : BitVec 32).toInt : ℤ) : ℝ) : EReal) = 0
  norm_num

theorem e5 (c : Dev nD) (j : Fin 256) :
    (V m c main_v13 : Vec Ideal S1x256 .f32) (ix2 0 j) = (m ((c : Thread nD τ).loc main_arg4) : Vec Ideal S1x256 .f32) (ix2 0 j) := by
  show StableHlo.after ([hostOps0, hostOps0_1, hostOps0_2, hostOps0_3, hostOps0_4].flatten) _ _ _ = _
  simp only [List.flatten_cons, List.flatten_nil, List.append_nil, List.cons_append, List.nil_append]
  after_reads_at

theorem e6 (c : Dev nD) (r : Fin 1024) (j : Fin 1536) :
    (V m c main_v8 : Vec Ideal S1024x1536 .bf16) (ix2 r j) = (m ((c : Thread nD τ).loc main_arg2) : Vec Ideal S1x1024x3088 .f32) (ix3 0 r ⟨1552 + j.val, by omega⟩) := by
  show StableHlo.after ([hostOps0, hostOps0_1, hostOps0_2, hostOps0_3, hostOps0_4].flatten) _ _ _ = _
  simp only [List.flatten_cons, List.flatten_nil, List.append_nil, List.cons_append, List.nil_append]
  after_reads_at

theorem e10 (c : Dev nD) (r : Fin 512) (j : Fin 192) :
    (V m c main_cst : Vec Ideal S512x192 .bf16) (ix2 r j) = FloatOps.ofBits (F := Ideal) .bf16 (lit0 (S512x192.rowMajor (ix2 r j))) := by
  show StableHlo.after ([hostOps0, hostOps0_1, hostOps0_2, hostOps0_3, hostOps0_4].flatten) _ _ _ = _
  simp only [List.flatten_cons, List.flatten_nil, List.append_nil, List.cons_append, List.nil_append]
  after_reads_at

/-- Rows of the layer's input. -/
theorem b0 (c : Dev nD) (t : Fin cfg0.N) (r : Fin 512) (j : Fin 1024) :
    iblk m c 0 t (ix2 r j) = (m ((c : Thread nD τ).loc main_arg0) : Vec Ideal S8x2048x1024 .f32)
      (ix3 ⟨(t.val * 512 + r.val) / 2048, by have : t.val < 32 := t.isLt; omega⟩ ⟨(t.val * 512 + r.val) % 2048, by omega⟩ j) := by
  blk_simp [iblk]
  have e : (win0_0.blk t).view.emb (ix2 r j) = ix2 ⟨t.val * 512 + r.val, by have : t.val < 32 := t.isLt; omega⟩ j := by blk_ext [i0 t]
  rw [e]
  exact e0 m c _ j

/-- The norms' gains. -/
theorem b1 (c : Dev nD) (t : Fin cfg0.N) (r : Fin 8) (j : Fin 1024) :
    iblk m c 1 t (ix2 r j) = (m ((c : Thread nD τ).loc main_arg1) : Vec Ideal S1x8x1024 .f32) (ix3 0 r j) := by
  blk_simp [iblk]
  have e : (win0_1.blk t).view.emb (ix2 r j) = ix2 r j := by blk_ext [i1 t]
  rw [e]
  exact e1 m c _ j

/-- The first 1536 columns of the input projection. -/
theorem b2 (c : Dev nD) (t : Fin cfg0.N) (r : Fin 1024) (j : Fin 1536) :
    iblk m c 2 t (ix2 r j) = (m ((c : Thread nD τ).loc main_arg2) : Vec Ideal S1x1024x3088 .f32) (ix3 0 r ⟨j.val, by omega⟩) := by
  blk_simp [iblk]
  have e : (win0_2.blk t).view.emb (ix2 r j) = ix2 r j := by blk_ext [i2 t]
  rw [e]
  exact e2 m c _ j

/-- The sixteen columns of the gate's down projection. -/
theorem b3 (c : Dev nD) (t : Fin cfg0.N) (r : Fin 1024) (j : Fin 16) :
    iblk m c 3 t (ix2 r ⟨j.val, by omega⟩) = (m ((c : Thread nD τ).loc main_arg2) : Vec Ideal S1x1024x3088 .f32) (ix3 0 r ⟨1536 + j.val, by omega⟩) := by
  blk_simp [iblk]
  have e : (win0_3.blk t).view.emb (ix2 r ⟨j.val, by omega⟩) = ix2 r ⟨j.val, by omega⟩ := by blk_ext [i3 t]
  rw [e]
  exact e3 m c _ j

/-- The gate's up projection: sixteen rows, and zeros below them. -/
theorem b4 (c : Dev nD) (t : Fin cfg0.N) (r : Fin 128) (j : Fin 256) :
    iblk m c 4 t (ix2 r j) = (if h : r.val < 16 then (m ((c : Thread nD τ).loc main_arg3) : Vec Ideal S1x16x256 .f32) (ix3 0 ⟨r.val, h⟩ j) else (0 : EReal)) := by
  blk_simp [iblk]
  have e : (win0_4.blk t).view.emb (ix2 r j) = ix2 r j := by blk_ext [i4 t]
  rw [e]
  exact e4 m c _ j

/-- The gate's bias. -/
theorem b5 (c : Dev nD) (t : Fin cfg0.N) (j : Fin 256) :
    iblk m c 5 t (ix2 0 j) = (m ((c : Thread nD τ).loc main_arg4) : Vec Ideal S1x256 .f32) (ix2 0 j) := by
  blk_simp [iblk]
  have e : (win0_5.blk t).view.emb (ix2 0 j) = ix2 0 j := by blk_ext [i5 t]
  rw [e]
  exact e5 m c j

/-- The last 1536 columns of the input projection. -/
theorem b6 (c : Dev nD) (t : Fin cfg0.N) (r : Fin 1024) (j : Fin 1536) :
    iblk m c 6 t (ix2 r j) = (m ((c : Thread nD τ).loc main_arg2) : Vec Ideal S1x1024x3088 .f32) (ix3 0 r ⟨1552 + j.val, by omega⟩) := by
  blk_simp [iblk]
  have e : (win0_6.blk t).view.emb (ix2 r j) = ix2 r j := by blk_ext [i6 t]
  rw [e]
  exact e6 m c _ j

/-- The mask table. -/
theorem b10 (c : Dev nD) (t : Fin cfg0.N) (r : Fin 512) (j : Fin 192) :
    iblk m c 10 t (ix2 r j) = FloatOps.ofBits (F := Ideal) .bf16 (lit0 (S512x192.rowMajor (ix2 r j))) := by
  blk_simp [iblk]
  have e : (win0_10.blk t).view.emb (ix2 r j) = ix2 r j := by blk_ext [i10 t]
  rw [e]
  exact e10 m c _ j

end Cert.MixerIdeal.Body

end
-- ==== Proof.MixTab.lean ====
/-
  The two tables the mixer's chunk step is given, in closed form: the signed prefix masks of the eight levels, and the
  level at which two positions of a chunk part. The modules MixTab0 to MixTab5 decide the printed entries against them.
-/
module

public import proofs.«01_k».proof.MixerIdeal

@[expose] public section
set_option maxRecDepth 16384
noncomputable section

open Idealize.ShloMosaic Idealize.ShloMosaic.TcCoe Idealize.SL.Sem

namespace Cert.MixerIdeal.Tables

/-- The middle of the block of level `j` that holds position `t`. -/
def mid (j t : ℕ) : ℕ := t / (2 * 2 ^ j) * (2 * 2 ^ j) + 2 ^ j

/-- The bits of the mask table at level `j`, position `t`, position `s`. -/
def maskBits (j t s : ℕ) : BitVec 16 :=
  if j < 6 then
    (if s ≤ t then (if s < mid j t then 0#16 else 0x3f80#16) else (if s < mid j t then 0xbf80#16 else 0#16))
  else if j = 6 then (if s ≤ t then 0x3f80#16 else 0#16) else (if s ≤ t then 0#16 else 0x3f80#16)

/-- The level table at positions `t`, `s`. -/
def level (t s : ℕ) : BitVec 32 :=
  if t < s then 0xffffffff#32 else if s = t then 0#32 else BitVec.ofNat 32 (Nat.log2 (t ^^^ s) + 1)

end Cert.MixerIdeal.Tables

end
-- ==== Proof.MixTab0.lean ====
/-
  Entries of the mask table, rows 0 to 127, first copy.
-/
module

public import proofs.«01_k».proof.Proof.MixTab

@[expose] public section
set_option maxRecDepth 16384
noncomputable section

open Idealize.ShloMosaic Idealize.ShloMosaic.TcCoe Idealize.SL.Sem

namespace Cert.MixerIdeal.Tables

theorem mask0 : ∀ r : Fin 16, ∀ s : Fin 64,
    lit0t ((0 + r.val) * 192 + s.val) = maskBits ((0 + r.val) / 64) ((0 + r.val) % 64) s.val := by
  decide +kernel

theorem mask1 : ∀ r : Fin 16, ∀ s : Fin 64,
    lit0t ((16 + r.val) * 192 + s.val) = maskBits ((16 + r.val) / 64) ((16 + r.val) % 64) s.val := by
  decide +kernel

theorem mask2 : ∀ r : Fin 16, ∀ s : Fin 64,
    lit0t ((32 + r.val) * 192 + s.val) = maskBits ((32 + r.val) / 64) ((32 + r.val) % 64) s.val := by
  decide +kernel

theorem mask3 : ∀ r : Fin 16, ∀ s : Fin 64,
    lit0t ((48 + r.val) * 192 + s.val) = maskBits ((48 + r.val) / 64) ((48 + r.val) % 64) s.val := by
  decide +kernel

theorem mask4 : ∀ r : Fin 16, ∀ s : Fin 64,
    lit0t ((64 + r.val) * 192 + s.val) = maskBits ((64 + r.val) / 64) ((64 + r.val) % 64) s.val := by
  decide +kernel

theorem mask5 : ∀ r : Fin 16, ∀ s : Fin 64,
    lit0t ((80 + r.val) * 192 + s.val) = maskBits ((80 + r.val) / 64) ((80 + r.val) % 64) s.val := by
  decide +kernel

theorem mask6 : ∀ r : Fin 16, ∀ s : Fin 64,
    lit0t ((96 + r.val) * 192 + s.val) = maskBits ((96 + r.val) / 64) ((96 + r.val) % 64) s.val := by
  decide +kernel

theorem mask7 : ∀ r : Fin 16, ∀ s : Fin 64,
    lit0t ((112 + r.val) * 192 + s.val) = maskBits ((112 + r.val) / 64) ((112 + r.val) % 64) s.val := by
  decide +kernel
end Cert.MixerIdeal.Tables

end
-- ==== Proof.MixTab1.lean ====
/-
  Entries of the mask table, rows 128 to 255, first copy.
-/
module

public import proofs.«01_k».proof.Proof.MixTab

@[expose] public section
set_option maxRecDepth 16384
noncomputable section

open Idealize.ShloMosaic Idealize.ShloMosaic.TcCoe Idealize.SL.Sem

namespace Cert.MixerIdeal.Tables

theorem mask8 : ∀ r : Fin 16, ∀ s : Fin 64,
    lit0t ((128 + r.val) * 192 + s.val) = maskBits ((128 + r.val) / 64) ((128 + r.val) % 64) s.val := by
  decide +kernel

theorem mask9 : ∀ r : Fin 16, ∀ s : Fin 64,
    lit0t ((144 + r.val) * 192 + s.val) = maskBits ((144 + r.val) / 64) ((144 + r.val) % 64) s.val := by
  decide +kernel

theorem mask10 : ∀ r : Fin 16, ∀ s : Fin 64,
    lit0t ((160 + r.val) * 192 + s.val) = maskBits ((160 + r.val) / 64) ((160 + r.val) % 64) s.val := by
  decide +kernel

theorem mask11 : ∀ r : Fin 16, ∀ s : Fin 64,
    lit0t ((176 + r.val) * 192 + s.val) = maskBits ((176 + r.val) / 64) ((176 + r.val) % 64) s.val := by
  decide +kernel

theorem mask12 : ∀ r : Fin 16, ∀ s : Fin 64,
    lit0t ((192 + r.val) * 192 + s.val) = maskBits ((192 + r.val) / 64) ((192 + r.val) % 64) s.val := by
  decide +kernel

theorem mask13 : ∀ r : Fin 16, ∀ s : Fin 64,
    lit0t ((208 + r.val) * 192 + s.val) = maskBits ((208 + r.val) / 64) ((208 + r.val) % 64) s.val := by
  decide +kernel

theorem mask14 : ∀ r : Fin 16, ∀ s : Fin 64,
    lit0t ((224 + r.val) * 192 + s.val) = maskBits ((224 + r.val) / 64) ((224 + r.val) % 64) s.val := by
  decide +kernel

theorem mask15 : ∀ r : Fin 16, ∀ s : Fin 64,
    lit0t ((240 + r.val) * 192 + s.val) = maskBits ((240 + r.val) / 64) ((240 + r.val) % 64) s.val := by
  decide +kernel
end Cert.MixerIdeal.Tables

end
-- ==== Proof.MixTab2.lean ====
/-
  Entries of the mask table, rows 256 to 383, first copy.
-/
module

public import proofs.«01_k».proof.Proof.MixTab

@[expose] public section
set_option maxRecDepth 16384
noncomputable section

open Idealize.ShloMosaic Idealize.ShloMosaic.TcCoe Idealize.SL.Sem

namespace Cert.MixerIdeal.Tables

theorem mask16 : ∀ r : Fin 16, ∀ s : Fin 64,
    lit0t ((256 + r.val) * 192 + s.val) = maskBits ((256 + r.val) / 64) ((256 + r.val) % 64) s.val := by
  decide +kernel

theorem mask17 : ∀ r : Fin 16, ∀ s : Fin 64,
    lit0t ((272 + r.val) * 192 + s.val) = maskBits ((272 + r.val) / 64) ((272 + r.val) % 64) s.val := by
  decide +kernel

theorem mask18 : ∀ r : Fin 16, ∀ s : Fin 64,
    lit0t ((288 + r.val) * 192 + s.val) = maskBits ((288 + r.val) / 64) ((288 + r.val) % 64) s.val := by
  decide +kernel

theorem mask19 : ∀ r : Fin 16, ∀ s : Fin 64,
    lit0t ((304 + r.val) * 192 + s.val) = maskBits ((304 + r.val) / 64) ((304 + r.val) % 64) s.val := by
  decide +kernel

theorem mask20 : ∀ r : Fin 16, ∀ s : Fin 64,
    lit0t ((320 + r.val) * 192 + s.val) = maskBits ((320 + r.val) / 64) ((320 + r.val) % 64) s.val := by
  decide +kernel

theorem mask21 : ∀ r : Fin 16, ∀ s : Fin 64,
    lit0t ((336 + r.val) * 192 + s.val) = maskBits ((336 + r.val) / 64) ((336 + r.val) % 64) s.val := by
  decide +kernel

theorem mask22 : ∀ r : Fin 16, ∀ s : Fin 64,
    lit0t ((352 + r.val) * 192 + s.val) = maskBits ((352 + r.val) / 64) ((352 + r.val) % 64) s.val := by
  decide +kernel

theorem mask23 : ∀ r : Fin 16, ∀ s : Fin 64,
    lit0t ((368 + r.val) * 192 + s.val) = maskBits ((368 + r.val) / 64) ((368 + r.val) % 64) s.val := by
  decide +kernel
end Cert.MixerIdeal.Tables

end
-- ==== Proof.MixTab3.lean ====
/-
  Entries of the mask table, rows 384 to 511, first copy.
-/
module

public import proofs.«01_k».proof.Proof.MixTab

@[expose] public section
set_option maxRecDepth 16384
noncomputable section

open Idealize.ShloMosaic Idealize.ShloMosaic.TcCoe Idealize.SL.Sem

namespace Cert.MixerIdeal.Tables

theorem mask24 : ∀ r : Fin 16, ∀ s : Fin 64,
    lit0t ((384 + r.val) * 192 + s.val) = maskBits ((384 + r.val) / 64) ((384 + r.val) % 64) s.val := by
  decide +kernel

theorem mask25 : ∀ r : Fin 16, ∀ s : Fin 64,
    lit0t ((400 + r.val) * 192 + s.val) = maskBits ((400 + r.val) / 64) ((400 + r.val) % 64) s.val := by
  decide +kernel

theorem mask26 : ∀ r : Fin 16, ∀ s : Fin 64,
    lit0t ((416 + r.val) * 192 + s.val) = maskBits ((416 + r.val) / 64) ((416 + r.val) % 64) s.val := by
  decide +kernel

theorem mask27 : ∀ r : Fin 16, ∀ s : Fin 64,
    lit0t ((432 + r.val) * 192 + s.val) = maskBits ((432 + r.val) / 64) ((432 + r.val) % 64) s.val := by
  decide +kernel

theorem mask28 : ∀ r : Fin 16, ∀ s : Fin 64,
    lit0t ((448 + r.val) * 192 + s.val) = maskBits ((448 + r.val) / 64) ((448 + r.val) % 64) s.val := by
  decide +kernel

theorem mask29 : ∀ r : Fin 16, ∀ s : Fin 64,
    lit0t ((464 + r.val) * 192 + s.val) = maskBits ((464 + r.val) / 64) ((464 + r.val) % 64) s.val := by
  decide +kernel

theorem mask30 : ∀ r : Fin 16, ∀ s : Fin 64,
    lit0t ((480 + r.val) * 192 + s.val) = maskBits ((480 + r.val) / 64) ((480 + r.val) % 64) s.val := by
  decide +kernel

theorem mask31 : ∀ r : Fin 16, ∀ s : Fin 64,
    lit0t ((496 + r.val) * 192 + s.val) = maskBits ((496 + r.val) / 64) ((496 + r.val) % 64) s.val := by
  decide +kernel
end Cert.MixerIdeal.Tables

end
-- ==== Proof.MixTab4.lean ====
/-
  Entries of the level table, rows 0 to 31.
-/
module

public import proofs.«01_k».proof.Proof.MixTab

@[expose] public section
set_option maxRecDepth 16384
noncomputable section

open Idealize.ShloMosaic Idealize.ShloMosaic.TcCoe Idealize.SL.Sem

namespace Cert.MixerIdeal.Tables

theorem level0 : ∀ t : Fin 8, ∀ s : Fin 256, lit1t ((0 + t.val) * 256 + s.val) = level (0 + t.val) (s.val % 64) := by
  decide +kernel

theorem level1 : ∀ t : Fin 8, ∀ s : Fin 256, lit1t ((8 + t.val) * 256 + s.val) = level (8 + t.val) (s.val % 64) := by
  decide +kernel

theorem level2 : ∀ t : Fin 8, ∀ s : Fin 256, lit1t ((16 + t.val) * 256 + s.val) = level (16 + t.val) (s.val % 64) := by
  decide +kernel

theorem level3 : ∀ t : Fin 8, ∀ s : Fin 256, lit1t ((24 + t.val) * 256 + s.val) = level (24 + t.val) (s.val % 64) := by
  decide +kernel
end Cert.MixerIdeal.Tables

end
-- ==== Proof.MixTab5.lean ====
/-
  Entries of the level table, rows 32 to 63.
-/
module

public import proofs.«01_k».proof.Proof.MixTab

@[expose] public section
set_option maxRecDepth 16384
noncomputable section

open Idealize.ShloMosaic Idealize.ShloMosaic.TcCoe Idealize.SL.Sem

namespace Cert.MixerIdeal.Tables

theorem level4 : ∀ t : Fin 8, ∀ s : Fin 256, lit1t ((32 + t.val) * 256 + s.val) = level (32 + t.val) (s.val % 64) := by
  decide +kernel

theorem level5 : ∀ t : Fin 8, ∀ s : Fin 256, lit1t ((40 + t.val) * 256 + s.val) = level (40 + t.val) (s.val % 64) := by
  decide +kernel

theorem level6 : ∀ t : Fin 8, ∀ s : Fin 256, lit1t ((48 + t.val) * 256 + s.val) = level (48 + t.val) (s.val % 64) := by
  decide +kernel

theorem level7 : ∀ t : Fin 8, ∀ s : Fin 256, lit1t ((56 + t.val) * 256 + s.val) = level (56 + t.val) (s.val % 64) := by
  decide +kernel
end Cert.MixerIdeal.Tables

end
-- ==== Proof.MixTables.lean ====
/-
  The two tables whole: every entry of the mask table's first copy and of the level table at its closed form.
-/
module

public import proofs.«01_k».proof.Proof.MixTab0
public import proofs.«01_k».proof.Proof.MixTab1
public import proofs.«01_k».proof.Proof.MixTab2
public import proofs.«01_k».proof.Proof.MixTab3
public import proofs.«01_k».proof.Proof.MixTab4
public import proofs.«01_k».proof.Proof.MixTab5

@[expose] public section
set_option maxRecDepth 16384
noncomputable section

open Idealize.ShloMosaic Idealize.ShloMosaic.TcCoe Idealize.SL.Sem

namespace Cert.MixerIdeal.Tables

/-- Row `n` of the mask table is its closed form. -/
def MaskRow (n : ℕ) : Prop := ∀ s : Fin 64, lit0t (n * 192 + s.val) = maskBits (n / 64) (n % 64) s.val

/-- Row `t` of the level table is its closed form. -/
def LevelRow (t : ℕ) : Prop := ∀ s : Fin 256, lit1t (t * 256 + s.val) = level t (s.val % 64)

theorem maskRow0 (n : ℕ) (h : n / 16 = 0) : MaskRow n := by
  have e : 0 + n % 16 = n := by omega
  rw [← e]
  exact fun s => mask0 ⟨n % 16, Nat.mod_lt _ (by decide)⟩ s

theorem maskRow1 (n : ℕ) (h : n / 16 = 1) : MaskRow n := by
  have e : 16 + n % 16 = n := by omega
  rw [← e]
  exact fun s => mask1 ⟨n % 16, Nat.mod_lt _ (by decide)⟩ s

theorem maskRow2 (n : ℕ) (h : n / 16 = 2) : MaskRow n := by
  have e : 32 + n % 16 = n := by omega
  rw [← e]
  exact fun s => mask2 ⟨n % 16, Nat.mod_lt _ (by decide)⟩ s

theorem maskRow3 (n : ℕ) (h : n / 16 = 3) : MaskRow n := by
  have e : 48 + n % 16 = n := by omega
  rw [← e]
  exact fun s => mask3 ⟨n % 16, Nat.mod_lt _ (by decide)⟩ s

theorem maskRow4 (n : ℕ) (h : n / 16 = 4) : MaskRow n := by
  have e : 64 + n % 16 = n := by omega
  rw [← e]
  exact fun s => mask4 ⟨n % 16, Nat.mod_lt _ (by decide)⟩ s

theorem maskRow5 (n : ℕ) (h : n / 16 = 5) : MaskRow n := by
  have e : 80 + n % 16 = n := by omega
  rw [← e]
  exact fun s => mask5 ⟨n % 16, Nat.mod_lt _ (by decide)⟩ s

theorem maskRow6 (n : ℕ) (h : n / 16 = 6) : MaskRow n := by
  have e : 96 + n % 16 = n := by omega
  rw [← e]
  exact fun s => mask6 ⟨n % 16, Nat.mod_lt _ (by decide)⟩ s

theorem maskRow7 (n : ℕ) (h : n / 16 = 7) : MaskRow n := by
  have e : 112 + n % 16 = n := by omega
  rw [← e]
  exact fun s => mask7 ⟨n % 16, Nat.mod_lt _ (by decide)⟩ s

theorem maskRow8 (n : ℕ) (h : n / 16 = 8) : MaskRow n := by
  have e : 128 + n % 16 = n := by omega
  rw [← e]
  exact fun s => mask8 ⟨n % 16, Nat.mod_lt _ (by decide)⟩ s

theorem maskRow9 (n : ℕ) (h : n / 16 = 9) : MaskRow n := by
  have e : 144 + n % 16 = n := by omega
  rw [← e]
  exact fun s => mask9 ⟨n % 16, Nat.mod_lt _ (by decide)⟩ s

theorem maskRow10 (n : ℕ) (h : n / 16 = 10) : MaskRow n := by
  have e : 160 + n % 16 = n := by omega
  rw [← e]
  exact fun s => mask10 ⟨n % 16, Nat.mod_lt _ (by decide)⟩ s

theorem maskRow11 (n : ℕ) (h : n / 16 = 11) : MaskRow n := by
  have e : 176 + n % 16 = n := by omega
  rw [← e]
  exact fun s => mask11 ⟨n % 16, Nat.mod_lt _ (by decide)⟩ s

theorem maskRow12 (n : ℕ) (h : n / 16 = 12) : MaskRow n := by
  have e : 192 + n % 16 = n := by omega
  rw [← e]
  exact fun s => mask12 ⟨n % 16, Nat.mod_lt _ (by decide)⟩ s

theorem maskRow13 (n : ℕ) (h : n / 16 = 13) : MaskRow n := by
  have e : 208 + n % 16 = n := by omega
  rw [← e]
  exact fun s => mask13 ⟨n % 16, Nat.mod_lt _ (by decide)⟩ s

theorem maskRow14 (n : ℕ) (h : n / 16 = 14) : MaskRow n := by
  have e : 224 + n % 16 = n := by omega
  rw [← e]
  exact fun s => mask14 ⟨n % 16, Nat.mod_lt _ (by decide)⟩ s

theorem maskRow15 (n : ℕ) (h : n / 16 = 15) : MaskRow n := by
  have e : 240 + n % 16 = n := by omega
  rw [← e]
  exact fun s => mask15 ⟨n % 16, Nat.mod_lt _ (by decide)⟩ s

theorem maskRow16 (n : ℕ) (h : n / 16 = 16) : MaskRow n := by
  have e : 256 + n % 16 = n := by omega
  rw [← e]
  exact fun s => mask16 ⟨n % 16, Nat.mod_lt _ (by decide)⟩ s

theorem maskRow17 (n : ℕ) (h : n / 16 = 17) : MaskRow n := by
  have e : 272 + n % 16 = n := by omega
  rw [← e]
  exact fun s => mask17 ⟨n % 16, Nat.mod_lt _ (by decide)⟩ s

theorem maskRow18 (n : ℕ) (h : n / 16 = 18) : MaskRow n := by
  have e : 288 + n % 16 = n := by omega
  rw [← e]
  exact fun s => mask18 ⟨n % 16, Nat.mod_lt _ (by decide)⟩ s

theorem maskRow19 (n : ℕ) (h : n / 16 = 19) : MaskRow n := by
  have e : 304 + n % 16 = n := by omega
  rw [← e]
  exact fun s => mask19 ⟨n % 16, Nat.mod_lt _ (by decide)⟩ s

theorem maskRow20 (n : ℕ) (h : n / 16 = 20) : MaskRow n := by
  have e : 320 + n % 16 = n := by omega
  rw [← e]
  exact fun s => mask20 ⟨n % 16, Nat.mod_lt _ (by decide)⟩ s

theorem maskRow21 (n : ℕ) (h : n / 16 = 21) : MaskRow n := by
  have e : 336 + n % 16 = n := by omega
  rw [← e]
  exact fun s => mask21 ⟨n % 16, Nat.mod_lt _ (by decide)⟩ s

theorem maskRow22 (n : ℕ) (h : n / 16 = 22) : MaskRow n := by
  have e : 352 + n % 16 = n := by omega
  rw [← e]
  exact fun s => mask22 ⟨n % 16, Nat.mod_lt _ (by decide)⟩ s

theorem maskRow23 (n : ℕ) (h : n / 16 = 23) : MaskRow n := by
  have e : 368 + n % 16 = n := by omega
  rw [← e]
  exact fun s => mask23 ⟨n % 16, Nat.mod_lt _ (by decide)⟩ s

theorem maskRow24 (n : ℕ) (h : n / 16 = 24) : MaskRow n := by
  have e : 384 + n % 16 = n := by omega
  rw [← e]
  exact fun s => mask24 ⟨n % 16, Nat.mod_lt _ (by decide)⟩ s

theorem maskRow25 (n : ℕ) (h : n / 16 = 25) : MaskRow n := by
  have e : 400 + n % 16 = n := by omega
  rw [← e]
  exact fun s => mask25 ⟨n % 16, Nat.mod_lt _ (by decide)⟩ s

theorem maskRow26 (n : ℕ) (h : n / 16 = 26) : MaskRow n := by
  have e : 416 + n % 16 = n := by omega
  rw [← e]
  exact fun s => mask26 ⟨n % 16, Nat.mod_lt _ (by decide)⟩ s

theorem maskRow27 (n : ℕ) (h : n / 16 = 27) : MaskRow n := by
  have e : 432 + n % 16 = n := by omega
  rw [← e]
  exact fun s => mask27 ⟨n % 16, Nat.mod_lt _ (by decide)⟩ s

theorem maskRow28 (n : ℕ) (h : n / 16 = 28) : MaskRow n := by
  have e : 448 + n % 16 = n := by omega
  rw [← e]
  exact fun s => mask28 ⟨n % 16, Nat.mod_lt _ (by decide)⟩ s

theorem maskRow29 (n : ℕ) (h : n / 16 = 29) : MaskRow n := by
  have e : 464 + n % 16 = n := by omega
  rw [← e]
  exact fun s => mask29 ⟨n % 16, Nat.mod_lt _ (by decide)⟩ s

theorem maskRow30 (n : ℕ) (h : n / 16 = 30) : MaskRow n := by
  have e : 480 + n % 16 = n := by omega
  rw [← e]
  exact fun s => mask30 ⟨n % 16, Nat.mod_lt _ (by decide)⟩ s

theorem maskRow31 (n : ℕ) (h : n / 16 = 31) : MaskRow n := by
  have e : 496 + n % 16 = n := by omega
  rw [← e]
  exact fun s => mask31 ⟨n % 16, Nat.mod_lt _ (by decide)⟩ s

theorem levelRow0 (n : ℕ) (h : n / 8 = 0) : LevelRow n := by
  have e : 0 + n % 8 = n := by omega
  rw [← e]
  exact fun s => level0 ⟨n % 8, Nat.mod_lt _ (by decide)⟩ s

theorem levelRow1 (n : ℕ) (h : n / 8 = 1) : LevelRow n := by
  have e : 8 + n % 8 = n := by omega
  rw [← e]
  exact fun s => level1 ⟨n % 8, Nat.mod_lt _ (by decide)⟩ s

theorem levelRow2 (n : ℕ) (h : n / 8 = 2) : LevelRow n := by
  have e : 16 + n % 8 = n := by omega
  rw [← e]
  exact fun s => level2 ⟨n % 8, Nat.mod_lt _ (by decide)⟩ s

theorem levelRow3 (n : ℕ) (h : n / 8 = 3) : LevelRow n := by
  have e : 24 + n % 8 = n := by omega
  rw [← e]
  exact fun s => level3 ⟨n % 8, Nat.mod_lt _ (by decide)⟩ s

theorem levelRow4 (n : ℕ) (h : n / 8 = 4) : LevelRow n := by
  have e : 32 + n % 8 = n := by omega
  rw [← e]
  exact fun s => level4 ⟨n % 8, Nat.mod_lt _ (by decide)⟩ s

theorem levelRow5 (n : ℕ) (h : n / 8 = 5) : LevelRow n := by
  have e : 40 + n % 8 = n := by omega
  rw [← e]
  exact fun s => level5 ⟨n % 8, Nat.mod_lt _ (by decide)⟩ s

theorem levelRow6 (n : ℕ) (h : n / 8 = 6) : LevelRow n := by
  have e : 48 + n % 8 = n := by omega
  rw [← e]
  exact fun s => level6 ⟨n % 8, Nat.mod_lt _ (by decide)⟩ s

theorem levelRow7 (n : ℕ) (h : n / 8 = 7) : LevelRow n := by
  have e : 56 + n % 8 = n := by omega
  rw [← e]
  exact fun s => level7 ⟨n % 8, Nat.mod_lt _ (by decide)⟩ s

theorem maskRow (n : ℕ) (hn : n < 512) : MaskRow n := by
  have c : n / 16 = 0 ∨ n / 16 = 1 ∨ n / 16 = 2 ∨ n / 16 = 3 ∨ n / 16 = 4 ∨ n / 16 = 5 ∨ n / 16 = 6 ∨ n / 16 = 7 ∨ n / 16 = 8 ∨ n / 16 = 9 ∨ n / 16 = 10 ∨ n / 16 = 11 ∨ n / 16 = 12 ∨ n / 16 = 13 ∨ n / 16 = 14 ∨ n / 16 = 15 ∨ n / 16 = 16 ∨ n / 16 = 17 ∨ n / 16 = 18 ∨ n / 16 = 19 ∨ n / 16 = 20 ∨ n / 16 = 21 ∨ n / 16 = 22 ∨ n / 16 = 23 ∨ n / 16 = 24 ∨ n / 16 = 25 ∨ n / 16 = 26 ∨ n / 16 = 27 ∨ n / 16 = 28 ∨ n / 16 = 29 ∨ n / 16 = 30 ∨ n / 16 = 31 := by omega
  rcases c with h | h | h | h | h | h | h | h | h | h | h | h | h | h | h | h | h | h | h | h | h | h | h | h | h | h | h | h | h | h | h | h
  · exact maskRow0 n h
  · exact maskRow1 n h
  · exact maskRow2 n h
  · exact maskRow3 n h
  · exact maskRow4 n h
  · exact maskRow5 n h
  · exact maskRow6 n h
  · exact maskRow7 n h
  · exact maskRow8 n h
  · exact maskRow9 n h
  · exact maskRow10 n h
  · exact maskRow11 n h
  · exact maskRow12 n h
  · exact maskRow13 n h
  · exact maskRow14 n h
  · exact maskRow15 n h
  · exact maskRow16 n h
  · exact maskRow17 n h
  · exact maskRow18 n h
  · exact maskRow19 n h
  · exact maskRow20 n h
  · exact maskRow21 n h
  · exact maskRow22 n h
  · exact maskRow23 n h
  · exact maskRow24 n h
  · exact maskRow25 n h
  · exact maskRow26 n h
  · exact maskRow27 n h
  · exact maskRow28 n h
  · exact maskRow29 n h
  · exact maskRow30 n h
  · exact maskRow31 n h

theorem levelRow (n : ℕ) (hn : n < 64) : LevelRow n := by
  have c : n / 8 = 0 ∨ n / 8 = 1 ∨ n / 8 = 2 ∨ n / 8 = 3 ∨ n / 8 = 4 ∨ n / 8 = 5 ∨ n / 8 = 6 ∨ n / 8 = 7 := by omega
  rcases c with h | h | h | h | h | h | h | h
  · exact levelRow0 n h
  · exact levelRow1 n h
  · exact levelRow2 n h
  · exact levelRow3 n h
  · exact levelRow4 n h
  · exact levelRow5 n h
  · exact levelRow6 n h
  · exact levelRow7 n h

theorem lit0t_eq (r s : ℕ) (hr : r < 512) (hs : s < 64) :
    lit0t (r * 192 + s) = maskBits (r / 64) (r % 64) s := maskRow r hr ⟨s, hs⟩

theorem lit1t_eq (t s : ℕ) (ht : t < 64) (hs : s < 256) :
    lit1t (t * 256 + s) = level t (s % 64) := levelRow t ht ⟨s, hs⟩

end Cert.MixerIdeal.Tables

end
-- ==== Proof.MixValue.lean ====
/-
  The arrays the token mixer's call ends with: the recurrence's state after each sequence, and the rows its convolution
  carries to the next call.
-/
module

public import proofs.«01_k».proof.Proof.MixIn
public import proofs.«01_k».proof.Proof.MixTables

@[expose] public section
set_option maxRecDepth 16384
noncomputable section

open Idealize.ShloMosaic Idealize.ShloMosaic.TcCoe Idealize.SL.Sem

namespace Cert.MixerIdeal.Body

open Cert.MixerIdeal Cert.MixerIdeal.Gen Cert.MixerIdeal.Trip

variable (m : (ℓ : Loc nD τ sig) → Buf (Elt Ideal) ℓ)

/-- The sequence, -/
def xs (c : Dev nD) (b : Fin 8) (n : Fin 2048) (j : Fin 1024) : EReal :=
  (m ((c : Thread nD τ).loc main_arg0) : Vec Ideal S8x2048x1024 .f32) (ix3 b n j)
/-- the norm's gains, -/
def gs (c : Dev nD) (j : Fin 1024) : EReal := (m ((c : Thread nD τ).loc main_arg1) : Vec Ideal S1x8x1024 .f32) (ix3 0 2 j)
/-- the input projection, -/
def ws (c : Dev nD) (i : Fin 1024) (j : Fin 3088) : EReal := (m ((c : Thread nD τ).loc main_arg2) : Vec Ideal S1x1024x3088 .f32) (ix3 0 i j)
/-- the gate's up projection -/
def us (c : Dev nD) (i : Fin 16) (j : Fin 256) : EReal := (m ((c : Thread nD τ).loc main_arg3) : Vec Ideal S1x16x256 .f32) (ix3 0 i j)
/-- and its bias. -/
def bs (c : Dev nD) (j : Fin 256) : EReal := (m ((c : Thread nD τ).loc main_arg4) : Vec Ideal S1x256 .f32) (ix2 0 j)

theorem off1 : ∀ k : Fin k0_t1_loop.trips, k0_off1 k = ![64 * k.val, 0] := by decide +kernel
theorem off2 : ∀ k : Fin k0_t1_loop.trips, k0_off2 k = ![64 * k.val, 0] := by decide +kernel
theorem trips8 : k0_t1_loop.trips = 8 := by decide +kernel

theorem rows1_apply (X : Vec Ideal S512x256 .f32) (k : Fin k0_t1_loop.trips) (s : Fin 64) (c : Fin 256) :
    rows1 X k (ix2 s c) = X (ix2 ⟨64 * k.val + s.val, by have : k.val < 8 := trips8 ▸ k.isLt; omega⟩ c) := by
  refine congrArg X (funext fun a => Fin.ext ?_)
  have h := off1 k
  fin_cases a
  · show k0_off1 k 0 + 1 * s.val = 64 * k.val + s.val
    rw [h, one_mul]; rfl
  · show k0_off1 k 1 + 1 * c.val = c.val
    rw [h, one_mul]; exact Nat.zero_add _

theorem rows2_apply (X : Vec Ideal S512x512 .f32) (k : Fin k0_t1_loop.trips) (s : Fin 64) (c : Fin 512) :
    rows2 X k (ix2 s c) = X (ix2 ⟨64 * k.val + s.val, by have : k.val < 8 := trips8 ▸ k.isLt; omega⟩ c) := by
  refine congrArg X (funext fun a => Fin.ext ?_)
  have h := off2 k
  fin_cases a
  · show k0_off2 k 0 + 1 * s.val = 64 * k.val + s.val
    rw [h, one_mul]; rfl
  · show k0_off2 k 1 + 1 * c.val = c.val
    rw [h, one_mul]; exact Nat.zero_add _

theorem tail2_apply (C : Vec Ideal S8x512 .f32) (r : Fin 2) (c : Fin 512) : tail2 C (ix2 r c) = C (ix2 ⟨6 + r.val, by omega⟩ c) := by
  refine congrArg C (funext fun a => Fin.ext ?_)
  fin_cases a
  · show 6 + 1 * r.val = 6 + r.val
    rw [one_mul]
  · show 0 + 1 * c.val = c.val
    rw [one_mul, Nat.zero_add]

/-- The last 64 rows of the mask table pick what is later. -/
theorem mask_apply (c : Dev nD) (t : Fin cfg0.N) (s u : Fin 64) :
    iblk m c 10 t (ix2 ⟨448 + s.val, by omega⟩ ⟨u.val, by omega⟩) = (if s < u then 1 else 0 : EReal) := by
  rw [b10]
  have e : lit0 (S512x192.rowMajor (ix2 ⟨448 + s.val, by omega⟩ ⟨u.val, by omega⟩)) = Tables.maskBits 7 s.val u.val := by
    have h := Tables.lit0t_eq (448 + s.val) u.val (by omega) (by omega)
    have h7 : (448 + s.val) / 64 = 7 := by omega
    have h8 : (448 + s.val) % 64 = s.val := by omega
    rw [h7, h8] at h
    rw [← h]
    refine congrArg lit0t ?_
    show ((S512x192.rowMajor (ix2 ⟨448 + s.val, by omega⟩ ⟨u.val, by omega⟩)).val : ℕ) = _
    simp [Shape.rowMajor_val_two]
  rw [e]
  show FloatOps.ofBits (F := Ideal) .bf16 (if u.val ≤ s.val then 0#16 else 0x3f80#16) = _
  by_cases h : s < u
  · have h' : ¬ u.val ≤ s.val := by have : s.val < u.val := h; omega
    rw [if_neg h', if_pos h]
    exact Ideal.ofBits_one_bf16
  · have h' : u.val ≤ s.val := by have : ¬ s.val < u.val := h; omega
    rw [if_pos h', if_neg h]
    exact Ideal.ofBits_zero_bf16

/-- The chunks of a tile, one after another. -/
theorem loop_states (Kt Lt : Vec Ideal S512x256 .f32) (Vt : Vec Ideal S512x512 .f32) (Mm : Vec Ideal S512x192 .bf16) (S : Vec Ideal S256x128 .f32)
    (K LA : Fin 2048 → Fin 256 → EReal) (V : Fin 2048 → Fin 512 → EReal) (n0 : ℕ)
    (hK : ∀ (r : Fin 512) c, Kt (ix2 r c) = K ⟨(n0 * 64 + r.val) % 2048, Nat.mod_lt _ (by norm_num)⟩ c)
    (hL : ∀ (r : Fin 512) c, Lt (ix2 r c) = LA ⟨(n0 * 64 + r.val) % 2048, Nat.mod_lt _ (by norm_num)⟩ c)
    (hV : ∀ (r : Fin 512) c, Vt (ix2 r c) = V ⟨(n0 * 64 + r.val) % 2048, Nat.mod_lt _ (by norm_num)⟩ c)
    (hf : ∀ n c, ∃ x : ℝ, LA n c = x)
    (hM : ∀ s u : Fin 64, Mm (ix2 ⟨448 + s.val, by omega⟩ ⟨u.val, by omega⟩) = if s < u then 1 else 0)
    (hS : ∀ c v, S (ix2 c v) = Rows.states K LA V n0 c v) :
    ∀ n, n ≤ 8 → ∀ c v, loopS Kt Lt Vt Mm S n (ix2 c v) = Rows.states K LA V (n0 + n) c v := by
  intro n
  induction n with
  | zero => exact fun _ => hS
  | succ n ih =>
    intro hn c v
    have h : n < k0_t1_loop.trips := by rw [trips8]; omega
    refine (congrFun (dif_pos h) (ix2 c v)).trans ?_
    have ht : ∀ s : Fin 64, (⟨(n0 * 64 + (64 * n + s.val)) % 2048, Nat.mod_lt _ (by norm_num)⟩ : Fin 2048) = Rows.tok (n0 + n) s := fun s =>
      Fin.ext (by show (n0 * 64 + (64 * n + s.val)) % 2048 = ((n0 + n) * 64 + s.val) % 2048; congr 1; ring)
    have e1 : ∀ s c, rows1 Kt ⟨n, h⟩ (ix2 s c) = K (Rows.tok (n0 + n) s) c := fun s c =>
      (rows1_apply Kt ⟨n, h⟩ s c).trans ((hK _ c).trans (congrArg (K · c) (ht s)))
    have e2 : ∀ s c, rows1 Lt ⟨n, h⟩ (ix2 s c) = LA (Rows.tok (n0 + n) s) c := fun s c =>
      (rows1_apply Lt ⟨n, h⟩ s c).trans ((hL _ c).trans (congrArg (LA · c) (ht s)))
    have e3 : ∀ s c, rows2 Vt ⟨n, h⟩ (ix2 s c) = V (Rows.tok (n0 + n) s) c := fun s c =>
      (rows2_apply Vt ⟨n, h⟩ s c).trans ((hV _ c).trans (congrArg (V · c) (ht s)))
    refine (chunkS_apply _ _ _ _ _ (fun u c => (e2 u c).symm ▸ hf _ c) hM c v).trans ?_
    simp only [e1, e2, e3]
    exact congrArg (fun S => Rows.chunk (fun s => K (Rows.tok (n0 + n) s)) (fun s => LA (Rows.tok (n0 + n) s)) (fun s => V (Rows.tok (n0 + n) s)) S c v)
      (funext fun c => funext fun v => ih (by omega) c v)

/-- The sequence of grid step `t`, -/
abbrev seq (t : Fin cfg0.N) : Fin 8 := ⟨t.val / 4, by have : t.val < 32 := t.isLt; omega⟩
/-- and the token its row `r` holds. -/
abbrev at_ (t : Fin cfg0.N) (r : Fin 512) : Fin 2048 := ⟨(8 * (t.val % 4) * 64 + r.val) % 2048, Nat.mod_lt _ (by norm_num)⟩

theorem row0 (c : Dev nD) (t : Fin cfg0.N) (r : Fin 512) : (fun j => iblk m c 0 t (ix2 r j)) = xs m c (seq t) (at_ t r) := by
  funext j
  rw [b0]
  refine congrArg (m ((c : Thread nD τ).loc main_arg0) : Vec Ideal S8x2048x1024 .f32) ?_
  have e1 : (⟨(t.val * 512 + r.val) / 2048, by have : t.val < 32 := t.isLt; omega⟩ : Fin 8) = seq t := Fin.mk_eq_mk.mpr (by omega)
  have e2 : (⟨(t.val * 512 + r.val) % 2048, by omega⟩ : Fin 2048) = at_ t r := Fin.mk_eq_mk.mpr (by omega)
  rw [e1, e2]

theorem row1 (c : Dev nD) (t : Fin cfg0.N) : (fun j => iblk m c 1 t (ix2 2 j)) = gs m c := funext fun j => b1 m c t 2 j

theorem tile_K (c : Dev nD) (t : Fin cfg0.N) (r : Fin 512) (k : Fin 256) :
    tK (iblk m c 0 t) (iblk m c 1 t) (iblk m c 2 t) (ix2 r k) = Rows.keys (xs m c (seq t) (at_ t r)) (gs m c) (ws m c) k := by
  refine (tK_apply ..).trans ?_
  rw [row0, row1]
  exact Finset.sum_congr rfl fun j _ => congrArg _ (b2 m c t j _)

theorem tile_V (c : Dev nD) (t : Fin cfg0.N) (r : Fin 512) (k : Fin 512) :
    tV (iblk m c 0 t) (iblk m c 1 t) (iblk m c 2 t) (ix2 r k) = Rows.vals (xs m c (seq t) (at_ t r)) (gs m c) (ws m c) k := by
  refine (tV_apply ..).trans ?_
  rw [row0, row1]
  exact Finset.sum_congr rfl fun j _ => congrArg _ (b2 m c t j _)

theorem tile_LA (c : Dev nD) (t : Fin cfg0.N) (r : Fin 512) (k : Fin 256) :
    tLA (iblk m c 0 t) (iblk m c 1 t) (iblk m c 3 t) (iblk m c 4 t) (iblk m c 5 t) (ix2 r k)
      = Rows.decay (Rows.gate (xs m c (seq t) (at_ t r)) (gs m c) (ws m c) (us m c) (bs m c) k) := by
  refine (tLA_apply ..).trans (congrArg Rows.decay (congrArg₂ (· + ·) ?_ (b5 m c t k)))
  rw [row0, row1]
  refine (Fin.sum_univ_add (a := 16) (b := 112) _).trans ?_
  have z : ∀ j : Fin 112, iblk m c 4 t (ix2 (Fin.natAdd 16 j) k) = (0 : EReal) := fun j =>
    (b4 m c t (Fin.natAdd 16 j) k).trans (dif_neg (by show ¬ 16 + j.val < 16; omega))
  have z' : (∑ j : Fin 112, Rows.lin (Rows.norm (xs m c (seq t) (at_ t r)) (gs m c)) (fun i j => iblk m c 3 t (ix2 i j)) (Fin.natAdd 16 j)
      * iblk m c 4 t (ix2 (Fin.natAdd 16 j) k)) = (0 : EReal) := by
    refine Finset.sum_eq_zero fun j _ => ?_
    rw [z]; exact mul_zero _
  rw [z']
  refine (add_zero _).trans (Finset.sum_congr rfl fun j _ => congrArg₂ (· * ·) ?_ ?_)
  · exact Finset.sum_congr rfl fun i _ => congrArg _ (b3 m c t i j)
  · exact (b4 m c t (Fin.castAdd 112 j) k).trans (dif_pos j.isLt)

theorem tile_C (c : Dev nD) (t : Fin cfg0.N) (r : Fin 8) (k : Fin 512) :
    tileC (iblk m c 0 t) (iblk m c 1 t) (iblk m c 6 t) (ix2 r k)
      = Rows.conv (xs m c (seq t) (at_ t ⟨504 + r.val, by omega⟩)) (gs m c) (ws m c) k := by
  refine (tileC_apply ..).trans ?_
  rw [row0, row1]
  have e : ∀ k : Fin 1536, Rows.lin (Rows.norm (xs m c (seq t) (at_ t ⟨504 + r.val, by omega⟩)) (gs m c)) (fun i j => iblk m c 6 t (ix2 i j)) k
      = Rows.lin (Rows.norm (xs m c (seq t) (at_ t ⟨504 + r.val, by omega⟩)) (gs m c)) (ws m c) ⟨1552 + k.val, by omega⟩ := fun k =>
    Finset.sum_congr rfl fun j _ => congrArg _ (b6 m c t j k)
  rw [e, e]
  exact congrArg₂ (· * ·) (congrArg _ (Fin.mk_eq_mk.mpr (by show 1552 + (512 + k.val) = 2064 + k.val; omega)))
    (congrArg _ (Fin.mk_eq_mk.mpr (by show 1552 + (1024 + k.val) = 2576 + k.val; omega)))

/-- The decays' logarithms are real numbers. -/
def Real' (c : Dev nD) : Prop := ∀ b n k, ∃ x : ℝ, Rows.decay (Rows.gate (xs m c b n) (gs m c) (ws m c) (us m c) (bs m c) k) = x

/-- One grid step: eight chunks. -/
theorem tile_states (c : Dev nD) (hf : Real' m c) (t : Fin cfg0.N) (S : Vec Ideal S256x128 .f32)
    (hS : ∀ k v, S (ix2 k v) = Rows.stateOf (xs m c (seq t)) (gs m c) (ws m c) (us m c) (bs m c) (8 * (t.val % 4)) k v) (k : Fin 256) (v : Fin 128) :
    tileS (iblk m c 0 t) (iblk m c 1 t) (iblk m c 2 t) (iblk m c 3 t) (iblk m c 4 t) (iblk m c 5 t) (iblk m c 10 t) S (ix2 k v)
      = Rows.stateOf (xs m c (seq t)) (gs m c) (ws m c) (us m c) (bs m c) (8 * (t.val % 4) + 8) k v := by
  unfold tileS
  rw [trips8]
  exact loop_states _ _ _ _ S _ _ _ (8 * (t.val % 4)) (tile_K m c t) (tile_LA m c t) (tile_V m c t) (fun n k => hf (seq t) n k) (mask_apply m c t) hS 8 le_rfl k v

theorem zero_state (k : Fin 256) (v : Fin 128) : (k0_pay34 (F := Ideal)) (ix2 k v) = (0 : EReal) := by
  pointwise [k0_pay34]

/-- The state after grid step `t`. -/
theorem state_at (c : Dev nD) (hf : Real' m c) : ∀ (n : ℕ) (hn : n < cfg0.N) (k : Fin 256) (v : Fin 128),
    stAt m c (n + 1) (ix2 k v) = Rows.stateOf (xs m c (seq ⟨n, hn⟩)) (gs m c) (ws m c) (us m c) (bs m c) (8 * (n % 4) + 8) k v := by
  intro n
  induction n with
  | zero =>
    intro hn k v
    rw [stAt_first m c ⟨0, hn⟩ rfl]
    exact tile_states m c hf ⟨0, hn⟩ _ zero_state k v
  | succ n ih =>
    intro hn k v
    by_cases h : (n + 1) % 4 = 0
    · rw [stAt_first m c ⟨n + 1, hn⟩ h]
      refine tile_states m c hf ⟨n + 1, hn⟩ _ (fun k v => ?_) k v
      rw [show 8 * ((⟨n + 1, hn⟩ : Fin cfg0.N).val % 4) = 0 from by show 8 * ((n + 1) % 4) = 0; omega]
      exact zero_state k v
    · rw [stAt_next m c ⟨n + 1, hn⟩ h]
      refine tile_states m c hf ⟨n + 1, hn⟩ _ (fun k v => ?_) k v
      refine (ih (Nat.lt_of_succ_lt hn) k v).trans ?_
      have e1 : seq ⟨n, Nat.lt_of_succ_lt hn⟩ = seq ⟨n + 1, hn⟩ := Fin.mk_eq_mk.mpr (by show n / 4 = (n + 1) / 4; omega)
      have e2 : 8 * (n % 4) + 8 = 8 * ((n + 1) % 4) := by omega
      rw [e1, e2]

/-- The state after each sequence, as a function of the arguments. -/
def G13 (c : Dev nD) : Vec Ideal S8x256x128 .f32 := fun y =>
  Rows.stateOf (xs m c (y 0)) (gs m c) (ws m c) (us m c) (bs m c) 32 (y 1) (y 2)

/-- The last two rows of the product the convolution takes. -/
def G14 (c : Dev nD) : Vec Ideal S8x2x512 .f32 := fun y =>
  Rows.conv (xs m c (y 0) ⟨2046 + (y 1).val, by have : (y 1).val < 2 := (y 1).isLt; omega⟩) (gs m c) (ws m c) (y 2)

theorem last13 : ∀ t : Fin cfg0.N, (cfg0.win 13).flush t = true → t.val % 4 = 3 := (by decide +kernel : ∀ t : Fin grid0.N, _)
theorem last14 : ∀ t : Fin cfg0.N, (cfg0.win 14).flush t = true → t.val % 4 = 3 := (by decide +kernel : ∀ t : Fin grid0.N, _)

theorem pay1_apply (S : Vec Ideal S256x128 .f32) (k : Fin 256) (v : Fin 128) : k0_pay1 S (ix3 0 k v) = S (ix2 k v) := by
  pointwise [k0_pay1]

theorem pay2_apply (S : Vec Ideal S2x512 .f32) (k : Fin 2) (v : Fin 512) : k0_pay2 S (ix3 0 k v) = S (ix2 k v) := by
  pointwise [k0_pay2]

theorem final13 (c : Dev nD) (hf : Real' m c) : (dats m 0 c).arrAt 13 cfg0.N = G13 m c := by
  refine (dats m 0 c).arrAt_eq_of_covers 13 _ (by decide +kernel) fun t hf' y => ?_
  obtain ⟨z, k, v, rfl⟩ : ∃ (z : Fin 1) (k : Fin 256) (v : Fin 128), y = ix3 z k v := ⟨y 0, y 1, y 2, eq_ix3 y⟩
  obtain rfl : z = 0 := Subsingleton.elim _ _
  have h3 := last13 t hf'
  blk_simp
  rw [after0_13]
  have e : (win0_13.blk t).view.emb (ix3 0 k v) = ix3 (seq t) k v := by blk_ext [i13 t]
  rw [e, pay1_apply]
  refine (state_at m c hf t.val t.isLt k v).trans ?_
  rw [h3]
  rfl

theorem final14 (c : Dev nD) : (dats m 0 c).arrAt 14 cfg0.N = G14 m c := by
  refine (dats m 0 c).arrAt_eq_of_covers 14 _ (by decide +kernel) fun t hf' y => ?_
  obtain ⟨z, k, v, rfl⟩ : ∃ (z : Fin 1) (k : Fin 2) (v : Fin 512), y = ix3 z k v := ⟨y 0, y 1, y 2, eq_ix3 y⟩
  obtain rfl : z = 0 := Subsingleton.elim _ _
  have h3 := last14 t hf'
  blk_simp
  rw [after0_14]
  have e : (win0_14.blk t).view.emb (ix3 0 k v) = ix3 (seq t) k v := by blk_ext [i14 t]
  rw [e, pay2_apply, tail2_apply]
  refine (tile_C m c t _ v).trans ?_
  have e2 : at_ t ⟨504 + (6 + k.val), by omega⟩ = ⟨2046 + k.val, by omega⟩ := Fin.mk_eq_mk.mpr (by show (8 * (t.val % 4) * 64 + (504 + (6 + k.val))) % 2048 = 2046 + k.val; omega)
  exact congrArg (fun n => Rows.conv (xs m c (seq t) n) (gs m c) (ws m c) v) e2

end Cert.MixerIdeal.Body

end
-- ==== Proof.MixFrameRunA.lean ====
/-
  The mixer's body run on the first tile of a sequence.
-/
module

public import proofs.«01_k».proof.Proof.MixFrameBody

@[expose] public section
set_option maxRecDepth 16384
noncomputable section

namespace Cert.Mixer.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mixer.Gen

variable {F : FTy → Type} [FloatOps F]

local notation "𝕄" => MT nD τ sig Unit (Elt F) ℕ (UR sig nD τ) ℕ

set_option maxHeartbeats 4000000 in
/-- The body on the first tile of a sequence runs, and gives its buffers back. -/
theorem runA (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  · skip
    simp only [cc0_mixer_prompt_eq_skeleton]; unfold cc0_mixer_prompt_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Mixer.Body

end
-- ==== Proof.MixFrameRunB.lean ====
/-
  The mixer's body run on a tile that is neither first nor last.
-/
module

public import proofs.«01_k».proof.Proof.MixFrameBody

@[expose] public section
set_option maxRecDepth 16384
noncomputable section

namespace Cert.Mixer.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mixer.Gen

variable {F : FTy → Type} [FloatOps F]

local notation "𝕄" => MT nD τ sig Unit (Elt F) ℕ (UR sig nD τ) ℕ

set_option maxHeartbeats 4000000 in
/-- The body on a tile that is neither first nor last runs, and gives its buffers back. -/
theorem runB (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : ¬isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  · skip
    simp only [cc0_mixer_prompt_eq_skeleton]; unfold cc0_mixer_prompt_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Mixer.Body

end
-- ==== Proof.MixFrameRunC.lean ====
/-
  The mixer's body run on the last tile of a sequence.
-/
module

public import proofs.«01_k».proof.Proof.MixFrameBody

@[expose] public section
set_option maxRecDepth 16384
noncomputable section

namespace Cert.Mixer.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mixer.Gen

variable {F : FTy → Type} [FloatOps F]

local notation "𝕄" => MT nD τ sig Unit (Elt F) ℕ (UR sig nD τ) ℕ

set_option maxHeartbeats 4000000 in
/-- The body on the last tile of a sequence runs, and gives its buffers back. -/
theorem runC (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1024x1536 .bf16) (harg8 : arg8.IsWhole) (arg9 : Memref sig .tc .vmem S1x128 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S512x192 .bf16) (harg12 : arg12.IsWhole) (arg13 : Memref sig .tc .vmem S64x256 .i32) (harg13 : arg13.IsWhole) (arg14 : Memref sig .tc .vmem S512x1024 .f32) (harg14 : arg14.IsWhole) (arg15 : Memref sig .tc .vmem S1x256x128 .f32) (harg15 : arg15.IsWhole) (arg16 : Memref sig .tc .vmem S1x2x512 .f32) (harg16 : arg16.IsWhole) (arg17 : Memref sig .tc .vmem S256x128 .f32) (harg17 : arg17.IsWhole) (arg18 : Memref sig .tc .vmem S8x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x512 .f32) (harg22 : arg22.IsWhole) (arg23 : Memref sig .tc .vmem S512x512 .f32) (harg23 : arg23.IsWhole) (hc0 : ¬isFirst i) (hc1 : isLast i)
    (x0 : Vec F S512x1024 .f32) (x1 : Vec F S8x1024 .f32) (x2 : Vec F S1024x1536 .bf16) (x3 : Vec F S1024x128 .bf16) (x4 : Vec F S128x256 .bf16) (x5 : Vec F S1x256 .f32) (x6 : Vec F S1024x1536 .bf16) (x7 : Vec F S1x128 .f32) (x8 : Vec F S3x512 .f32) (x9 : Vec F S1024x1024 .bf16) (x10 : Vec F S512x192 .bf16) (x11 : Vec F S64x256 .i32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  · skip
    simp only [cc0_mixer_prompt_eq_skeleton]; unfold cc0_mixer_prompt_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Mixer.Body

end
-- ==== Proof.MixFrameLaunch.lean ====
/-
  The mixer's body at every point of its grid, and the launch, with nothing said of what the results hold.
-/
module

public import proofs.«01_k».proof.Proof.MixFrameRunA
public import proofs.«01_k».proof.Proof.MixFrameRunB
public import proofs.«01_k».proof.Proof.MixFrameRunC

@[expose] public section
set_option maxRecDepth 16384
noncomputable section

namespace Cert.Mixer.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mixer.Gen

variable {F : FTy → Type} [FloatOps F]

local notation "𝕄" => MT nD τ sig Unit (Elt F) ℕ (UR sig nD τ) ℕ

variable (m : (l : Loc nD τ sig) → Buf (Elt F) l) (ρ : Dev nD → PrngReg)

/-- The windows whose contents after the body are not named. -/
def forgets0 : Fin 15 → Bool := fun w => w.val == 12 || w.val == 13 || w.val == 14

/-- The arrays as the launch finds them, and what the body leaves in every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem leavesIn (w : Fin 15) (hw : w.val < 13) (c : Dev nD) (t : Fin cfg0.N) :
    (dats m 0 c).leavesExact w t = owns (c : Thread nD τ) ((cfg0.win w).stage (cfg0.slots t w)) fullShare ((dats m 0 c).after w t) := by
  have hl : cfg0.idle w (cfg0.grid.coords t) = false := live w hw t
  unfold Dat.leavesExact; rw [hl]

theorem leaves0_0 (c : Dev nD) (t : Fin cfg0.N) : (dats m 0 c).leavesExact 0 t = owns (c : Thread nD τ) (stg0 t) fullShare (iblk m c 0 t) := by
  rw [leavesIn m 0 (by decide) c t, after0_0]
theorem leaves0_1 (c : Dev nD) (t : Fin cfg0.N) : (dats m 0 c).leavesExact 1 t = owns (c : Thread nD τ) (stg1 t) fullShare (iblk m c 1 t) := by
  rw [leavesIn m 1 (by decide) c t, after0_1]
theorem leaves0_2 (c : Dev nD) (t : Fin cfg0.N) : (dats m 0 c).leavesExact 2 t = owns (c : Thread nD τ) (stg2 t) fullShare (iblk m c 2 t) := by
  rw [leavesIn m 2 (by decide) c t, after0_2]
theorem leaves0_3 (c : Dev nD) (t : Fin cfg0.N) : (dats m 0 c).leavesExact 3 t = owns (c : Thread nD τ) (stg3 t) fullShare (iblk m c 3 t) := by
  rw [leavesIn m 3 (by decide) c t, after0_3]
theorem leaves0_4 (c : Dev nD) (t : Fin cfg0.N) : (dats m 0 c).leavesExact 4 t = owns (c : Thread nD τ) (stg4 t) fullShare (iblk m c 4 t) := by
  rw [leavesIn m 4 (by decide) c t, after0_4]
theorem leaves0_5 (c : Dev nD) (t : Fin cfg0.N) : (dats m 0 c).leavesExact 5 t = owns (c : Thread nD τ) (stg5 t) fullShare (iblk m c 5 t) := by
  rw [leavesIn m 5 (by decide) c t, after0_5]
theorem leaves0_6 (c : Dev nD) (t : Fin cfg0.N) : (dats m 0 c).leavesExact 6 t = owns (c : Thread nD τ) (stg6 t) fullShare (iblk m c 6 t) := by
  rw [leavesIn m 6 (by decide) c t, after0_6]
theorem leaves0_7 (c : Dev nD) (t : Fin cfg0.N) : (dats m 0 c).leavesExact 7 t = owns (c : Thread nD τ) (stg7 t) fullShare (iblk m c 7 t) := by
  rw [leavesIn m 7 (by decide) c t, after0_7]
theorem leaves0_8 (c : Dev nD) (t : Fin cfg0.N) : (dats m 0 c).leavesExact 8 t = owns (c : Thread nD τ) (stg8 t) fullShare (iblk m c 8 t) := by
  rw [leavesIn m 8 (by decide) c t, after0_8]
theorem leaves0_9 (c : Dev nD) (t : Fin cfg0.N) : (dats m 0 c).leavesExact 9 t = owns (c : Thread nD τ) (stg9 t) fullShare (iblk m c 9 t) := by
  rw [leavesIn m 9 (by decide) c t, after0_9]
theorem leaves0_10 (c : Dev nD) (t : Fin cfg0.N) : (dats m 0 c).leavesExact 10 t = owns (c : Thread nD τ) (stg10 t) fullShare (iblk m c 10 t) := by
  rw [leavesIn m 10 (by decide) c t, after0_10]
theorem leaves0_11 (c : Dev nD) (t : Fin cfg0.N) : (dats m 0 c).leavesExact 11 t = owns (c : Thread nD τ) (stg11 t) fullShare (iblk m c 11 t) := by
  rw [leavesIn m 11 (by decide) c t, after0_11]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare d)
    ∗ (∃ d, owns (c : Thread nD τ) (stg13 t) fullShare d)
    ∗ (∃ d, owns (c : Thread nD τ) (stg14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (stg12 t) fullShare d)
    ∗ (∃ d, owns (c : Thread nD τ) (stg13 t) fullShare d)
    ∗ (∃ d, owns (c : Thread nD τ) (stg14 t) fullShare d))

set_option maxHeartbeats 4000000 in
/-- The body at a sequence's first tile. -/
theorem soundA (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launchInv_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runA c (grid0.coords t) _ _ _ _ _ _ _ _ _ _ _ _ _ _ _ _ _ _ _ _ _ _ _ _ _ _ _ _ _ _ _ _ _ _ _ _ _ _ _ _ _ _ _ _ ((isFirst_iff t).mpr h0) (fun h => h1 ((isLast_iff t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  iframel H0 H1 H2 H3 H4 H5 H6 H7 H8 H9 H10 H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H9, H10, H11, H12, H13, H14, HS0, HS1, HS2, HS3, HS4, HS5, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      iframel HS4 HS5
      iexact HS6
    iexact Hg
  iframel Ho H0 H1 H2 H3 H4 H5 H6 H7 H8 H9 H10 H11 H12
  isplitl [H13]; · iexact H13
  iexact H14

set_option maxHeartbeats 4000000 in
/-- The body at a tile neither first nor last. -/
theorem soundB (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launchInv_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB c (grid0.coords t) _ _ _ _ _ _ _ _ _ _ _ _ _ _ _ _ _ _ _ _ _ _ _ _ _ _ _ _ _ _ _ _ _ _ _ _ _ _ _ _ _ _ _ _ (fun h => h0 ((isFirst_iff t).mp h)) (fun h => h1 ((isLast_iff t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  iframel H0 H1 H2 H3 H4 H5 H6 H7 H8 H9 H10 H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H9, H10, H11, H12, H13, H14, HS0, HS1, HS2, HS3, HS4, HS5, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      iframel HS4 HS5
      iexact HS6
    iexact Hg
  iframel Ho H0 H1 H2 H3 H4 H5 H6 H7 H8 H9 H10 H11 H12
  isplitl [H13]; · iexact H13
  iexact H14

set_option maxHeartbeats 4000000 in
/-- The body at a sequence's last tile. -/
theorem soundC (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launchInv_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runC c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  iframel H0 H1 H2 H3 H4 H5 H6 H7 H8 H9 H10 H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H9, H10, H11, H12, H13, H14, HS0, HS1, HS2, HS3, HS4, HS5, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      iframel HS4 HS5
      iexact HS6
    iexact Hg
  iframel Ho H0 H1 H2 H3 H4 H5 H6 H7 H8 H9 H10 H11 H12
  isplitl [H13]; · iexact H13
  iexact H14

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundA m c t h0 (by omega)
  · by_cases h1 : t.val % 4 = 3
    · exact soundC m c t h0 h1
    · exact soundB m c t h0 h1

theorem defs₀_row (t : Fin cfg0.N) :
    defs₀ (F := F) .tc cfg0.body (cfg0.bodyArgs t (cfg0.slots t)) = bodyAt0 t := by
  unfold defs₀; rw [Defs.onTc_tc]

/-- The body meets what is asked of it at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The launch, from any memory with every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(((h.1 c).2 main_arg0 (Pipeline.mem_restRefs_of main_arg0 (by decide) (by decide))).trans (V_main_arg0 m c)),
    (((h.1 c).2 main_arg1 (Pipeline.mem_restRefs_of main_arg1 (by decide) (by decide))).trans (V_main_arg1 m c)),
    (((h.1 c).2 main_arg2 (Pipeline.mem_restRefs_of main_arg2 (by decide) (by decide))).trans (V_main_arg2 m c)),
    (((h.1 c).2 main_arg3 (Pipeline.mem_restRefs_of main_arg3 (by decide) (by decide))).trans (V_main_arg3 m c)),
    (((h.1 c).2 main_arg4 (Pipeline.mem_restRefs_of main_arg4 (by decide) (by decide))).trans (V_main_arg4 m c)),
    (((h.1 c).2 main_arg5 (Pipeline.mem_restRefs_of main_arg5 (by decide) (by decide))).trans (V_main_arg5 m c)),
    (((h.1 c).2 main_arg6 (Pipeline.mem_restRefs_of main_arg6 (by decide) (by decide))).trans (V_main_arg6 m c)),
    (((h.1 c).2 main_arg7 (Pipeline.mem_restRefs_of main_arg7 (by decide) (by decide))).trans (V_main_arg7 m c))⟩, h.2⟩) (run_main m ρ)

end Cert.Mixer.Body

end
-- ==== Proof.MixFinite.lean ====
/-
  On finite inputs every gate is a real number, so its decay is; the reference's spelling of the decay is the kernel's; and
  the difference of two running sums of decays is the sum of those between.
-/
module

public import proofs.«01_k».proof.Proof.MixRows

@[expose] public section
noncomputable section

open Idealize.ShloMosaic

namespace Cert.Rows

/-- A value that is a real number. -/
def IsReal (a : EReal) : Prop := ∃ r : ℝ, a = r

theorem IsReal.coe (r : ℝ) : IsReal r := ⟨r, rfl⟩

theorem IsReal.add {a b : EReal} : IsReal a → IsReal b → IsReal (a + b)
  | ⟨r, h⟩, ⟨s, k⟩ => ⟨r + s, by rw [h, k, EReal.coe_add]⟩

theorem IsReal.mul {a b : EReal} : IsReal a → IsReal b → IsReal (a * b)
  | ⟨r, h⟩, ⟨s, k⟩ => ⟨r * s, by rw [h, k, EReal.coe_mul]⟩

theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-- An absolute value below infinity is a real number's. -/
theorem IsReal.of_abs_lt {a : EReal} (h : max a (-a) < ⊤) : IsReal a := by
  induction a with
  | bot => simp at h
  | top => simp at h
  | coe r => exact ⟨r, rfl⟩

theorem coe_max (r s : ℝ) : ((max r s : ℝ) : EReal) = max (r : EReal) s := EReal.coe_strictMono.monotone.map_max
theorem coe_min (r s : ℝ) : ((min r s : ℝ) : EReal) = min (r : EReal) s := EReal.coe_strictMono.monotone.map_min

theorem ofBits_1024 : Ideal.ofBits .f32 0x44800000#32 = ((1024 : ℝ) : EReal) := by
  simp [Ideal.ofBits, Ideal.ieee]
  rw [← EReal.coe_mul]
  norm_num

theorem ofBits_16 : Ideal.ofBits .f32 0x41800000#32 = ((16 : ℝ) : EReal) := by
  simp [Ideal.ofBits, Ideal.ieee]
  rw [← EReal.coe_mul]
  norm_num

theorem ofBits_sixteenth : Ideal.ofBits .f32 0x3D800000#32 = ((1 / 16 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  simp only [Ideal.ofBits, Ideal.ieee]
  refine ⟨_, ?_, rfl⟩
  norm_num
  rw [if_neg (by decide)]
  positivity

/-- A finite row, normed by finite weights, is finite. -/
theorem norm_real {x g : Fin 1024 → EReal} (hx : ∀ j, IsReal (x j)) (hg : ∀ j, IsReal (g j)) (k : Fin 1024) : IsReal (norm x g k) := by
  refine ((hx k).mul ?_).mul (hg k)
  choose y hy using hx
  obtain ⟨e, he, hE⟩ := ofBits_eps
  have hs : (∑ j, x j * x j) = ((∑ j, y j * y j : ℝ) : EReal) := by
    rw [coe_sum]
    exact Finset.sum_congr rfl fun j _ => by rw [hy j, EReal.coe_mul]
  have h0 : 0 ≤ ∑ j, y j * y j := Finset.sum_nonneg fun j _ => mul_self_nonneg _
  have hp : 0 < (∑ j, y j * y j) * (1 / 1024) + e := by positivity
  rw [hs, ofBits_1024, hE, Ideal.div_coe (by norm_num), ← EReal.coe_mul, ← EReal.coe_add, Ideal.rsqrt_coe, if_neg (not_lt.mpr hp.le), if_neg hp.ne']
  exact IsReal.coe _

theorem lin_real {n p : ℕ} {x : Fin n → EReal} {w : Fin n → Fin p → EReal} (hx : ∀ j, IsReal (x j)) (hw : ∀ i j, IsReal (w i j))
    (k : Fin p) : IsReal (lin x w k) := IsReal.sum fun j => (hx j).mul (hw j k)

/-- A finite row's gate is finite. -/
theorem gate_real {x g : Fin 1024 → EReal} {w : Fin 1024 → Fin 3088 → EReal} {wu : Fin 16 → Fin 256 → EReal} {b : Fin 256 → EReal}
    (hx : ∀ j, IsReal (x j)) (hg : ∀ j, IsReal (g j)) (hw : ∀ i j, IsReal (w i j)) (hu : ∀ i j, IsReal (wu i j)) (hb : ∀ j, IsReal (b j))
    (c : Fin 256) : IsReal (gate x g w wu b c) :=
  (IsReal.sum fun j => (lin_real (norm_real hx hg) hw _).mul (hu j c)).add (hb c)

theorem log1p_exp (r : ℝ) : Ideal.log1p (Ideal.exp (r : EReal)) = ((Real.log (1 + Real.exp r) : ℝ) : EReal) := by
  have h : 0 < 1 + Real.exp r := by positivity
  rw [Ideal.exp_coe, Ideal.log1p, ← EReal.coe_one, ← EReal.coe_add, Ideal.log_coe, if_neg (not_le.mpr h)]

/-- The decay of a real gate. -/
theorem decay_coe (r : ℝ) : decay r = (((min r 0 - Real.log (1 + Real.exp (0 - max r (-r)))) * (1 / 16) : ℝ) : EReal) := by
  have e : (0 : EReal) - max (r : EReal) (-(r : EReal)) = ((0 - max r (-r) : ℝ) : EReal) := by
    rw [← EReal.coe_neg, ← coe_max, ← EReal.coe_zero, ← EReal.coe_sub]
  rw [decay, e, log1p_exp, ofBits_sixteenth, ← EReal.coe_zero, ← coe_min, ← EReal.coe_sub, ← EReal.coe_mul]

theorem decay_real {a : EReal} (h : IsReal a) : IsReal (decay a) := by
  obtain ⟨r, rfl⟩ := h
  exact ⟨_, decay_coe r⟩

/-- The logarithm of the logistic, as the reference spells it. -/
def soft (a : EReal) : EReal := -(max (-a) 0 + Ideal.log1p (Ideal.exp (-(max (-a) (-(-a))))))

/-- The reference's decay of a real gate is the kernel's. -/
theorem soft_eq {a : EReal} (h : IsReal a) : Ideal.div (soft a) (Ideal.ofBits .f32 0x41800000#32) = decay a := by
  obtain ⟨r, rfl⟩ := h
  have e : -(max (-(r : EReal)) (-(-(r : EReal)))) = ((-(max (-r) r) : ℝ) : EReal) := by
    rw [neg_neg, ← EReal.coe_neg, ← coe_max, ← EReal.coe_neg]
  rw [decay_coe, soft, e, log1p_exp, ofBits_16, Ideal.div_coe (by norm_num), ← EReal.coe_neg, ← EReal.coe_zero, ← coe_max, ← EReal.coe_add,
    ← EReal.coe_neg, ← EReal.coe_mul]
  congr 2
  rw [neg_add, max_comm (-r) r, zero_sub, sub_eq_add_neg]
  congr 1
  rcases le_total r 0 with h | h
  · rw [max_eq_left (by linarith), min_eq_left h]; ring
  · rw [max_eq_right (by linarith), min_eq_right h]; ring

/-- The last running sum is the sum of all. -/
theorem upto_last (L : Fin 64 → EReal) : (∑ u : Fin 64, if u ≤ (63 : Fin 64) then L u else 0) = ∑ u, L u :=
  Finset.sum_congr rfl fun u _ => if_pos (Fin.le_last u)

/-- The last running sum less an earlier one is what is left to decay. -/
theorem upto_sub {L : Fin 64 → EReal} (h : ∀ u, IsReal (L u)) (s : Fin 64) :
    (∑ u, L u) - (∑ u : Fin 64, if u ≤ s then L u else 0) = later L s := by
  choose l hl using h
  have e1 : (∑ u, L u) = ((∑ u, l u : ℝ) : EReal) := by
    rw [coe_sum]; exact Finset.sum_congr rfl fun u _ => hl u
  have e2 : (∑ u : Fin 64, if u ≤ s then L u else 0) = ((∑ u : Fin 64, (if u ≤ s then l u else 0) : ℝ) : EReal) := by
    rw [coe_sum]; exact Finset.sum_congr rfl fun u _ => by split <;> simp [hl]
  have e3 : later L s = ((∑ u : Fin 64, (if s < u then l u else 0) : ℝ) : EReal) := by
    rw [coe_sum]; exact Finset.sum_congr rfl fun u _ => by split <;> simp [hl]
  rw [e1, e2, e3, ← EReal.coe_sub, ← Finset.sum_sub_distrib]
  congr 1
  refine Finset.sum_congr rfl fun u _ => ?_
  by_cases hu : u ≤ s
  · rw [if_pos hu, if_neg (not_lt.mpr hu), sub_self]
  · rw [if_neg hu, if_pos (not_le.mp hu), sub_zero]

end Cert.Rows

end
-- ==== Proof.MixSums.lean ====
/-
  A running sum as the reference spells it (a window of 64 positions over a chunk padded by 63 zeros), read at an index.
-/
module

public import proofs.«01_k».proof.MixerRefIdeal
public import Idealize.ShloMosaic.Lib.Pointwise

@[expose] public section
set_option maxRecDepth 16384
noncomputable section

open Idealize.ShloMosaic Idealize.ShloMosaic.TcCoe

namespace Cert.MixerRefIdeal.Mix

open Cert.MixerRefIdeal

/-- Adding up a list from the left. -/
theorem foldl_sum {ι : Type} (g : ι → EReal) (l : List ι) : ∀ v : EReal, l.foldl (fun r n => r + g n) v = v + (l.map g).sum := by
  induction l with
  | nil => intro v; exact (add_zero v).symm
  | cons a l ih => intro v; rw [List.foldl_cons, ih, List.map_cons, List.sum_cons, add_assoc]

/-- The window's shape. -/
abbrev Win : Shape := ⟨5, ![1, 1, 64, 1, 1]⟩

theorem win_numel : Win.numel = 64 := by decide

theorem win_symm (n : Fin Win.numel) : Win.rowMajor.symm n = ix5 (0 : Fin 1) (0 : Fin 1) (n.cast win_numel) (0 : Fin 1) (0 : Fin 1) :=
  (Win.rowMajor.symm_apply_eq).2 (Fin.ext (by
    rw [Shape.rowMajor_val_five]
    show n.val = (((0 * 1 + 0) * 64 + n.val) * 1 + 0) * 1 + 0
    omega))

/-- Positions of a window counted from its end are the positions up to the one it ends at. -/
theorem sum_shift (F : ℕ → EReal) (s : ℕ) (hs : s < 64) :
    (∑ n ∈ Finset.range 64, if 63 ≤ s + n then F (s + n - 63) else 0) = ∑ u ∈ Finset.range 64, if u ≤ s then F u else 0 := by
  rw [← Finset.sum_filter, ← Finset.sum_filter]
  refine Finset.sum_nbij' (fun n => s + n - 63) (fun u => u + 63 - s) ?_ ?_ ?_ ?_ ?_
  all_goals simp only [Finset.mem_filter, Finset.mem_range]
  all_goals intro a ha
  · omega
  · omega
  · omega
  · omega
  · trivial

/-- The running sum of a chunk. -/
theorem cumsum_apply (x : Vec Ideal S8x32x64x4x64 .f32) (init : EReal) (h0 : init = 0) (wf) (b : Fin 8) (n : Fin 32) (s : Fin 64) (h : Fin 4) (d : Fin 64) :
    Ideal.hostReduceWindowAdd (s := S8x32x64x4x64) (t := S8x32x64x4x64) ![1, 1, 64, 1, 1] ![1, 1, 1, 1, 1] ![0, 0, 63, 0, 0] ![0, 0, 0, 0, 0] wf x init (ix5 b n s h d)
      = ∑ u : Fin 64, if u ≤ s then (x (ix5 b n u h d) : EReal) else 0 := by
  subst h0
  unfold Ideal.hostReduceWindowAdd Host.reduceWindow
  refine (foldl_sum _ (List.finRange Win.numel) _).trans ?_
  refine (zero_add _).trans ?_
  rw [← Fin.sum_univ_def]
  let F : ℕ → EReal := fun u => if hu : u < 64 then x (ix5 b n ⟨u, hu⟩ h d) else 0
  have e2 : (∑ u : Fin 64, if u ≤ s then (x (ix5 b n u h d) : EReal) else 0) = ∑ u ∈ Finset.range 64, if u ≤ s.val then F u else 0 := by
    rw [Finset.sum_range]
    refine Finset.sum_congr rfl fun u _ => ?_
    show _ = if u.val ≤ s.val then F u.val else 0
    have : F u.val = x (ix5 b n u h d) := dif_pos u.isLt
    rw [this]; rfl
  rw [e2, ← sum_shift F s.val s.isLt]
  rw [Finset.sum_range (n := 64)]
  refine Fintype.sum_equiv (finCongr win_numel) _ _ fun w => ?_
  have hn : w.val < 64 := (w.cast win_numel).isLt
  have w0 : (Win.rowMajor.symm w 0).val = 0 := by rw [win_symm]; rfl
  have w1 : (Win.rowMajor.symm w 1).val = 0 := by rw [win_symm]; rfl
  have w2 : (Win.rowMajor.symm w 2).val = w.val := by rw [win_symm]; rfl
  have w3 : (Win.rowMajor.symm w 3).val = 0 := by rw [win_symm]; rfl
  have w4 : (Win.rowMajor.symm w 4).val = 0 := by rw [win_symm]; rfl
  have hs := s.isLt
  show _ = if 63 ≤ s.val + w.val then F (s.val + w.val - 63) else 0
  dsimp only
  split
  · next hin =>
    have h2 := hin 2
    change 63 ≤ s.val * 1 + (Win.rowMajor.symm w 2).val ∧ s.val * 1 + (Win.rowMajor.symm w 2).val - 63 < 64 at h2
    rw [w2] at h2
    rw [if_pos (by omega)]
    have hF : F (s.val + w.val - 63) = x (ix5 b n ⟨s.val + w.val - 63, by omega⟩ h d) := dif_pos (by omega)
    rw [hF]
    refine congrArg x (funext fun a => Fin.ext ?_)
    match a with
    | ⟨0, _⟩ =>
      show b.val * 1 + (Win.rowMajor.symm w 0).val - 0 = b.val
      rw [w0]; omega
    | ⟨1, _⟩ =>
      show n.val * 1 + (Win.rowMajor.symm w 1).val - 0 = n.val
      rw [w1]; omega
    | ⟨2, _⟩ =>
      show s.val * 1 + (Win.rowMajor.symm w 2).val - 63 = s.val + w.val - 63
      rw [w2]; omega
    | ⟨3, _⟩ =>
      show h.val * 1 + (Win.rowMajor.symm w 3).val - 0 = h.val
      rw [w3]; omega
    | ⟨4, _⟩ =>
      show d.val * 1 + (Win.rowMajor.symm w 4).val - 0 = d.val
      rw [w4]; omega
  · next hin =>
    rw [if_neg fun hle => hin fun a => ?_]
    match a with
    | ⟨0, _⟩ =>
      show 0 ≤ b.val * 1 + (Win.rowMajor.symm w 0).val ∧ b.val * 1 + (Win.rowMajor.symm w 0).val - 0 < 8
      rw [w0]; omega
    | ⟨1, _⟩ =>
      show 0 ≤ n.val * 1 + (Win.rowMajor.symm w 1).val ∧ n.val * 1 + (Win.rowMajor.symm w 1).val - 0 < 32
      rw [w1]; omega
    | ⟨2, _⟩ =>
      show 63 ≤ s.val * 1 + (Win.rowMajor.symm w 2).val ∧ s.val * 1 + (Win.rowMajor.symm w 2).val - 63 < 64
      rw [w2]; omega
    | ⟨3, _⟩ =>
      show 0 ≤ h.val * 1 + (Win.rowMajor.symm w 3).val ∧ h.val * 1 + (Win.rowMajor.symm w 3).val - 0 < 4
      rw [w3]; omega
    | ⟨4, _⟩ =>
      show 0 ≤ d.val * 1 + (Win.rowMajor.symm w 4).val ∧ d.val * 1 + (Win.rowMajor.symm w 4).val - 0 < 64
      rw [w4]; omega

end Cert.MixerRefIdeal.Mix

end
-- ==== Proof.MixRefHost.lean ====
/-
  What the token mixer's reference computes before its loop, stage by stage: the normed rows and their projection, the
  logarithms of the decays, and the chunks of keys, values and running sums the loop is given.
-/
module

public import proofs.«01_k».proof.Proof.MixFinite
public import proofs.«01_k».proof.Proof.MixSums
public import proofs.«01_k».proof.Proof.Gen.MixerRefIdeal.Run
public import Idealize.ShloMosaic.Lib.Pointwise
public import Idealize.ShloMosaic.Lib.StableHlo.ReadAt

@[expose] public section
set_option maxRecDepth 16384
noncomputable section

open Idealize.ShloMosaic Idealize.ShloMosaic.TcCoe Idealize.SL.Sem

namespace Cert.MixerRefIdeal.Mix

open Cert.MixerRefIdeal Cert.MixerRefIdeal.Gen Cert.MixerRefIdeal.Value StableHlo

variable (x0 : Vec Ideal S8x2048x1024 .f32) (x1 : Vec Ideal S1x8x1024 .f32) (x2 : Vec Ideal S1x1024x3088 .f32)
  (x3 : Vec Ideal S1x16x256 .f32) (x4 : Vec Ideal S1x256 .f32)

/-- The rows, normed. -/
def uf : FVec Ideal S8x2048x1024 .f32 :=
  mulf (mulf x0 (broadcastInDim S8x2048x1024 ![0, 1, 2] bcast_S8x2048x1_S8x2048x1024_0_1_2 (Host.rsqrt (addf
      (Host.divf (broadcastInDim S8x2048x1 ![0, 1] bcast_S8x2048_S8x2048x1_0_1
          (Host.reduceAdd (mulf x0 x0) (constant (F := Ideal) S_ .f32 0x00000000#32) reducesTo_S8x2048x1024_S8x2048_d2 h_S_))
        (broadcastInDim S8x2048x1 ![] bcast_S_S8x2048x1 (constant (F := Ideal) S_ .f32 0x44800000#32)))
      (broadcastInDim S8x2048x1 ![] bcast_S_S8x2048x1 (constant (F := Ideal) S_ .f32 0x358637BD#32))))))
    (broadcastInDim S8x2048x1024 ![0, 1, 2] bcast_S1x1x1024_S8x2048x1024_0_1_2 (broadcastInDim S1x1x1024 ![2] bcast_S1024_S1x1x1024_2
      (shapeCast S1024 (extractStridedSlice S1x1024 ![2, 0] (shapeCast S8x1024 x1 shapeCasts_S1x8x1024_S8x1024) slices_S8x1024_S1x1024_2_0)
        shapeCasts_S1x1024_S1024)))

theorem uf_apply (b : Fin 8) (n : Fin 2048) (k : Fin 1024) :
    uf x0 x1 (ix3 b n k) = Rows.norm (fun j => x0 (ix3 b n j)) (fun j => x1 (ix3 0 2 j)) k := by
  pointwise [uf, Rows.norm]

/-- The rows, projected. -/
def zf : FVec Ideal S8x2048x3088 .f32 :=
  Host.dotGeneral (F := Ideal) dot_S8x2048x1024_S1024x3088_S8x2048x3088_2_0_01_1_n_n none (uf x0 x1) (shapeCast S1024x3088 x2 shapeCasts_S1x1024x3088_S1024x3088 : FVec Ideal S1024x3088 .f32)

theorem zf_apply (b : Fin 8) (n : Fin 2048) (k : Fin 3088) :
    zf x0 x1 x2 (ix3 b n k) = Rows.lin (Rows.norm (fun j => x0 (ix3 b n j)) (fun j => x1 (ix3 0 2 j))) (fun i j => x2 (ix3 0 i j)) k := by
  pointwise [zf, uf_apply, Rows.lin]

/-- The product the convolution takes, with two rows of zeros before it; its last two rows. -/
def cf : FVec Ideal S8x2x512 .f32 :=
  extractStridedSlice S8x2x512 ![0, 2048, 0] (concatenate S8x2050x512 1 [⟨S8x2x512, broadcastInDim S8x2x512 ![] bcast_S_S8x2x512 (constant (F := Ideal) S_ .f32 0x00000000#32)⟩,
    ⟨S8x2048x512, mulf (extractStridedSlice S8x2048x512 ![0, 0, 2064] (zf x0 x1 x2) slices_S8x2048x3088_S8x2048x512_0_0_2064)
      (extractStridedSlice S8x2048x512 ![0, 0, 2576] (zf x0 x1 x2) slices_S8x2048x3088_S8x2048x512_0_0_2576)⟩]
    concatenates_S8x2x512_S8x2048x512_S8x2050x512_d1) slices_S8x2050x512_S8x2x512_0_2048_0

theorem cf_apply (b : Fin 8) (r : Fin 2) (k : Fin 512) :
    cf x0 x1 x2 (ix3 b r k) = Rows.conv (fun j => x0 (ix3 b ⟨2046 + r.val, by omega⟩ j)) (fun j => x1 (ix3 0 2 j)) (fun i j => x2 (ix3 0 i j)) k := by
  pointwise [cf, zf_apply, Rows.conv]
  refine (dif_neg (by omega)).trans ?_
  have e : (⟨2048 + r.val - 2, by omega⟩ : Fin 2048) = ⟨2046 + r.val, by omega⟩ := Fin.mk_eq_mk.mpr (by omega)
  rw [e]

/-- The keys, by sequence, token, head and coordinate. -/
def kf : FVec Ideal S8x2048x4x64 .f32 :=
  shapeCast S8x2048x4x64 (extractStridedSlice S8x2048x256 ![0, 0, 256] (zf x0 x1 x2) slices_S8x2048x3088_S8x2048x256_0_0_256) shapeCasts_S8x2048x256_S8x2048x4x64

/-- The values. -/
def vf : FVec Ideal S8x2048x4x128 .f32 :=
  shapeCast S8x2048x4x128 (extractStridedSlice S8x2048x512 ![0, 0, 512] (zf x0 x1 x2) slices_S8x2048x3088_S8x2048x512_0_0_512) shapeCasts_S8x2048x512_S8x2048x4x128

/-- The gate's logits. -/
def gf : FVec Ideal S8x2048x256 .f32 :=
  addf (Host.dotGeneral (F := Ideal) dot_S8x2048x16_S16x256_S8x2048x256_2_0_01_1_n_n none
      (extractStridedSlice S8x2048x16 ![0, 0, 1536] (zf x0 x1 x2) slices_S8x2048x3088_S8x2048x16_0_0_1536) (shapeCast S16x256 x3 shapeCasts_S1x16x256_S16x256 : FVec Ideal S16x256 .f32))
    (broadcastInDim S8x2048x256 ![0, 1, 2] bcast_S1x1x256_S8x2048x256_0_1_2 (broadcastInDim S1x1x256 ![2] bcast_S256_S1x1x256_2 (shapeCast S256 x4 shapeCasts_S1x256_S256)))

theorem gf_apply (b : Fin 8) (n : Fin 2048) (k : Fin 256) :
    gf x0 x1 x2 x3 x4 (ix3 b n k) = Rows.gate (fun j => x0 (ix3 b n j)) (fun j => x1 (ix3 0 2 j)) (fun i j => x2 (ix3 0 i j))
      (fun i j => x3 (ix3 0 i j)) (fun j => x4 (ix2 0 j)) k := by
  pointwise [gf, zf_apply, Rows.gate]

variable (V : Valuation τ sig (Elt Ideal))

theorem host_v32 : after hostOps0 V (Proc.devRef .tc main_v32)
    = cf (V (Proc.devRef .tc main_arg0)) (V (Proc.devRef .tc main_arg1)) (V (Proc.devRef .tc main_arg2)) := by
  after_reads_simp
  clean_types
  unfold cf zf uf
  rfl

theorem host_v33 : after hostOps0 V (Proc.devRef .tc main_v33)
    = kf (V (Proc.devRef .tc main_arg0)) (V (Proc.devRef .tc main_arg1)) (V (Proc.devRef .tc main_arg2)) := by
  after_reads_simp
  clean_types
  unfold kf zf uf
  rfl

theorem host_v34 : after hostOps0 V (Proc.devRef .tc main_v34)
    = vf (V (Proc.devRef .tc main_arg0)) (V (Proc.devRef .tc main_arg1)) (V (Proc.devRef .tc main_arg2)) := by
  after_reads_simp
  clean_types
  unfold vf zf uf
  rfl

theorem host_v38 : after hostOps0 V (Proc.devRef .tc main_v38)
    = gf (V (Proc.devRef .tc main_arg0)) (V (Proc.devRef .tc main_arg1)) (V (Proc.devRef .tc main_arg2)) (V (Proc.devRef .tc main_arg3)) (V (Proc.devRef .tc main_arg4)) := by
  after_reads_simp
  clean_types
  unfold gf zf uf
  rfl

theorem host_v1 : (after hostOps0 V (Proc.devRef .tc main_v1) : Vec Ideal S8x4x64x128 .f32) = broadcastInDim S8x4x64x128 ![] bcast_S_S8x4x64x128 (constant (F := Ideal) S_ .f32 0x00000000#32) := by
  after_reads_simp

theorem host1_v39 (b : Fin 8) (n : Fin 2048) (k : Fin 256) : (after hostOps0_1 V (Proc.devRef .tc main_v39) : Vec Ideal S8x2048x256 .f32) (ix3 b n k)
    = Rows.soft ((V (Proc.devRef .tc main_v38) : Vec Ideal S8x2048x256 .f32) (ix3 b n k)) := by
  after_reads_at
  rw [if_neg (fun h => h rfl)]
  rfl

theorem host2_v45 : (after hostOps0_2 V (Proc.devRef .tc main_v45) : Vec Ideal S8x32x64x4x64 .f32)
    = shapeCast S8x32x64x4x64 (shapeCast S8x2048x4x64 (Host.divf (F := Ideal) (V (Proc.devRef .tc main_v39)) (broadcastInDim S8x2048x256 ![] bcast_S_S8x2048x256 (constant (F := Ideal) S_ .f32 0x41800000#32)))
      shapeCasts_S8x2048x256_S8x2048x4x64) shapeCasts_S8x2048x4x64_S8x32x64x4x64 := by
  after_reads_simp
  rfl

theorem host2_v43 : (after hostOps0_2 V (Proc.devRef .tc main_v43) : Vec Ideal S8x32x64x4x64 .f32)
    = shapeCast S8x32x64x4x64 (V (Proc.devRef .tc main_v33) : Vec Ideal S8x2048x4x64 .f32) shapeCasts_S8x2048x4x64_S8x32x64x4x64 := by
  after_reads_simp
  rfl

theorem host2_v44 : (after hostOps0_2 V (Proc.devRef .tc main_v44) : Vec Ideal S8x32x64x4x128 .f32)
    = shapeCast S8x32x64x4x128 (V (Proc.devRef .tc main_v34) : Vec Ideal S8x2048x4x128 .f32) shapeCasts_S8x2048x4x128_S8x32x64x4x128 := by
  after_reads_simp
  rfl

/-- The sum of a chunk's rows up to and with row `s`. -/
def upto (x : FVec Ideal S8x32x64x4x64 .f32) (b : Fin 8) (n : Fin 32) (s : Fin 64) (h : Fin 4) (d : Fin 64) : EReal :=
  ∑ u : Fin 64, if u ≤ s then x (ix5 b n u h d) else 0

theorem host3_eq : (after hostOps0_3 V (Proc.devRef .tc main_v46) : Vec Ideal S8x32x64x4x64 .f32)
    = Host.reduceWindowAdd (F := Ideal) (φ := .f32) ![1, 1, 64, 1, 1] ![1, 1, 1, 1, 1] ![0, 0, 63, 0, 0] ![0, 0, 0, 0, 0]
        (V (Proc.devRef .tc main_v45) : Vec Ideal S8x32x64x4x64 .f32) (broadcastInDim S_ ![] bcast_S_S_ (constant (F := Ideal) S_ .f32 0x00000000#32))
        reduceWindows_S8x32x64x4x64_S8x32x64x4x64_w1s1p0_0_w1s1p0_0_w64s1p63_0_w1s1p0_0_w1s1p0_0 h_S_ := by
  after_reads_simp
  clean_types
  rfl

theorem host3_v46 (b : Fin 8) (n : Fin 32) (s : Fin 64) (h : Fin 4) (d : Fin 64) : (after hostOps0_3 V (Proc.devRef .tc main_v46) : Vec Ideal S8x32x64x4x64 .f32) (ix5 b n s h d)
    = upto (V (Proc.devRef .tc main_v45) : Vec Ideal S8x32x64x4x64 .f32) b n s h d :=
  (congrFun (host3_eq V) _).trans (cumsum_apply _ _ Ideal.ofBits_zero_f32 reduceWindows_S8x32x64x4x64_S8x32x64x4x64_w1s1p0_0_w1s1p0_0_w64s1p63_0_w1s1p0_0_w1s1p0_0 b n s h d)

theorem host4_0 (b : Fin 8) (n : Fin 32) (s : Fin 64) (h : Fin 4) (d : Fin 64) : (after hostOps0_4 V (Proc.devRef .tc main_v50_0) : Vec Ideal S32x8x64x4x64 .f32) (ix5 n b s h d)
    = (V (Proc.devRef .tc main_v43) : Vec Ideal S8x32x64x4x64 .f32) (ix5 b n s h d) := by
  after_reads_simp
  rw [id_eq]
  pointwise

theorem host4_1 (b : Fin 8) (n : Fin 32) (s : Fin 64) (h : Fin 4) (d : Fin 128) : (after hostOps0_4 V (Proc.devRef .tc main_v50_1) : Vec Ideal S32x8x64x4x128 .f32) (ix5 n b s h d)
    = (V (Proc.devRef .tc main_v44) : Vec Ideal S8x32x64x4x128 .f32) (ix5 b n s h d) := by
  after_reads_simp
  rw [id_eq]
  pointwise

theorem host4_2 (b : Fin 8) (n : Fin 32) (s : Fin 64) (h : Fin 4) (d : Fin 64) : (after hostOps0_4 V (Proc.devRef .tc main_v50_2) : Vec Ideal S32x8x64x4x64 .f32) (ix5 n b s h d)
    = (V (Proc.devRef .tc main_v46) : Vec Ideal S8x32x64x4x64 .f32) (ix5 b n s h d) := by
  after_reads_simp
  rw [id_eq]
  pointwise

theorem host4_3 : (after hostOps0_4 V (Proc.devRef .tc main_v50_3) : Vec Ideal S_ .i32) = constantI S_ 32 0#32 := by
  after_reads_simp
  rfl

theorem host4_4 : after hostOps0_4 V (Proc.devRef .tc main_v50_4) = V (Proc.devRef .tc main_v1) := by
  after_reads_simp
  rfl

end Cert.MixerRefIdeal.Mix

end
-- ==== Proof.MixRefEntry.lean ====
/-
  What the token mixer's reference loop is given: the chunks of keys and values, the running sums of the decays, and a
  state of zeros, as functions of the arguments.
-/
module

public import proofs.«01_k».proof.Proof.MixRefHost

@[expose] public section
set_option maxRecDepth 16384
noncomputable section

open Idealize.ShloMosaic Idealize.ShloMosaic.TcCoe Idealize.SL.Sem

namespace Cert.MixerRefIdeal.Mix

open Cert.MixerRefIdeal Cert.MixerRefIdeal.Gen Cert.MixerRefIdeal.Value StableHlo

variable (V : Valuation τ sig (Elt Ideal))

/-- The rows of sequence `b`, the weights of the norm, the projection's, the gate's and its bias. -/
def xs (b : Fin 8) (n : Fin 2048) (j : Fin 1024) : EReal := (V (Proc.devRef .tc main_arg0) : Vec Ideal S8x2048x1024 .f32) (ix3 b n j)
def gs (j : Fin 1024) : EReal := (V (Proc.devRef .tc main_arg1) : Vec Ideal S1x8x1024 .f32) (ix3 0 2 j)
def ws (i : Fin 1024) (j : Fin 3088) : EReal := (V (Proc.devRef .tc main_arg2) : Vec Ideal S1x1024x3088 .f32) (ix3 0 i j)
def us (i : Fin 16) (j : Fin 256) : EReal := (V (Proc.devRef .tc main_arg3) : Vec Ideal S1x16x256 .f32) (ix3 0 i j)
def bs (j : Fin 256) : EReal := (V (Proc.devRef .tc main_arg4) : Vec Ideal S1x256 .f32) (ix2 0 j)

theorem unroll : afterL preI V = after hostOps0_4 (after hostOps0_3 (after hostOps0_2 (after hostOps0_1 (after hostOps0 V)))) := rfl

theorem tok_eq (n : Fin 32) (s : Fin 64) : Rows.tok n.val s = ⟨n.val * 64 + s.val, by omega⟩ :=
  Fin.mk_eq_mk.mpr (Nat.mod_eq_of_lt (by omega))

theorem k_apply (x0 x1 x2) (b : Fin 8) (n : Fin 32) (s : Fin 64) (h : Fin 4) (d : Fin 64) :
    shapeCast S8x32x64x4x64 (kf x0 x1 x2) shapeCasts_S8x2048x4x64_S8x32x64x4x64 (ix5 b n s h d)
      = Rows.keys (fun j => x0 (ix3 b (Rows.tok n.val s) j)) (fun j => x1 (ix3 0 2 j)) (fun i j => x2 (ix3 0 i j)) ⟨h.val * 64 + d.val, by omega⟩ := by
  rw [tok_eq]
  pointwise [kf, zf_apply, Rows.keys]

theorem v_apply (x0 x1 x2) (b : Fin 8) (n : Fin 32) (s : Fin 64) (h : Fin 4) (d : Fin 128) :
    shapeCast S8x32x64x4x128 (vf x0 x1 x2) shapeCasts_S8x2048x4x128_S8x32x64x4x128 (ix5 b n s h d)
      = Rows.vals (fun j => x0 (ix3 b (Rows.tok n.val s) j)) (fun j => x1 (ix3 0 2 j)) (fun i j => x2 (ix3 0 i j)) ⟨h.val * 128 + d.val, by omega⟩ := by
  rw [tok_eq]
  pointwise [vf, zf_apply, Rows.vals]

theorem l_apply (L : FVec Ideal S8x2048x256 .f32) (b : Fin 8) (n : Fin 32) (s : Fin 64) (h : Fin 4) (d : Fin 64) :
    shapeCast S8x32x64x4x64 (shapeCast S8x2048x4x64 (Host.divf (F := Ideal) L (broadcastInDim S8x2048x256 ![] bcast_S_S8x2048x256 (constant (F := Ideal) S_ .f32 0x41800000#32)))
      shapeCasts_S8x2048x256_S8x2048x4x64) shapeCasts_S8x2048x4x64_S8x32x64x4x64 (ix5 b n s h d)
      = Ideal.div (L (ix3 b (Rows.tok n.val s) ⟨h.val * 64 + d.val, by omega⟩)) (Ideal.ofBits .f32 0x41800000#32) := by
  rw [tok_eq]
  pointwise

/-- The keys' chunks. -/
theorem entry0 (b : Fin 8) (n : Fin 32) (s : Fin 64) (h : Fin 4) (d : Fin 64) : (afterL preI V (Proc.devRef .tc main_v50_0) : Vec Ideal S32x8x64x4x64 .f32) (ix5 n b s h d)
    = Rows.keys (xs V b (Rows.tok n.val s)) (gs V) (ws V) ⟨h.val * 64 + d.val, by omega⟩ := by
  refine (host4_0 _ b n s h d).trans ?_
  rw [after_of_writes_sub hostOps0_3 _ hostOps0_3_writes (by decide), host2_v43, after_of_writes_sub hostOps0_1 _ hostOps0_1_writes (by decide), host_v33]
  exact k_apply _ _ _ b n s h d

/-- The values' chunks. -/
theorem entry1 (b : Fin 8) (n : Fin 32) (s : Fin 64) (h : Fin 4) (d : Fin 128) : (afterL preI V (Proc.devRef .tc main_v50_1) : Vec Ideal S32x8x64x4x128 .f32) (ix5 n b s h d)
    = Rows.vals (xs V b (Rows.tok n.val s)) (gs V) (ws V) ⟨h.val * 128 + d.val, by omega⟩ := by
  refine (host4_1 _ b n s h d).trans ?_
  rw [after_of_writes_sub hostOps0_3 _ hostOps0_3_writes (by decide), host2_v44, after_of_writes_sub hostOps0_1 _ hostOps0_1_writes (by decide), host_v34]
  exact v_apply _ _ _ b n s h d

/-- The running sums of the decays. -/
theorem entry2 (hr : ∀ b n k, Rows.IsReal (Rows.gate (xs V b n) (gs V) (ws V) (us V) (bs V) k)) (b : Fin 8) (n : Fin 32) (s : Fin 64) (h : Fin 4) (d : Fin 64) :
    (afterL preI V (Proc.devRef .tc main_v50_2) : Vec Ideal S32x8x64x4x64 .f32) (ix5 n b s h d)
      = ∑ u : Fin 64, if u ≤ s then Rows.decay (Rows.gate (xs V b (Rows.tok n.val u)) (gs V) (ws V) (us V) (bs V) ⟨h.val * 64 + d.val, by omega⟩) else 0 := by
  refine (host4_2 _ b n s h d).trans ?_
  refine (host3_v46 _ b n s h d).trans (Finset.sum_congr (M := EReal) rfl fun u _ => ?_)
  refine if_congr Iff.rfl ?_ rfl
  rw [host2_v45]
  refine (l_apply _ b n u h d).trans ?_
  rw [host1_v39, host_v38]
  refine (congrArg (fun a => Ideal.div (Rows.soft a) (Ideal.ofBits .f32 0x41800000#32)) (gf_apply _ _ _ _ _ b _ _)).trans ?_
  exact Rows.soft_eq (hr b (Rows.tok n.val u) ⟨h.val * 64 + d.val, by omega⟩)

/-- The state. -/
theorem entry4 (b : Fin 8) (h : Fin 4) (d : Fin 64) (v : Fin 128) : Eq (α := EReal) ((afterL preI V (Proc.devRef .tc main_v50_4) : Vec Ideal S8x4x64x128 .f32) (ix4 b h d v)) 0 := by
  rw [unroll, host4_4, after_of_writes_sub hostOps0_3 _ hostOps0_3_writes (by decide), after_of_writes_sub hostOps0_2 _ hostOps0_2_writes (by decide),
    after_of_writes_sub hostOps0_1 _ hostOps0_1_writes (by decide), host_v1]
  exact Ideal.ofBits_zero_f32

/-- The rows the convolution carries on. -/
theorem entry_v32 : afterL preI V (Proc.devRef .tc main_v32) = cf (V (Proc.devRef .tc main_arg0)) (V (Proc.devRef .tc main_arg1)) (V (Proc.devRef .tc main_arg2)) := by
  rw [unroll, after_of_writes_sub hostOps0_4 _ hostOps0_4_writes (by decide), after_of_writes_sub hostOps0_3 _ hostOps0_3_writes (by decide), after_of_writes_sub hostOps0_2 _ hostOps0_2_writes (by decide),
    after_of_writes_sub hostOps0_1 _ hostOps0_1_writes (by decide), host_v32]

/-- A buffer no operation before the loop writes. -/
theorem entry_keep (r : Ref sig .tc) (h0 : r ∉ hostOps0_W) (h1 : r ∉ hostOps0_1_W) (h2 : r ∉ hostOps0_2_W) (h3 : r ∉ hostOps0_3_W) (h4 : r ∉ hostOps0_4_W) :
    afterL preI V (Proc.devRef .tc r) = V (Proc.devRef .tc r) := by
  rw [unroll, after_of_writes_sub hostOps0_4 _ hostOps0_4_writes h4, after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

end Cert.MixerRefIdeal.Mix

end
-- ==== Proof.MixRefTrip.lean ====
/-
  One trip of the token mixer's reference loop, as a function of the chunk it reads and of the state it is given.
-/
module

public import proofs.«01_k».proof.Proof.MixRefHost
public import Idealize.ShloMosaic.Lib.DynamicIndex

@[expose] public section
set_option maxRecDepth 16384
noncomputable section

open Idealize.ShloMosaic Idealize.ShloMosaic.TcCoe Idealize.SL.Sem

namespace Cert.MixerRefIdeal.Mix

open Cert.MixerRefIdeal Cert.MixerRefIdeal.Gen Cert.MixerRefIdeal.Value StableHlo

theorem iv_toInt : ∀ k : Fin 32, (Scf.iv 0#32 1#32 k.val).toInt = (k.val : ℤ) := by decide

/-- Where trip `k` starts its reads. -/
abbrev starts (ctr : IVec S_ 32) : Fin 5 → ℤ :=
  fun k => (((![ctr, constantI S_ 32 0#32, constantI S_ 32 0#32, constantI S_ 32 0#32, constantI S_ 32 0#32] : Fin 5 → (⟨S_, .i32⟩ : BufTy).Contents (Elt Ideal))) k (Shape.Idx.first h_S_)).toInt

theorem starts_eq (k : Fin 32) (a : Fin 5) : starts (fun _ => Scf.iv 0#32 1#32 k.val) a = ((![k.val, 0, 0, 0, 0] : Fin 5 → ℕ) a : ℤ) := by
  match a with
  | ⟨0, _⟩ => exact iv_toInt k
  | ⟨1, _⟩ => rfl
  | ⟨2, _⟩ => rfl
  | ⟨3, _⟩ => rfl
  | ⟨4, _⟩ => rfl

theorem fits64 (k : Fin 32) : S32x8x64x4x64.Slices ![k.val, 0, 0, 0, 0] S1x8x64x4x64 :=
  ⟨rfl, fun a => by match a with
    | ⟨0, _⟩ => exact Nat.succ_le_of_lt k.isLt
    | ⟨1, _⟩ => exact le_refl _
    | ⟨2, _⟩ => exact le_refl _
    | ⟨3, _⟩ => exact le_refl _
    | ⟨4, _⟩ => exact le_refl _⟩

theorem fits128 (k : Fin 32) : S32x8x64x4x128.Slices ![k.val, 0, 0, 0, 0] S1x8x64x4x128 :=
  ⟨rfl, fun a => by match a with
    | ⟨0, _⟩ => exact Nat.succ_le_of_lt k.isLt
    | ⟨1, _⟩ => exact le_refl _
    | ⟨2, _⟩ => exact le_refl _
    | ⟨3, _⟩ => exact le_refl _
    | ⟨4, _⟩ => exact le_refl _⟩

/-- The chunk trip `k` reads of an array of chunks. -/
def read64 (x : FVec Ideal S32x8x64x4x64 .f32) (ctr : IVec S_ 32) : FVec Ideal S8x64x4x64 .f32 :=
  shapeCast S8x64x4x64 (Host.dynamicSlice S1x8x64x4x64 x (starts ctr) sliceFits_S32x8x64x4x64_S1x8x64x4x64) shapeCasts_S1x8x64x4x64_S8x64x4x64

def read128 (x : FVec Ideal S32x8x64x4x128 .f32) (ctr : IVec S_ 32) : FVec Ideal S8x64x4x128 .f32 :=
  shapeCast S8x64x4x128 (Host.dynamicSlice S1x8x64x4x128 x (starts ctr) sliceFits_S32x8x64x4x128_S1x8x64x4x128) shapeCasts_S1x8x64x4x128_S8x64x4x128

theorem read64_apply (x : FVec Ideal S32x8x64x4x64 .f32) (k : Fin 32) (b : Fin 8) (s : Fin 64) (h : Fin 4) (d : Fin 64) :
    read64 x (fun _ => Scf.iv 0#32 1#32 k.val) (ix4 b s h d) = x (ix5 k b s h d) := by
  unfold read64
  rw [Host.dynamicSlice_eq_extractStridedSlice S1x8x64x4x64 x _ ![k.val, 0, 0, 0, 0] _ (fits64 k) (starts_eq k)]
  pointwise

theorem read128_apply (x : FVec Ideal S32x8x64x4x128 .f32) (k : Fin 32) (b : Fin 8) (s : Fin 64) (h : Fin 4) (d : Fin 128) :
    read128 x (fun _ => Scf.iv 0#32 1#32 k.val) (ix4 b s h d) = x (ix5 k b s h d) := by
  unfold read128
  rw [Host.dynamicSlice_eq_extractStridedSlice S1x8x64x4x128 x _ ![k.val, 0, 0, 0, 0] _ (fits128 k) (starts_eq k)]
  pointwise

/-- The running sums' last row. -/
def last (B : FVec Ideal S8x64x4x64 .f32) : FVec Ideal S8x4x64 .f32 :=
  shapeCast S8x4x64 (extractStridedSlice S8x1x4x64 ![0, 63, 0, 0] B slices_S8x64x4x64_S8x1x4x64_0_63_0_0) shapeCasts_S8x1x4x64_S8x4x64

/-- The state after a chunk, from the chunk's keys `K`, values `W` and running sums `B` and the state before. -/
def trip (K : FVec Ideal S8x64x4x64 .f32) (W : FVec Ideal S8x64x4x128 .f32) (B : FVec Ideal S8x64x4x64 .f32) (S : FVec Ideal S8x4x64x128 .f32) :
    FVec Ideal S8x4x64x128 .f32 :=
  addf (mulf (broadcastInDim S8x4x64x128 ![0, 1, 2, 3] bcast_S8x4x64x1_S8x4x64x128_0_1_2_3 (broadcastInDim S8x4x64x1 ![0, 1, 2] bcast_S8x4x64_S8x4x64x1_0_1_2 (Host.exp (last B)))) S)
    (Host.dotGeneral (F := Ideal) dot_S8x64x4x64_S8x64x4x128_S8x4x64x128_1_1_3_3_02_02 none
      (mulf K (Host.exp (subf (broadcastInDim S8x64x4x64 ![0, 1, 2, 3] bcast_S8x1x4x64_S8x64x4x64_0_1_2_3 (broadcastInDim S8x1x4x64 ![0, 2, 3] bcast_S8x4x64_S8x1x4x64_0_2_3 (last B))) B))) W)

theorem last_apply (B : FVec Ideal S8x64x4x64 .f32) (b : Fin 8) (h : Fin 4) (d : Fin 64) : last B (ix3 b h d) = B (ix4 b 63 h d) := by
  pointwise [last]

theorem trip_apply (K : FVec Ideal S8x64x4x64 .f32) (W : FVec Ideal S8x64x4x128 .f32) (B : FVec Ideal S8x64x4x64 .f32) (S : FVec Ideal S8x4x64x128 .f32)
    (b : Fin 8) (h : Fin 4) (d : Fin 64) (v : Fin 128) :
    trip K W B S (ix4 b h d v) = Ideal.exp (B (ix4 b 63 h d)) * S (ix4 b h d v)
      + ∑ s : Fin 64, K (ix4 b s h d) * Ideal.exp (B (ix4 b 63 h d) - B (ix4 b s h d)) * W (ix4 b s h v) := by
  pointwise [trip, last_apply]

/-- The loop's step is that function of what it carries. -/
theorem step_eq (V0 : Valuation τ sig (Elt Ideal)) : (step_main_v50_4 V0 : FVec Ideal S8x4x64x128 .f32)
    = trip (read64 (V0 (Proc.devRef .tc main_v50_0)) (V0 (Proc.devRef .tc main_v50_3))) (read128 (V0 (Proc.devRef .tc main_v50_1)) (V0 (Proc.devRef .tc main_v50_3)))
        (read64 (V0 (Proc.devRef .tc main_v50_2)) (V0 (Proc.devRef .tc main_v50_3))) (V0 (Proc.devRef .tc main_v50_4)) := by
  unfold step_main_v50_4 res_main_while0b_v56 res_main_while0b_v54 trip last read64 read128 starts
  rfl

end Cert.MixerRefIdeal.Mix

end
-- ==== Proof.MixRefLoop.lean ====
/-
  What the token mixer's reference leaves: the loop's state after its 32 chunks, the rows the convolution carries on, and
  the arguments as they were.
-/
module

public import proofs.«01_k».proof.Proof.MixRefEntry
public import proofs.«01_k».proof.Proof.MixRefTrip

@[expose] public section
set_option maxRecDepth 16384
noncomputable section

open Idealize.ShloMosaic Idealize.ShloMosaic.TcCoe Idealize.SL.Sem

namespace Cert.MixerRefIdeal.Mix

open Cert.MixerRefIdeal Cert.MixerRefIdeal.Gen Cert.MixerRefIdeal.Value StableHlo

variable (m : (ℓ : Loc nD τ sig) → Buf (Elt Ideal) ℓ) (c : Dev nD)

/-- The buffers at the start. -/
abbrev V₀ : Valuation τ sig (Elt Ideal) := launchContents m c

theorem at0 : ∀ k, atK m k c (Proc.devRef .tc main_v50_0) = afterL preI (V₀ m c) (Proc.devRef .tc main_v50_0)
  | 0 => rfl
  | k + 1 => (trip_main_v50_0 (after condOps (atK m k c))).trans ((cond_keeps (atK m k c) main_v50_0 (by decide)).trans (at0 k))

theorem at1 : ∀ k, atK m k c (Proc.devRef .tc main_v50_1) = afterL preI (V₀ m c) (Proc.devRef .tc main_v50_1)
  | 0 => rfl
  | k + 1 => (trip_main_v50_1 (after condOps (atK m k c))).trans ((cond_keeps (atK m k c) main_v50_1 (by decide)).trans (at1 k))

theorem at2 : ∀ k, atK m k c (Proc.devRef .tc main_v50_2) = afterL preI (V₀ m c) (Proc.devRef .tc main_v50_2)
  | 0 => rfl
  | k + 1 => (trip_main_v50_2 (after condOps (atK m k c))).trans ((cond_keeps (atK m k c) main_v50_2 (by decide)).trans (at2 k))

theorem at4 (k : ℕ) : atK m (k + 1) c (Proc.devRef .tc main_v50_4) = step_main_v50_4 (atK m k c) :=
  (trip_main_v50_4 (after condOps (atK m k c))).trans (step_main_v50_4_congr (cond_keeps (atK m k c)))

/-- One trip, from what the loop was given. -/
theorem at4_eq (k : Fin 32) : (atK m (k.val + 1) c (Proc.devRef .tc main_v50_4) : Vec Ideal S8x4x64x128 .f32)
    = trip (read64 (afterL preI (V₀ m c) (Proc.devRef .tc main_v50_0)) (fun _ => Scf.iv 0#32 1#32 k.val))
        (read128 (afterL preI (V₀ m c) (Proc.devRef .tc main_v50_1)) (fun _ => Scf.iv 0#32 1#32 k.val))
        (read64 (afterL preI (V₀ m c) (Proc.devRef .tc main_v50_2)) (fun _ => Scf.iv 0#32 1#32 k.val))
        (atK m k.val c (Proc.devRef .tc main_v50_4)) := by
  refine (at4 m c k.val).trans ((step_eq (atK m k.val c)).trans ?_)
  rw [at0, at1, at2, atK_ctr]
  rfl

/-- Every gate is a real number. -/
def Real' : Prop := ∀ b n k, Rows.IsReal (Rows.gate (xs (V₀ m c) b n) (gs (V₀ m c)) (ws (V₀ m c)) (us (V₀ m c)) (bs (V₀ m c)) k)

/-- A sequence's state after `k` chunks. -/
abbrev stateAt (b : Fin 8) (k : ℕ) : Fin 256 → Fin 128 → EReal :=
  Rows.stateOf (xs (V₀ m c) b) (gs (V₀ m c)) (ws (V₀ m c)) (us (V₀ m c)) (bs (V₀ m c)) k

theorem state_at (hr : Real' m c) (b : Fin 8) (h : Fin 4) (d : Fin 64) (v : Fin 128) : ∀ k : ℕ, k ≤ 32 →
    Eq (α := EReal) ((atK m k c (Proc.devRef .tc main_v50_4) : Vec Ideal S8x4x64x128 .f32) (ix4 b h d v)) (stateAt m c b k ⟨h.val * 64 + d.val, by omega⟩ v) := by
  intro k
  induction k with
  | zero => exact fun _ => entry4 (V₀ m c) b h d v
  | succ k ih =>
    intro hk
    have ih' := ih (Nat.le_of_succ_le hk)
    have hd : ∀ u : Fin 64, Rows.IsReal (Rows.decay (Rows.gate (xs (V₀ m c) b (Rows.tok k u)) (gs (V₀ m c)) (ws (V₀ m c)) (us (V₀ m c)) (bs (V₀ m c)) ⟨h.val * 64 + d.val, by omega⟩)) :=
      fun u => Rows.decay_real (hr b (Rows.tok k u) _)
    have hB : ∀ s : Fin 64, Eq (α := EReal) (read64 (afterL preI (V₀ m c) (Proc.devRef .tc main_v50_2)) (fun _ => Scf.iv 0#32 1#32 k) (ix4 b s h d))
        (∑ u : Fin 64, if u ≤ s then Rows.decay (Rows.gate (xs (V₀ m c) b (Rows.tok k u)) (gs (V₀ m c)) (ws (V₀ m c)) (us (V₀ m c)) (bs (V₀ m c)) ⟨h.val * 64 + d.val, by omega⟩) else 0) :=
      fun s => (read64_apply _ ⟨k, hk⟩ b s h d).trans (entry2 (V₀ m c) hr b ⟨k, hk⟩ s h d)
    refine (congrFun (at4_eq m c ⟨k, hk⟩) _).trans ((trip_apply _ _ _ _ b h d v).trans ?_)
    show _ = Rows.chunk _ _ _ _ _ _
    unfold Rows.chunk
    refine congrArg₂ (fun x y : EReal => x + y) (congrArg₂ (fun x y : EReal => Ideal.exp x * y) ((hB 63).trans (Rows.upto_last _)) ih') (Finset.sum_congr rfl fun s _ => ?_)
    refine congrArg₂ (fun x y : EReal => x * y) (congrArg₂ (fun x y : EReal => x * Ideal.exp y) ?_ ?_) ?_
    · exact (read64_apply _ ⟨k, hk⟩ b s h d).trans (entry0 (V₀ m c) b ⟨k, hk⟩ s h d)
    · refine (congrArg₂ (fun x y : EReal => x - y) ((hB 63).trans (Rows.upto_last _)) (hB s)).trans ?_
      exact Rows.upto_sub hd s
    · refine (read128_apply _ ⟨k, hk⟩ b s h v).trans ((entry1 (V₀ m c) b ⟨k, hk⟩ s h v).trans ?_)
      exact congrArg (Rows.vals _ _ _) (Fin.mk_eq_mk.mpr (by show h.val * 128 + v.val = (h.val * 64 + d.val) / 64 * 128 + v.val; omega))

/-- A buffer neither the loop nor what follows it writes. -/
theorem final_keep (r : Ref sig .tc) (hc : r ∉ condOps_W) (h0 : r ∉ while0Ops0_W) (h1 : r ∉ while0Ops0_1_W) (h2 : r ∉ while0Ops0_2_W)
    (h3 : r ∉ while0Ops0_3_W) (h5 : r ∉ hostOps0_5_W) :
    finalContents condOps preI bodyI postI 32 m c (Proc.devRef .tc r) = afterL preI (V₀ m c) (Proc.devRef .tc r) := by
  have hk : ∀ k, atK m k c (Proc.devRef .tc r) = afterL preI (V₀ m c) (Proc.devRef .tc r) := by
    intro k
    induction k with
    | zero => rfl
    | succ k ih =>
      show after while0Ops0_3 (after while0Ops0_2 (after while0Ops0_1 (after while0Ops0 (after condOps (atK m k c))))) (Proc.devRef .tc r) = _
      rw [after_of_writes_sub while0Ops0_3 _ while0Ops0_3_writes h3, after_of_writes_sub while0Ops0_2 _ while0Ops0_2_writes h2,
        after_of_writes_sub while0Ops0_1 _ while0Ops0_1_writes h1, after_of_writes_sub while0Ops0 _ while0Ops0_writes h0,
        after_of_writes_sub condOps _ condOps_writes hc, ih]
  show after hostOps0_5 (after condOps (atK m 32 c)) (Proc.devRef .tc r) = _
  rw [after_of_writes_sub hostOps0_5 _ hostOps0_5_writes h5, after_of_writes_sub condOps _ condOps_writes hc, hk]

/-- An argument ends as it began. -/
theorem final_arg (r : Ref sig .tc) (hc : r ∉ condOps_W) (h0 : r ∉ while0Ops0_W) (h1 : r ∉ while0Ops0_1_W) (h2 : r ∉ while0Ops0_2_W)
    (h3 : r ∉ while0Ops0_3_W) (h5 : r ∉ hostOps0_5_W)
    (g0 : r ∉ hostOps0_W) (g1 : r ∉ hostOps0_1_W) (g2 : r ∉ hostOps0_2_W) (g3 : r ∉ hostOps0_3_W) (g4 : r ∉ hostOps0_4_W) :
    finalContents condOps preI bodyI postI 32 m c (Proc.devRef .tc r) = m (c.tc.loc r) :=
  (final_keep m c r hc h0 h1 h2 h3 h5).trans (entry_keep (V₀ m c) r g0 g1 g2 g3 g4)

theorem post_v51 (V : Valuation τ sig (Elt Ideal)) : (after hostOps0_5 V (Proc.devRef .tc main_v51) : Vec Ideal S8x256x128 .f32)
    = shapeCast S8x256x128 (V (Proc.devRef .tc main_v50_4) : Vec Ideal S8x4x64x128 .f32) shapeCasts_S8x4x64x128_S8x256x128 := by
  after_reads_simp
  rfl

/-- The first result: the state each sequence leaves. -/
theorem final_state (hr : Real' m c) : (finalContents condOps preI bodyI postI 32 m c (Proc.devRef .tc main_v51) : Vec Ideal S8x256x128 .f32)
    = fun y => stateAt m c (y 0) 32 (y 1) (y 2) := by
  funext y
  obtain ⟨b, k, v, rfl⟩ : ∃ (b : Fin 8) (k : Fin 256) (v : Fin 128), y = ix3 b k v := ⟨y 0, y 1, y 2, eq_ix3 y⟩
  refine (congrFun (post_v51 (after condOps (atK m 32 c))) _).trans ?_
  rw [cond_keeps (atK m 32 c) main_v50_4 (by decide)]
  have e : shapeCast S8x256x128 (atK m 32 c (Proc.devRef .tc main_v50_4) : Vec Ideal S8x4x64x128 .f32) shapeCasts_S8x4x64x128_S8x256x128 (ix3 b k v)
      = (atK m 32 c (Proc.devRef .tc main_v50_4) : Vec Ideal S8x4x64x128 .f32) (ix4 b (⟨k.val / 64, by omega⟩ : Fin 4) (⟨k.val % 64, by omega⟩ : Fin 64) v) := by
    pointwise
  refine e.trans ((state_at m c hr b _ _ v 32 le_rfl).trans ?_)
  have ek : (⟨(⟨k.val / 64, by omega⟩ : Fin 4).val * 64 + (⟨k.val % 64, by omega⟩ : Fin 64).val, by show k.val / 64 * 64 + k.val % 64 < 256; omega⟩ : Fin 256) = k :=
    Fin.ext (by show k.val / 64 * 64 + k.val % 64 = k.val; omega)
  exact congrArg (fun k' => stateAt m c b 32 k' v) ek

/-- The second result: the last two rows of the product the convolution takes. -/
theorem final_conv : (finalContents condOps preI bodyI postI 32 m c (Proc.devRef .tc main_v32) : Vec Ideal S8x2x512 .f32)
    = fun y => Rows.conv (xs (V₀ m c) (y 0) ⟨2046 + (y 1).val, by have : (y 1).val < 2 := (y 1).isLt; omega⟩) (gs (V₀ m c)) (ws (V₀ m c)) (y 2) := by
  rw [final_keep m c main_v32 (by decide) (by decide) (by decide) (by decide) (by decide) (by decide), entry_v32]
  funext y
  obtain ⟨b, r, k, rfl⟩ : ∃ (b : Fin 8) (r : Fin 2) (k : Fin 512), y = ix3 b r k := ⟨y 0, y 1, y 2, eq_ix3 y⟩
  exact cf_apply _ _ _ b r k

end Cert.MixerRefIdeal.Mix

end
-- ==== Proof.MixPre.lean ====
/-
  The precondition read: on finite arguments every gate of the token mixer is a real number.
-/
module

public import proofs.«01_k».proof.Proof.MixFinite
public import proofs.«01_k».proof.Pre_finite_gate
public import Idealize.ShloMosaic.Lib.ReduceAll

@[expose] public section
noncomputable section

open Idealize.ShloMosaic

namespace Cert.Pre_finite_gate

variable [Facts]

instance : Subsingleton S_.Idx := ⟨fun a b => funext fun i => i.elim0⟩

theorem and_one : ∀ a b : BitVec 1, IntOp.andi a b = 1#1 → a = 1#1 ∧ b = 1#1 := by decide

/-- One element's test. -/
theorem real_of_test (a : EReal) (h : Ideal.cmp .olt (max a (-a)) (Ideal.ofBits .f32 0x7F800000#32) = 1#1) : Rows.IsReal a := by
  have htop : Ideal.ofBits .f32 0x7F800000#32 = ⊤ := by simp [Ideal.ofBits, Ideal.ieee]
  rw [htop] at h
  refine Rows.IsReal.of_abs_lt ?_
  by_contra hn
  have : Ideal.cmp .olt (max a (-a)) ⊤ = 0#1 := by
    unfold Ideal.cmp
    simp [hn]
  rw [this] at h
  exact absurd h (by decide)

/-- What the precondition says of the arguments. -/
theorem finite (x0 : FVec Ideal S8x2048x1024 .f32) (x1 : FVec Ideal S1x8x1024 .f32) (x2 : FVec Ideal S1x1024x3088 .f32) (x3 : FVec Ideal S1x16x256 .f32)
    (x4 : FVec Ideal S1x256 .f32) (x5 x6 x7) (h : fn (F := Ideal) x0 x1 x2 x3 x4 x5 x6 x7 = fun _ => 1#1) :
    (∀ i, Rows.IsReal (x0 i)) ∧ (∀ i, Rows.IsReal (x1 i)) ∧ (∀ i, Rows.IsReal (x2 i)) ∧ (∀ i, Rows.IsReal (x3 i)) ∧ (∀ i, Rows.IsReal (x4 i)) := by
  have h' := congrFun h (fun i => i.elim0)
  dsimp only [fn, fn_part1] at h'
  obtain ⟨h0123, h4⟩ := and_one _ _ h'
  obtain ⟨h012, h3⟩ := and_one _ _ h0123
  obtain ⟨h01, h2⟩ := and_one _ _ h012
  obtain ⟨h0, h1⟩ := and_one _ _ h01
  exact ⟨fun i => real_of_test _ (Host.reduce_andi_all _ _ _ _ _ h0 i), fun i => real_of_test _ (Host.reduce_andi_all _ _ _ _ _ h1 i),
    fun i => real_of_test _ (Host.reduce_andi_all _ _ _ _ _ h2 i), fun i => real_of_test _ (Host.reduce_andi_all _ _ _ _ _ h3 i),
    fun i => real_of_test _ (Host.reduce_andi_all _ _ _ _ _ h4 i)⟩

end Cert.Pre_finite_gate

end
-- ==== Proof.MixClaims.lean ====
/-
  The claims about the token mixer.
-/
module

public import proofs.«01_k».proof.Defs
public import proofs.«01_k».proof.Proof.MixValue
public import proofs.«01_k».proof.Proof.MixFrameLaunch
public import proofs.«01_k».proof.Proof.MixRefLoop
public import proofs.«01_k».proof.Proof.MixPre
public import Idealize.ShloMosaic.Lib.Quiescent

@[expose] public section
noncomputable section

open Idealize.ShloMosaic Idealize.ShloMosaic.TcCoe Idealize.SL.Sem

namespace Cert.Proof.MixClaims

variable [Cert.Pre_finite_gate.Facts]

theorem frame : Cert.quiescent_Mixer := fun m ρ _ => Cert.Mixer.Body.frame m ρ
theorem frame_i : Cert.quiescent_MixerIdeal := fun m ρ _ => Cert.MixerIdeal.Body.frame m ρ
theorem frame_ip : Cert.quiescent_MixerIdeal_pre_finite_gate := fun m ρ _ => Cert.MixerIdeal.Body.frame m ρ
theorem preserves : Cert.preserves_Mixer_MixerIdeal := trivial

section Ref
open Cert.MixerRefIdeal Cert.MixerRefIdeal.Gen Cert.MixerRefIdeal.Value Cert.MixerRefIdeal.Mix StableHlo

variable (m : (ℓ : Loc nD τ sig) → Buf (Elt Ideal) ℓ) (ρ : Dev nD → PrngReg)

/-- The reference runs, leaves the two results its loop and its convolution's rows are, and its arguments as they were. -/
theorem ref_run : θ_run (defs (F := Ideal)) (onTc (τ := τ) (main (F := Ideal))) ⟨m, fun _ => 0, ρ⟩ (fun r => ∀ c : Dev nD,
    r.2.mem ((c.tc : Thread nD τ).loc main_v51) = finalContents condOps preI bodyI postI 32 m c (Proc.devRef .tc main_v51)
    ∧ r.2.mem ((c.tc : Thread nD τ).loc main_v32) = finalContents condOps preI bodyI postI 32 m c (Proc.devRef .tc main_v32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) := by
  refine (θ_run _ _ _).mono (fun r h c => ⟨h c main_v51 (by decide), h c main_v32 (by decide), ?_⟩) (run_fold (F := Ideal) m ρ)
  refine ⟨(h c main_arg0 (by decide)).trans ?_, (h c main_arg1 (by decide)).trans ?_, (h c main_arg2 (by decide)).trans ?_, (h c main_arg3 (by decide)).trans ?_,
    (h c main_arg4 (by decide)).trans ?_, (h c main_arg5 (by decide)).trans ?_, (h c main_arg6 (by decide)).trans ?_, (h c main_arg7 (by decide)).trans ?_⟩
  all_goals exact final_arg m c _ (by decide) (by decide) (by decide) (by decide) (by decide) (by decide) (by decide) (by decide) (by decide) (by decide) (by decide)

end Ref

theorem frame_r : Cert.quiescent_MixerRefIdeal := fun m ρ _ =>
  (θ_run Cert.MixerRefIdeal.defs _ _).mono (fun r h => ⟨fun c => (h c).2.2,
      Idealize.ShloMosaic.sem_eq_zero_of_no_sems (by decide) r.2⟩) (ref_run m ρ)
theorem frame_rp : Cert.quiescent_MixerRefIdeal_pre_finite_gate := fun m ρ _ =>
  (θ_run Cert.MixerRefIdeal.defs _ _).mono (fun r h => ⟨fun c => (h c).2.2,
      Idealize.ShloMosaic.sem_eq_zero_of_no_sems (by decide) r.2⟩) (ref_run m ρ)

section Kernel
open Cert.MixerIdeal Cert.MixerIdeal.Gen Cert.MixerIdeal.Body

variable (m : (ℓ : Loc nD τ sig) → Buf (Elt Ideal) ℓ) (ρ : Dev nD → PrngReg)

/-- Finite arguments make every gate a real number. -/
theorem gates_real (h : Cert.Pre_MixerIdeal_finite_gate m) (c : Dev nD) (b n k) :
    Rows.IsReal (Rows.gate (xs m c b n) (gs m c) (ws m c) (us m c) (bs m c) k) := by
  obtain ⟨h0, h1, h2, h3, h4⟩ := Cert.Pre_finite_gate.finite _ _ _ _ _ _ _ _ (h c)
  exact Rows.gate_real (fun j => h0 _) (fun j => h1 _) (fun i j => h2 _) (fun i j => h3 _) (fun j => h4 _) k

theorem real' (h : Cert.Pre_MixerIdeal_finite_gate m) (c : Dev nD) : Real' m c := fun b n k => Rows.decay_real (gates_real m h c b n k)

/-- The kernel runs, leaves the two arrays as these functions of its arguments, and its arguments as they were. -/
theorem kernel_run (h : Cert.Pre_MixerIdeal_finite_gate m) : θ_run (defs (F := Ideal)) (onTc (τ := τ) (main (F := Ideal))) ⟨m, fun _ => 0, ρ⟩ (fun r => ∀ c : Dev nD,
    r.2.mem ((c.tc : Thread nD τ).loc main_v20_1) = G13 m c
    ∧ r.2.mem ((c.tc : Thread nD τ).loc main_v20_2) = G14 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r hr c => ⟨(arr13 m c r hr.1).trans (final13 m c (real' m h c)), (arr14 m c r hr.1).trans (final14 m c),
    (((hr.1 c).2 main_arg0 (Pipeline.mem_restRefs_of main_arg0 (by decide) (by decide))).trans (V_main_arg0 m c)),
    (((hr.1 c).2 main_arg1 (Pipeline.mem_restRefs_of main_arg1 (by decide) (by decide))).trans (V_main_arg1 m c)),
    (((hr.1 c).2 main_arg2 (Pipeline.mem_restRefs_of main_arg2 (by decide) (by decide))).trans (V_main_arg2 m c)),
    (((hr.1 c).2 main_arg3 (Pipeline.mem_restRefs_of main_arg3 (by decide) (by decide))).trans (V_main_arg3 m c)),
    (((hr.1 c).2 main_arg4 (Pipeline.mem_restRefs_of main_arg4 (by decide) (by decide))).trans (V_main_arg4 m c)),
    (((hr.1 c).2 main_arg5 (Pipeline.mem_restRefs_of main_arg5 (by decide) (by decide))).trans (V_main_arg5 m c)),
    (((hr.1 c).2 main_arg6 (Pipeline.mem_restRefs_of main_arg6 (by decide) (by decide))).trans (V_main_arg6 m c)),
    (((hr.1 c).2 main_arg7 (Pipeline.mem_restRefs_of main_arg7 (by decide) (by decide))).trans (V_main_arg7 m c))⟩) (run_main m ρ)

end Kernel

theorem algebraic : Cert.algebraic_MixerIdeal_MixerRefIdeal_pre_finite_gate := by
  intro m ρ m' ρ' hpre hag
  refine ⟨fun c => Cert.MixerIdeal.Body.G13 m c, fun c => Cert.MixerIdeal.Body.G14 m c, kernel_run m ρ hpre, ?_⟩
  refine (θ_run Cert.MixerRefIdeal.defs _ _).mono (fun r h c => ?_) (ref_run m' ρ')
  have ex : Cert.MixerRefIdeal.Mix.xs (Cert.MixerRefIdeal.Mix.V₀ m' c) = Cert.MixerIdeal.Body.xs m c := by
    funext b n j; exact congrFun (hag c).1 _
  have eg : Cert.MixerRefIdeal.Mix.gs (Cert.MixerRefIdeal.Mix.V₀ m' c) = Cert.MixerIdeal.Body.gs m c := by
    funext j; exact congrFun (hag c).2.1 _
  have ew : Cert.MixerRefIdeal.Mix.ws (Cert.MixerRefIdeal.Mix.V₀ m' c) = Cert.MixerIdeal.Body.ws m c := by
    funext i j; exact congrFun (hag c).2.2.1 _
  have eu : Cert.MixerRefIdeal.Mix.us (Cert.MixerRefIdeal.Mix.V₀ m' c) = Cert.MixerIdeal.Body.us m c := by
    funext i j; exact congrFun (hag c).2.2.2.1 _
  have eb : Cert.MixerRefIdeal.Mix.bs (Cert.MixerRefIdeal.Mix.V₀ m' c) = Cert.MixerIdeal.Body.bs m c := by
    funext j; exact congrFun (hag c).2.2.2.2.1 _
  have hr : Cert.MixerRefIdeal.Mix.Real' m' c := by
    intro b n k
    rw [ex, eg, ew, eu, eb]
    exact gates_real m hpre c b n k
  refine ⟨(h c).1.trans ((Cert.MixerRefIdeal.Mix.final_state m' c hr).trans ?_), (h c).2.1.trans ((Cert.MixerRefIdeal.Mix.final_conv m' c).trans ?_), (h c).2.2⟩
  · unfold Cert.MixerRefIdeal.Mix.stateAt
    rw [ex, eg, ew, eu, eb]
    rfl
  · rw [ex, eg, ew]
    rfl

end Cert.Proof.MixClaims

end
-- ==== Proof.SmpBody.lean ====
/-
  The sample mixer's body at a point: its two conditions over the grid, the buffers it is passed, and what the
  launch hands it.
-/
module

public import proofs.«01_k».proof.Proof.Gen.MixerSampleIdeal.Frame
public import proofs.«01_k».proof.Proof.Gen.MixerSampleIdeal.Skeleton
public import proofs.«01_k».proof.Proof.Gen.MixerSampleIdeal.Loops

@[expose] public section
set_option maxRecDepth 16384
noncomputable section

namespace Cert.MixerSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSampleIdeal.Gen

variable {F : FTy → Type} [FloatOps F]

local notation "𝕄" => MT nD τ sig Unit (Elt F) ℕ (UR sig nD τ) ℕ

/-- The first point: the projections of all the tokens are computed and kept. -/
abbrev isFirst (i : grid0.Coords) : Prop := k0_cond1 i = 1#1

/-- The last point: the outputs of all the tokens are computed. -/
abbrev isLast (i : grid0.Coords) : Prop := k0_cond2 i = 1#1

theorem coords_eq (t : Fin grid0.N) : (grid0.coords t 0).val = t.val := by
  have ht : t.val < 8 := Nat.lt_of_lt_of_eq t.isLt N_0
  have e1 : (grid0.coords t 0).val = t.val / 1 % 8 := Pipeline.Grid.coords_val t 0 (by decide) rfl
  omega

theorem isFirst_iff : ∀ t : Fin cfg0.N, isFirst (grid0.coords t) ↔ t.val = 0 :=
  (fun t => by
    have ht : t.val < 8 := Nat.lt_of_lt_of_eq t.isLt N_0
    simp only [isFirst, k0_cond1, coords_eq t]
    word_cmp
   : ∀ t : Fin grid0.N, isFirst (grid0.coords t) ↔ t.val = 0)

theorem isLast_iff : ∀ t : Fin cfg0.N, isLast (grid0.coords t) ↔ t.val = 7 :=
  (fun t => by
    have ht : t.val < 8 := Nat.lt_of_lt_of_eq t.isLt N_0
    simp only [isLast, k0_cond2, coords_eq t]
    word_cmp
   : ∀ t : Fin grid0.N, isLast (grid0.coords t) ↔ t.val = 7)

theorem live (w : Fin 15) (hw : w.val < 12) : ∀ t : Fin cfg0.N, cfg0.idle w (grid0.coords t) = false := by
  intro t
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl

/-- Window 0's buffer at point `t`. -/
abbrev stg0 (t : Fin cfg0.N) : Memref sig .tc .vmem S128x1024 .f32 := win0_0.stage (cfg0.slots t 0)
/-- Window 1's buffer at point `t`. -/
abbrev stg1 (t : Fin cfg0.N) : Memref sig .tc .vmem S16x256x128 .f32 := win0_1.stage (cfg0.slots t 1)
/-- Window 2's buffer at point `t`. -/
abbrev stg2 (t : Fin cfg0.N) : Memref sig .tc .vmem S128x1024 .f32 := win0_2.stage (cfg0.slots t 2)
/-- Window 3's buffer at point `t`. -/
abbrev stg3 (t : Fin cfg0.N) : Memref sig .tc .vmem S8x1024 .f32 := win0_3.stage (cfg0.slots t 3)
/-- Window 4's buffer at point `t`. -/
abbrev stg4 (t : Fin cfg0.N) : Memref sig .tc .vmem S1024x1536 .bf16 := win0_4.stage (cfg0.slots t 4)
/-- Window 5's buffer at point `t`. -/
abbrev stg5 (t : Fin cfg0.N) : Memref sig .tc .vmem S1024x128 .bf16 := win0_5.stage (cfg0.slots t 5)
/-- Window 6's buffer at point `t`. -/
abbrev stg6 (t : Fin cfg0.N) : Memref sig .tc .vmem S128x256 .bf16 := win0_6.stage (cfg0.slots t 6)
/-- Window 7's buffer at point `t`. -/
abbrev stg7 (t : Fin cfg0.N) : Memref sig .tc .vmem S1x256 .f32 := win0_7.stage (cfg0.slots t 7)
/-- Window 8's buffer at point `t`. -/
abbrev stg8 (t : Fin cfg0.N) : Memref sig .tc .vmem S1024x1536 .bf16 := win0_8.stage (cfg0.slots t 8)
/-- Window 9's buffer at point `t`. -/
abbrev stg9 (t : Fin cfg0.N) : Memref sig .tc .vmem S1x128 .f32 := win0_9.stage (cfg0.slots t 9)
/-- Window 10's buffer at point `t`. -/
abbrev stg10 (t : Fin cfg0.N) : Memref sig .tc .vmem S3x512 .f32 := win0_10.stage (cfg0.slots t 10)
/-- Window 11's buffer at point `t`. -/
abbrev stg11 (t : Fin cfg0.N) : Memref sig .tc .vmem S1024x1024 .bf16 := win0_11.stage (cfg0.slots t 11)
/-- Window 12's buffer at point `t`. -/
abbrev stg12 (t : Fin cfg0.N) : Memref sig .tc .vmem S128x1024 .f32 := win0_12.stage (cfg0.slots t 12)
/-- Window 13's buffer at point `t`. -/
abbrev stg13 (t : Fin cfg0.N) : Memref sig .tc .vmem S16x256x128 .f32 := win0_13.stage (cfg0.slots t 13)
/-- Window 14's buffer at point `t`. -/
abbrev stg14 (t : Fin cfg0.N) : Memref sig .tc .vmem S128x1024 .f32 := win0_14.stage (cfg0.slots t 14)
/-- Scratch buffer 0. -/
abbrev scr0 : Memref sig .tc .vmem S128x256 .bf16 := Memref.whole cc0_scratch0
/-- Scratch buffer 1. -/
abbrev scr1 : Memref sig .tc .vmem S128x256 .bf16 := Memref.whole cc0_scratch1
/-- Scratch buffer 2. -/
abbrev scr2 : Memref sig .tc .vmem S384x256 .bf16 := Memref.whole cc0_scratch2
/-- Scratch buffer 3. -/
abbrev scr3 : Memref sig .tc .vmem S128x512 .f32 := Memref.whole cc0_scratch3
/-- Scratch buffer 4. -/
abbrev scr4 : Memref sig .tc .vmem S128x512 .f32 := Memref.whole cc0_scratch4
/-- Scratch buffer 5. -/
abbrev scr5 : Memref sig .tc .vmem S128x512 .f32 := Memref.whole cc0_scratch5
/-- Scratch buffer 6. -/
abbrev scr6 : Memref sig .tc .vmem S128x512 .f32 := Memref.whole cc0_scratch6

/-- What the launch hands the body beside the windows: the seven scratch buffers and the generator's register. -/
theorem launchInv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  unfold Pipeline.ΦA; rw [scopedRest0_eq]; simp only [scr0, scr1, scr2, scr3, scr4, scr5, scr6, owns_whole]; try rfl

end Cert.MixerSampleIdeal.Body

end
-- ==== Proof.SmpTrip.lean ====
/-
  One trip of the sample mixer's loop of the program over the extended reals: the state it leaves one sample, and the sixteen
  trips of a point.
-/
module

public import proofs.«01_k».proof.Proof.SmpBody
public import Idealize.ShloMosaic.Lib.WholeRead
public import Idealize.ShloMosaic.Lib.WritesUnit
public import Idealize.ShloMosaic.Lib.Pointwise

@[expose] public section
set_option maxRecDepth 16384
noncomputable section

namespace Cert.MixerSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSampleIdeal.Gen

variable {F : FTy → Type} [FloatOps F]

local notation "𝕄" => MT nD τ sig Unit (Elt F) ℕ (UR sig nD τ) ℕ

/-- What trip `k` of a point stores in the states: sample `k` of the point's sixteen, from its decays, keys, values and the
    state it had. -/
def sample (i : grid0.Coords) (arg0 : BitVec 32) (v3 : IVec S128x128 32) (K : Vec F S128x256 .bf16) (LA : Vec F S384x256 .bf16)
    (V : Vec F S128x512 .f32) (S : Vec F S16x256x128 .f32) (k : Fin k0_t1_loop.trips) : Vec F S1x256x128 .f32 :=
  k0_pay21 arg0 v3 0#32 1#32 k LA K
    (fun x => V ((Rect.unit (s := S128x512) (k0_off1 i k) S1x512.size (k0_off1_inb i k)).toLoadRect.idx x))
    (fun x => S ((Rect.unit (s := S16x256x128) (k0_off2 k) S1x256x128.size (k0_off2_inb k)).toLoadRect.idx x))

theorem off2_eq : ∀ k : Fin k0_t1_loop.trips, k0_off2 k = ![k.val, 0, 0] := by decide +kernel

/-- A sample's trip. -/
def tripOf (y : S16x256x128.Idx) : Fin k0_t1_loop.trips := ⟨(y 0).val, Nat.lt_of_lt_of_eq (y 0).isLt (by decide)⟩

/-- The sixteen states a point leaves. -/
def states (i : grid0.Coords) (arg0 : BitVec 32) (v3 : IVec S128x128 32) (K : Vec F S128x256 .bf16) (LA : Vec F S384x256 .bf16)
    (V : Vec F S128x512 .f32) (S : Vec F S16x256x128 .f32) : Vec F S16x256x128 .f32 :=
  fun y => sample i arg0 v3 K LA V S (tripOf y) (ix3 0 (y 1) (y 2))

set_option maxHeartbeats 4000000 in
/-- One trip's piece in the states. -/
theorem trip_so (𝒱 : Variants) (c : Dev nD) (bd : Option 𝒱.V) (i : grid0.Coords) (arg1 : Memref sig .tc .vmem S128x1024 .f32) (harg1 : arg1.IsWhole) (arg2 : Memref sig .tc .vmem S16x256x128 .f32) (harg2 : arg2.IsWhole) (arg3 : Memref sig .tc .vmem S128x1024 .f32) (harg3 : arg3.IsWhole) (arg4 : Memref sig .tc .vmem S8x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S128x256 .bf16) (harg7 : arg7.IsWhole) (arg8 : Memref sig .tc .vmem S1x256 .f32) (harg8 : arg8.IsWhole) (arg9 : Memref sig .tc .vmem S1024x1536 .bf16) (harg9 : arg9.IsWhole) (arg10 : Memref sig .tc .vmem S1x128 .f32) (harg10 : arg10.IsWhole) (arg11 : Memref sig .tc .vmem S3x512 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x256x128 .f32) (harg14 : arg14.IsWhole) (arg15 : Memref sig .tc .vmem S128x1024 .f32) (harg15 : arg15.IsWhole) (arg16 : Memref sig .tc .vmem S128x256 .bf16) (harg16 : arg16.IsWhole) (arg17 : Memref sig .tc .vmem S128x256 .bf16) (harg17 : arg17.IsWhole) (arg18 : Memref sig .tc .vmem S384x256 .bf16) (harg18 : arg18.IsWhole) (arg19 : Memref sig .tc .vmem S128x512 .f32) (harg19 : arg19.IsWhole) (arg20 : Memref sig .tc .vmem S128x512 .f32) (harg20 : arg20.IsWhole) (arg21 : Memref sig .tc .vmem S128x512 .f32) (harg21 : arg21.IsWhole) (arg22 : Memref sig .tc .vmem S128x512 .f32) (harg22 : arg22.IsWhole) (arg0 : BitVec 32) (v3 : IVec S128x128 32) (X_arg2 : BufTy.Contents (Elt F) arg2.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v3 X_arg2 X_arg16 X_arg17 X_arg18 X_arg19 k).1
    = [⟨Rect.unit (s := S16x256x128) (k0_off2 k) S1x256x128.size (k0_off2_inb k),
        k0_pay21 arg0 v3 0#32 1#32 k (View.readAt (Elt F) arg18.view (Rect.unit ![0, 0] S384x256.size inb_S384x256_S384x256_0_0).toLoadRect X_arg18)
          (View.readAt (Elt F) arg17.view (Rect.unit ![0, 0] S128x256.size inb_S128x256_S128x256_0_0).toLoadRect X_arg17)
          (View.readAt (Elt F) arg19.view (Rect.unit (s := S128x512) (k0_off1 i k) S1x512.size (k0_off1_inb i k)).toLoadRect X_arg19)
          (View.readAt (Elt F) arg2.view (Rect.unit (s := S16x256x128) (k0_off2 k) S1x256x128.size (k0_off2_inb k)).toLoadRect X_arg2)⟩] := by
  dsimp only [tripL_k0_t1]; unfold trip_k0_t1; dsimp only

/-- A rectangle over a whole buffer places every index at itself. -/
theorem emb_full {d : Fin 2 → ℕ} (inb) (y : (⟨2, d⟩ : Shape).Idx) : (Rect.unit (s := ⟨2, d⟩) ![0, 0] d inb).emb y = y := by
  funext a; apply Fin.ext
  match a with
  | ⟨0, _⟩ => show 0 + 1 * (y 0).val = (y 0).val; omega
  | ⟨1, _⟩ => show 0 + 1 * (y 1).val = (y 1).val; omega

/-- A load of a whole buffer reads what it holds. -/
theorem readAt_full {d : Fin 2 → ℕ} {e : EltTy} {m : Memref sig .tc .vmem ⟨2, d⟩ e} (h : m.IsWhole) (X : (⟨2, d⟩ : Shape).Idx → Elt F e)
    (inb) : View.readAt (Elt F) m.view (Rect.unit (s := ⟨2, d⟩) ![0, 0] d inb).toLoadRect (h.unread X) = X := by
  funext x
  exact (h.readAt_unread X _ x).trans (congrArg X (emb_full inb x))

/-- A store over a whole buffer is what it then reads. -/
theorem read_full {d : Fin 2 → ℕ} {e : EltTy} (v : View sig .tc .vmem ⟨2, d⟩ e) (f : BufTy.Contents (Elt F) v.ty)
    (inb) (w : (⟨2, d⟩ : Shape).Idx → Elt F e) (L : List (View.Piece (Elt F) ⟨2, d⟩ e)) :
    View.read (Elt F) v (v.writes (Elt F) f (⟨Rect.unit (s := ⟨2, d⟩) ![0, 0] d inb, w⟩ :: L)) = w := by
  funext y
  have h := View.read_writes_cons_emb (Val := Elt F) v f (Rect.unit (s := ⟨2, d⟩) ![0, 0] d inb) w L y
  rw [emb_full] at h
  exact h

/-- A whole buffer's load, of contents known by what they read. -/
theorem readAt_of_read {d : Fin 2 → ℕ} {e : EltTy} {v : View sig .tc .vmem ⟨2, d⟩ e} {f : BufTy.Contents (Elt F) v.ty}
    {X : (⟨2, d⟩ : Shape).Idx → Elt F e} (h : View.read (Elt F) v f = X) (inb) :
    View.readAt (Elt F) v (Rect.unit (s := ⟨2, d⟩) ![0, 0] d inb).toLoadRect f = X := by
  funext x
  exact (congrArg (View.read (Elt F) v f) (emb_full inb x)).trans (congrFun h x)

set_option maxHeartbeats 4000000 in
/-- The states after the trips before `n`, read at a sample below `n`. -/
theorem loop_so {𝒱 : Variants} {c : Dev nD} {bd : Option 𝒱.V} {i : grid0.Coords} {arg1 : Memref sig .tc .vmem S128x1024 .f32} {harg1 : arg1.IsWhole} {arg2 : Memref sig .tc .vmem S16x256x128 .f32} {harg2 : arg2.IsWhole} {arg3 : Memref sig .tc .vmem S128x1024 .f32} {harg3 : arg3.IsWhole} {arg4 : Memref sig .tc .vmem S8x1024 .f32} {harg4 : arg4.IsWhole} {arg5 : Memref sig .tc .vmem S1024x1536 .bf16} {harg5 : arg5.IsWhole} {arg6 : Memref sig .tc .vmem S1024x128 .bf16} {harg6 : arg6.IsWhole} {arg7 : Memref sig .tc .vmem S128x256 .bf16} {harg7 : arg7.IsWhole} {arg8 : Memref sig .tc .vmem S1x256 .f32} {harg8 : arg8.IsWhole} {arg9 : Memref sig .tc .vmem S1024x1536 .bf16} {harg9 : arg9.IsWhole} {arg10 : Memref sig .tc .vmem S1x128 .f32} {harg10 : arg10.IsWhole} {arg11 : Memref sig .tc .vmem S3x512 .f32} {harg11 : arg11.IsWhole} {arg12 : Memref sig .tc .vmem S1024x1024 .bf16} {harg12 : arg12.IsWhole} {arg13 : Memref sig .tc .vmem S128x1024 .f32} {harg13 : arg13.IsWhole} {arg14 : Memref sig .tc .vmem S16x256x128 .f32} {harg14 : arg14.IsWhole} {arg15 : Memref sig .tc .vmem S128x1024 .f32} {harg15 : arg15.IsWhole} {arg16 : Memref sig .tc .vmem S128x256 .bf16} {harg16 : arg16.IsWhole} {arg17 : Memref sig .tc .vmem S128x256 .bf16} {harg17 : arg17.IsWhole} {arg18 : Memref sig .tc .vmem S384x256 .bf16} {harg18 : arg18.IsWhole} {arg19 : Memref sig .tc .vmem S128x512 .f32} {harg19 : arg19.IsWhole} {arg20 : Memref sig .tc .vmem S128x512 .f32} {harg20 : arg20.IsWhole} {arg21 : Memref sig .tc .vmem S128x512 .f32} {harg21 : arg21.IsWhole} {arg22 : Memref sig .tc .vmem S128x512 .f32} {harg22 : arg22.IsWhole} {arg0 : BitVec 32} {v3 : IVec S128x128 32} {X_arg2 : BufTy.Contents (Elt F) arg2.view.ty} {X_arg16 : BufTy.Contents (Elt F) arg16.view.ty} {X_arg17 : BufTy.Contents (Elt F) arg17.view.ty} {X_arg18 : BufTy.Contents (Elt F) arg18.view.ty} {X_arg19 : BufTy.Contents (Elt F) arg19.view.ty}
    {K : Vec F S128x256 .bf16} {LA : Vec F S384x256 .bf16} {V : Vec F S128x512 .f32} {S : Vec F S16x256x128 .f32}
    (hK : View.read (Elt F) arg17.view X_arg17 = K) (hLA : View.read (Elt F) arg18.view X_arg18 = LA)
    (hV : View.read (Elt F) arg19.view X_arg19 = V) (hS : View.read (Elt F) arg2.view X_arg2 = S)
    (G : BufTy.Contents (Elt F) arg14.view.ty) : ∀ n ≤ k0_t1_loop.trips, ∀ y : S16x256x128.Idx, (y 0).val < n →
      View.read (Elt F) arg14.view (arg14.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v3 X_arg2 X_arg16 X_arg17 X_arg18 X_arg19 n).1) y
        = states i arg0 v3 K LA V S y := by
  intro n; induction n with
  | zero => intro _ y hy; omega
  | succ n ih =>
    intro hn y hy
    have hlt : n < k0_t1_loop.trips := hn
    have e3 := (congrArg Prod.fst (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v3 X_arg2 X_arg16 X_arg17 X_arg18 X_arg19 ⟨n, hlt⟩)).trans
      (congrArg (· ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v3 X_arg2 X_arg16 X_arg17 X_arg18 X_arg19 n).1) (trip_so 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v3 X_arg2 X_arg16 X_arg17 X_arg18 X_arg19 ⟨n, hlt⟩))
    refine (congrArg (fun L => View.read (Elt F) arg14.view (arg14.view.writes (Elt F) G L) y) e3).trans ?_
    clear e3
    by_cases hyn : (y 0).val = n
    · have hk : tripOf y = ⟨n, hlt⟩ := Fin.ext hyn
      refine (View.read_writes_cons_unit_of_mem arg14.view G _ _ _ y (ix3 0 (y 1) (y 2)) (off2_eq ⟨n, hlt⟩) ?_).trans ?_
      · intro a
        match a with
        | ⟨0, _⟩ => exact hyn
        | ⟨1, _⟩ => exact (Nat.zero_add _).symm
        | ⟨2, _⟩ => exact (Nat.zero_add _).symm
      · unfold states sample
        rw [hk, readAt_of_read hLA, readAt_of_read hK, ← hV, ← hS]
        rfl
    · refine (View.read_writes_cons_unit_of_not_mem arg14.view G _ _ _ y (off2_eq ⟨n, hlt⟩) 0 (.inl ?_)).trans
        (ih hlt.le y (by omega))
      show (y 0).val < n
      omega

/-- What the loop's pieces read back as. -/
theorem loop_read {𝒱 : Variants} {c : Dev nD} {bd : Option 𝒱.V} {i : grid0.Coords} {arg1 : Memref sig .tc .vmem S128x1024 .f32} {harg1 : arg1.IsWhole} {arg2 : Memref sig .tc .vmem S16x256x128 .f32} {harg2 : arg2.IsWhole} {arg3 : Memref sig .tc .vmem S128x1024 .f32} {harg3 : arg3.IsWhole} {arg4 : Memref sig .tc .vmem S8x1024 .f32} {harg4 : arg4.IsWhole} {arg5 : Memref sig .tc .vmem S1024x1536 .bf16} {harg5 : arg5.IsWhole} {arg6 : Memref sig .tc .vmem S1024x128 .bf16} {harg6 : arg6.IsWhole} {arg7 : Memref sig .tc .vmem S128x256 .bf16} {harg7 : arg7.IsWhole} {arg8 : Memref sig .tc .vmem S1x256 .f32} {harg8 : arg8.IsWhole} {arg9 : Memref sig .tc .vmem S1024x1536 .bf16} {harg9 : arg9.IsWhole} {arg10 : Memref sig .tc .vmem S1x128 .f32} {harg10 : arg10.IsWhole} {arg11 : Memref sig .tc .vmem S3x512 .f32} {harg11 : arg11.IsWhole} {arg12 : Memref sig .tc .vmem S1024x1024 .bf16} {harg12 : arg12.IsWhole} {arg13 : Memref sig .tc .vmem S128x1024 .f32} {harg13 : arg13.IsWhole} {arg14 : Memref sig .tc .vmem S16x256x128 .f32} {harg14 : arg14.IsWhole} {arg15 : Memref sig .tc .vmem S128x1024 .f32} {harg15 : arg15.IsWhole} {arg16 : Memref sig .tc .vmem S128x256 .bf16} {harg16 : arg16.IsWhole} {arg17 : Memref sig .tc .vmem S128x256 .bf16} {harg17 : arg17.IsWhole} {arg18 : Memref sig .tc .vmem S384x256 .bf16} {harg18 : arg18.IsWhole} {arg19 : Memref sig .tc .vmem S128x512 .f32} {harg19 : arg19.IsWhole} {arg20 : Memref sig .tc .vmem S128x512 .f32} {harg20 : arg20.IsWhole} {arg21 : Memref sig .tc .vmem S128x512 .f32} {harg21 : arg21.IsWhole} {arg22 : Memref sig .tc .vmem S128x512 .f32} {harg22 : arg22.IsWhole} {arg0 : BitVec 32} {v3 : IVec S128x128 32} {X_arg2 : BufTy.Contents (Elt F) arg2.view.ty} {X_arg16 : BufTy.Contents (Elt F) arg16.view.ty} {X_arg17 : BufTy.Contents (Elt F) arg17.view.ty} {X_arg18 : BufTy.Contents (Elt F) arg18.view.ty} {X_arg19 : BufTy.Contents (Elt F) arg19.view.ty}
    {K : Vec F S128x256 .bf16} {LA : Vec F S384x256 .bf16} {V : Vec F S128x512 .f32} {S : Vec F S16x256x128 .f32}
    (hK : View.read (Elt F) arg17.view X_arg17 = K) (hLA : View.read (Elt F) arg18.view X_arg18 = LA)
    (hV : View.read (Elt F) arg19.view X_arg19 = V) (hS : View.read (Elt F) arg2.view X_arg2 = S)
    (G : BufTy.Contents (Elt F) arg14.view.ty) :
      View.read (Elt F) arg14.view (arg14.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v3 X_arg2 X_arg16 X_arg17 X_arg18 X_arg19 k0_t1_loop.trips).1)
        = states i arg0 v3 K LA V S :=
  funext fun y => loop_so hK hLA hV hS G _ (Nat.le_refl _) y (Nat.lt_of_lt_of_eq (y 0).isLt (by decide))

/-- The table of row numbers the loop picks its rows with. -/
abbrev rowNo : IVec S128x128 32 := iota .tc S128x128 32 [0] iota_S128x128_d0_w32

/-- The states a point leaves, with the words its loop is given. -/
abbrev statesAt (i : grid0.Coords) (K : Vec F S128x256 .bf16) (LA : Vec F S384x256 .bf16)
    (V : Vec F S128x512 .f32) (S : Vec F S16x256x128 .f32) : Vec F S16x256x128 .f32 :=
  states i (BitVec.ofNat 32 (i 0).val) rowNo K LA V S

/-- The gain of the mixer's norm: row 2 of the gains. -/
def gain (x4 : Vec F S8x1024 .f32) : Vec F S1x1024 .f32 :=
  fun x => x4 ((Rect.unit (s := S8x1024) ![2, 0] S1x1024.size inb_S8x1024_S1x1024_2_0).toLoadRect.idx x)

theorem gain_eq {m : Memref sig .tc .vmem S8x1024 .f32} (h : m.IsWhole) (x4 : Vec F S8x1024 .f32) :
    View.readAt (Elt F) m.view (Rect.unit (s := S8x1024) ![2, 0] S1x1024.size inb_S8x1024_S1x1024_2_0).toLoadRect (h.unread x4) = gain x4 :=
  funext fun x => h.readAt_unread x4 _ x

/-- The keys of all the tokens. -/
def tK (x1 : Vec F S128x1024 .f32) (x4 : Vec F S8x1024 .f32) (x5 : Vec F S1024x1536 .bf16) : Vec F S128x256 .bf16 :=
  k0_pay13 (k0_pay8 x1 (gain x4) x5)

/-- The values of all the tokens. -/
def tV (x1 : Vec F S128x1024 .f32) (x4 : Vec F S8x1024 .f32) (x5 : Vec F S1024x1536 .bf16) : Vec F S128x512 .f32 :=
  k0_pay15 (k0_pay8 x1 (gain x4) x5)

/-- The logarithms of the decays of all the tokens, in three parts. -/
def tLA (x1 : Vec F S128x1024 .f32) (x4 : Vec F S8x1024 .f32) (x6 : Vec F S1024x128 .bf16) (x7 : Vec F S128x256 .bf16) (x8 : Vec F S1x256 .f32) :
    Vec F S384x256 .bf16 :=
  k0_pay14 (k0_pay9 x1 (gain x4) x6 x7 x8) (Scalar.ofBits .f32 0x3D800000#32)

/-- The rows the convolution is left with: the last it had, and the new. -/
def tCo (x1 x3 : Vec F S128x1024 .f32) (x4 : Vec F S8x1024 .f32) (x9 : Vec F S1024x1536 .bf16) : Vec F S128x1024 .f32 :=
  k0_pay4 (k0_pay17 (k0_pay7 x1 (gain x4)) x9) x3

end Cert.MixerSampleIdeal.Body

end
-- ==== Proof.SmpRunA.lean ====
/-
  The sample mixer's body at the first point: the projections it keeps, the convolution's rows, and its sixteen states.
-/
module

public import proofs.«01_k».proof.Proof.SmpTrip

@[expose] public section
set_option maxRecDepth 16384
noncomputable section

namespace Cert.MixerSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSampleIdeal.Gen

variable {F : FTy → Type} [FloatOps F]

local notation "𝕄" => MT nD τ sig Unit (Elt F) ℕ (UR sig nD τ) ℕ

set_option maxHeartbeats 4000000 in
/-- The body at the first point: the projections it keeps, the convolution's rows, and its sixteen states. -/
theorem runA (c : Dev nD) (i : grid0.Coords) (arg1 : Memref sig .tc .vmem S128x1024 .f32) (harg1 : arg1.IsWhole) (arg2 : Memref sig .tc .vmem S16x256x128 .f32) (harg2 : arg2.IsWhole) (arg3 : Memref sig .tc .vmem S128x1024 .f32) (harg3 : arg3.IsWhole) (arg4 : Memref sig .tc .vmem S8x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S128x256 .bf16) (harg7 : arg7.IsWhole) (arg8 : Memref sig .tc .vmem S1x256 .f32) (harg8 : arg8.IsWhole) (arg9 : Memref sig .tc .vmem S1024x1536 .bf16) (harg9 : arg9.IsWhole) (arg10 : Memref sig .tc .vmem S1x128 .f32) (harg10 : arg10.IsWhole) (arg11 : Memref sig .tc .vmem S3x512 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x256x128 .f32) (harg14 : arg14.IsWhole) (arg15 : Memref sig .tc .vmem S128x1024 .f32) (harg15 : arg15.IsWhole) (arg16 : Memref sig .tc .vmem S128x256 .bf16) (harg16 : arg16.IsWhole) (arg17 : Memref sig .tc .vmem S128x256 .bf16) (harg17 : arg17.IsWhole) (arg18 : Memref sig .tc .vmem S384x256 .bf16) (harg18 : arg18.IsWhole) (arg19 : Memref sig .tc .vmem S128x512 .f32) (harg19 : arg19.IsWhole) (arg20 : Memref sig .tc .vmem S128x512 .f32) (harg20 : arg20.IsWhole) (arg21 : Memref sig .tc .vmem S128x512 .f32) (harg21 : arg21.IsWhole) (arg22 : Memref sig .tc .vmem S128x512 .f32) (harg22 : arg22.IsWhole) (hc0 : isFirst i) (hc1 : ¬isLast i)
    (x1 : Vec F S128x1024 .f32) (x2 : Vec F S16x256x128 .f32) (x3 : Vec F S128x1024 .f32) (x4 : Vec F S8x1024 .f32) (x5 : Vec F S1024x1536 .bf16) (x6 : Vec F S1024x128 .bf16) (x7 : Vec F S128x256 .bf16) (x8 : Vec F S1x256 .f32) (x9 : Vec F S1024x1536 .bf16) (x11 : Vec F S3x512 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg14 fullShare (statesAt i (tK x1 x4 x5) (tLA x1 x4 x6 x7 x8) (tV x1 x4 x5) x2) ∗ owns (c : Thread nD τ) arg15 fullShare (tCo x1 x3 x4 x9) ∗ (∃ d, owns (c : Thread nD τ) arg16 fullShare d) ∗ owns (c : Thread nD τ) arg17 fullShare (tK x1 x4 x5) ∗ owns (c : Thread nD τ) arg18 fullShare (tLA x1 x4 x6 x7 x8) ∗ owns (c : Thread nD τ) arg19 fullShare (tV x1 x4 x5) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  · skip
    simp only [cc0_mixer_sample_eq_skeleton]; unfold cc0_mixer_sample_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]
    · iexists _; isplitr; · ipureintro; exact harg11.read_unread _
      iexact H11
    isplitl [H14]
    · iexists _; isplitr; swap; · iexact H14
      ipureintro; sl_unfold_run_names; exact loop_read (by refine (read_full _ _ _ _ _).trans ?_; simp only [readAt_full harg1, readAt_full harg5, readAt_full harg6, readAt_full harg7, readAt_full harg8, readAt_full harg9, readAt_full harg3, gain_eq harg4]; rfl) (by refine (read_full _ _ _ _ _).trans ?_; simp only [readAt_full harg1, readAt_full harg5, readAt_full harg6, readAt_full harg7, readAt_full harg8, readAt_full harg9, readAt_full harg3, gain_eq harg4]; rfl) (by refine (read_full _ _ _ _ _).trans ?_; simp only [readAt_full harg1, readAt_full harg5, readAt_full harg6, readAt_full harg7, readAt_full harg8, readAt_full harg9, readAt_full harg3, gain_eq harg4]; rfl) (harg2.read_unread _) _
    isplitl [H15]
    · iexists _; isplitr; swap; · iexact H15
      ipureintro; sl_unfold_run_names; refine (read_full _ _ _ _ _).trans ?_; simp only [readAt_full harg1, readAt_full harg5, readAt_full harg6, readAt_full harg7, readAt_full harg8, readAt_full harg9, readAt_full harg3, gain_eq harg4]; rfl
    isplitl [H16]
    · iexists _, _; isplitr; swap; · iexact H16
      ipureintro; rfl
    isplitl [H17]
    · iexists _; isplitr; swap; · iexact H17
      ipureintro; sl_unfold_run_names; refine (read_full _ _ _ _ _).trans ?_; simp only [readAt_full harg1, readAt_full harg5, readAt_full harg6, readAt_full harg7, readAt_full harg8, readAt_full harg9, readAt_full harg3, gain_eq harg4]; rfl
    isplitl [H18]
    · iexists _; isplitr; swap; · iexact H18
      ipureintro; sl_unfold_run_names; refine (read_full _ _ _ _ _).trans ?_; simp only [readAt_full harg1, readAt_full harg5, readAt_full harg6, readAt_full harg7, readAt_full harg8, readAt_full harg9, readAt_full harg3, gain_eq harg4]; rfl
    isplitl [H19]
    · iexists _; isplitr; swap; · iexact H19
      ipureintro; sl_unfold_run_names; refine (read_full _ _ _ _ _).trans ?_; simp only [readAt_full harg1, readAt_full harg5, readAt_full harg6, readAt_full harg7, readAt_full harg8, readAt_full harg9, readAt_full harg3, gain_eq harg4]; rfl
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

end Cert.MixerSampleIdeal.Body

end
-- ==== Proof.SmpRunB.lean ====
/-
  The sample mixer's body at a point that is neither first nor last: its sixteen states.
-/
module

public import proofs.«01_k».proof.Proof.SmpTrip

@[expose] public section
set_option maxRecDepth 16384
noncomputable section

namespace Cert.MixerSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSampleIdeal.Gen

variable {F : FTy → Type} [FloatOps F]

local notation "𝕄" => MT nD τ sig Unit (Elt F) ℕ (UR sig nD τ) ℕ

set_option maxHeartbeats 4000000 in
/-- The body at a point that is neither first nor last: its sixteen states. -/
theorem runB (c : Dev nD) (i : grid0.Coords) (arg1 : Memref sig .tc .vmem S128x1024 .f32) (harg1 : arg1.IsWhole) (arg2 : Memref sig .tc .vmem S16x256x128 .f32) (harg2 : arg2.IsWhole) (arg3 : Memref sig .tc .vmem S128x1024 .f32) (harg3 : arg3.IsWhole) (arg4 : Memref sig .tc .vmem S8x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S128x256 .bf16) (harg7 : arg7.IsWhole) (arg8 : Memref sig .tc .vmem S1x256 .f32) (harg8 : arg8.IsWhole) (arg9 : Memref sig .tc .vmem S1024x1536 .bf16) (harg9 : arg9.IsWhole) (arg10 : Memref sig .tc .vmem S1x128 .f32) (harg10 : arg10.IsWhole) (arg11 : Memref sig .tc .vmem S3x512 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x256x128 .f32) (harg14 : arg14.IsWhole) (arg15 : Memref sig .tc .vmem S128x1024 .f32) (harg15 : arg15.IsWhole) (arg16 : Memref sig .tc .vmem S128x256 .bf16) (harg16 : arg16.IsWhole) (arg17 : Memref sig .tc .vmem S128x256 .bf16) (harg17 : arg17.IsWhole) (arg18 : Memref sig .tc .vmem S384x256 .bf16) (harg18 : arg18.IsWhole) (arg19 : Memref sig .tc .vmem S128x512 .f32) (harg19 : arg19.IsWhole) (arg20 : Memref sig .tc .vmem S128x512 .f32) (harg20 : arg20.IsWhole) (arg21 : Memref sig .tc .vmem S128x512 .f32) (harg21 : arg21.IsWhole) (arg22 : Memref sig .tc .vmem S128x512 .f32) (harg22 : arg22.IsWhole) (hc0 : ¬isFirst i) (hc1 : ¬isLast i)
    (x2 : Vec F S16x256x128 .f32) (x17 : Vec F S128x256 .bf16) (x18 : Vec F S384x256 .bf16) (x19 : Vec F S128x512 .f32) :
      ∀ (E : Set ℕ) (K : PUnit → sProp 𝕄),
        iprop(owns (c : Thread nD τ) arg2 fullShare x2 ∗ (∃ d, owns (c : Thread nD τ) arg14 fullShare d) ∗ (∃ d, owns (c : Thread nD τ) arg16 fullShare d) ∗ owns (c : Thread nD τ) arg17 fullShare x17 ∗ owns (c : Thread nD τ) arg18 fullShare x18 ∗ owns (c : Thread nD τ) arg19 fullShare x19 ∗ (∃ d, owns (c : Thread nD τ) arg22 fullShare d)
            ∗ (iprop(owns (c : Thread nD τ) arg2 fullShare x2 ∗ owns (c : Thread nD τ) arg14 fullShare (statesAt i x17 x18 x19 x2) ∗ (∃ d, owns (c : Thread nD τ) arg16 fullShare d) ∗ owns (c : Thread nD τ) arg17 fullShare x17 ∗ owns (c : Thread nD τ) arg18 fullShare x18 ∗ owns (c : Thread nD τ) arg19 fullShare x19 ∗ (∃ d, owns (c : Thread nD τ) arg22 fullShare d)) -∗ K ⟨⟩))
          ⊢ wp frame (wpE (defs₀ (F := F)) Variants.none c none) E (cc0_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  · skip
    simp only [cc0_mixer_sample_eq_skeleton]; unfold cc0_mixer_sample_skel
    simp only [k0_part1_eq_skeleton, k0_part2_eq_skeleton, k0_part3_eq_skeleton, k0_part4_eq_skeleton, k0_part5_eq_skeleton]
    unfold owns
    iintro ⟨⟨%f2, %hf2, H2⟩, ⟨%d14, %f14, -, H14⟩, ⟨%d16, %f16, -, H16⟩, ⟨%f17, %hf17, H17⟩, ⟨%f18, %hf18, H18⟩, ⟨%f19, %hf19, H19⟩, ⟨%d22, %f22, -, H22⟩, Hk⟩
    obtain rfl := harg2.eq_unread hf2; obtain rfl := harg17.eq_unread hf17; obtain rfl := harg18.eq_unread hf18; obtain rfl := harg19.eq_unread hf19
    sl_exec (disch := first | sl_exact hc0 | sl_exact hc1)
    sl_step
    iapply Hk
    isplitl [H2]
    · iexists _; isplitr; · ipureintro; exact harg2.read_unread _
      iexact H2
    isplitl [H14]
    · iexists _; isplitr; swap; · iexact H14
      ipureintro; sl_unfold_run_names; exact loop_read (harg17.read_unread _) (harg18.read_unread _) (harg19.read_unread _) (harg2.read_unread _) _
    isplitl [H16]
    · iexists _, _; isplitr; swap; · iexact H16
      ipureintro; rfl
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    iexists _, _; isplitr; swap; · iexact H22
    ipureintro; rfl

end Cert.MixerSampleIdeal.Body

end
-- ==== Proof.SmpRunC.lean ====
/-
  The sample mixer's body at the last point: its sixteen states.
-/
module

public import proofs.«01_k».proof.Proof.SmpTrip

@[expose] public section
set_option maxRecDepth 16384
noncomputable section

namespace Cert.MixerSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSampleIdeal.Gen

variable {F : FTy → Type} [FloatOps F]

local notation "𝕄" => MT nD τ sig Unit (Elt F) ℕ (UR sig nD τ) ℕ

set_option maxHeartbeats 4000000 in
/-- The body at the last point: its sixteen states. -/
theorem runC (c : Dev nD) (i : grid0.Coords) (arg1 : Memref sig .tc .vmem S128x1024 .f32) (harg1 : arg1.IsWhole) (arg2 : Memref sig .tc .vmem S16x256x128 .f32) (harg2 : arg2.IsWhole) (arg3 : Memref sig .tc .vmem S128x1024 .f32) (harg3 : arg3.IsWhole) (arg4 : Memref sig .tc .vmem S8x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S128x256 .bf16) (harg7 : arg7.IsWhole) (arg8 : Memref sig .tc .vmem S1x256 .f32) (harg8 : arg8.IsWhole) (arg9 : Memref sig .tc .vmem S1024x1536 .bf16) (harg9 : arg9.IsWhole) (arg10 : Memref sig .tc .vmem S1x128 .f32) (harg10 : arg10.IsWhole) (arg11 : Memref sig .tc .vmem S3x512 .f32) (harg11 : arg11.IsWhole) (arg12 : Memref sig .tc .vmem S1024x1024 .bf16) (harg12 : arg12.IsWhole) (arg13 : Memref sig .tc .vmem S128x1024 .f32) (harg13 : arg13.IsWhole) (arg14 : Memref sig .tc .vmem S16x256x128 .f32) (harg14 : arg14.IsWhole) (arg15 : Memref sig .tc .vmem S128x1024 .f32) (harg15 : arg15.IsWhole) (arg16 : Memref sig .tc .vmem S128x256 .bf16) (harg16 : arg16.IsWhole) (arg17 : Memref sig .tc .vmem S128x256 .bf16) (harg17 : arg17.IsWhole) (arg18 : Memref sig .tc .vmem S384x256 .bf16) (harg18 : arg18.IsWhole) (arg19 : Memref sig .tc .vmem S128x512 .f32) (harg19 : arg19.IsWhole) (arg20 : Memref sig .tc .vmem S128x512 .f32) (harg20 : arg20.IsWhole) (arg21 : Memref sig .tc .vmem S128x512 .f32) (harg21 : arg21.IsWhole) (arg22 : Memref sig .tc .vmem S128x512 .f32) (harg22 : arg22.IsWhole) (hc0 : ¬isFirst i) (hc1 : isLast i)
    (x1 : Vec F S128x1024 .f32) (x2 : Vec F S16x256x128 .f32) (x4 : Vec F S8x1024 .f32) (x10 : Vec F S1x128 .f32) (x12 : Vec F S1024x1024 .bf16) (x17 : Vec F S128x256 .bf16) (x18 : Vec F S384x256 .bf16) (x19 : Vec F S128x512 .f32) :
      ∀ (E : Set ℕ) (K : PUnit → sProp 𝕄),
        iprop(owns (c : Thread nD τ) arg1 fullShare x1 ∗ owns (c : Thread nD τ) arg2 fullShare x2 ∗ owns (c : Thread nD τ) arg4 fullShare x4 ∗ owns (c : Thread nD τ) arg10 fullShare x10 ∗ owns (c : Thread nD τ) arg12 fullShare x12 ∗ (∃ d, owns (c : Thread nD τ) arg13 fullShare d) ∗ (∃ d, owns (c : Thread nD τ) arg14 fullShare d) ∗ (∃ d, owns (c : Thread nD τ) arg16 fullShare d) ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x1 ∗ owns (c : Thread nD τ) arg2 fullShare x2 ∗ owns (c : Thread nD τ) arg4 fullShare x4 ∗ owns (c : Thread nD τ) arg10 fullShare x10 ∗ owns (c : Thread nD τ) arg12 fullShare x12 ∗ (∃ d, owns (c : Thread nD τ) arg13 fullShare d) ∗ owns (c : Thread nD τ) arg14 fullShare (statesAt i x17 x18 x19 x2) ∗ (∃ d, owns (c : Thread nD τ) arg16 fullShare d) ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  · skip
    simp only [cc0_mixer_sample_eq_skeleton]; unfold cc0_mixer_sample_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f4, %hf4, H4⟩, ⟨%f10, %hf10, H10⟩, ⟨%f12, %hf12, H12⟩, ⟨%d13, %f13, -, H13⟩, ⟨%d14, %f14, -, H14⟩, ⟨%d16, %f16, -, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
    obtain rfl := harg1.eq_unread hf1; obtain rfl := harg2.eq_unread hf2; obtain rfl := harg4.eq_unread hf4; obtain rfl := harg10.eq_unread hf10; obtain rfl := harg12.eq_unread hf12; obtain rfl := harg17.eq_unread hf17; obtain rfl := harg18.eq_unread hf18; obtain rfl := harg19.eq_unread hf19
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H10]
    · iexists _; isplitr; · ipureintro; exact harg10.read_unread _
      iexact H10
    isplitl [H12]
    · iexists _; isplitr; · ipureintro; exact harg12.read_unread _
      iexact H12
    isplitl [H13]
    · iexists _, _; isplitr; swap; · iexact H13
      ipureintro; rfl
    isplitl [H14]
    · iexists _; isplitr; swap; · iexact H14
      ipureintro; sl_unfold_run_names; exact loop_read (harg17.read_unread _) (harg18.read_unread _) (harg19.read_unread _) (harg2.read_unread _) _
    isplitl [H16]
    · iexists _, _; isplitr; swap; · iexact H16
      ipureintro; rfl
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _, _; isplitr; swap; · iexact H20
      ipureintro; rfl
    isplitl [H21]
    · iexists _, _; isplitr; swap; · iexact H21
      ipureintro; rfl
    iexists _, _; isplitr; swap; · iexact H22
    ipureintro; rfl

end Cert.MixerSampleIdeal.Body

end
-- ==== Proof.SmpLaunch.lean ====
/-
  The sample mixer's body at every point of its grid of the program over the extended reals, and the launch.
-/
module

public import proofs.«01_k».proof.Proof.SmpRunA
public import proofs.«01_k».proof.Proof.SmpRunB
public import proofs.«01_k».proof.Proof.SmpRunC

@[expose] public section
set_option maxRecDepth 16384
noncomputable section

namespace Cert.MixerSampleIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSampleIdeal.Gen

variable {F : FTy → Type} [FloatOps F]

local notation "𝕄" => MT nD τ sig Unit (Elt F) ℕ (UR sig nD τ) ℕ

variable (m : (l : Loc nD τ sig) → Buf (Elt F) l) (ρ : Dev nD → PrngReg)

/-- The first point. -/
def p0 : Fin cfg0.N := ⟨0, Nat.lt_of_lt_of_eq (by norm_num : 0 < 8) N_0.symm⟩

/-- The keys, -/
def K0 (c : Dev nD) : Vec F S128x256 .bf16 := tK (iblk m c 0 p0) (iblk m c 3 p0) (iblk m c 4 p0)

/-- the logarithms of the decays, -/
def LA0 (c : Dev nD) : Vec F S384x256 .bf16 := tLA (iblk m c 0 p0) (iblk m c 3 p0) (iblk m c 5 p0) (iblk m c 6 p0) (iblk m c 7 p0)

/-- the values -/
def V0 (c : Dev nD) : Vec F S128x512 .f32 := tV (iblk m c 0 p0) (iblk m c 3 p0) (iblk m c 4 p0)

/-- and the convolution's rows, of all the tokens: the first point computes them. -/
def co0 (c : Dev nD) : Vec F S128x1024 .f32 := tCo (iblk m c 0 p0) (iblk m c 2 p0) (iblk m c 3 p0) (iblk m c 8 p0)

/-- The sixteen states point `t` leaves. -/
def so0 (c : Dev nD) (t : Fin cfg0.N) : Vec F S16x256x128 .f32 := statesAt (grid0.coords t) (K0 m c) (LA0 m c) (V0 m c) (iblk m c 1 t)

/-- What holds of the scratch buffers before point `n`: after the first point, what it kept. -/
def PhiS (c : Dev nD) : (n : ℕ) → n ≤ cfg0.N → sProp 𝕄
  | 0, _ => Pipeline.ΦA spec0 c
  | _ + 1, _ => iprop(iprop((∃ d, owns (c : Thread nD τ) scr0 fullShare d) ∗ owns (c : Thread nD τ) scr1 fullShare (K0 m c) ∗ owns (c : Thread nD τ) scr2 fullShare (LA0 m c) ∗ owns (c : Thread nD τ) scr3 fullShare (V0 m c) ∗ (∃ d, owns (c : Thread nD τ) scr4 fullShare d) ∗ (∃ d, owns (c : Thread nD τ) scr5 fullShare d) ∗ (∃ d, owns (c : Thread nD τ) scr6 fullShare d)) ∗ (∃ r, prngReg c r))

theorem PhiS_succ (c : Dev nD) (n : ℕ) (hn : n < cfg0.N) : PhiS m c (n + 1) hn = iprop(iprop((∃ d, owns (c : Thread nD τ) scr0 fullShare d) ∗ owns (c : Thread nD τ) scr1 fullShare (K0 m c) ∗ owns (c : Thread nD τ) scr2 fullShare (LA0 m c) ∗ owns (c : Thread nD τ) scr3 fullShare (V0 m c) ∗ (∃ d, owns (c : Thread nD τ) scr4 fullShare d) ∗ (∃ d, owns (c : Thread nD τ) scr5 fullShare d) ∗ (∃ d, owns (c : Thread nD τ) scr6 fullShare d)) ∗ (∃ r, prngReg c r)) := rfl

theorem PhiS_pos (c : Dev nD) (t : Fin cfg0.N) (h : t.val ≠ 0) : PhiS m c t.val (Nat.le_of_lt t.isLt)
    = iprop(iprop((∃ d, owns (c : Thread nD τ) scr0 fullShare d) ∗ owns (c : Thread nD τ) scr1 fullShare (K0 m c) ∗ owns (c : Thread nD τ) scr2 fullShare (LA0 m c) ∗ owns (c : Thread nD τ) scr3 fullShare (V0 m c) ∗ (∃ d, owns (c : Thread nD τ) scr4 fullShare d) ∗ (∃ d, owns (c : Thread nD τ) scr5 fullShare d) ∗ (∃ d, owns (c : Thread nD τ) scr6 fullShare d)) ∗ (∃ r, prngReg c r)) := by
  obtain ⟨n, hn⟩ := t
  cases n with
  | zero => exact absurd rfl h
  | succ n => rfl

/-- Whatever the scratch buffers hold, they are what the launch gave. -/
theorem PhiS_out (c : Dev nD) (n : ℕ) (hn : n ≤ cfg0.N) : PhiS m c n hn ⊢ Pipeline.ΦA spec0 c := by
  cases n with
  | zero => exact Idealize.SL.BI.Entails.refl _
  | succ n =>
    rw [PhiS_succ, launchInv_eq]
    iintro ⟨⟨HS0, HS1, HS2, HS3, HS4, HS5, HS6⟩, Hg⟩
    isplitr [Hg]
    · isplitl [HS0]; · iexact HS0
      isplitl [HS1]; · iexists _; iexact HS1
      isplitl [HS2]; · iexists _; iexact HS2
      isplitl [HS3]; · iexists _; iexact HS3
      iframel HS4 HS5
      iexact HS6
    iexact Hg

/-- The windows whose contents after the body are not named. -/
def forgets0 : Fin 15 → Bool := fun w => w.val == 12

/-- The arrays as the launch finds them, and what the body leaves in every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => so0 m c t
    | ⟨14, _⟩ => co0 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = so0 m c t := by dsimp only [dats]
theorem after0_14 (c : Dev nD) (t : Fin cfg0.N) : (dats m 0 c).after 14 t = co0 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem idle0_14 (t : Fin cfg0.N) (h : ¬t.val = 0) : cfg0.idle 14 (grid0.coords t) = true := by
  show (!(k0_cond1 (grid0.coords t) == 1#1)) = true
  have h' : ¬k0_cond1 (grid0.coords t) = 1#1 := fun e => h ((isFirst_iff t).mp e)
  simp [h']

theorem live0_14 (t : Fin cfg0.N) (h : t.val = 0) : cfg0.idle 14 (grid0.coords t) = false := by
  show (!(k0_cond1 (grid0.coords t) == 1#1)) = false
  have h' : k0_cond1 (grid0.coords t) = 1#1 := (isFirst_iff t).mpr h
  simp [h']

theorem fetch0_14 : ∀ t : Fin cfg0.N, ¬((cfg0.win 14).fetch t = true) := (by decide : ∀ t : Fin grid0.N, ¬(win0_14.fetch t = true))

/-- The convolution's rows are found, after the first point, as it left them. -/
theorem before0_14 (c : Dev nD) : ∀ (n : ℕ) (hn : n + 1 < cfg0.N) (d), (dats m 0 c).before 14 ⟨n + 1, hn⟩ d = co0 m c := by
  intro n
  induction n with
  | zero =>
    intro hn d
    have hn8 : 0 + 1 < 8 := Nat.lt_of_lt_of_eq hn N_0
    rw [Dat.before, if_neg (fetch0_14 _), if_neg (Nat.succ_ne_zero 0)]
    rw [if_neg (fun e => absurd ((flush0_14 _).mp e) (by show ¬(0 + 1 - 1) % 8 = 7; omega))]
    have hi : idle0 14 (grid0.coords p0) = false := live0_14 p0 rfl
    unfold p0 at hi
    dsimp only
    simp only [Nat.zero_add, Nat.sub_self]
    rw [hi]
    exact after0_14 m c _
  | succ n ih =>
    intro hn d
    have hn8 : n + 1 + 1 < 8 := Nat.lt_of_lt_of_eq hn N_0
    rw [Dat.before, if_neg (fetch0_14 _), if_neg (Nat.succ_ne_zero (n + 1))]
    rw [if_neg (fun e => absurd ((flush0_14 _).mp e) (by show ¬(n + 1 + 1 - 1) % 8 = 7; omega))]
    have hn' : n + 1 < cfg0.N := by omega
    have hi : idle0 14 (grid0.coords ⟨n + 1, hn'⟩) = true := idle0_14 ⟨n + 1, hn'⟩ (Nat.succ_ne_zero n)
    dsimp only
    simp only [Nat.add_sub_cancel]
    rw [hi]
    exact ((dats m 0 c).found_eq_before 14 _ d).trans (ih _ d)

theorem before0_14_last (c : Dev nD) (t : Fin cfg0.N) (h : t.val = 7) (d) : (dats m 0 c).before 14 t d = co0 m c := by
  obtain ⟨n, hn⟩ := t
  obtain rfl : n = 6 + 1 := h
  exact before0_14 m c 6 hn d

theorem leaves0_14_first (c : Dev nD) (t : Fin cfg0.N) (h : t.val = 0) :
    (dats m 0 c).leavesExact 14 t = owns (c : Thread nD τ) (stg14 t) fullShare (co0 m c) := by
  have hl : cfg0.idle 14 (cfg0.grid.coords t) = false := live0_14 t h
  rw [← after0_14 m c t]
  unfold Dat.leavesExact; rw [hl]

theorem leaves0_14_last (c : Dev nD) (t : Fin cfg0.N) (h : t.val = 7) :
    (dats m 0 c).leavesExact 14 t = owns (c : Thread nD τ) (stg14 t) fullShare (co0 m c) := by
  have hl : cfg0.idle 14 (cfg0.grid.coords t) = true := idle0_14 t (by omega)
  have hf : (cfg0.win 14).flush t = true := (flush0_14 t).mpr (by omega)
  rw [← after0_14 m c t]
  unfold Dat.leavesExact; rw [hl, hf]

theorem leaves0_14_mid (c : Dev nD) (t : Fin cfg0.N) (h0 : ¬t.val = 0) (h1 : ¬t.val = 7) :
    (dats m 0 c).leavesExact 14 t = iprop(∃ d, owns (c : Thread nD τ) (stg14 t) fullShare ((dats m 0 c).before 14 t d)) := by
  have ht : t.val < 8 := Nat.lt_of_lt_of_eq t.isLt N_0
  exact (dats m 0 c).leavesExact_idle 14 t (idle0_14 t h0) (Bool.eq_false_iff.mpr fun e => h1 (by have := (flush0_14 t).mp e; omega))

theorem leaves0_13 (c : Dev nD) (t : Fin cfg0.N) :
    (dats m 0 c).leavesExact 13 t = owns (c : Thread nD τ) (stg13 t) fullShare (so0 m c t) := by
  rw [← after0_13 m c t]

theorem leavesIn (w : Fin 15) (hw : w.val < 12) (c : Dev nD) (t : Fin cfg0.N) :
    (dats m 0 c).leavesExact w t = owns (c : Thread nD τ) ((cfg0.win w).stage (cfg0.slots t w)) fullShare ((dats m 0 c).after w t) := by
  have hl : cfg0.idle w (cfg0.grid.coords t) = false := live w hw t
  unfold Dat.leavesExact; rw [hl]

theorem leaves0_0 (c : Dev nD) (t : Fin cfg0.N) : (dats m 0 c).leavesExact 0 t = owns (c : Thread nD τ) (stg0 t) fullShare (iblk m c 0 t) := by
  rw [leavesIn m 0 (by decide) c t, after0_0]
theorem leaves0_1 (c : Dev nD) (t : Fin cfg0.N) : (dats m 0 c).leavesExact 1 t = owns (c : Thread nD τ) (stg1 t) fullShare (iblk m c 1 t) := by
  rw [leavesIn m 1 (by decide) c t, after0_1]
theorem leaves0_2 (c : Dev nD) (t : Fin cfg0.N) : (dats m 0 c).leavesExact 2 t = owns (c : Thread nD τ) (stg2 t) fullShare (iblk m c 2 t) := by
  rw [leavesIn m 2 (by decide) c t, after0_2]
theorem leaves0_3 (c : Dev nD) (t : Fin cfg0.N) : (dats m 0 c).leavesExact 3 t = owns (c : Thread nD τ) (stg3 t) fullShare (iblk m c 3 t) := by
  rw [leavesIn m 3 (by decide) c t, after0_3]
theorem leaves0_4 (c : Dev nD) (t : Fin cfg0.N) : (dats m 0 c).leavesExact 4 t = owns (c : Thread nD τ) (stg4 t) fullShare (iblk m c 4 t) := by
  rw [leavesIn m 4 (by decide) c t, after0_4]
theorem leaves0_5 (c : Dev nD) (t : Fin cfg0.N) : (dats m 0 c).leavesExact 5 t = owns (c : Thread nD τ) (stg5 t) fullShare (iblk m c 5 t) := by
  rw [leavesIn m 5 (by decide) c t, after0_5]
theorem leaves0_6 (c : Dev nD) (t : Fin cfg0.N) : (dats m 0 c).leavesExact 6 t = owns (c : Thread nD τ) (stg6 t) fullShare (iblk m c 6 t) := by
  rw [leavesIn m 6 (by decide) c t, after0_6]
theorem leaves0_7 (c : Dev nD) (t : Fin cfg0.N) : (dats m 0 c).leavesExact 7 t = owns (c : Thread nD τ) (stg7 t) fullShare (iblk m c 7 t) := by
  rw [leavesIn m 7 (by decide) c t, after0_7]
theorem leaves0_8 (c : Dev nD) (t : Fin cfg0.N) : (dats m 0 c).leavesExact 8 t = owns (c : Thread nD τ) (stg8 t) fullShare (iblk m c 8 t) := by
  rw [leavesIn m 8 (by decide) c t, after0_8]
theorem leaves0_9 (c : Dev nD) (t : Fin cfg0.N) : (dats m 0 c).leavesExact 9 t = owns (c : Thread nD τ) (stg9 t) fullShare (iblk m c 9 t) := by
  rw [leavesIn m 9 (by decide) c t, after0_9]
theorem leaves0_10 (c : Dev nD) (t : Fin cfg0.N) : (dats m 0 c).leavesExact 10 t = owns (c : Thread nD τ) (stg10 t) fullShare (iblk m c 10 t) := by
  rw [leavesIn m 10 (by decide) c t, after0_10]
theorem leaves0_11 (c : Dev nD) (t : Fin cfg0.N) : (dats m 0 c).leavesExact 11 t = owns (c : Thread nD τ) (stg11 t) fullShare (iblk m c 11 t) := by
  rw [leavesIn m 11 (by decide) c t, after0_11]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare d)
    ∗ (∃ d, owns (c : Thread nD τ) (stg13 t) fullShare ((dats m 0 c).before 13 t d))
    ∗ (∃ d, owns (c : Thread nD τ) (stg14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (stg12 t) fullShare d)
    ∗ (dats m 0 c).leavesExact 13 t
    ∗ (dats m 0 c).leavesExact 14 t)

set_option maxHeartbeats 4000000 in
/-- The body at the first point. -/
theorem soundA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11, leaves0_13]
  rw [show (dats m 0 c).owesAt () t.succ = (dats m 0 c).owesAt () t.castSucc from rfl]
  rw [show (dats m 0 c).Φ t.succ = PhiS m c (t.val + 1) t.isLt from rfl, PhiS_succ, PhiS_castSucc m c t]
  obtain rfl : t = p0 := Fin.ext h0
  rw [leaves0_14_first m c p0 rfl, show PhiS m c p0.val (Nat.le_of_lt p0.isLt) = Pipeline.ΦA spec0 c from rfl, launchInv_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, H14⟩
  iapply (runA c (grid0.coords p0) _ _ _ _ _ _ _ _ _ _ _ _ _ _ _ _ _ _ _ _ _ _ _ _ _ _ _ _ _ _ _ _ _ _ _ _ _ _ _ _ _ _ _ _ ((isFirst_iff p0).mpr h0) (fun h => absurd ((isLast_iff p0).mp h) (by show ¬(0 = 7); omega)) (iblk m c 0 p0) (iblk m c 1 p0) (iblk m c 2 p0) (iblk m c 3 p0) (iblk m c 4 p0) (iblk m c 5 p0) (iblk m c 6 p0) (iblk m c 7 p0) (iblk m c 8 p0) (iblk m c 10 p0) Set.univ _)
  iframel H0 H1 H2 H3 H4 H5 H6 H7 H8 H10
  isplitl [H13]; · iexists _; iexact H13
  isplitl [H14]
  · icases H14 with ⟨%d14, H14⟩
    iexists _; iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H10, H13, H14, HS0, HS1, HS2, HS3, HS4, HS5, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      iframel HS4 HS5
      iexact HS6
    iexact Hg
  iframel Ho H0 H1 H2 H3 H4 H5 H6 H7 H8 H9 H10 H11 H12
  isplitl [H13]; · iexact H13
  iexact H14

set_option maxHeartbeats 4000000 in
/-- The body at a point that is neither first nor last. -/
theorem soundB (c : Dev nD) (t : Fin cfg0.N) (h0 : ¬t.val = 0) (h1 : ¬t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11, leaves0_13]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_14_mid m c t h0 h1, PhiS_pos m c t h0]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, H14⟩
  iapply (runB c (grid0.coords t) _ _ _ _ _ _ _ _ _ _ _ _ _ _ _ _ _ _ _ _ _ _ _ _ _ _ _ _ _ _ _ _ _ _ _ _ _ _ _ _ _ _ _ _ (fun h => h0 ((isFirst_iff t).mp h)) (fun h => h1 ((isLast_iff t).mp h)) (iblk m c 1 t) (K0 m c) (LA0 m c) (V0 m c) Set.univ _)
  isplitl [H1]; · iexact H1
  isplitl [H13]; · iexists _; iexact H13
  isplitl [HS0]; · iexact HS0
  isplitl [HS1]; · iexact HS1
  isplitl [HS2]; · iexact HS2
  isplitl [HS3]; · iexact HS3
  isplitl [HS6]; · iexact HS6
  iintro ⟨H1, H13, HS0, HS1, HS2, HS3, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      iframel HS4 HS5
      iexact HS6
    iexact Hg
  iframel Ho H0 H1 H2 H3 H4 H5 H6 H7 H8 H9 H10 H11 H12
  isplitl [H13]; · iexact H13
  iexact H14

set_option maxHeartbeats 4000000 in
/-- The body at the last point. -/
theorem soundC (c : Dev nD) (t : Fin cfg0.N) (h1 : t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11, leaves0_13]
  rw [show (dats m 0 c).owesAt () t.succ = (dats m 0 c).owesAt () t.castSucc from rfl]
  rw [show (dats m 0 c).Φ t.succ = PhiS m c (t.val + 1) t.isLt from rfl, PhiS_succ, PhiS_castSucc m c t]
  have h0 : ¬t.val = 0 := by omega
  simp only [before0_14_last m c t h1]
  rw [leaves0_14_last m c t h1, PhiS_pos m c t h0]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, H14⟩
  iapply (runC c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1) (iblk m c 0 t) (iblk m c 1 t) (iblk m c 3 t) (iblk m c 9 t) (iblk m c 11 t) (K0 m c) (LA0 m c) (V0 m c) Set.univ _)
  iframel H0 H1 H3 H9 H11 H12
  isplitl [H13]; · iexists _; iexact H13
  isplitl [HS0]; · iexact HS0
  isplitl [HS1]; · iexact HS1
  isplitl [HS2]; · iexact HS2
  isplitl [HS3]; · iexact HS3
  iframel HS4 HS5 HS6
  iintro ⟨H0, H1, H3, H9, H11, H12, H13, HS0, HS1, HS2, HS3, HS4, HS5, HS6⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      iframel HS4 HS5
      iexact HS6
    iexact Hg
  iframel Ho H0 H1 H2 H3 H4 H5 H6 H7 H8 H9 H10 H11 H12
  isplitl [H13]; · iexact H13
  icases H14 with ⟨%d14, H14⟩
  iexact H14

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h1 : t.val = 7
    · exact soundC m c t h1
    · exact soundB m c t h0 h1

theorem defs₀_row (t : Fin cfg0.N) :
    defs₀ (F := F) .tc cfg0.body (cfg0.bodyArgs t (cfg0.slots t)) = bodyAt0 t := by
  unfold defs₀; rw [Defs.onTc_tc]

/-- The body meets what is asked of it at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  exact PhiS_out m c cfg0.N (Nat.le_refl _)

set_option backward.isDefEq.respectTransparency.types false in
/-- The launch, from any memory with every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(((h.1 c).2 main_arg0 (Pipeline.mem_restRefs_of main_arg0 (by decide) (by decide))).trans (V_main_arg0 m c)),
    (((h.1 c).2 main_arg1 (Pipeline.mem_restRefs_of main_arg1 (by decide) (by decide))).trans (V_main_arg1 m c)),
    (((h.1 c).2 main_arg2 (Pipeline.mem_restRefs_of main_arg2 (by decide) (by decide))).trans (V_main_arg2 m c)),
    (((h.1 c).2 main_arg3 (Pipeline.mem_restRefs_of main_arg3 (by decide) (by decide))).trans (V_main_arg3 m c)),
    (((h.1 c).2 main_arg4 (Pipeline.mem_restRefs_of main_arg4 (by decide) (by decide))).trans (V_main_arg4 m c)),
    (((h.1 c).2 main_arg5 (Pipeline.mem_restRefs_of main_arg5 (by decide) (by decide))).trans (V_main_arg5 m c)),
    (((h.1 c).2 main_arg6 (Pipeline.mem_restRefs_of main_arg6 (by decide) (by decide))).trans (V_main_arg6 m c)),
    (((h.1 c).2 main_arg7 (Pipeline.mem_restRefs_of main_arg7 (by decide) (by decide))).trans (V_main_arg7 m c)),
    (((h.1 c).2 main_arg8 (Pipeline.mem_restRefs_of main_arg8 (by decide) (by decide))).trans (V_main_arg8 m c)),
    (((h.1 c).2 main_arg9 (Pipeline.mem_restRefs_of main_arg9 (by decide) (by decide))).trans (V_main_arg9 m c))⟩, h.2⟩) (run_main m ρ)

theorem arr13 (c : Dev nD) (r) (h : (Pipeline.RDat.FramePost (cfgs 0) (fun c => (dats m 0 c).toRForget forgets0) (V m)) r) :
    r.2.mem ((c.tc : Thread nD τ).loc (Pipeline.arrRef spec0 13)) = (dats m 0 c).arrAt 13 cfg0.N :=
  ((dats m 0 c).toRForget_arrAt_iff (fgt := forgets0) (w := 13) (by decide) _ _).mp ((h c).1 13)

theorem arr14 (c : Dev nD) (r) (h : (Pipeline.RDat.FramePost (cfgs 0) (fun c => (dats m 0 c).toRForget forgets0) (V m)) r) :
    r.2.mem ((c.tc : Thread nD τ).loc (Pipeline.arrRef spec0 14)) = (dats m 0 c).arrAt 14 cfg0.N :=
  ((dats m 0 c).toRForget_arrAt_iff (fgt := forgets0) (w := 14) (by decide) _ _).mp ((h c).1 14)

end Cert.MixerSampleIdeal.Body

end
-- ==== Proof.SmpBlock.lean ====
/-
  What the sample mixer's first point computes from its tokens, read at an index over the extended reals.
-/
module

public import proofs.«01_k».proof.Proof.MixRows
public import proofs.«01_k».proof.Proof.SmpTrip
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem

namespace Cert.MixerSampleIdeal.Body

open Cert.MixerSampleIdeal Cert.MixerSampleIdeal.Gen

variable (x1 x3 : Vec Ideal S128x1024 .f32) (x4 : Vec Ideal S8x1024 .f32) (x5 x9 : Vec Ideal S1024x1536 .bf16)
  (x6 : Vec Ideal S1024x128 .bf16) (x7 : Vec Ideal S128x256 .bf16) (x8 : Vec Ideal S1x256 .f32)

theorem gain_apply (j : Fin 1024) : gain x4 (ix2 0 j) = x4 (ix2 2 j) := by
  unfold gain
  refine congrArg x4 ?_
  funext a
  refine Fin.ext ?_
  match a with
  | ⟨0, _⟩ => rfl
  | ⟨1, _⟩ => show 0 + 1 * j.val = j.val; omega

/-- The normed rows. -/
theorem normed (r : Fin 128) (k : Fin 1024) :
    k0_pay7 x1 (gain x4) (ix2 r k) = Rows.norm (fun j => x1 (ix2 r j)) (fun j => x4 (ix2 2 j)) k := by
  pointwise [k0_pay7, gain_apply, Rows.norm]

theorem proj (r : Fin 128) (k : Fin 1536) :
    k0_pay8 x1 (gain x4) x5 (ix2 r k) = Rows.lin (Rows.norm (fun j => x1 (ix2 r j)) (fun j => x4 (ix2 2 j))) (fun i j => x5 (ix2 i j)) k := by
  pointwise [k0_pay8, normed, Rows.lin]

/-- The keys. -/
theorem tK_apply (r : Fin 128) (k : Fin 256) :
    tK x1 x4 x5 (ix2 r k) = Rows.lin (Rows.norm (fun j => x1 (ix2 r j)) (fun j => x4 (ix2 2 j))) (fun i j => x5 (ix2 i j)) ⟨256 + k.val, by omega⟩ := by
  unfold tK
  pointwise [k0_pay13, proj]

/-- The values. -/
theorem tV_apply (r : Fin 128) (k : Fin 512) :
    tV x1 x4 x5 (ix2 r k) = Rows.lin (Rows.norm (fun j => x1 (ix2 r j)) (fun j => x4 (ix2 2 j))) (fun i j => x5 (ix2 i j)) ⟨512 + k.val, by omega⟩ := by
  unfold tV
  pointwise [k0_pay15, proj]

/-- The gate's logits. -/
def logit (r : Fin 128) (k : Fin 256) : EReal :=
  (∑ j : Fin 128, Rows.lin (Rows.norm (fun j => x1 (ix2 r j)) (fun j => x4 (ix2 2 j))) (fun i j => x6 (ix2 i j)) j * x7 (ix2 j k)) + x8 (ix2 0 k)

/-- The logarithms of the logistic of the logits. -/
theorem soft_apply (r : Fin 128) (k : Fin 256) :
    k0_pay9 x1 (gain x4) x6 x7 x8 (ix2 r k) * Ideal.ofBits .f32 0x3D800000#32 = Rows.decay (logit x1 x4 x6 x7 x8 r k) := by
  pointwise [k0_pay9, normed, Rows.lin, Rows.decay, logit]
  rfl

variable (X : FVec Ideal S128x256 .f32) (q : Ideal .f32)

theorem part0 (r : Fin 128) (k : Fin 256) : k0_pay14 X q (ix2 ⟨r.val, by omega⟩ k) = X (ix2 r k) * (q : EReal) := by
  pointwise [k0_pay14]

theorem part1 (r : Fin 128) (k : Fin 256) (h : ∃ x : ℝ, X (ix2 r k) * (q : EReal) = x) : k0_pay14 X q (ix2 ⟨128 + r.val, by omega⟩ k) = (0 : EReal) := by
  obtain ⟨x, hx⟩ := h
  pointwise [k0_pay14]
  rw [hx, ← EReal.coe_sub, sub_self, EReal.coe_zero]

theorem part2 (r : Fin 128) (k : Fin 256) (h : ∀ r k, ∃ x : ℝ, X (ix2 r k) * (q : EReal) = x) : k0_pay14 X q (ix2 ⟨256 + r.val, by omega⟩ k) = (0 : EReal) := by
  pointwise [k0_pay14]
  refine (dif_neg (by omega)).trans ((dif_neg (by omega)).trans ?_)
  obtain ⟨x, hx⟩ := h ⟨256 + r.val - 128 - 128, by omega⟩ k
  rw [hx, ← EReal.coe_sub, sub_self, EReal.coe_zero, sub_zero]

/-- The first part of the decays' logarithms: all there is, -/
theorem tLA_0 (r : Fin 128) (k : Fin 256) :
    tLA x1 x4 x6 x7 x8 (ix2 ⟨r.val, by omega⟩ k) = Rows.decay (logit x1 x4 x6 x7 x8 r k) :=
  (part0 _ _ r k).trans (soft_apply x1 x4 x6 x7 x8 r k)

/-- and nothing in the second, -/
theorem tLA_1 (h : ∀ r k, ∃ x : ℝ, Rows.decay (logit x1 x4 x6 x7 x8 r k) = x) (r : Fin 128) (k : Fin 256) :
    tLA x1 x4 x6 x7 x8 (ix2 ⟨128 + r.val, by omega⟩ k) = (0 : EReal) :=
  part1 _ _ r k ((h r k).imp fun x hx => (soft_apply x1 x4 x6 x7 x8 r k).trans hx)

/-- or in the third. -/
theorem tLA_2 (h : ∀ r k, ∃ x : ℝ, Rows.decay (logit x1 x4 x6 x7 x8 r k) = x) (r : Fin 128) (k : Fin 256) :
    tLA x1 x4 x6 x7 x8 (ix2 ⟨256 + r.val, by omega⟩ k) = (0 : EReal) :=
  part2 _ _ r k fun r k => (h r k).imp fun x hx => (soft_apply x1 x4 x6 x7 x8 r k).trans hx

theorem proj9 (r : Fin 128) (k : Fin 1536) :
    k0_pay10 (k0_pay7 x1 (gain x4)) x9 (ix2 r k) = Rows.lin (Rows.norm (fun j => x1 (ix2 r j)) (fun j => x4 (ix2 2 j))) (fun i j => x9 (ix2 i j)) k := by
  pointwise [k0_pay10, normed, Rows.lin]

/-- The product the convolution takes. -/
theorem prod_apply (r : Fin 128) (k : Fin 512) :
    k0_pay17 (k0_pay7 x1 (gain x4)) x9 (ix2 r k) = Rows.lin (Rows.norm (fun j => x1 (ix2 r j)) (fun j => x4 (ix2 2 j))) (fun i j => x9 (ix2 i j)) ⟨512 + k.val, by omega⟩
      * Rows.lin (Rows.norm (fun j => x1 (ix2 r j)) (fun j => x4 (ix2 2 j))) (fun i j => x9 (ix2 i j)) ⟨1024 + k.val, by omega⟩ := by
  pointwise [k0_pay17, proj9]

/-- The older of the rows the convolution is left with, -/
theorem tCo_old (r : Fin 128) (k : Fin 512) : tCo x1 x3 x4 x9 (ix2 r ⟨k.val, by omega⟩) = x3 (ix2 r ⟨512 + k.val, by omega⟩) := by
  unfold tCo
  pointwise [k0_pay4, k0_pay2, k0_pay1]

/-- and the newer. -/
theorem tCo_new (r : Fin 128) (k : Fin 512) : tCo x1 x3 x4 x9 (ix2 r ⟨512 + k.val, by omega⟩)
    = Rows.lin (Rows.norm (fun j => x1 (ix2 r j)) (fun j => x4 (ix2 2 j))) (fun i j => x9 (ix2 i j)) ⟨512 + k.val, by omega⟩
      * Rows.lin (Rows.norm (fun j => x1 (ix2 r j)) (fun j => x4 (ix2 2 j))) (fun i j => x9 (ix2 i j)) ⟨1024 + k.val, by omega⟩ := by
  unfold tCo
  pointwise [k0_pay4, prod_apply]

end Cert.MixerSampleIdeal.Body

end
-- ==== Proof.SmpIn.lean ====
/-
  The blocks the sample mixer's points read, at an index, in the arguments.
-/
module

public import proofs.«01_k».proof.Proof.SmpLaunch
public import proofs.«01_k».proof.Proof.SmpBlock
public import Idealize.ShloMosaic.Lib.Pipeline.ValueKit
public import Idealize.ShloMosaic.Lib.StableHlo.ReadAt

@[expose] public section
set_option maxRecDepth 16384
noncomputable section

open Idealize.ShloMosaic Idealize.ShloMosaic.TcCoe Idealize.SL.Sem

namespace Cert.MixerSampleIdeal.Body

open Cert.MixerSampleIdeal Cert.MixerSampleIdeal.Gen

variable (m : (ℓ : Loc nD τ sig) → Buf (Elt Ideal) ℓ)

theorem i0 : ∀ t : Fin cfg0.N, win0_0.index t = ![0, 0] := (by decide +kernel : ∀ t : Fin grid0.N, _)
theorem i1 : ∀ t : Fin cfg0.N, win0_1.index t = ![t.val, 0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i13 : ∀ t : Fin cfg0.N, win0_13.index t = ![t.val, 0, 0] := (by decide +kernel : ∀ t : Fin grid0.N, _)
theorem i14 : ∀ t : Fin cfg0.N, win0_14.index t = ![0, 0] := (by decide +kernel : ∀ t : Fin grid0.N, _)

theorem e1 (c : Dev nD) (b : Fin 128) (k : Fin 256) (v : Fin 128) :
    (V m c main_v20 : Vec Ideal S128x256x128 .f32) (ix3 b k v) = (m ((c : Thread nD τ).loc main_arg1) : Vec Ideal S1x128x4x64x128 .f32) (ix5 0 b ⟨k.val / 64, by omega⟩ ⟨k.val % 64, by omega⟩ v) := by
  show StableHlo.after ([hostOps0, hostOps0_1, hostOps0_2, hostOps0_3, hostOps0_4].flatten) _ _ _ = _
  simp only [List.flatten_cons, List.flatten_nil, List.append_nil, List.cons_append, List.nil_append]
  after_reads_at

theorem e0 (c : Dev nD) (r : Fin 128) (j : Fin 1024) :
    (V m c main_v23 : Vec Ideal S128x1024 .f32) (ix2 r j) = (m ((c : Thread nD τ).loc main_arg0) : Vec Ideal S128x1x1024 .f32) (ix3 r 0 j) := by
  show StableHlo.after ([hostOps0, hostOps0_1, hostOps0_2, hostOps0_3, hostOps0_4].flatten) _ _ _ = _
  simp only [List.flatten_cons, List.flatten_nil, List.append_nil, List.cons_append, List.nil_append]
  after_reads_at

theorem e2 (c : Dev nD) (r : Fin 128) (j : Fin 512) :
    (V m c main_v22 : Vec Ideal S128x1024 .f32) (ix2 r ⟨512 + j.val, by omega⟩) = (m ((c : Thread nD τ).loc main_arg2) : Vec Ideal S1x128x2x512 .f32) (ix4 0 r 1 j) := by
  show StableHlo.after ([hostOps0, hostOps0_1, hostOps0_2, hostOps0_3, hostOps0_4].flatten) _ _ _ = _
  simp only [List.flatten_cons, List.flatten_nil, List.append_nil, List.cons_append, List.nil_append]
  after_reads_at
  exact congrArg (fun s : Fin 2 => (m ((c : Thread nD τ).loc main_arg2) : Vec Ideal S1x128x2x512 .f32) (ix4 0 r s j)) (Fin.ext (by show (512 + j.val) / 512 = 1; omega))

theorem e3 (c : Dev nD) (r : Fin 8) (j : Fin 1024) :
    (V m c main_v0 : Vec Ideal S8x1024 .f32) (ix2 r j) = (m ((c : Thread nD τ).loc main_arg3) : Vec Ideal S1x8x1024 .f32) (ix3 0 r j) := by
  show StableHlo.after ([hostOps0, hostOps0_1, hostOps0_2, hostOps0_3, hostOps0_4].flatten) _ _ _ = _
  simp only [List.flatten_cons, List.flatten_nil, List.append_nil, List.cons_append, List.nil_append]
  after_reads_at

theorem e4 (c : Dev nD) (r : Fin 1024) (j : Fin 1536) :
    (V m c main_v3 : Vec Ideal S1024x1536 .bf16) (ix2 r j) = (m ((c : Thread nD τ).loc main_arg4) : Vec Ideal S1x1024x3088 .f32) (ix3 0 r ⟨j.val, by omega⟩) := by
  show StableHlo.after ([hostOps0, hostOps0_1, hostOps0_2, hostOps0_3, hostOps0_4].flatten) _ _ _ = _
  simp only [List.flatten_cons, List.flatten_nil, List.append_nil, List.cons_append, List.nil_append]
  after_reads_at

theorem e5 (c : Dev nD) (r : Fin 1024) (j : Fin 16) :
    (V m c main_v6 : Vec Ideal S1024x128 .bf16) (ix2 r ⟨j.val, by omega⟩) = (m ((c : Thread nD τ).loc main_arg4) : Vec Ideal S1x1024x3088 .f32) (ix3 0 r ⟨1536 + j.val, by omega⟩) := by
  show StableHlo.after ([hostOps0, hostOps0_1, hostOps0_2, hostOps0_3, hostOps0_4].flatten) _ _ _ = _
  simp only [List.flatten_cons, List.flatten_nil, List.append_nil, List.cons_append, List.nil_append]
  after_reads_at

theorem e6 (c : Dev nD) (r : Fin 128) (j : Fin 256) :
    (V m c main_v11 : Vec Ideal S128x256 .bf16) (ix2 r j) = (if h : r.val < 16 then (m ((c : Thread nD τ).loc main_arg5) : Vec Ideal S1x16x256 .f32) (ix3 0 ⟨r.val, h⟩ j) else (0 : EReal)) := by
  show StableHlo.after ([hostOps0, hostOps0_1, hostOps0_2, hostOps0_3, hostOps0_4].flatten) _ _ _ = _
  simp only [List.flatten_cons, List.flatten_nil, List.append_nil, List.cons_append, List.nil_append]
  after_reads_at
  refine dite_congr rfl (fun _ => rfl) fun _ => ?_
  show ((((0#32 : BitVec 32).toInt : ℤ) : ℝ) : EReal) = 0
  norm_num

theorem e7 (c : Dev nD) (j : Fin 256) :
    (V m c main_v13 : Vec Ideal S1x256 .f32) (ix2 0 j) = (m ((c : Thread nD τ).loc main_arg6) : Vec Ideal S1x256 .f32) (ix2 0 j) := by
  show StableHlo.after ([hostOps0, hostOps0_1, hostOps0_2, hostOps0_3, hostOps0_4].flatten) _ _ _ = _
  simp only [List.flatten_cons, List.flatten_nil, List.append_nil, List.cons_append, List.nil_append]
  after_reads_at

theorem e8 (c : Dev nD) (r : Fin 1024) (j : Fin 1536) :
    (V m c main_v8 : Vec Ideal S1024x1536 .bf16) (ix2 r j) = (m ((c : Thread nD τ).loc main_arg4) : Vec Ideal S1x1024x3088 .f32) (ix3 0 r ⟨1552 + j.val, by omega⟩) := by
  show StableHlo.after ([hostOps0, hostOps0_1, hostOps0_2, hostOps0_3, hostOps0_4].flatten) _ _ _ = _
  simp only [List.flatten_cons, List.flatten_nil, List.append_nil, List.cons_append, List.nil_append]
  after_reads_at

/-- The layer's input. -/
theorem b0 (c : Dev nD) (t : Fin cfg0.N) (r : Fin 128) (j : Fin 1024) :
    iblk m c 0 t (ix2 r j) = (m ((c : Thread nD τ).loc main_arg0) : Vec Ideal S128x1x1024 .f32) (ix3 r 0 j) := by
  blk_simp [iblk]
  have e : (win0_0.blk t).view.emb (ix2 r j) = (ix2 r j) := by blk_ext [i0 t]
  rw [e]
  exact e0 m c r j

/-- The newer of the rows the convolution had. -/
theorem b2 (c : Dev nD) (t : Fin cfg0.N) (r : Fin 128) (j : Fin 512) :
    iblk m c 2 t (ix2 r ⟨512 + j.val, by omega⟩) = (m ((c : Thread nD τ).loc main_arg2) : Vec Ideal S1x128x2x512 .f32) (ix4 0 r 1 j) := by
  blk_simp [iblk]
  have e : (win0_2.blk t).view.emb (ix2 r ⟨512 + j.val, by omega⟩) = (ix2 r ⟨512 + j.val, by omega⟩) := by blk_ext [i2 t]
  rw [e]
  exact e2 m c r j

/-- The norms' gains. -/
theorem b3 (c : Dev nD) (t : Fin cfg0.N) (r : Fin 8) (j : Fin 1024) :
    iblk m c 3 t (ix2 r j) = (m ((c : Thread nD τ).loc main_arg3) : Vec Ideal S1x8x1024 .f32) (ix3 0 r j) := by
  blk_simp [iblk]
  have e : (win0_3.blk t).view.emb (ix2 r j) = (ix2 r j) := by blk_ext [i3 t]
  rw [e]
  exact e3 m c r j

/-- The first 1536 columns of the input projection. -/
theorem b4 (c : Dev nD) (t : Fin cfg0.N) (r : Fin 1024) (j : Fin 1536) :
    iblk m c 4 t (ix2 r j) = (m ((c : Thread nD τ).loc main_arg4) : Vec Ideal S1x1024x3088 .f32) (ix3 0 r ⟨j.val, by omega⟩) := by
  blk_simp [iblk]
  have e : (win0_4.blk t).view.emb (ix2 r j) = (ix2 r j) := by blk_ext [i4 t]
  rw [e]
  exact e4 m c r j

/-- The sixteen columns of the gate's down projection. -/
theorem b5 (c : Dev nD) (t : Fin cfg0.N) (r : Fin 1024) (j : Fin 16) :
    iblk m c 5 t (ix2 r ⟨j.val, by omega⟩) = (m ((c : Thread nD τ).loc main_arg4) : Vec Ideal S1x1024x3088 .f32) (ix3 0 r ⟨1536 + j.val, by omega⟩) := by
  blk_simp [iblk]
  have e : (win0_5.blk t).view.emb (ix2 r ⟨j.val, by omega⟩) = (ix2 r ⟨j.val, by omega⟩) := by blk_ext [i5 t]
  rw [e]
  exact e5 m c r j

/-- The gate's up projection: sixteen rows, and zeros below them. -/
theorem b6 (c : Dev nD) (t : Fin cfg0.N) (r : Fin 128) (j : Fin 256) :
    iblk m c 6 t (ix2 r j) = (if h : r.val < 16 then (m ((c : Thread nD τ).loc main_arg5) : Vec Ideal S1x16x256 .f32) (ix3 0 ⟨r.val, h⟩ j) else (0 : EReal)) := by
  blk_simp [iblk]
  have e : (win0_6.blk t).view.emb (ix2 r j) = (ix2 r j) := by blk_ext [i6 t]
  rw [e]
  exact e6 m c r j

/-- The gate's bias. -/
theorem b7 (c : Dev nD) (t : Fin cfg0.N) (j : Fin 256) :
    iblk m c 7 t (ix2 0 j) = (m ((c : Thread nD τ).loc main_arg6) : Vec Ideal S1x256 .f32) (ix2 0 j) := by
  blk_simp [iblk]
  have e : (win0_7.blk t).view.emb (ix2 0 j) = (ix2 0 j) := by blk_ext [i7 t]
  rw [e]
  exact e7 m c j

/-- The last 1536 columns of the input projection. -/
theorem b8 (c : Dev nD) (t : Fin cfg0.N) (r : Fin 1024) (j : Fin 1536) :
    iblk m c 8 t (ix2 r j) = (m ((c : Thread nD τ).loc main_arg4) : Vec Ideal S1x1024x3088 .f32) (ix3 0 r ⟨1552 + j.val, by omega⟩) := by
  blk_simp [iblk]
  have e : (win0_8.blk t).view.emb (ix2 r j) = (ix2 r j) := by blk_ext [i8 t]
  rw [e]
  exact e8 m c r j

/-- The states of a point's sixteen samples. -/
theorem b1 (c : Dev nD) (t : Fin cfg0.N) (s : Fin 16) (k : Fin 256) (v : Fin 128) :
    iblk m c 1 t (ix3 s k v) = (m ((c : Thread nD τ).loc main_arg1) : Vec Ideal S1x128x4x64x128 .f32) (ix5 0 ⟨16 * t.val + s.val, by have : t.val < 8 := t.isLt; omega⟩ ⟨k.val / 64, by omega⟩ ⟨k.val % 64, by omega⟩ v) := by
  blk_simp [iblk]
  have e : (win0_1.blk t).view.emb (ix3 s k v) = ix3 ⟨16 * t.val + s.val, by have : t.val < 8 := t.isLt; omega⟩ k v := by blk_ext [i1 t]
  rw [e]
  exact e1 m c _ k v

end Cert.MixerSampleIdeal.Body

end
-- ==== Proof.SmpPick.lean ====
/-
  One trip of the sample mixer's loop, read at an index over the extended reals: it picks its own sample's decays, keys and values.
-/
module

public import proofs.«01_k».proof.Proof.MixRows
public import proofs.«01_k».proof.Proof.SmpTrip
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem

namespace Cert.MixerSampleIdeal.Body

open Cert.MixerSampleIdeal Cert.MixerSampleIdeal.Gen

/-- Whether a row is the one a trip picks, as the integer operations spell it. -/
theorem pick_word : ∀ (i : Fin 8) (k : Fin 16) (r : Fin 128),
    IntOp.cmpi .eq (BitVec.ofNat 32 r.val) (Scalar.addi (Scalar.muli (BitVec.ofNat 32 i.val) 16#32) (Scf.iv 0#32 1#32 k.val))
      = if r.val = 16 * i.val + k.val then 1#1 else 0#1 := by decide +kernel

theorem trips16 : k0_t1_loop.trips = 16 := by decide +kernel

/-- The sample a trip works on. -/
def smp (i : Fin 8) (k : Fin k0_t1_loop.trips) : Fin 128 := ⟨16 * i.val + k.val, by have : k.val < 16 := trips16 ▸ k.isLt; omega⟩

/-- The table that picks a trip's sample. -/
theorem pick_apply (i : Fin 8) (k : Fin k0_t1_loop.trips) (r v : Fin 128) :
    k0_pay18 (F := Ideal) (BitVec.ofNat 32 i.val) rowNo 0#32 1#32 k (ix2 r v) = if r = smp i k then (1 : EReal) else 0 := by
  have hw := pick_word i ⟨k.val, trips16 ▸ k.isLt⟩ r
  pointwise [k0_pay18, rowNo]
  rw [hw]
  by_cases h : r.val = 16 * i.val + k.val
  · rw [if_pos h, if_pos (Fin.ext h : r = smp i k)]; rfl
  · rw [if_neg h, if_neg (fun e => h (congrArg Fin.val e))]; rfl

/-- A sum over 384 rows, 128 at a time. -/
theorem sum384 (f : Fin 384 → EReal) :
    ∑ j, f j = (∑ u : Fin 128, f ⟨u.val, by omega⟩) + (∑ u : Fin 128, f ⟨128 + u.val, by omega⟩) + ∑ u : Fin 128, f ⟨256 + u.val, by omega⟩ := by
  refine (Fin.sum_univ_add (a := 256) (b := 128) f).trans ?_
  exact congrArg (· + _) (Fin.sum_univ_add (a := 128) (b := 128) fun i => f (Fin.castAdd 128 i))

variable (i : Fin 8) (k : Fin k0_t1_loop.trips) (LA : FVec Ideal S384x256 .bf16) (K : FVec Ideal S128x256 .bf16) (v24 : Vec Ideal S1x512 .f32)
  (v40 : Vec Ideal S1x256x128 .f32)

/-- The table three times over. -/
def pick3 : FVec Ideal S384x128 .bf16 :=
  concatenate S384x128 0 [⟨S128x128, k0_pay18 (F := Ideal) (BitVec.ofNat 32 i.val) rowNo 0#32 1#32 k⟩, ⟨S128x128, k0_pay18 (F := Ideal) (BitVec.ofNat 32 i.val) rowNo 0#32 1#32 k⟩,
    ⟨S128x128, k0_pay18 (F := Ideal) (BitVec.ofNat 32 i.val) rowNo 0#32 1#32 k⟩] concatenates_S128x128_S128x128_S128x128_S384x128_d0

theorem pick3_0 (r v : Fin 128) : pick3 i k (ix2 ⟨r.val, by omega⟩ v) = if r = smp i k then (1 : EReal) else 0 := by
  pointwise [pick3, pick_apply]

/-- The decays picked. -/
def dec : FVec Ideal S256x128 .f32 :=
  matmul dot_S384x256_S384x128_S256x128_0_0_1_1_n_n none LA (pick3 i k) (constant S256x128 .f32 0x00000000#32)

theorem dec_apply (h1 : ∀ (r : Fin 128) c, LA (ix2 ⟨128 + r.val, by omega⟩ c) = 0) (h2 : ∀ (r : Fin 128) c, LA (ix2 ⟨256 + r.val, by omega⟩ c) = 0)
    (c : Fin 256) (v : Fin 128) : dec i k LA (ix2 c v) = LA (ix2 ⟨(smp i k).val, by omega⟩ c) := by
  have e : dec i k LA (ix2 c v) = ∑ j : Fin 384, LA (ix2 j c) * pick3 i k (ix2 j v) := by
    unfold dec
    generalize pick3 i k = p
    pointwise []
  rw [e, sum384]
  simp only [h1, h2, zero_mul, Finset.sum_const_zero, add_zero, pick3_0, mul_ite, mul_one, mul_zero]
  exact (Finset.sum_ite_eq' Finset.univ (smp i k) fun u : Fin 128 => LA (ix2 ⟨u.val, by omega⟩ c)).trans (if_pos (Finset.mem_univ _))

/-- The keys picked. -/
theorem key_apply (c : Fin 256) (v : Fin 128) :
    matmul dot_S128x256_S128x128_S256x128_0_0_1_1_n_n none K (k0_pay18 (F := Ideal) (BitVec.ofNat 32 i.val) rowNo 0#32 1#32 k) (constant S256x128 .f32 0x00000000#32) (ix2 c v)
      = K (ix2 (smp i k) c) := by
  have e : matmul dot_S128x256_S128x128_S256x128_0_0_1_1_n_n none K (k0_pay18 (F := Ideal) (BitVec.ofNat 32 i.val) rowNo 0#32 1#32 k) (constant S256x128 .f32 0x00000000#32) (ix2 c v)
      = ∑ j : Fin 128, K (ix2 j c) * k0_pay18 (F := Ideal) (BitVec.ofNat 32 i.val) rowNo 0#32 1#32 k (ix2 j v) := by
    generalize k0_pay18 (F := Ideal) (BitVec.ofNat 32 i.val) rowNo 0#32 1#32 k = p
    pointwise []
  rw [e]
  simp only [pick_apply, mul_ite, mul_one, mul_zero]
  exact (Finset.sum_ite_eq' Finset.univ (smp i k) fun u : Fin 128 => K (ix2 u c)).trans (if_pos (Finset.mem_univ _))

/-- Each row of a head's 64 takes that head's values. -/
def vrow : FVec Ideal S256x128 .f32 :=
  concatenate S256x128 0 [
    ⟨S64x128, broadcastTo S64x128 (shapeCast S1x128 (extractStridedSlice S1x128 ![0, 0] v24 slices_S1x512_o0_0_S1x128) shapeCasts_S1x128_S1x128) broadcasts_S1x128_S64x128⟩,
    ⟨S64x128, broadcastTo S64x128 (shapeCast S1x128 (extractStridedSlice S1x128 ![0, 128] v24 slices_S1x512_o0_128_S1x128) shapeCasts_S1x128_S1x128) broadcasts_S1x128_S64x128⟩,
    ⟨S64x128, broadcastTo S64x128 (shapeCast S1x128 (extractStridedSlice S1x128 ![0, 256] v24 slices_S1x512_o0_256_S1x128) shapeCasts_S1x128_S1x128) broadcasts_S1x128_S64x128⟩,
    ⟨S64x128, broadcastTo S64x128 (shapeCast S1x128 (extractStridedSlice S1x128 ![0, 384] v24 slices_S1x512_o0_384_S1x128) shapeCasts_S1x128_S1x128) broadcasts_S1x128_S64x128⟩]
    concatenates_S64x128_S64x128_S64x128_S64x128_S256x128_d0

theorem vrow_apply (c : Fin 256) (v : Fin 128) : vrow v24 (ix2 c v) = v24 (ix2 0 ⟨c.val / 64 * 128 + v.val, by omega⟩) := by
  pointwise [vrow]
  split_ifs with h0 h1 h2
  · exact congrArg (fun j => v24 (ix2 0 j)) (Fin.mk_eq_mk.mpr (by omega))
  · exact congrArg (fun j => v24 (ix2 0 j)) (Fin.mk_eq_mk.mpr (by omega))
  · exact congrArg (fun j => v24 (ix2 0 j)) (Fin.mk_eq_mk.mpr (by omega))
  · exact congrArg (fun j => v24 (ix2 0 j)) (Fin.mk_eq_mk.mpr (by omega))

/-- One sample's state. -/
theorem step_apply (h1 : ∀ (r : Fin 128) c, LA (ix2 ⟨128 + r.val, by omega⟩ c) = 0) (h2 : ∀ (r : Fin 128) c, LA (ix2 ⟨256 + r.val, by omega⟩ c) = 0)
    (c : Fin 256) (v : Fin 128) :
    k0_pay21 (BitVec.ofNat 32 i.val) rowNo 0#32 1#32 k LA K v24 v40 (ix3 0 c v)
      = Ideal.exp (LA (ix2 ⟨(smp i k).val, by omega⟩ c)) * v40 (ix3 0 c v) + K (ix2 (smp i k) c) * v24 (ix2 0 ⟨c.val / 64 * 128 + v.val, by omega⟩) := by
  rw [← dec_apply i k LA h1 h2 c v, ← key_apply i k K c v, ← vrow_apply v24 c v]
  have e : k0_pay21 (BitVec.ofNat 32 i.val) rowNo 0#32 1#32 k LA K v24 v40 = shapeCast S1x256x128 (addf (mulf (exp (dec i k LA))
        (shapeCast S256x128 v40 shapeCasts_S1x256x128_S256x128 : FVec Ideal S256x128 .f32))
      (mulf (matmul dot_S128x256_S128x128_S256x128_0_0_1_1_n_n none K (k0_pay18 (F := Ideal) (BitVec.ofNat 32 i.val) rowNo 0#32 1#32 k) (constant S256x128 .f32 0x00000000#32))
        (vrow v24)) : FVec Ideal S256x128 .f32) shapeCasts_S256x128_S1x256x128 := rfl
  rw [e]
  generalize dec i k LA = d
  generalize matmul dot_S128x256_S128x128_S256x128_0_0_1_1_n_n none K (k0_pay18 (F := Ideal) (BitVec.ofNat 32 i.val) rowNo 0#32 1#32 k) (constant S256x128 .f32 0x00000000#32) = q
  generalize vrow v24 = w
  pointwise []

end Cert.MixerSampleIdeal.Body

end
-- ==== Proof.SmpRows.lean ====
/-
  One token applied to a recurrence's state, and the rows the convolution carries on, on extended reals.
-/
module

public import proofs.«01_k».proof.Proof.MixRows

@[expose] public section
noncomputable section

open Idealize.ShloMosaic

namespace Cert.Rows

/-- The state a token leaves: the state before it, decayed, plus the outer product of its keys and values, head by head. -/
def one (x g : Fin 1024 → EReal) (w : Fin 1024 → Fin 3088 → EReal) (wu : Fin 16 → Fin 256 → EReal) (b : Fin 256 → EReal)
    (s : Fin 256 → Fin 128 → EReal) (k : Fin 256) (v : Fin 128) : EReal :=
  Ideal.exp (decay (gate x g w wu b k)) * s k v + keys x g w k * vals x g w ⟨k.val / 64 * 128 + v.val, by omega⟩

/-- The two rows the convolution is left with, side by side: the newer of those it had, and the token's own. -/
def carried (old x g : Fin 1024 → EReal) (w : Fin 1024 → Fin 3088 → EReal) (j : Fin 1024) : EReal :=
  if h : j.val < 512 then old ⟨512 + j.val, by omega⟩ else conv x g w ⟨j.val - 512, by omega⟩

end Cert.Rows

end
-- ==== Proof.SmpValue.lean ====
/-
  The arrays the sample mixer's call ends with: the recurrence's state after each sample's token, and the rows its convolution carries to the next call.
-/
module

public import proofs.«01_k».proof.Proof.SmpIn
public import proofs.«01_k».proof.Proof.SmpPick
public import proofs.«01_k».proof.Proof.SmpRows

@[expose] public section
set_option maxRecDepth 16384
noncomputable section

open Idealize.ShloMosaic Idealize.ShloMosaic.TcCoe Idealize.SL.Sem

namespace Cert.MixerSampleIdeal.Body

open Cert.MixerSampleIdeal Cert.MixerSampleIdeal.Gen

variable (m : (ℓ : Loc nD τ sig) → Buf (Elt Ideal) ℓ)

/-- The token of sample `b`, -/
def xs (c : Dev nD) (b : Fin 128) (j : Fin 1024) : EReal := (m ((c : Thread nD τ).loc main_arg0) : Vec Ideal S128x1x1024 .f32) (ix3 b 0 j)
/-- the norm's gains, -/
def gs (c : Dev nD) (j : Fin 1024) : EReal := (m ((c : Thread nD τ).loc main_arg3) : Vec Ideal S1x8x1024 .f32) (ix3 0 2 j)
/-- the input projection, -/
def ws (c : Dev nD) (i : Fin 1024) (j : Fin 3088) : EReal := (m ((c : Thread nD τ).loc main_arg4) : Vec Ideal S1x1024x3088 .f32) (ix3 0 i j)
/-- the gate's up projection -/
def us (c : Dev nD) (i : Fin 16) (j : Fin 256) : EReal := (m ((c : Thread nD τ).loc main_arg5) : Vec Ideal S1x16x256 .f32) (ix3 0 i j)
/-- and its bias; -/
def bs (c : Dev nD) (j : Fin 256) : EReal := (m ((c : Thread nD τ).loc main_arg6) : Vec Ideal S1x256 .f32) (ix2 0 j)
/-- the state of sample `b`, -/
def ss (c : Dev nD) (b : Fin 128) (k : Fin 256) (v : Fin 128) : EReal :=
  (m ((c : Thread nD τ).loc main_arg1) : Vec Ideal S1x128x4x64x128 .f32) (ix5 0 b ⟨k.val / 64, by omega⟩ ⟨k.val % 64, by omega⟩ v)
/-- and the rows its convolution had, side by side. -/
def cs (c : Dev nD) (b : Fin 128) (j : Fin 1024) : EReal :=
  (m ((c : Thread nD τ).loc main_arg2) : Vec Ideal S1x128x2x512 .f32) (ix4 0 b ⟨j.val / 512, by omega⟩ ⟨j.val % 512, by omega⟩)

theorem row0 (c : Dev nD) (r : Fin 128) : (fun j => iblk m c 0 p0 (ix2 r j)) = xs m c r := funext fun j => b0 m c p0 r j
theorem row3 (c : Dev nD) : (fun j => iblk m c 3 p0 (ix2 2 j)) = gs m c := funext fun j => b3 m c p0 2 j

theorem K0_apply (c : Dev nD) (r : Fin 128) (k : Fin 256) : K0 m c (ix2 r k) = Rows.keys (xs m c r) (gs m c) (ws m c) k := by
  unfold K0
  refine (tK_apply ..).trans ?_
  rw [row0, row3]
  exact Finset.sum_congr rfl fun j _ => congrArg _ (b4 m c p0 j _)

theorem V0_apply (c : Dev nD) (r : Fin 128) (k : Fin 512) : V0 m c (ix2 r k) = Rows.vals (xs m c r) (gs m c) (ws m c) k := by
  unfold V0
  refine (tV_apply ..).trans ?_
  rw [row0, row3]
  exact Finset.sum_congr rfl fun j _ => congrArg _ (b4 m c p0 j _)

/-- The logits are the gate's. -/
theorem logit_eq (c : Dev nD) (r : Fin 128) (k : Fin 256) :
    logit (iblk m c 0 p0) (iblk m c 3 p0) (iblk m c 5 p0) (iblk m c 6 p0) (iblk m c 7 p0) r k = Rows.gate (xs m c r) (gs m c) (ws m c) (us m c) (bs m c) k := by
  unfold logit
  refine congrArg₂ (· + ·) ?_ (b7 m c p0 k)
  rw [row0, row3]
  refine (Fin.sum_univ_add (a := 16) (b := 112) _).trans ?_
  have z : ∀ j : Fin 112, iblk m c 6 p0 (ix2 (Fin.natAdd 16 j) k) = (0 : EReal) := fun j =>
    (b6 m c p0 (Fin.natAdd 16 j) k).trans (dif_neg (by show ¬ 16 + j.val < 16; omega))
  have z' : (∑ j : Fin 112, Rows.lin (Rows.norm (xs m c r) (gs m c)) (fun i j => iblk m c 5 p0 (ix2 i j)) (Fin.natAdd 16 j)
      * iblk m c 6 p0 (ix2 (Fin.natAdd 16 j) k)) = (0 : EReal) := by
    refine Finset.sum_eq_zero fun j _ => ?_
    rw [z]; exact mul_zero _
  rw [z']
  refine (add_zero _).trans (Finset.sum_congr rfl fun j _ => congrArg₂ (· * ·) ?_ ?_)
  · exact Finset.sum_congr rfl fun i _ => congrArg _ (b5 m c p0 i j)
  · exact (b6 m c p0 (Fin.castAdd 112 j) k).trans (dif_pos j.isLt)

/-- The decays' logarithms are real numbers. -/
def Real' (c : Dev nD) : Prop := ∀ b k, ∃ x : ℝ, Rows.decay (Rows.gate (xs m c b) (gs m c) (ws m c) (us m c) (bs m c) k) = x

theorem LA0_0 (c : Dev nD) (r : Fin 128) (k : Fin 256) :
    LA0 m c (ix2 ⟨r.val, by omega⟩ k) = Rows.decay (Rows.gate (xs m c r) (gs m c) (ws m c) (us m c) (bs m c) k) := by
  unfold LA0
  exact (tLA_0 _ _ _ _ _ r k).trans (congrArg _ (logit_eq m c r k))

theorem LA0_1 (c : Dev nD) (hf : Real' m c) (r : Fin 128) (k : Fin 256) : LA0 m c (ix2 ⟨128 + r.val, by omega⟩ k) = (0 : EReal) := by
  unfold LA0
  exact tLA_1 _ _ _ _ _ (fun r k => by rw [logit_eq]; exact hf r k) r k

theorem LA0_2 (c : Dev nD) (hf : Real' m c) (r : Fin 128) (k : Fin 256) : LA0 m c (ix2 ⟨256 + r.val, by omega⟩ k) = (0 : EReal) := by
  unfold LA0
  exact tLA_2 _ _ _ _ _ (fun r k => by rw [logit_eq]; exact hf r k) r k

/-- Where a trip reads the values. -/
theorem off1_eq : ∀ (t : Fin grid0.N) (k : Fin k0_t1_loop.trips), k0_off1 (grid0.coords t) k = ![16 * t.val + k.val, 0] := by decide +kernel

/-- The state a point leaves a sample. -/
theorem so0_apply (c : Dev nD) (hf : Real' m c) (t : Fin cfg0.N) (s : Fin 16) (k : Fin 256) (v : Fin 128) :
    so0 m c t (ix3 s k v) = Rows.one (xs m c ⟨16 * t.val + s.val, by have : t.val < 8 := t.isLt; omega⟩) (gs m c) (ws m c) (us m c) (bs m c)
      (ss m c ⟨16 * t.val + s.val, by have : t.val < 8 := t.isLt; omega⟩) k v := by
  have ht : t.val < 8 := t.isLt
  unfold so0 statesAt states sample
  have ec : ((grid0.coords t) 0).val = t.val := coords_eq t
  rw [ec]
  have es : smp ⟨t.val, ht⟩ (tripOf (ix3 s k v)) = ⟨16 * t.val + s.val, by omega⟩ := rfl
  refine (step_apply ⟨t.val, ht⟩ (tripOf (ix3 s k v)) (LA0 m c) (K0 m c) _ _ (LA0_1 m c hf) (LA0_2 m c hf) k v).trans ?_
  refine (congrArg₂ (· + ·) rfl (congrArg (· * _) ((congrArg (fun r => K0 m c (ix2 r k)) es).trans (K0_apply m c ⟨16 * t.val + s.val, by omega⟩ k)))).trans ?_
  refine congrArg₂ (· + ·) (congrArg₂ (· * ·) (congrArg Ideal.exp (LA0_0 m c ⟨16 * t.val + s.val, by omega⟩ k)) ?_) (congrArg (_ * ·) ?_)
  · refine Eq.trans (congrArg (iblk m c 1 t) ?_) (b1 m c t s k v)
    refine funext fun a => Fin.ext ?_
    have h := off2_eq (tripOf (ix3 s k v))
    match a with
    | ⟨0, _⟩ =>
      show k0_off2 (tripOf (ix3 s k v)) 0 + 1 * 0 = s.val
      rw [h]; rfl
    | ⟨1, _⟩ =>
      show k0_off2 (tripOf (ix3 s k v)) 1 + 1 * k.val = k.val
      rw [h, one_mul]; exact Nat.zero_add _
    | ⟨2, _⟩ =>
      show k0_off2 (tripOf (ix3 s k v)) 2 + 1 * v.val = v.val
      rw [h, one_mul]; exact Nat.zero_add _
  · refine Eq.trans (congrArg (V0 m c) ?_) (V0_apply m c ⟨16 * t.val + s.val, by omega⟩ ⟨k.val / 64 * 128 + v.val, by omega⟩)
    refine funext fun a => Fin.ext ?_
    have h := off1_eq t (tripOf (ix3 s k v))
    match a with
    | ⟨0, _⟩ =>
      show k0_off1 (grid0.coords t) (tripOf (ix3 s k v)) 0 + 1 * 0 = 16 * t.val + s.val
      rw [h]; rfl
    | ⟨1, _⟩ =>
      show k0_off1 (grid0.coords t) (tripOf (ix3 s k v)) 1 + 1 * (k.val / 64 * 128 + v.val) = k.val / 64 * 128 + v.val
      rw [h, one_mul]; exact Nat.zero_add _

/-- The rows the convolution is left with. -/
theorem co0_apply (c : Dev nD) (r : Fin 128) (j : Fin 1024) :
    co0 m c (ix2 r j) = Rows.carried (cs m c r) (xs m c r) (gs m c) (ws m c) j := by
  by_cases h : j.val < 512
  · obtain ⟨i, rfl⟩ : ∃ i : Fin 512, j = ⟨i.val, lt_of_lt_of_le i.isLt (by decide)⟩ := ⟨⟨j.val, h⟩, rfl⟩
    refine Eq.trans ?_ (dif_pos h).symm
    unfold co0
    refine (tCo_old ..).trans ((b2 m c p0 r i).trans ?_)
    have e1 : (⟨(512 + i.val) / 512, by omega⟩ : Fin 2) = 1 := Fin.ext (by show (512 + i.val) / 512 = 1; omega)
    have e2 : (⟨(512 + i.val) % 512, by omega⟩ : Fin 512) = i := Fin.ext (by show (512 + i.val) % 512 = i.val; omega)
    show _ = (m ((c : Thread nD τ).loc main_arg2) : Vec Ideal S1x128x2x512 .f32) (ix4 0 r ⟨(512 + i.val) / 512, by omega⟩ ⟨(512 + i.val) % 512, by omega⟩)
    rw [e1, e2]
  · obtain ⟨i, rfl⟩ : ∃ i : Fin 512, j = ⟨512 + i.val, Nat.add_lt_add_left i.isLt 512⟩ := ⟨⟨j.val - 512, by omega⟩, Fin.ext (by show j.val = 512 + (j.val - 512); omega)⟩
    refine Eq.trans ?_ (dif_neg h).symm
    have e2 : (⟨512 + i.val - 512, by omega⟩ : Fin 512) = i := Fin.ext (by show 512 + i.val - 512 = i.val; omega)
    show _ = Rows.conv (xs m c r) (gs m c) (ws m c) ⟨512 + i.val - 512, by omega⟩
    rw [e2]
    unfold co0
    refine (tCo_new ..).trans ?_
    rw [row0, row3]
    have e : ∀ k : Fin 1536, Rows.lin (Rows.norm (xs m c r) (gs m c)) (fun i j => iblk m c 8 p0 (ix2 i j)) k
        = Rows.lin (Rows.norm (xs m c r) (gs m c)) (ws m c) ⟨1552 + k.val, by omega⟩ := fun k =>
      Finset.sum_congr rfl fun j _ => congrArg _ (b8 m c p0 j k)
    rw [e, e]
    exact congrArg₂ (· * ·) (congrArg _ (Fin.mk_eq_mk.mpr (by show 1552 + (512 + i.val) = 2064 + i.val; omega)))
      (congrArg _ (Fin.mk_eq_mk.mpr (by show 1552 + (1024 + i.val) = 2576 + i.val; omega)))

/-- The states after the token, as a function of the arguments. -/
def G13 (c : Dev nD) : Vec Ideal S128x256x128 .f32 := fun y =>
  Rows.one (xs m c (y 0)) (gs m c) (ws m c) (us m c) (bs m c) (ss m c (y 0)) (y 1) (y 2)

/-- The rows the convolution carries on. -/
def G14 (c : Dev nD) : Vec Ideal S128x1024 .f32 := fun y => Rows.carried (cs m c (y 0)) (xs m c (y 0)) (gs m c) (ws m c) (y 1)

theorem final13 (c : Dev nD) (hf : Real' m c) : (dats m 0 c).arrAt 13 cfg0.N = G13 m c := by
  refine (dats m 0 c).arrAt_eq_of_covers 13 _ (by decide +kernel) fun t hf' y => ?_
  obtain ⟨s, k, v, rfl⟩ : ∃ (s : Fin 16) (k : Fin 256) (v : Fin 128), y = ix3 s k v := ⟨y 0, y 1, y 2, eq_ix3 y⟩
  blk_simp
  rw [after0_13]
  have e : (win0_13.blk t).view.emb (ix3 s k v) = ix3 ⟨16 * t.val + s.val, by have : t.val < 8 := t.isLt; omega⟩ k v := by blk_ext [i13 t]
  rw [e]
  exact so0_apply m c hf t s k v

theorem final14 (c : Dev nD) : (dats m 0 c).arrAt 14 cfg0.N = G14 m c := by
  refine (dats m 0 c).arrAt_eq_of_covers 14 _ (by decide +kernel) fun t hf' y => ?_
  obtain ⟨r, j, rfl⟩ : ∃ (r : Fin 128) (j : Fin 1024), y = ix2 r j := ⟨y 0, y 1, eq_ix2 y⟩
  blk_simp
  rw [after0_14]
  have e : (win0_14.blk t).view.emb (ix2 r j) = ix2 r j := by blk_ext [i14 t]
  rw [e]
  exact co0_apply m c r j

end Cert.MixerSampleIdeal.Body

end
-- ==== Proof.SmpFrameLaunch.lean ====
/-
  The sample mixer's body at every point of its grid, and the launch.
-/
module

public import proofs.«01_k».proof.Proof.SmpFrameRunA
public import proofs.«01_k».proof.Proof.SmpFrameRunB
public import proofs.«01_k».proof.Proof.SmpFrameRunC

@[expose] public section
set_option maxRecDepth 16384
noncomputable section

namespace Cert.MixerSample.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerSample.Gen

variable {F : FTy → Type} [FloatOps F]

local notation "𝕄" => MT nD τ sig Unit (Elt F) ℕ (UR sig nD τ) ℕ

variable (m : (l : Loc nD τ sig) → Buf (Elt F) l) (ρ : Dev nD → PrngReg)

/-- The windows whose contents after the body are not named. -/
def forgets0 : Fin 15 → Bool := fun w => w.val == 12 || w.val == 13 || w.val == 14

/-- The arrays as the launch finds them, and what the body leaves in every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem leavesIn (w : Fin 15) (hw : w.val < 12) (c : Dev nD) (t : Fin cfg0.N) :
    (dats m 0 c).leavesExact w t = owns (c : Thread nD τ) ((cfg0.win w).stage (cfg0.slots t w)) fullShare ((dats m 0 c).after w t) := by
  have hl : cfg0.idle w (cfg0.grid.coords t) = false := live w hw t
  unfold Dat.leavesExact; rw [hl]

theorem leaves0_0 (c : Dev nD) (t : Fin cfg0.N) : (dats m 0 c).leavesExact 0 t = owns (c : Thread nD τ) (stg0 t) fullShare (iblk m c 0 t) := by
  rw [leavesIn m 0 (by decide) c t, after0_0]
theorem leaves0_1 (c : Dev nD) (t : Fin cfg0.N) : (dats m 0 c).leavesExact 1 t = owns (c : Thread nD τ) (stg1 t) fullShare (iblk m c 1 t) := by
  rw [leavesIn m 1 (by decide) c t, after0_1]
theorem leaves0_2 (c : Dev nD) (t : Fin cfg0.N) : (dats m 0 c).leavesExact 2 t = owns (c : Thread nD τ) (stg2 t) fullShare (iblk m c 2 t) := by
  rw [leavesIn m 2 (by decide) c t, after0_2]
theorem leaves0_3 (c : Dev nD) (t : Fin cfg0.N) : (dats m 0 c).leavesExact 3 t = owns (c : Thread nD τ) (stg3 t) fullShare (iblk m c 3 t) := by
  rw [leavesIn m 3 (by decide) c t, after0_3]
theorem leaves0_4 (c : Dev nD) (t : Fin cfg0.N) : (dats m 0 c).leavesExact 4 t = owns (c : Thread nD τ) (stg4 t) fullShare (iblk m c 4 t) := by
  rw [leavesIn m 4 (by decide) c t, after0_4]
theorem leaves0_5 (c : Dev nD) (t : Fin cfg0.N) : (dats m 0 c).leavesExact 5 t = owns (c : Thread nD τ) (stg5 t) fullShare (iblk m c 5 t) := by
  rw [leavesIn m 5 (by decide) c t, after0_5]
theorem leaves0_6 (c : Dev nD) (t : Fin cfg0.N) : (dats m 0 c).leavesExact 6 t = owns (c : Thread nD τ) (stg6 t) fullShare (iblk m c 6 t) := by
  rw [leavesIn m 6 (by decide) c t, after0_6]
theorem leaves0_7 (c : Dev nD) (t : Fin cfg0.N) : (dats m 0 c).leavesExact 7 t = owns (c : Thread nD τ) (stg7 t) fullShare (iblk m c 7 t) := by
  rw [leavesIn m 7 (by decide) c t, after0_7]
theorem leaves0_8 (c : Dev nD) (t : Fin cfg0.N) : (dats m 0 c).leavesExact 8 t = owns (c : Thread nD τ) (stg8 t) fullShare (iblk m c 8 t) := by
  rw [leavesIn m 8 (by decide) c t, after0_8]
theorem leaves0_9 (c : Dev nD) (t : Fin cfg0.N) : (dats m 0 c).leavesExact 9 t = owns (c : Thread nD τ) (stg9 t) fullShare (iblk m c 9 t) := by
  rw [leavesIn m 9 (by decide) c t, after0_9]
theorem leaves0_10 (c : Dev nD) (t : Fin cfg0.N) : (dats m 0 c).leavesExact 10 t = owns (c : Thread nD τ) (stg10 t) fullShare (iblk m c 10 t) := by
  rw [leavesIn m 10 (by decide) c t, after0_10]
theorem leaves0_11 (c : Dev nD) (t : Fin cfg0.N) : (dats m 0 c).leavesExact 11 t = owns (c : Thread nD τ) (stg11 t) fullShare (iblk m c 11 t) := by
  rw [leavesIn m 11 (by decide) c t, after0_11]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare d)
    ∗ (∃ d, owns (c : Thread nD τ) (stg13 t) fullShare d)
    ∗ (∃ d, owns (c : Thread nD τ) (stg14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (stg12 t) fullShare d)
    ∗ (∃ d, owns (c : Thread nD τ) (stg13 t) fullShare d)
    ∗ (∃ d, owns (c : Thread nD τ) (stg14 t) fullShare d))

set_option maxHeartbeats 4000000 in
/-- The body at the first point. -/
theorem soundA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launchInv_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14⟩
  iapply (runA c (grid0.coords t) _ _ _ _ _ _ _ _ _ _ _ _ _ _ _ _ _ _ _ _ _ _ _ _ _ _ _ _ _ _ _ _ _ _ _ _ _ _ _ _ _ _ _ _ ((isFirst_iff t).mpr h0) (fun h => absurd ((isLast_iff t).mp h) (by show ¬(t.val = 7); omega)) (iblk m c 0 t) (iblk m c 1 t) (iblk m c 2 t) (iblk m c 3 t) (iblk m c 4 t) (iblk m c 5 t) (iblk m c 6 t) (iblk m c 7 t) (iblk m c 8 t) (iblk m c 10 t) Set.univ _)
  iframel H0 H1 H2 H3 H4 H5 H6 H7 H8 H10
  isplitl [H13]; · iexact H13
  isplitl [H14]; · iexact H14
  isplitl [HS0]; · iexact HS0
  isplitl [HS1]; · iexact HS1
  isplitl [HS2]; · iexact HS2
  isplitl [HS3]; · iexact HS3
  iframel HS4 HS5 HS6
  iintro ⟨H0, H1, H2, H3, H4, H5, H6, H7, H8, H10, H13, H14, HS0, HS1, HS2, HS3, HS4, HS5, HS6⟩
  isplitl [HS0 HS1 HS2 HS3 HS4 HS5 HS6 Hg]
  · isplitr [Hg]
    · isplitl [HS0]; · iexact HS0
      isplitl [HS1]; · iexists _; iexact HS1
      isplitl [HS2]; · iexists _; iexact HS2
      isplitl [HS3]; · iexists _; iexact HS3
      iframel HS4 HS5
      iexact HS6
    iexact Hg
  iframel Ho H0 H1 H2 H3 H4 H5 H6 H7 H8 H9 H10 H11 H12
  isplitl [H13]; · iexists _; iexact H13
  iexists _; iexact H14

set_option maxHeartbeats 4000000 in
/-- The body at a point that is neither first nor last. -/
theorem soundB (c : Dev nD) (t : Fin cfg0.N) (h0 : ¬t.val = 0) (h1 : ¬t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launchInv_eq]
  iintro ⟨⟨⟨HS0, ⟨%k1, HS1⟩, ⟨%k2, HS2⟩, ⟨%k3, HS3⟩, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14⟩
  iapply (runB c (grid0.coords t) _ _ _ _ _ _ _ _ _ _ _ _ _ _ _ _ _ _ _ _ _ _ _ _ _ _ _ _ _ _ _ _ _ _ _ _ _ _ _ _ _ _ _ _ (fun h => h0 ((isFirst_iff t).mp h)) (fun h => h1 ((isLast_iff t).mp h)) (iblk m c 1 t) k1 k2 k3 Set.univ _)
  isplitl [H1]; · iexact H1
  isplitl [H13]; · iexact H13
  isplitl [HS0]; · iexact HS0
  isplitl [HS1]; · iexact HS1
  isplitl [HS2]; · iexact HS2
  isplitl [HS3]; · iexact HS3
  isplitl [HS6]; · iexact HS6
  iintro ⟨H1, H13, HS0, HS1, HS2, HS3, HS6⟩
  isplitl [HS0 HS1 HS2 HS3 HS4 HS5 HS6 Hg]
  · isplitr [Hg]
    · isplitl [HS0]; · iexact HS0
      isplitl [HS1]; · iexists _; iexact HS1
      isplitl [HS2]; · iexists _; iexact HS2
      isplitl [HS3]; · iexists _; iexact HS3
      iframel HS4 HS5
      iexact HS6
    iexact Hg
  iframel Ho H0 H1 H2 H3 H4 H5 H6 H7 H8 H9 H10 H11 H12
  isplitl [H13]; · iexists _; iexact H13
  iexact H14

set_option maxHeartbeats 4000000 in
/-- The body at the last point. -/
theorem soundC (c : Dev nD) (t : Fin cfg0.N) (h1 : t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launchInv_eq]
  have h0 : ¬t.val = 0 := by omega
  iintro ⟨⟨⟨HS0, ⟨%k1, HS1⟩, ⟨%k2, HS2⟩, ⟨%k3, HS3⟩, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14⟩
  iapply (runC c (grid0.coords t) _ _ _ _ _ _ _ _ _ _ _ _ _ _ _ _ _ _ _ _ _ _ _ _ _ _ _ _ _ _ _ _ _ _ _ _ _ _ _ _ _ _ _ _ (fun h => h0 ((isFirst_iff t).mp h)) ((isLast_iff t).mpr h1) (iblk m c 0 t) (iblk m c 1 t) (iblk m c 3 t) (iblk m c 9 t) (iblk m c 11 t) k1 k2 k3 Set.univ _)
  iframel H0 H1 H3 H9 H11 H12
  isplitl [H13]; · iexact H13
  isplitl [HS0]; · iexact HS0
  isplitl [HS1]; · iexact HS1
  isplitl [HS2]; · iexact HS2
  isplitl [HS3]; · iexact HS3
  iframel HS4 HS5 HS6
  iintro ⟨H0, H1, H3, H9, H11, H12, H13, HS0, HS1, HS2, HS3, HS4, HS5, HS6⟩
  isplitl [HS0 HS1 HS2 HS3 HS4 HS5 HS6 Hg]
  · isplitr [Hg]
    · isplitl [HS0]; · iexact HS0
      isplitl [HS1]; · iexists _; iexact HS1
      isplitl [HS2]; · iexists _; iexact HS2
      isplitl [HS3]; · iexists _; iexact HS3
      iframel HS4 HS5
      iexact HS6
    iexact Hg
  iframel Ho H0 H1 H2 H3 H4 H5 H6 H7 H8 H9 H10 H11 H12
  isplitl [H13]; · iexists _; iexact H13
  iexact H14

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h1 : t.val = 7
    · exact soundC m c t h1
    · exact soundB m c t h0 h1

theorem defs₀_row (t : Fin cfg0.N) :
    defs₀ (F := F) .tc cfg0.body (cfg0.bodyArgs t (cfg0.slots t)) = bodyAt0 t := by
  unfold defs₀; rw [Defs.onTc_tc]

/-- The body meets what is asked of it at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The launch, from any memory with every counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(((h.1 c).2 main_arg0 (Pipeline.mem_restRefs_of main_arg0 (by decide) (by decide))).trans (V_main_arg0 m c)),
    (((h.1 c).2 main_arg1 (Pipeline.mem_restRefs_of main_arg1 (by decide) (by decide))).trans (V_main_arg1 m c)),
    (((h.1 c).2 main_arg2 (Pipeline.mem_restRefs_of main_arg2 (by decide) (by decide))).trans (V_main_arg2 m c)),
    (((h.1 c).2 main_arg3 (Pipeline.mem_restRefs_of main_arg3 (by decide) (by decide))).trans (V_main_arg3 m c)),
    (((h.1 c).2 main_arg4 (Pipeline.mem_restRefs_of main_arg4 (by decide) (by decide))).trans (V_main_arg4 m c)),
    (((h.1 c).2 main_arg5 (Pipeline.mem_restRefs_of main_arg5 (by decide) (by decide))).trans (V_main_arg5 m c)),
    (((h.1 c).2 main_arg6 (Pipeline.mem_restRefs_of main_arg6 (by decide) (by decide))).trans (V_main_arg6 m c)),
    (((h.1 c).2 main_arg7 (Pipeline.mem_restRefs_of main_arg7 (by decide) (by decide))).trans (V_main_arg7 m c)),
    (((h.1 c).2 main_arg8 (Pipeline.mem_restRefs_of main_arg8 (by decide) (by decide))).trans (V_main_arg8 m c)),
    (((h.1 c).2 main_arg9 (Pipeline.mem_restRefs_of main_arg9 (by decide) (by decide))).trans (V_main_arg9 m c))⟩, h.2⟩) (run_main m ρ)

end Cert.MixerSample.Body

end
-- ==== Proof.SmpRef.lean ====
/-
  The token mixer for the sample as the plain reference computes it, read at an index.
-/
module

public import proofs.«01_k».proof.Proof.SmpRows
public import proofs.«01_k».proof.Proof.MixFinite
public import proofs.«01_k».proof.Proof.MixSums
public import proofs.«01_k».proof.Proof.Gen.MixerSampleRefIdeal.Read
public import Idealize.ShloMosaic.Lib.Pointwise

@[expose] public section
set_option maxRecDepth 16384
noncomputable section

open Idealize.ShloMosaic Idealize.ShloMosaic.TcCoe Idealize.SL.Sem

namespace Cert.MixerSampleRefIdeal.Mix

open Cert.MixerSampleRefIdeal Cert.MixerSampleRefIdeal.Read

variable (x0 : Vec Ideal S128x1x1024 .f32) (x1 : Vec Ideal S1x128x4x64x128 .f32) (x2 : Vec Ideal S1x128x2x512 .f32) (x3 : Vec Ideal S1x8x1024 .f32)
  (x4 : Vec Ideal S1x1024x3088 .f32) (x5 : Vec Ideal S1x16x256 .f32) (x6 : Vec Ideal S1x256 .f32)

/-- The token of sample `b`, -/
def xs (b : Fin 128) (j : Fin 1024) : EReal := x0 (ix3 b 0 j)
/-- the norm's gains, -/
def gs (j : Fin 1024) : EReal := x3 (ix3 0 2 j)
/-- the input projection, -/
def ws (i : Fin 1024) (j : Fin 3088) : EReal := x4 (ix3 0 i j)
/-- the gate's up projection -/
def us (i : Fin 16) (j : Fin 256) : EReal := x5 (ix3 0 i j)
/-- and its bias; -/
def bs (j : Fin 256) : EReal := x6 (ix2 0 j)
/-- the state of sample `b`, -/
def ss (b : Fin 128) (k : Fin 256) (v : Fin 128) : EReal := x1 (ix5 0 b ⟨k.val / 64, by omega⟩ ⟨k.val % 64, by omega⟩ v)
/-- and the rows its convolution had, side by side. -/
def cs (b : Fin 128) (j : Fin 1024) : EReal := x2 (ix4 0 b ⟨j.val / 512, by omega⟩ ⟨j.val % 512, by omega⟩)

/-- The normed row. -/
theorem normed (b : Fin 128) (k : Fin 1024) :
    val_main_v15 (F := Ideal) x0 x3 (ix3 b 0 k) = Rows.norm (xs x0 b) (gs x3) k := by
  pointwise [val_main_v15, val_main_v14, val_main_v13, val_main_v12, val_main_v11, val_main_v10, val_main_v9, val_main_v8, val_main_cst_1,
    val_main_v7, val_main_v6, val_main_cst_0, val_main_v5, val_main_v4, val_main_cst, val_main_v3, val_main_v2, val_main_v1, val_main_v0, Rows.norm, xs, gs]

/-- The row, projected. -/
theorem proj (b : Fin 128) (k : Fin 3088) :
    val_main_v21 (F := Ideal) x0 x3 x4 (ix3 b 0 k) = Rows.lin (Rows.norm (xs x0 b) (gs x3)) (ws x4) k := by
  pointwise [val_main_v21, val_main_v18, normed, Rows.lin, ws]

/-- The keys. -/
theorem key (b : Fin 128) (h : Fin 4) (d : Fin 64) :
    val_main_v33 (F := Ideal) x0 x3 x4 (ix4 b 0 h d) = Rows.keys (xs x0 b) (gs x3) (ws x4) ⟨h.val * 64 + d.val, by omega⟩ := by
  pointwise [val_main_v33, val_main_v23, proj, Rows.keys]

/-- The values. -/
theorem value (b : Fin 128) (h : Fin 4) (d : Fin 128) :
    val_main_v34 (F := Ideal) x0 x3 x4 (ix4 b 0 h d) = Rows.vals (xs x0 b) (gs x3) (ws x4) ⟨h.val * 128 + d.val, by omega⟩ := by
  pointwise [val_main_v34, val_main_v24, proj, Rows.vals]

/-- The gate's logits. -/
theorem logit (b : Fin 128) (k : Fin 256) :
    val_main_v38 (F := Ideal) x0 x3 x4 x5 x6 (ix3 b 0 k) = Rows.gate (xs x0 b) (gs x3) (ws x4) (us x5) (bs x6) k := by
  pointwise [val_main_v38, val_main_v37, val_main_v36, val_main_v35, val_main_v26, val_main_v20, val_main_v19, proj, Rows.gate, us, bs]

/-- The logarithm of the logistic. -/
theorem soft (b : Fin 128) (k : Fin 256) :
    val_main_v39 (F := Ideal) x0 x3 x4 x5 x6 (ix3 b 0 k) = Rows.soft (Rows.gate (xs x0 b) (gs x3) (ws x4) (us x5) (bs x6) k) := by
  rw [← logit]
  unfold val_main_v39 val_main_call0_v1 val_main_call0_call0_v11 val_main_call0_call0_v10 val_main_call0_call0_v9 val_main_call0_call0_v8
    val_main_call0_call0_v7 val_main_call0_call0_v6 val_main_call0_call0_v4 val_main_call0_call0_v3 val_main_call0_call0_v1 val_main_call0_v0
    val_main_call0_call0_v5 val_main_call0_call0_v2 val_main_call0_call0_v0 val_main_call0_call0_cst
  generalize val_main_v38 (F := Ideal) x0 x3 x4 x5 x6 = z
  pointwise [Rows.soft]
  rw [if_neg (fun h => h rfl)]
  rfl

/-- The decays' logarithms. -/
theorem dec (b : Fin 128) (h : Fin 4) (d : Fin 64) :
    val_main_v42 (F := Ideal) x0 x3 x4 x5 x6 (ix4 b 0 h d)
      = Ideal.div (Rows.soft (Rows.gate (xs x0 b) (gs x3) (ws x4) (us x5) (bs x6) ⟨h.val * 64 + d.val, by omega⟩)) (Ideal.ofBits .f32 0x41800000#32) := by
  pointwise [val_main_v42, val_main_v41, val_main_v40, val_main_cst_2, soft]

/-- The window's shape: one position. -/
abbrev Win : Shape := ⟨4, ![1, 1, 1, 1]⟩

theorem win_zero (w : Fin Win.numel) (a : Fin 4) : (Win.rowMajor.symm w a).val = 0 := by
  have h := (Win.rowMajor.symm w a).isLt
  match a with
  | ⟨0, _⟩ => exact Nat.lt_one_iff.mp h
  | ⟨1, _⟩ => exact Nat.lt_one_iff.mp h
  | ⟨2, _⟩ => exact Nat.lt_one_iff.mp h
  | ⟨3, _⟩ => exact Nat.lt_one_iff.mp h

theorem win_numel : Win.numel = 1 := by decide

/-- The running sum along the one token of a sample is that token's. -/
theorem cumsum_apply (x : Vec Ideal S128x1x4x64 .f32) (init : EReal) (h0 : init = 0) (wf) (b : Fin 128) (h : Fin 4) (d : Fin 64) :
    Ideal.hostReduceWindowAdd (s := S128x1x4x64) (t := S128x1x4x64) ![1, 1, 1, 1] ![1, 1, 1, 1] ![0, 0, 0, 0] ![0, 0, 0, 0] wf x init (ix4 b 0 h d)
      = x (ix4 b 0 h d) := by
  subst h0
  unfold Ideal.hostReduceWindowAdd Host.reduceWindow
  refine (Cert.MixerRefIdeal.Mix.foldl_sum _ (List.finRange Win.numel) _).trans ?_
  refine (zero_add _).trans ?_
  rw [← Fin.sum_univ_def]
  refine (Fintype.sum_equiv (finCongr win_numel) _ (fun _ : Fin 1 => (x (ix4 b 0 h d) : EReal)) fun w => ?_).trans (Fin.sum_univ_one _)
  have wz := win_zero w
  dsimp only
  split
  · next hin =>
    refine congrArg x (funext fun a => Fin.ext ?_)
    have ha := wz a
    match a with
    | ⟨0, _⟩ => show b.val * 1 + (Win.rowMajor.symm w 0).val - 0 = b.val; rw [wz]; omega
    | ⟨1, _⟩ => show 0 * 1 + (Win.rowMajor.symm w 1).val - 0 = 0; rw [wz]
    | ⟨2, _⟩ => show h.val * 1 + (Win.rowMajor.symm w 2).val - 0 = h.val; rw [wz]; omega
    | ⟨3, _⟩ => show d.val * 1 + (Win.rowMajor.symm w 3).val - 0 = d.val; rw [wz]; omega
  · next hin =>
    refine absurd (fun a => ?_) hin
    match a with
    | ⟨0, _⟩ => show 0 ≤ b.val * 1 + (Win.rowMajor.symm w 0).val ∧ b.val * 1 + (Win.rowMajor.symm w 0).val - 0 < 128; rw [wz]; omega
    | ⟨1, _⟩ => show 0 ≤ 0 * 1 + (Win.rowMajor.symm w 1).val ∧ 0 * 1 + (Win.rowMajor.symm w 1).val - 0 < 1; rw [wz]; omega
    | ⟨2, _⟩ => show 0 ≤ h.val * 1 + (Win.rowMajor.symm w 2).val ∧ h.val * 1 + (Win.rowMajor.symm w 2).val - 0 < 4; rw [wz]; omega
    | ⟨3, _⟩ => show 0 ≤ d.val * 1 + (Win.rowMajor.symm w 3).val ∧ d.val * 1 + (Win.rowMajor.symm w 3).val - 0 < 64; rw [wz]; omega

theorem run_sum (b : Fin 128) (h : Fin 4) (d : Fin 64) :
    val_main_v43 (F := Ideal) x0 x3 x4 x5 x6 (ix4 b 0 h d) = val_main_v42 (F := Ideal) x0 x3 x4 x5 x6 (ix4 b 0 h d) :=
  cumsum_apply _ _ Ideal.ofBits_zero_f32 Cert.MixerSampleRefIdeal.Facts₀.reduceWindows_S128x1x4x64_S128x1x4x64_w1s1p0_0_w1s1p0_0_w1s1p0_0_w1s1p0_0 b h d

/-- The state, before it is simplified. -/
theorem state_raw (b : Fin 128) (k : Fin 256) (v : Fin 128) :
    val_main_v55 (F := Ideal) x0 x1 x3 x4 x5 x6 (ix3 b k v)
      = Ideal.exp (val_main_v43 (F := Ideal) x0 x3 x4 x5 x6 (ix4 b 0 ⟨k.val / 64, by omega⟩ ⟨k.val % 64, by omega⟩)) * ss x1 b k v
        + val_main_v33 (F := Ideal) x0 x3 x4 (ix4 b 0 ⟨k.val / 64, by omega⟩ ⟨k.val % 64, by omega⟩)
          * Ideal.exp (val_main_v43 (F := Ideal) x0 x3 x4 x5 x6 (ix4 b 0 ⟨k.val / 64, by omega⟩ ⟨k.val % 64, by omega⟩)
            - val_main_v43 (F := Ideal) x0 x3 x4 x5 x6 (ix4 b 0 ⟨k.val / 64, by omega⟩ ⟨k.val % 64, by omega⟩))
          * val_main_v34 (F := Ideal) x0 x3 x4 (ix4 b 0 ⟨k.val / 64, by omega⟩ v) := by
  unfold val_main_v55 val_main_v54 val_main_v53 val_main_v52 val_main_v51 val_main_v50 val_main_v49 val_main_v48 val_main_v47 val_main_v46 val_main_v45
    val_main_v44 val_main_v16
  generalize val_main_v43 (F := Ideal) x0 x3 x4 x5 x6 = z
  generalize val_main_v33 (F := Ideal) x0 x3 x4 = p
  generalize val_main_v34 (F := Ideal) x0 x3 x4 = q
  pointwise [ss]
  exact congrArg (_ + ·) (Fin.sum_univ_one _)

/-- The state a sample is left with, where its gates are real numbers. -/
theorem state (hr : ∀ b k, Rows.IsReal (Rows.gate (xs x0 b) (gs x3) (ws x4) (us x5) (bs x6) k)) (b : Fin 128) (k : Fin 256) (v : Fin 128) :
    val_main_v55 (F := Ideal) x0 x1 x3 x4 x5 x6 (ix3 b k v) = Rows.one (xs x0 b) (gs x3) (ws x4) (us x5) (bs x6) (ss x1 b) k v := by
  have ek : (⟨k.val / 64 * 64 + k.val % 64, by omega⟩ : Fin 256) = k := Fin.ext (by show k.val / 64 * 64 + k.val % 64 = k.val; omega)
  have ed : val_main_v43 (F := Ideal) x0 x3 x4 x5 x6 (ix4 b 0 ⟨k.val / 64, by omega⟩ ⟨k.val % 64, by omega⟩)
      = Rows.decay (Rows.gate (xs x0 b) (gs x3) (ws x4) (us x5) (bs x6) k) := by
    rw [run_sum, dec, ← Rows.soft_eq (hr b k)]
    exact congrArg (fun j => Ideal.div (Rows.soft (Rows.gate (xs x0 b) (gs x3) (ws x4) (us x5) (bs x6) j)) _) ek
  have eK : val_main_v33 (F := Ideal) x0 x3 x4 (ix4 b 0 ⟨k.val / 64, by omega⟩ ⟨k.val % 64, by omega⟩) = Rows.keys (xs x0 b) (gs x3) (ws x4) k :=
    (key x0 x3 x4 b _ _).trans (congrArg _ ek)
  obtain ⟨r, hd⟩ := Rows.decay_real (hr b k)
  have ez : Ideal.exp (Rows.decay (Rows.gate (xs x0 b) (gs x3) (ws x4) (us x5) (bs x6) k) - Rows.decay (Rows.gate (xs x0 b) (gs x3) (ws x4) (us x5) (bs x6) k)) = 1 := by
    rw [hd, ← EReal.coe_sub, sub_self, Ideal.exp_coe, Real.exp_zero, EReal.coe_one]
  rw [state_raw, ed, eK, ez, mul_one, value]
  rfl

/-- The rows the convolution is left with. -/
theorem conv (b : Fin 128) (j : Fin 1024) :
    val_main_v56 (F := Ideal) x0 x2 x3 x4 (ix2 b j) = Rows.carried (cs x2 b) (xs x0 b) (gs x3) (ws x4) j := by
  have ep : ∀ i : Fin 512, val_main_v30 (F := Ideal) x0 x3 x4 (ix3 b 0 i) = Rows.conv (xs x0 b) (gs x3) (ws x4) i := fun i => by
    pointwise [val_main_v30, val_main_v29, val_main_v28, proj, Rows.conv]
  unfold val_main_v56 val_main_v32 val_main_v31 val_main_v17
  generalize hz : val_main_v30 (F := Ideal) x0 x3 x4 = z at ep ⊢
  by_cases h : j.val < 512
  · obtain ⟨i, rfl⟩ : ∃ i : Fin 512, j = ⟨i.val, lt_of_lt_of_le i.isLt (by decide)⟩ := ⟨⟨j.val, h⟩, rfl⟩
    refine Eq.trans ?_ (dif_pos h).symm
    have e1 : (⟨(512 + i.val) / 512, by omega⟩ : Fin 2) = 1 := Fin.ext (by show (512 + i.val) / 512 = 1; omega)
    have e2 : (⟨(512 + i.val) % 512, by omega⟩ : Fin 512) = i := Fin.ext (by show (512 + i.val) % 512 = i.val; omega)
    show _ = x2 (ix4 0 b ⟨(512 + i.val) / 512, by omega⟩ ⟨(512 + i.val) % 512, by omega⟩)
    rw [e1, e2]
    pointwise []
    rw [dif_pos (by omega)]
    exact congrArg₂ (fun (a : Fin 2) (d : Fin 512) => x2 (ix4 0 b a d)) (Fin.ext (by show 1 + i.val / 512 = 1; omega)) (Fin.ext (by show i.val % 512 = i.val; omega))
  · obtain ⟨i, rfl⟩ : ∃ i : Fin 512, j = ⟨512 + i.val, Nat.add_lt_add_left i.isLt 512⟩ := ⟨⟨j.val - 512, by omega⟩, Fin.ext (by show j.val = 512 + (j.val - 512); omega)⟩
    refine Eq.trans ?_ (dif_neg h).symm
    have e2 : (⟨512 + i.val - 512, by omega⟩ : Fin 512) = i := Fin.ext (by show 512 + i.val - 512 = i.val; omega)
    show _ = Rows.conv (xs x0 b) (gs x3) (ws x4) ⟨512 + i.val - 512, by omega⟩
    rw [e2, ← ep i]
    pointwise []
    rw [dif_neg (by omega)]
    exact congrArg (fun a : Fin 1 => z (ix3 b a i)) (Fin.ext (by show 1 + (512 + i.val) / 512 - 2 = 0; omega))

end Cert.MixerSampleRefIdeal.Mix

end
-- ==== Proof.SmpPre.lean ====
/-
  The sample mixer's precondition read: on finite arguments every gate is a real number.
-/
module

public import proofs.«01_k».proof.Proof.MixPre
public import proofs.«01_k».proof.Pre_finite_gate_sample

@[expose] public section
set_option maxRecDepth 16384
noncomputable section

open Idealize.ShloMosaic Idealize.ShloMosaic.TcCoe Idealize.SL.Sem

namespace Cert.Pre_finite_gate_sample

variable [Cert.Pre_finite_gate.Facts] [Facts]

instance : Subsingleton S_.Idx := ⟨fun a b => funext fun i => i.elim0⟩

/-- What the precondition says of the arguments the gate reads. -/
theorem finite (x0 : FVec Ideal S128x1x1024 .f32) (x1 x2) (x3 : FVec Ideal S1x8x1024 .f32) (x4 : FVec Ideal S1x1024x3088 .f32) (x5 : FVec Ideal S1x16x256 .f32)
    (x6 : FVec Ideal S1x256 .f32) (x7 x8 x9) (h : fn (F := Ideal) x0 x1 x2 x3 x4 x5 x6 x7 x8 x9 = fun _ => 1#1) :
    (∀ i, Rows.IsReal (x0 i)) ∧ (∀ i, Rows.IsReal (x3 i)) ∧ (∀ i, Rows.IsReal (x4 i)) ∧ (∀ i, Rows.IsReal (x5 i)) ∧ (∀ i, Rows.IsReal (x6 i)) := by
  have h' := congrFun h (fun i => i.elim0)
  dsimp only [fn, fn_part1] at h'
  obtain ⟨h0123, h4⟩ := Pre_finite_gate.and_one _ _ h'
  obtain ⟨h012, h3⟩ := Pre_finite_gate.and_one _ _ h0123
  obtain ⟨h01, h2⟩ := Pre_finite_gate.and_one _ _ h012
  obtain ⟨h0, h1⟩ := Pre_finite_gate.and_one _ _ h01
  exact ⟨fun i => Pre_finite_gate.real_of_test _ (Host.reduce_andi_all _ _ _ _ _ h0 i), fun i => Pre_finite_gate.real_of_test _ (Host.reduce_andi_all _ _ _ _ _ h1 i),
    fun i => Pre_finite_gate.real_of_test _ (Host.reduce_andi_all _ _ _ _ _ h2 i), fun i => Pre_finite_gate.real_of_test _ (Host.reduce_andi_all _ _ _ _ _ h3 i),
    fun i => Pre_finite_gate.real_of_test _ (Host.reduce_andi_all _ _ _ _ _ h4 i)⟩

end Cert.Pre_finite_gate_sample

end
-- ==== Proof.SmpClaims.lean ====
/-
  The claims about the token mixer for the sample.
-/
module

public import proofs.«01_k».proof.Defs
public import proofs.«01_k».proof.Proof.SmpValue
public import proofs.«01_k».proof.Proof.SmpFrameLaunch
public import proofs.«01_k».proof.Proof.SmpRef
public import proofs.«01_k».proof.Proof.Gen.MixerSampleRefIdeal.Run
public import proofs.«01_k».proof.Proof.SmpPre
public import Idealize.ShloMosaic.Lib.Quiescent

@[expose] public section
set_option maxRecDepth 16384
noncomputable section

open Idealize.ShloMosaic Idealize.ShloMosaic.TcCoe Idealize.SL.Sem

namespace Cert.Proof.SmpClaims

variable [Cert.Pre_finite_gate.Facts] [Cert.Pre_finite_gate_sample.Facts]

theorem frame : Cert.quiescent_MixerSample := fun m ρ _ => Cert.MixerSample.Body.frame m ρ
theorem frame_i : Cert.quiescent_MixerSampleIdeal := fun m ρ _ => Cert.MixerSampleIdeal.Body.frame m ρ
theorem frame_ip : Cert.quiescent_MixerSampleIdeal_pre_finite_gate_sample := fun m ρ _ => Cert.MixerSampleIdeal.Body.frame m ρ
theorem preserves : Cert.preserves_MixerSample_MixerSampleIdeal := trivial

theorem frame_r : Cert.quiescent_MixerSampleRefIdeal := fun m ρ _ =>
  (θ_run Cert.MixerSampleRefIdeal.defs _ _).mono (fun r h => ⟨fun c => (h c).2.2,
      Idealize.ShloMosaic.sem_eq_zero_of_no_sems (by decide) r.2⟩)
    (Cert.MixerSampleRefIdeal.Value.run (F := Ideal) m ρ)
theorem frame_rp : Cert.quiescent_MixerSampleRefIdeal_pre_finite_gate_sample := fun m ρ _ =>
  (θ_run Cert.MixerSampleRefIdeal.defs _ _).mono (fun r h => ⟨fun c => (h c).2.2,
      Idealize.ShloMosaic.sem_eq_zero_of_no_sems (by decide) r.2⟩)
    (Cert.MixerSampleRefIdeal.Value.run (F := Ideal) m ρ)

section Kernel
open Cert.MixerSampleIdeal Cert.MixerSampleIdeal.Gen Cert.MixerSampleIdeal.Body

variable (m : (ℓ : Loc nD τ sig) → Buf (Elt Ideal) ℓ) (ρ : Dev nD → PrngReg)

/-- Finite arguments make every gate a real number. -/
theorem gates_real (h : Cert.Pre_MixerSampleIdeal_finite_gate_sample m) (c : Dev nD) (b k) :
    Rows.IsReal (Rows.gate (xs m c b) (gs m c) (ws m c) (us m c) (bs m c) k) := by
  obtain ⟨h0, h1, h2, h3, h4⟩ := Cert.Pre_finite_gate_sample.finite _ _ _ _ _ _ _ _ _ _ (h c)
  exact Rows.gate_real (fun j => h0 _) (fun j => h1 _) (fun i j => h2 _) (fun i j => h3 _) (fun j => h4 _) k

theorem real' (h : Cert.Pre_MixerSampleIdeal_finite_gate_sample m) (c : Dev nD) : Real' m c := fun b k => Rows.decay_real (gates_real m h c b k)

/-- The kernel runs, leaves the two arrays as these functions of its arguments, and its arguments as they were. -/
theorem kernel_run (h : Cert.Pre_MixerSampleIdeal_finite_gate_sample m) : θ_run (defs (F := Ideal)) (onTc (τ := τ) (main (F := Ideal))) ⟨m, fun _ => 0, ρ⟩ (fun r => ∀ c : Dev nD,
    r.2.mem ((c.tc : Thread nD τ).loc main_v24_1) = G13 m c
    ∧ r.2.mem ((c.tc : Thread nD τ).loc main_v24_2) = G14 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) :=
  (θ_run defs _ _).mono (fun r hr c => ⟨(arr13 m c r hr.1).trans (final13 m c (real' m h c)), (arr14 m c r hr.1).trans (final14 m c),
    (((hr.1 c).2 main_arg0 (Pipeline.mem_restRefs_of main_arg0 (by decide) (by decide))).trans (V_main_arg0 m c)),
    (((hr.1 c).2 main_arg1 (Pipeline.mem_restRefs_of main_arg1 (by decide) (by decide))).trans (V_main_arg1 m c)),
    (((hr.1 c).2 main_arg2 (Pipeline.mem_restRefs_of main_arg2 (by decide) (by decide))).trans (V_main_arg2 m c)),
    (((hr.1 c).2 main_arg3 (Pipeline.mem_restRefs_of main_arg3 (by decide) (by decide))).trans (V_main_arg3 m c)),
    (((hr.1 c).2 main_arg4 (Pipeline.mem_restRefs_of main_arg4 (by decide) (by decide))).trans (V_main_arg4 m c)),
    (((hr.1 c).2 main_arg5 (Pipeline.mem_restRefs_of main_arg5 (by decide) (by decide))).trans (V_main_arg5 m c)),
    (((hr.1 c).2 main_arg6 (Pipeline.mem_restRefs_of main_arg6 (by decide) (by decide))).trans (V_main_arg6 m c)),
    (((hr.1 c).2 main_arg7 (Pipeline.mem_restRefs_of main_arg7 (by decide) (by decide))).trans (V_main_arg7 m c)),
    (((hr.1 c).2 main_arg8 (Pipeline.mem_restRefs_of main_arg8 (by decide) (by decide))).trans (V_main_arg8 m c)),
    (((hr.1 c).2 main_arg9 (Pipeline.mem_restRefs_of main_arg9 (by decide) (by decide))).trans (V_main_arg9 m c))⟩) (run_main m ρ)

end Kernel

theorem algebraic : Cert.algebraic_MixerSampleIdeal_MixerSampleRefIdeal_pre_finite_gate_sample := by
  intro m ρ m' ρ' hpre hag
  refine ⟨fun c => Cert.MixerSampleIdeal.Body.G13 m c, fun c => Cert.MixerSampleIdeal.Body.G14 m c, kernel_run m ρ hpre, ?_⟩
  refine (θ_run Cert.MixerSampleRefIdeal.defs _ _).mono (fun r h c => ?_) (Cert.MixerSampleRefIdeal.Value.run (F := Ideal) m' ρ')
  have ex : Cert.MixerSampleRefIdeal.Mix.xs (m' ((c.tc : Thread Cert.MixerSampleRefIdeal.nD Cert.MixerSampleRefIdeal.τ).loc Cert.MixerSampleRefIdeal.main_arg0)) = Cert.MixerSampleIdeal.Body.xs m c := by
    funext b j; exact congrFun (hag c).1 _
  have es : Cert.MixerSampleRefIdeal.Mix.ss (m' ((c.tc : Thread Cert.MixerSampleRefIdeal.nD Cert.MixerSampleRefIdeal.τ).loc Cert.MixerSampleRefIdeal.main_arg1)) = Cert.MixerSampleIdeal.Body.ss m c := by
    funext b k v; exact congrFun (hag c).2.1 _
  have ec : Cert.MixerSampleRefIdeal.Mix.cs (m' ((c.tc : Thread Cert.MixerSampleRefIdeal.nD Cert.MixerSampleRefIdeal.τ).loc Cert.MixerSampleRefIdeal.main_arg2)) = Cert.MixerSampleIdeal.Body.cs m c := by
    funext b j; exact congrFun (hag c).2.2.1 _
  have eg : Cert.MixerSampleRefIdeal.Mix.gs (m' ((c.tc : Thread Cert.MixerSampleRefIdeal.nD Cert.MixerSampleRefIdeal.τ).loc Cert.MixerSampleRefIdeal.main_arg3)) = Cert.MixerSampleIdeal.Body.gs m c := by
    funext j; exact congrFun (hag c).2.2.2.1 _
  have ew : Cert.MixerSampleRefIdeal.Mix.ws (m' ((c.tc : Thread Cert.MixerSampleRefIdeal.nD Cert.MixerSampleRefIdeal.τ).loc Cert.MixerSampleRefIdeal.main_arg4)) = Cert.MixerSampleIdeal.Body.ws m c := by
    funext i j; exact congrFun (hag c).2.2.2.2.1 _
  have eu : Cert.MixerSampleRefIdeal.Mix.us (m' ((c.tc : Thread Cert.MixerSampleRefIdeal.nD Cert.MixerSampleRefIdeal.τ).loc Cert.MixerSampleRefIdeal.main_arg5)) = Cert.MixerSampleIdeal.Body.us m c := by
    funext i j; exact congrFun (hag c).2.2.2.2.2.1 _
  have eb : Cert.MixerSampleRefIdeal.Mix.bs (m' ((c.tc : Thread Cert.MixerSampleRefIdeal.nD Cert.MixerSampleRefIdeal.τ).loc Cert.MixerSampleRefIdeal.main_arg6)) = Cert.MixerSampleIdeal.Body.bs m c := by
    funext j; exact congrFun (hag c).2.2.2.2.2.2.1 _
  refine ⟨(h c).1.trans ?_, (h c).2.1.trans ?_, (h c).2.2⟩
  · rw [Cert.MixerSampleRefIdeal.Read.val_main_v55_eq]
    funext y
    obtain ⟨b, k, v, rfl⟩ : ∃ (b : Fin 128) (k : Fin 256) (v : Fin 128), y = ix3 b k v := ⟨y 0, y 1, y 2, eq_ix3 y⟩
    refine (Cert.MixerSampleRefIdeal.Mix.state _ _ _ _ _ _ (fun b k => ?_) b k v).trans ?_
    · rw [ex, eg, ew, eu, eb]
      exact gates_real m hpre c b k
    · rw [ex, eg, ew, eu, eb, es]
      rfl
  · refine (Cert.MixerSampleRefIdeal.Read.val_main_v56_eq _ _ _ _).trans ?_
    funext y
    obtain ⟨b, j, rfl⟩ : ∃ (b : Fin 128) (j : Fin 1024), y = ix2 b j := ⟨y 0, y 1, eq_ix2 y⟩
    refine (Cert.MixerSampleRefIdeal.Mix.conv _ _ _ _ b j).trans ?_
    rw [ex, eg, ew, ec]
    rfl

end Cert.Proof.SmpClaims

end
-- ==== Proof.lean ====
/-
  The proof of `Cert.Claim`: for each of the six calls (the token mixer and the two feed-forward blocks, for the prompt
  and for the sample) the frames, `preserves` and `algebraic`, each proved in a module of its own.
-/
module

public import proofs.«01_k».proof.Defs
public import proofs.«01_k».proof.Proof.Gen.Mixer
public import proofs.«01_k».proof.Proof.Gen.MixerIdeal
public import proofs.«01_k».proof.Proof.Gen.MixerRefIdeal
public import proofs.«01_k».proof.Proof.Gen.Ffn1
public import proofs.«01_k».proof.Proof.Gen.Ffn1Ideal
public import proofs.«01_k».proof.Proof.Gen.Ffn1RefIdeal
public import proofs.«01_k».proof.Proof.Gen.Ffn2
public import proofs.«01_k».proof.Proof.Gen.Ffn2Ideal
public import proofs.«01_k».proof.Proof.Gen.Ffn2RefIdeal
public import proofs.«01_k».proof.Proof.Gen.Pre_finite_gate
public import proofs.«01_k».proof.Proof.Gen.Ffn1Sample
public import proofs.«01_k».proof.Proof.Gen.Ffn1SampleIdeal
public import proofs.«01_k».proof.Proof.Gen.Ffn1SampleRefIdeal
public import proofs.«01_k».proof.Proof.Gen.Ffn2Sample
public import proofs.«01_k».proof.Proof.Gen.Ffn2SampleIdeal
public import proofs.«01_k».proof.Proof.Gen.Ffn2SampleRefIdeal
public import proofs.«01_k».proof.Proof.Gen.MixerSample
public import proofs.«01_k».proof.Proof.Gen.MixerSampleIdeal
public import proofs.«01_k».proof.Proof.Gen.MixerSampleRefIdeal
public import proofs.«01_k».proof.Proof.Gen.Pre_finite_gate_sample
public import proofs.«01_k».proof.Proof.FeedClaims
public import proofs.«01_k».proof.Proof.SampleClaims
public import proofs.«01_k».proof.Proof.MixClaims
public import proofs.«01_k».proof.Proof.SmpClaims
public import Idealize.ShloMosaic.Adequacy
public import Idealize.ShloMosaic.Init

@[expose] public section

noncomputable section

namespace Cert.Proof

open Idealize.ShloMosaic Idealize.SL.Sem Cert.Mixer

theorem claim : Cert.Claim := ⟨Cert.Mixer.Gen.facts, Cert.MixerIdeal.Gen.facts, Cert.MixerRefIdeal.Gen.facts, Cert.Ffn1.Gen.facts, Cert.Ffn1Ideal.Gen.facts, Cert.Ffn1RefIdeal.Gen.facts, Cert.Ffn2.Gen.facts, Cert.Ffn2Ideal.Gen.facts, Cert.Ffn2RefIdeal.Gen.facts, Cert.Ffn1Sample.Gen.facts, Cert.Ffn1SampleIdeal.Gen.facts, Cert.Ffn1SampleRefIdeal.Gen.facts, Cert.Ffn2Sample.Gen.facts, Cert.Ffn2SampleIdeal.Gen.facts, Cert.Ffn2SampleRefIdeal.Gen.facts, Cert.MixerSample.Gen.facts, Cert.MixerSampleIdeal.Gen.facts, Cert.MixerSampleRefIdeal.Gen.facts, Cert.Pre_finite_gate.Gen.facts, Cert.Pre_finite_gate_sample.Gen.facts, by
  letI := Cert.Pre_finite_gate.Gen.facts
  letI := Cert.Pre_finite_gate_sample.Gen.facts
  exact ⟨MixClaims.frame, MixClaims.frame_i, MixClaims.frame_ip, MixClaims.frame_r, MixClaims.frame_rp,
    FeedClaims.frame_1, FeedClaims.frame_1i, FeedClaims.frame_1r, FeedClaims.frame_2, FeedClaims.frame_2i, FeedClaims.frame_2r,
    SampleClaims.frame_1, SampleClaims.frame_1i, SampleClaims.frame_1r, SampleClaims.frame_2, SampleClaims.frame_2i, SampleClaims.frame_2r,
    SmpClaims.frame, SmpClaims.frame_i, SmpClaims.frame_ip, SmpClaims.frame_r, SmpClaims.frame_rp,
    MixClaims.preserves, MixClaims.algebraic, FeedClaims.preserves_1, FeedClaims.algebraic_1, FeedClaims.preserves_2, FeedClaims.algebraic_2,
    SampleClaims.preserves_1, SampleClaims.algebraic_1, SampleClaims.preserves_2, SampleClaims.algebraic_2, SmpClaims.preserves, SmpClaims.algebraic⟩⟩

end Cert.Proof

end
